-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_StickKernel (m : (ℓ : Loc Cert.StickKernel.nD Cert.StickKernel.τ Cert.StickKernel.sig) → Buf (Elt Bits) ℓ) : Prop :=
  True

def Pre_StickKernelIdeal (m : (ℓ : Loc Cert.StickKernelIdeal.nD Cert.StickKernelIdeal.τ Cert.StickKernelIdeal.sig) → Buf (Elt Ideal) ℓ) : Prop :=
  True

def Pre_StickKernelIdeal_finite_scores [hPre_finite_scores : Cert.Pre_finite_scores.Facts] (m : (ℓ : Loc Cert.StickKernelIdeal.nD Cert.StickKernelIdeal.τ Cert.StickKernelIdeal.sig) → Buf (Elt Ideal) ℓ) : Prop :=
  ∀ c : Dev Cert.StickKernelIdeal.nD,
    (Cert.Pre_finite_scores.fn (F := Ideal) (m ((c.tc : Thread Cert.StickKernelIdeal.nD Cert.StickKernelIdeal.τ).loc Cert.StickKernelIdeal.main_arg0)) (m ((c.tc : Thread Cert.StickKernelIdeal.nD Cert.StickKernelIdeal.τ).loc Cert.StickKernelIdeal.main_arg1)) (m ((c.tc : Thread Cert.StickKernelIdeal.nD Cert.StickKernelIdeal.τ).loc Cert.StickKernelIdeal.main_arg2)) (m ((c.tc : Thread Cert.StickKernelIdeal.nD Cert.StickKernelIdeal.τ).loc Cert.StickKernelIdeal.main_arg3))).1 = (fun _ => 1#1)
    ∧ (Cert.Pre_finite_scores.fn (F := Ideal) (m ((c.tc : Thread Cert.StickKernelIdeal.nD Cert.StickKernelIdeal.τ).loc Cert.StickKernelIdeal.main_arg0)) (m ((c.tc : Thread Cert.StickKernelIdeal.nD Cert.StickKernelIdeal.τ).loc Cert.StickKernelIdeal.main_arg1)) (m ((c.tc : Thread Cert.StickKernelIdeal.nD Cert.StickKernelIdeal.τ).loc Cert.StickKernelIdeal.main_arg2)) (m ((c.tc : Thread Cert.StickKernelIdeal.nD Cert.StickKernelIdeal.τ).loc Cert.StickKernelIdeal.main_arg3))).2 = (fun _ => 1#1)

def Pre_StickReferenceIdeal (m : (ℓ : Loc Cert.StickReferenceIdeal.nD Cert.StickReferenceIdeal.τ Cert.StickReferenceIdeal.sig) → Buf (Elt Ideal) ℓ) : Prop :=
  True

def Pre_StickReferenceIdeal_finite_scores [hPre_finite_scores : Cert.Pre_finite_scores.Facts] (m : (ℓ : Loc Cert.StickReferenceIdeal.nD Cert.StickReferenceIdeal.τ Cert.StickReferenceIdeal.sig) → Buf (Elt Ideal) ℓ) : Prop :=
  ∀ c : Dev Cert.StickReferenceIdeal.nD,
    (Cert.Pre_finite_scores.fn (F := Ideal) (m ((c.tc : Thread Cert.StickReferenceIdeal.nD Cert.StickReferenceIdeal.τ).loc Cert.StickReferenceIdeal.main_arg0)) (m ((c.tc : Thread Cert.StickReferenceIdeal.nD Cert.StickReferenceIdeal.τ).loc Cert.StickReferenceIdeal.main_arg1)) (m ((c.tc : Thread Cert.StickReferenceIdeal.nD Cert.StickReferenceIdeal.τ).loc Cert.StickReferenceIdeal.main_arg2)) (m ((c.tc : Thread Cert.StickReferenceIdeal.nD Cert.StickReferenceIdeal.τ).loc Cert.StickReferenceIdeal.main_arg3))).1 = (fun _ => 1#1)
    ∧ (Cert.Pre_finite_scores.fn (F := Ideal) (m ((c.tc : Thread Cert.StickReferenceIdeal.nD Cert.StickReferenceIdeal.τ).loc Cert.StickReferenceIdeal.main_arg0)) (m ((c.tc : Thread Cert.StickReferenceIdeal.nD Cert.StickReferenceIdeal.τ).loc Cert.StickReferenceIdeal.main_arg1)) (m ((c.tc : Thread Cert.StickReferenceIdeal.nD Cert.StickReferenceIdeal.τ).loc Cert.StickReferenceIdeal.main_arg2)) (m ((c.tc : Thread Cert.StickReferenceIdeal.nD Cert.StickReferenceIdeal.τ).loc Cert.StickReferenceIdeal.main_arg3))).2 = (fun _ => 1#1)

def Pre_LayerKernel (m : (ℓ : Loc Cert.LayerKernel.nD Cert.LayerKernel.τ Cert.LayerKernel.sig) → Buf (Elt Bits) ℓ) : Prop :=
  True

def Pre_LayerKernelIdeal (m : (ℓ : Loc Cert.LayerKernelIdeal.nD Cert.LayerKernelIdeal.τ Cert.LayerKernelIdeal.sig) → Buf (Elt Ideal) ℓ) : Prop :=
  True

def Pre_LayerKernelIdeal_finite_inputs [hPre_finite_inputs : Cert.Pre_finite_inputs.Facts] (m : (ℓ : Loc Cert.LayerKernelIdeal.nD Cert.LayerKernelIdeal.τ Cert.LayerKernelIdeal.sig) → Buf (Elt Ideal) ℓ) : Prop :=
  ∀ c : Dev Cert.LayerKernelIdeal.nD,
    (Cert.Pre_finite_inputs.fn (F := Ideal) (m ((c.tc : Thread Cert.LayerKernelIdeal.nD Cert.LayerKernelIdeal.τ).loc Cert.LayerKernelIdeal.main_arg0)) (m ((c.tc : Thread Cert.LayerKernelIdeal.nD Cert.LayerKernelIdeal.τ).loc Cert.LayerKernelIdeal.main_arg1)) (m ((c.tc : Thread Cert.LayerKernelIdeal.nD Cert.LayerKernelIdeal.τ).loc Cert.LayerKernelIdeal.main_arg2)) (m ((c.tc : Thread Cert.LayerKernelIdeal.nD Cert.LayerKernelIdeal.τ).loc Cert.LayerKernelIdeal.main_arg3)) (m ((c.tc : Thread Cert.LayerKernelIdeal.nD Cert.LayerKernelIdeal.τ).loc Cert.LayerKernelIdeal.main_arg4)) (m ((c.tc : Thread Cert.LayerKernelIdeal.nD Cert.LayerKernelIdeal.τ).loc Cert.LayerKernelIdeal.main_arg5))).1 = (fun _ => 1#1)
    ∧ (Cert.Pre_finite_inputs.fn (F := Ideal) (m ((c.tc : Thread Cert.LayerKernelIdeal.nD Cert.LayerKernelIdeal.τ).loc Cert.LayerKernelIdeal.main_arg0)) (m ((c.tc : Thread Cert.LayerKernelIdeal.nD Cert.LayerKernelIdeal.τ).loc Cert.LayerKernelIdeal.main_arg1)) (m ((c.tc : Thread Cert.LayerKernelIdeal.nD Cert.LayerKernelIdeal.τ).loc Cert.LayerKernelIdeal.main_arg2)) (m ((c.tc : Thread Cert.LayerKernelIdeal.nD Cert.LayerKernelIdeal.τ).loc Cert.LayerKernelIdeal.main_arg3)) (m ((c.tc : Thread Cert.LayerKernelIdeal.nD Cert.LayerKernelIdeal.τ).loc Cert.LayerKernelIdeal.main_arg4)) (m ((c.tc : Thread Cert.LayerKernelIdeal.nD Cert.LayerKernelIdeal.τ).loc Cert.LayerKernelIdeal.main_arg5))).2.1 = (fun _ => 1#1)
    ∧ (Cert.Pre_finite_inputs.fn (F := Ideal) (m ((c.tc : Thread Cert.LayerKernelIdeal.nD Cert.LayerKernelIdeal.τ).loc Cert.LayerKernelIdeal.main_arg0)) (m ((c.tc : Thread Cert.LayerKernelIdeal.nD Cert.LayerKernelIdeal.τ).loc Cert.LayerKernelIdeal.main_arg1)) (m ((c.tc : Thread Cert.LayerKernelIdeal.nD Cert.LayerKernelIdeal.τ).loc Cert.LayerKernelIdeal.main_arg2)) (m ((c.tc : Thread Cert.LayerKernelIdeal.nD Cert.LayerKernelIdeal.τ).loc Cert.LayerKernelIdeal.main_arg3)) (m ((c.tc : Thread Cert.LayerKernelIdeal.nD Cert.LayerKernelIdeal.τ).loc Cert.LayerKernelIdeal.main_arg4)) (m ((c.tc : Thread Cert.LayerKernelIdeal.nD Cert.LayerKernelIdeal.τ).loc Cert.LayerKernelIdeal.main_arg5))).2.2.1 = (fun _ => 1#1)
    ∧ (Cert.Pre_finite_inputs.fn (F := Ideal) (m ((c.tc : Thread Cert.LayerKernelIdeal.nD Cert.LayerKernelIdeal.τ).loc Cert.LayerKernelIdeal.main_arg0)) (m ((c.tc : Thread Cert.LayerKernelIdeal.nD Cert.LayerKernelIdeal.τ).loc Cert.LayerKernelIdeal.main_arg1)) (m ((c.tc : Thread Cert.LayerKernelIdeal.nD Cert.LayerKernelIdeal.τ).loc Cert.LayerKernelIdeal.main_arg2)) (m ((c.tc : Thread Cert.LayerKernelIdeal.nD Cert.LayerKernelIdeal.τ).loc Cert.LayerKernelIdeal.main_arg3)) (m ((c.tc : Thread Cert.LayerKernelIdeal.nD Cert.LayerKernelIdeal.τ).loc Cert.LayerKernelIdeal.main_arg4)) (m ((c.tc : Thread Cert.LayerKernelIdeal.nD Cert.LayerKernelIdeal.τ).loc Cert.LayerKernelIdeal.main_arg5))).2.2.2 = (fun _ => 1#1)

def Pre_LayerReferenceIdeal (m : (ℓ : Loc Cert.LayerReferenceIdeal.nD Cert.LayerReferenceIdeal.τ Cert.LayerReferenceIdeal.sig) → Buf (Elt Ideal) ℓ) : Prop :=
  True

def Pre_LayerReferenceIdeal_finite_inputs [hPre_finite_inputs : Cert.Pre_finite_inputs.Facts] (m : (ℓ : Loc Cert.LayerReferenceIdeal.nD Cert.LayerReferenceIdeal.τ Cert.LayerReferenceIdeal.sig) → Buf (Elt Ideal) ℓ) : Prop :=
  ∀ c : Dev Cert.LayerReferenceIdeal.nD,
    (Cert.Pre_finite_inputs.fn (F := Ideal) (m ((c.tc : Thread Cert.LayerReferenceIdeal.nD Cert.LayerReferenceIdeal.τ).loc Cert.LayerReferenceIdeal.main_arg0)) (m ((c.tc : Thread Cert.LayerReferenceIdeal.nD Cert.LayerReferenceIdeal.τ).loc Cert.LayerReferenceIdeal.main_arg1)) (m ((c.tc : Thread Cert.LayerReferenceIdeal.nD Cert.LayerReferenceIdeal.τ).loc Cert.LayerReferenceIdeal.main_arg2)) (m ((c.tc : Thread Cert.LayerReferenceIdeal.nD Cert.LayerReferenceIdeal.τ).loc Cert.LayerReferenceIdeal.main_arg3)) (m ((c.tc : Thread Cert.LayerReferenceIdeal.nD Cert.LayerReferenceIdeal.τ).loc Cert.LayerReferenceIdeal.main_arg4)) (m ((c.tc : Thread Cert.LayerReferenceIdeal.nD Cert.LayerReferenceIdeal.τ).loc Cert.LayerReferenceIdeal.main_arg5))).1 = (fun _ => 1#1)
    ∧ (Cert.Pre_finite_inputs.fn (F := Ideal) (m ((c.tc : Thread Cert.LayerReferenceIdeal.nD Cert.LayerReferenceIdeal.τ).loc Cert.LayerReferenceIdeal.main_arg0)) (m ((c.tc : Thread Cert.LayerReferenceIdeal.nD Cert.LayerReferenceIdeal.τ).loc Cert.LayerReferenceIdeal.main_arg1)) (m ((c.tc : Thread Cert.LayerReferenceIdeal.nD Cert.LayerReferenceIdeal.τ).loc Cert.LayerReferenceIdeal.main_arg2)) (m ((c.tc : Thread Cert.LayerReferenceIdeal.nD Cert.LayerReferenceIdeal.τ).loc Cert.LayerReferenceIdeal.main_arg3)) (m ((c.tc : Thread Cert.LayerReferenceIdeal.nD Cert.LayerReferenceIdeal.τ).loc Cert.LayerReferenceIdeal.main_arg4)) (m ((c.tc : Thread Cert.LayerReferenceIdeal.nD Cert.LayerReferenceIdeal.τ).loc Cert.LayerReferenceIdeal.main_arg5))).2.1 = (fun _ => 1#1)
    ∧ (Cert.Pre_finite_inputs.fn (F := Ideal) (m ((c.tc : Thread Cert.LayerReferenceIdeal.nD Cert.LayerReferenceIdeal.τ).loc Cert.LayerReferenceIdeal.main_arg0)) (m ((c.tc : Thread Cert.LayerReferenceIdeal.nD Cert.LayerReferenceIdeal.τ).loc Cert.LayerReferenceIdeal.main_arg1)) (m ((c.tc : Thread Cert.LayerReferenceIdeal.nD Cert.LayerReferenceIdeal.τ).loc Cert.LayerReferenceIdeal.main_arg2)) (m ((c.tc : Thread Cert.LayerReferenceIdeal.nD Cert.LayerReferenceIdeal.τ).loc Cert.LayerReferenceIdeal.main_arg3)) (m ((c.tc : Thread Cert.LayerReferenceIdeal.nD Cert.LayerReferenceIdeal.τ).loc Cert.LayerReferenceIdeal.main_arg4)) (m ((c.tc : Thread Cert.LayerReferenceIdeal.nD Cert.LayerReferenceIdeal.τ).loc Cert.LayerReferenceIdeal.main_arg5))).2.2.1 = (fun _ => 1#1)
    ∧ (Cert.Pre_finite_inputs.fn (F := Ideal) (m ((c.tc : Thread Cert.LayerReferenceIdeal.nD Cert.LayerReferenceIdeal.τ).loc Cert.LayerReferenceIdeal.main_arg0)) (m ((c.tc : Thread Cert.LayerReferenceIdeal.nD Cert.LayerReferenceIdeal.τ).loc Cert.LayerReferenceIdeal.main_arg1)) (m ((c.tc : Thread Cert.LayerReferenceIdeal.nD Cert.LayerReferenceIdeal.τ).loc Cert.LayerReferenceIdeal.main_arg2)) (m ((c.tc : Thread Cert.LayerReferenceIdeal.nD Cert.LayerReferenceIdeal.τ).loc Cert.LayerReferenceIdeal.main_arg3)) (m ((c.tc : Thread Cert.LayerReferenceIdeal.nD Cert.LayerReferenceIdeal.τ).loc Cert.LayerReferenceIdeal.main_arg4)) (m ((c.tc : Thread Cert.LayerReferenceIdeal.nD Cert.LayerReferenceIdeal.τ).loc Cert.LayerReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_StickKernel [hStickKernel : Cert.StickKernel.Facts] : Prop :=
  ∀ (m : (ℓ : Loc Cert.StickKernel.nD Cert.StickKernel.τ Cert.StickKernel.sig) → Buf (Elt Bits) ℓ) (g : Dev Cert.StickKernel.nD → PrngReg), Pre_StickKernel m →
    θ_run (Cert.StickKernel.defs (F := Bits)) (onTc (τ := Cert.StickKernel.τ) (Cert.StickKernel.main (F := Bits))) ⟨m, fun _ => 0, g⟩ (fun r => (∀ c : Dev Cert.StickKernel.nD,
      r.2.mem ((c.tc : Thread Cert.StickKernel.nD Cert.StickKernel.τ).loc Cert.StickKernel.main_arg0) = m ((c.tc : Thread Cert.StickKernel.nD Cert.StickKernel.τ).loc Cert.StickKernel.main_arg0)
      ∧ r.2.mem ((c.tc : Thread Cert.StickKernel.nD Cert.StickKernel.τ).loc Cert.StickKernel.main_arg1) = m ((c.tc : Thread Cert.StickKernel.nD Cert.StickKernel.τ).loc Cert.StickKernel.main_arg1)
      ∧ r.2.mem ((c.tc : Thread Cert.StickKernel.nD Cert.StickKernel.τ).loc Cert.StickKernel.main_arg2) = m ((c.tc : Thread Cert.StickKernel.nD Cert.StickKernel.τ).loc Cert.StickKernel.main_arg2)
      ∧ r.2.mem ((c.tc : Thread Cert.StickKernel.nD Cert.StickKernel.τ).loc Cert.StickKernel.main_arg3) = m ((c.tc : Thread Cert.StickKernel.nD Cert.StickKernel.τ).loc Cert.StickKernel.main_arg3))
      ∧ r.2.sem = fun _ => 0)

def quiescent_StickKernelIdeal [hStickKernelIdeal : Cert.StickKernelIdeal.Facts] : Prop :=
  ∀ (m : (ℓ : Loc Cert.StickKernelIdeal.nD Cert.StickKernelIdeal.τ Cert.StickKernelIdeal.sig) → Buf (Elt Ideal) ℓ) (g : Dev Cert.StickKernelIdeal.nD → PrngReg), Pre_StickKernelIdeal m →
    θ_run (Cert.StickKernelIdeal.defs (F := Ideal)) (onTc (τ := Cert.StickKernelIdeal.τ) (Cert.StickKernelIdeal.main (F := Ideal))) ⟨m, fun _ => 0, g⟩ (fun r => (∀ c : Dev Cert.StickKernelIdeal.nD,
      r.2.mem ((c.tc : Thread Cert.StickKernelIdeal.nD Cert.StickKernelIdeal.τ).loc Cert.StickKernelIdeal.main_arg0) = m ((c.tc : Thread Cert.StickKernelIdeal.nD Cert.StickKernelIdeal.τ).loc Cert.StickKernelIdeal.main_arg0)
      ∧ r.2.mem ((c.tc : Thread Cert.StickKernelIdeal.nD Cert.StickKernelIdeal.τ).loc Cert.StickKernelIdeal.main_arg1) = m ((c.tc : Thread Cert.StickKernelIdeal.nD Cert.StickKernelIdeal.τ).loc Cert.StickKernelIdeal.main_arg1)
      ∧ r.2.mem ((c.tc : Thread Cert.StickKernelIdeal.nD Cert.StickKernelIdeal.τ).loc Cert.StickKernelIdeal.main_arg2) = m ((c.tc : Thread Cert.StickKernelIdeal.nD Cert.StickKernelIdeal.τ).loc Cert.StickKernelIdeal.main_arg2)
      ∧ r.2.mem ((c.tc : Thread Cert.StickKernelIdeal.nD Cert.StickKernelIdeal.τ).loc Cert.StickKernelIdeal.main_arg3) = m ((c.tc : Thread Cert.StickKernelIdeal.nD Cert.StickKernelIdeal.τ).loc Cert.StickKernelIdeal.main_arg3))
      ∧ r.2.sem = fun _ => 0)

def quiescent_StickKernelIdeal_pre_finite_scores [hStickKernelIdeal : Cert.StickKernelIdeal.Facts] [hPre_finite_scores : Cert.Pre_finite_scores.Facts] : Prop :=
  ∀ (m : (ℓ : Loc Cert.StickKernelIdeal.nD Cert.StickKernelIdeal.τ Cert.StickKernelIdeal.sig) → Buf (Elt Ideal) ℓ) (g : Dev Cert.StickKernelIdeal.nD → PrngReg), Pre_StickKernelIdeal_finite_scores m →
    θ_run (Cert.StickKernelIdeal.defs (F := Ideal)) (onTc (τ := Cert.StickKernelIdeal.τ) (Cert.StickKernelIdeal.main (F := Ideal))) ⟨m, fun _ => 0, g⟩ (fun r => (∀ c : Dev Cert.StickKernelIdeal.nD,
      r.2.mem ((c.tc : Thread Cert.StickKernelIdeal.nD Cert.StickKernelIdeal.τ).loc Cert.StickKernelIdeal.main_arg0) = m ((c.tc : Thread Cert.StickKernelIdeal.nD Cert.StickKernelIdeal.τ).loc Cert.StickKernelIdeal.main_arg0)
      ∧ r.2.mem ((c.tc : Thread Cert.StickKernelIdeal.nD Cert.StickKernelIdeal.τ).loc Cert.StickKernelIdeal.main_arg1) = m ((c.tc : Thread Cert.StickKernelIdeal.nD Cert.StickKernelIdeal.τ).loc Cert.StickKernelIdeal.main_arg1)
      ∧ r.2.mem ((c.tc : Thread Cert.StickKernelIdeal.nD Cert.StickKernelIdeal.τ).loc Cert.StickKernelIdeal.main_arg2) = m ((c.tc : Thread Cert.StickKernelIdeal.nD Cert.StickKernelIdeal.τ).loc Cert.StickKernelIdeal.main_arg2)
      ∧ r.2.mem ((c.tc : Thread Cert.StickKernelIdeal.nD Cert.StickKernelIdeal.τ).loc Cert.StickKernelIdeal.main_arg3) = m ((c.tc : Thread Cert.StickKernelIdeal.nD Cert.StickKernelIdeal.τ).loc Cert.StickKernelIdeal.main_arg3))
      ∧ r.2.sem = fun _ => 0)

def quiescent_StickReferenceIdeal [hStickReferenceIdeal : Cert.StickReferenceIdeal.Facts] : Prop :=
  ∀ (m : (ℓ : Loc Cert.StickReferenceIdeal.nD Cert.StickReferenceIdeal.τ Cert.StickReferenceIdeal.sig) → Buf (Elt Ideal) ℓ) (g : Dev Cert.StickReferenceIdeal.nD → PrngReg), Pre_StickReferenceIdeal m →
    θ_run (Cert.StickReferenceIdeal.defs (F := Ideal)) (onTc (τ := Cert.StickReferenceIdeal.τ) (Cert.StickReferenceIdeal.main (F := Ideal))) ⟨m, fun _ => 0, g⟩ (fun r => (∀ c : Dev Cert.StickReferenceIdeal.nD,
      r.2.mem ((c.tc : Thread Cert.StickReferenceIdeal.nD Cert.StickReferenceIdeal.τ).loc Cert.StickReferenceIdeal.main_arg0) = m ((c.tc : Thread Cert.StickReferenceIdeal.nD Cert.StickReferenceIdeal.τ).loc Cert.StickReferenceIdeal.main_arg0)
      ∧ r.2.mem ((c.tc : Thread Cert.StickReferenceIdeal.nD Cert.StickReferenceIdeal.τ).loc Cert.StickReferenceIdeal.main_arg1) = m ((c.tc : Thread Cert.StickReferenceIdeal.nD Cert.StickReferenceIdeal.τ).loc Cert.StickReferenceIdeal.main_arg1)
      ∧ r.2.mem ((c.tc : Thread Cert.StickReferenceIdeal.nD Cert.StickReferenceIdeal.τ).loc Cert.StickReferenceIdeal.main_arg2) = m ((c.tc : Thread Cert.StickReferenceIdeal.nD Cert.StickReferenceIdeal.τ).loc Cert.StickReferenceIdeal.main_arg2)
      ∧ r.2.mem ((c.tc : Thread Cert.StickReferenceIdeal.nD Cert.StickReferenceIdeal.τ).loc Cert.StickReferenceIdeal.main_arg3) = m ((c.tc : Thread Cert.StickReferenceIdeal.nD Cert.StickReferenceIdeal.τ).loc Cert.StickReferenceIdeal.main_arg3))
      ∧ r.2.sem = fun _ => 0)

def quiescent_StickReferenceIdeal_pre_finite_scores [hStickReferenceIdeal : Cert.StickReferenceIdeal.Facts] [hPre_finite_scores : Cert.Pre_finite_scores.Facts] : Prop :=
  ∀ (m : (ℓ : Loc Cert.StickReferenceIdeal.nD Cert.StickReferenceIdeal.τ Cert.StickReferenceIdeal.sig) → Buf (Elt Ideal) ℓ) (g : Dev Cert.StickReferenceIdeal.nD → PrngReg), Pre_StickReferenceIdeal_finite_scores m →
    θ_run (Cert.StickReferenceIdeal.defs (F := Ideal)) (onTc (τ := Cert.StickReferenceIdeal.τ) (Cert.StickReferenceIdeal.main (F := Ideal))) ⟨m, fun _ => 0, g⟩ (fun r => (∀ c : Dev Cert.StickReferenceIdeal.nD,
      r.2.mem ((c.tc : Thread Cert.StickReferenceIdeal.nD Cert.StickReferenceIdeal.τ).loc Cert.StickReferenceIdeal.main_arg0) = m ((c.tc : Thread Cert.StickReferenceIdeal.nD Cert.StickReferenceIdeal.τ).loc Cert.StickReferenceIdeal.main_arg0)
      ∧ r.2.mem ((c.tc : Thread Cert.StickReferenceIdeal.nD Cert.StickReferenceIdeal.τ).loc Cert.StickReferenceIdeal.main_arg1) = m ((c.tc : Thread Cert.StickReferenceIdeal.nD Cert.StickReferenceIdeal.τ).loc Cert.StickReferenceIdeal.main_arg1)
      ∧ r.2.mem ((c.tc : Thread Cert.StickReferenceIdeal.nD Cert.StickReferenceIdeal.τ).loc Cert.StickReferenceIdeal.main_arg2) = m ((c.tc : Thread Cert.StickReferenceIdeal.nD Cert.StickReferenceIdeal.τ).loc Cert.StickReferenceIdeal.main_arg2)
      ∧ r.2.mem ((c.tc : Thread Cert.StickReferenceIdeal.nD Cert.StickReferenceIdeal.τ).loc Cert.StickReferenceIdeal.main_arg3) = m ((c.tc : Thread Cert.StickReferenceIdeal.nD Cert.StickReferenceIdeal.τ).loc Cert.StickReferenceIdeal.main_arg3))
      ∧ r.2.sem = fun _ => 0)

def quiescent_LayerKernel [hLayerKernel : Cert.LayerKernel.Facts] : Prop :=
  ∀ (m : (ℓ : Loc Cert.LayerKernel.nD Cert.LayerKernel.τ Cert.LayerKernel.sig) → Buf (Elt Bits) ℓ) (g : Dev Cert.LayerKernel.nD → PrngReg), Pre_LayerKernel m →
    θ_run (Cert.LayerKernel.defs (F := Bits)) (onTc (τ := Cert.LayerKernel.τ) (Cert.LayerKernel.main (F := Bits))) ⟨m, fun _ => 0, g⟩ (fun r => (∀ c : Dev Cert.LayerKernel.nD,
      r.2.mem ((c.tc : Thread Cert.LayerKernel.nD Cert.LayerKernel.τ).loc Cert.LayerKernel.main_arg0) = m ((c.tc : Thread Cert.LayerKernel.nD Cert.LayerKernel.τ).loc Cert.LayerKernel.main_arg0)
      ∧ r.2.mem ((c.tc : Thread Cert.LayerKernel.nD Cert.LayerKernel.τ).loc Cert.LayerKernel.main_arg1) = m ((c.tc : Thread Cert.LayerKernel.nD Cert.LayerKernel.τ).loc Cert.LayerKernel.main_arg1)
      ∧ r.2.mem ((c.tc : Thread Cert.LayerKernel.nD Cert.LayerKernel.τ).loc Cert.LayerKernel.main_arg2) = m ((c.tc : Thread Cert.LayerKernel.nD Cert.LayerKernel.τ).loc Cert.LayerKernel.main_arg2)
      ∧ r.2.mem ((c.tc : Thread Cert.LayerKernel.nD Cert.LayerKernel.τ).loc Cert.LayerKernel.main_arg3) = m ((c.tc : Thread Cert.LayerKernel.nD Cert.LayerKernel.τ).loc Cert.LayerKernel.main_arg3)
      ∧ r.2.mem ((c.tc : Thread Cert.LayerKernel.nD Cert.LayerKernel.τ).loc Cert.LayerKernel.main_arg4) = m ((c.tc : Thread Cert.LayerKernel.nD Cert.LayerKernel.τ).loc Cert.LayerKernel.main_arg4)
      ∧ r.2.mem ((c.tc : Thread Cert.LayerKernel.nD Cert.LayerKernel.τ).loc Cert.LayerKernel.main_arg5) = m ((c.tc : Thread Cert.LayerKernel.nD Cert.LayerKernel.τ).loc Cert.LayerKernel.main_arg5))
      ∧ r.2.sem = fun _ => 0)

def quiescent_LayerKernelIdeal [hLayerKernelIdeal : Cert.LayerKernelIdeal.Facts] : Prop :=
  ∀ (m : (ℓ : Loc Cert.LayerKernelIdeal.nD Cert.LayerKernelIdeal.τ Cert.LayerKernelIdeal.sig) → Buf (Elt Ideal) ℓ) (g : Dev Cert.LayerKernelIdeal.nD → PrngReg), Pre_LayerKernelIdeal m →
    θ_run (Cert.LayerKernelIdeal.defs (F := Ideal)) (onTc (τ := Cert.LayerKernelIdeal.τ) (Cert.LayerKernelIdeal.main (F := Ideal))) ⟨m, fun _ => 0, g⟩ (fun r => (∀ c : Dev Cert.LayerKernelIdeal.nD,
      r.2.mem ((c.tc : Thread Cert.LayerKernelIdeal.nD Cert.LayerKernelIdeal.τ).loc Cert.LayerKernelIdeal.main_arg0) = m ((c.tc : Thread Cert.LayerKernelIdeal.nD Cert.LayerKernelIdeal.τ).loc Cert.LayerKernelIdeal.main_arg0)
      ∧ r.2.mem ((c.tc : Thread Cert.LayerKernelIdeal.nD Cert.LayerKernelIdeal.τ).loc Cert.LayerKernelIdeal.main_arg1) = m ((c.tc : Thread Cert.LayerKernelIdeal.nD Cert.LayerKernelIdeal.τ).loc Cert.LayerKernelIdeal.main_arg1)
      ∧ r.2.mem ((c.tc : Thread Cert.LayerKernelIdeal.nD Cert.LayerKernelIdeal.τ).loc Cert.LayerKernelIdeal.main_arg2) = m ((c.tc : Thread Cert.LayerKernelIdeal.nD Cert.LayerKernelIdeal.τ).loc Cert.LayerKernelIdeal.main_arg2)
      ∧ r.2.mem ((c.tc : Thread Cert.LayerKernelIdeal.nD Cert.LayerKernelIdeal.τ).loc Cert.LayerKernelIdeal.main_arg3) = m ((c.tc : Thread Cert.LayerKernelIdeal.nD Cert.LayerKernelIdeal.τ).loc Cert.LayerKernelIdeal.main_arg3)
      ∧ r.2.mem ((c.tc : Thread Cert.LayerKernelIdeal.nD Cert.LayerKernelIdeal.τ).loc Cert.LayerKernelIdeal.main_arg4) = m ((c.tc : Thread Cert.LayerKernelIdeal.nD Cert.LayerKernelIdeal.τ).loc Cert.LayerKernelIdeal.main_arg4)
      ∧ r.2.mem ((c.tc : Thread Cert.LayerKernelIdeal.nD Cert.LayerKernelIdeal.τ).loc Cert.LayerKernelIdeal.main_arg5) = m ((c.tc : Thread Cert.LayerKernelIdeal.nD Cert.LayerKernelIdeal.τ).loc Cert.LayerKernelIdeal.main_arg5))
      ∧ r.2.sem = fun _ => 0)

def quiescent_LayerKernelIdeal_pre_finite_inputs [hLayerKernelIdeal : Cert.LayerKernelIdeal.Facts] [hPre_finite_inputs : Cert.Pre_finite_inputs.Facts] : Prop :=
  ∀ (m : (ℓ : Loc Cert.LayerKernelIdeal.nD Cert.LayerKernelIdeal.τ Cert.LayerKernelIdeal.sig) → Buf (Elt Ideal) ℓ) (g : Dev Cert.LayerKernelIdeal.nD → PrngReg), Pre_LayerKernelIdeal_finite_inputs m →
    θ_run (Cert.LayerKernelIdeal.defs (F := Ideal)) (onTc (τ := Cert.LayerKernelIdeal.τ) (Cert.LayerKernelIdeal.main (F := Ideal))) ⟨m, fun _ => 0, g⟩ (fun r => (∀ c : Dev Cert.LayerKernelIdeal.nD,
      r.2.mem ((c.tc : Thread Cert.LayerKernelIdeal.nD Cert.LayerKernelIdeal.τ).loc Cert.LayerKernelIdeal.main_arg0) = m ((c.tc : Thread Cert.LayerKernelIdeal.nD Cert.LayerKernelIdeal.τ).loc Cert.LayerKernelIdeal.main_arg0)
      ∧ r.2.mem ((c.tc : Thread Cert.LayerKernelIdeal.nD Cert.LayerKernelIdeal.τ).loc Cert.LayerKernelIdeal.main_arg1) = m ((c.tc : Thread Cert.LayerKernelIdeal.nD Cert.LayerKernelIdeal.τ).loc Cert.LayerKernelIdeal.main_arg1)
      ∧ r.2.mem ((c.tc : Thread Cert.LayerKernelIdeal.nD Cert.LayerKernelIdeal.τ).loc Cert.LayerKernelIdeal.main_arg2) = m ((c.tc : Thread Cert.LayerKernelIdeal.nD Cert.LayerKernelIdeal.τ).loc Cert.LayerKernelIdeal.main_arg2)
      ∧ r.2.mem ((c.tc : Thread Cert.LayerKernelIdeal.nD Cert.LayerKernelIdeal.τ).loc Cert.LayerKernelIdeal.main_arg3) = m ((c.tc : Thread Cert.LayerKernelIdeal.nD Cert.LayerKernelIdeal.τ).loc Cert.LayerKernelIdeal.main_arg3)
      ∧ r.2.mem ((c.tc : Thread Cert.LayerKernelIdeal.nD Cert.LayerKernelIdeal.τ).loc Cert.LayerKernelIdeal.main_arg4) = m ((c.tc : Thread Cert.LayerKernelIdeal.nD Cert.LayerKernelIdeal.τ).loc Cert.LayerKernelIdeal.main_arg4)
      ∧ r.2.mem ((c.tc : Thread Cert.LayerKernelIdeal.nD Cert.LayerKernelIdeal.τ).loc Cert.LayerKernelIdeal.main_arg5) = m ((c.tc : Thread Cert.LayerKernelIdeal.nD Cert.LayerKernelIdeal.τ).loc Cert.LayerKernelIdeal.main_arg5))
      ∧ r.2.sem = fun _ => 0)

def quiescent_LayerReferenceIdeal [hLayerReferenceIdeal : Cert.LayerReferenceIdeal.Facts] : Prop :=
  ∀ (m : (ℓ : Loc Cert.LayerReferenceIdeal.nD Cert.LayerReferenceIdeal.τ Cert.LayerReferenceIdeal.sig) → Buf (Elt Ideal) ℓ) (g : Dev Cert.LayerReferenceIdeal.nD → PrngReg), Pre_LayerReferenceIdeal m →
    θ_run (Cert.LayerReferenceIdeal.defs (F := Ideal)) (onTc (τ := Cert.LayerReferenceIdeal.τ) (Cert.LayerReferenceIdeal.main (F := Ideal))) ⟨m, fun _ => 0, g⟩ (fun r => (∀ c : Dev Cert.LayerReferenceIdeal.nD,
      r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
      ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
      ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
      ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3)
      ∧ r.2.mem ((c.tc : Thread Cert.LayerReferenceIdeal.nD Cert.LayerReferenceIdeal.τ).loc Cert.LayerReferenceIdeal.main_arg4) = m ((c.tc : Thread Cert.LayerReferenceIdeal.nD Cert.LayerReferenceIdeal.τ).loc Cert.LayerReferenceIdeal.main_arg4)
      ∧ r.2.mem ((c.tc : Thread Cert.LayerReferenceIdeal.nD Cert.LayerReferenceIdeal.τ).loc Cert.LayerReferenceIdeal.main_arg5) = m ((c.tc : Thread Cert.LayerReferenceIdeal.nD Cert.LayerReferenceIdeal.τ).loc Cert.LayerReferenceIdeal.main_arg5))
      ∧ r.2.sem = fun _ => 0)

def quiescent_LayerReferenceIdeal_pre_finite_inputs [hLayerReferenceIdeal : Cert.LayerReferenceIdeal.Facts] [hPre_finite_inputs : Cert.Pre_finite_inputs.Facts] : Prop :=
  ∀ (m : (ℓ : Loc Cert.LayerReferenceIdeal.nD Cert.LayerReferenceIdeal.τ Cert.LayerReferenceIdeal.sig) → Buf (Elt Ideal) ℓ) (g : Dev Cert.LayerReferenceIdeal.nD → PrngReg), Pre_LayerReferenceIdeal_finite_inputs m →
    θ_run (Cert.LayerReferenceIdeal.defs (F := Ideal)) (onTc (τ := Cert.LayerReferenceIdeal.τ) (Cert.LayerReferenceIdeal.main (F := Ideal))) ⟨m, fun _ => 0, g⟩ (fun r => (∀ c : Dev Cert.LayerReferenceIdeal.nD,
      r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
      ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
      ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
      ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3)
      ∧ r.2.mem ((c.tc : Thread Cert.LayerReferenceIdeal.nD Cert.LayerReferenceIdeal.τ).loc Cert.LayerReferenceIdeal.main_arg4) = m ((c.tc : Thread Cert.LayerReferenceIdeal.nD Cert.LayerReferenceIdeal.τ).loc Cert.LayerReferenceIdeal.main_arg4)
      ∧ r.2.mem ((c.tc : Thread Cert.LayerReferenceIdeal.nD Cert.LayerReferenceIdeal.τ).loc Cert.LayerReferenceIdeal.main_arg5) = m ((c.tc : Thread Cert.LayerReferenceIdeal.nD Cert.LayerReferenceIdeal.τ).loc Cert.LayerReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InKernel_InKernelIdeal : Prop :=
  IdealRules.named_const.Statement Cert.InKernelIdeal.κ "q_scale" .f32 0x3E38AA3B#32 (((Real.log 256)⁻¹ : ℝ) : EReal)

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)) →
    ∃ (v0 : (c : Dev Cert.InKernelIdeal.nD) → Buf (Elt Ideal) ((c.tc : Thread Cert.InKernelIdeal.nD Cert.InKernelIdeal.τ).loc Cert.InKernelIdeal.main_v2_0)) (v1 : (c : Dev Cert.InKernelIdeal.nD) → Buf (Elt Ideal) ((c.tc : Thread Cert.InKernelIdeal.nD Cert.InKernelIdeal.τ).loc Cert.InKernelIdeal.main_v2_1)) (v2 : (c : Dev Cert.InKernelIdeal.nD) → Buf (Elt Ideal) ((c.tc : Thread Cert.InKernelIdeal.nD Cert.InKernelIdeal.τ).loc Cert.InKernelIdeal.main_v2_2)) (v3 : (c : Dev Cert.InKernelIdeal.nD) → Buf (Elt Ideal) ((c.tc : Thread Cert.InKernelIdeal.nD Cert.InKernelIdeal.τ).loc Cert.InKernelIdeal.main_v2_3)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v2_0) = v0 c
          ∧ r.2.mem ((c.tc : Thread Cert.InKernelIdeal.nD Cert.InKernelIdeal.τ).loc Cert.InKernelIdeal.main_v2_1) = v1 c
          ∧ r.2.mem ((c.tc : Thread Cert.InKernelIdeal.nD Cert.InKernelIdeal.τ).loc Cert.InKernelIdeal.main_v2_2) = v2 c
          ∧ r.2.mem ((c.tc : Thread Cert.InKernelIdeal.nD Cert.InKernelIdeal.τ).loc Cert.InKernelIdeal.main_v2_3) = v3 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v23) = v0 c
          ∧ r.2.mem ((c.tc : Thread Cert.InReferenceIdeal.nD Cert.InReferenceIdeal.τ).loc Cert.InReferenceIdeal.main_v24) = v1 c
          ∧ r.2.mem ((c.tc : Thread Cert.InReferenceIdeal.nD Cert.InReferenceIdeal.τ).loc Cert.InReferenceIdeal.main_v25) = v2 c
          ∧ r.2.mem ((c.tc : Thread Cert.InReferenceIdeal.nD Cert.InReferenceIdeal.τ).loc Cert.InReferenceIdeal.main_v26) = v3 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v2)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v2) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v15) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_StickKernel_StickKernelIdeal : Prop :=
  IdealRules.named_const.Statement Cert.StickKernelIdeal.κ "log2e" .f32 0x3FB8AA3B#32 (((Real.log 2)⁻¹ : ℝ) : EReal)
  ∧ IdealRules.bf16_pack.Statement Cert.StickKernelIdeal.S512x256
  ∧ IdealRules.named_const.Statement Cert.StickKernelIdeal.κ "skip" .f32 0x43180000#32 ⊤

def algebraic_StickKernelIdeal_StickReferenceIdeal_pre_finite_scores [hStickKernelIdeal : Cert.StickKernelIdeal.Facts] [hStickReferenceIdeal : Cert.StickReferenceIdeal.Facts] [hPre_finite_scores : Cert.Pre_finite_scores.Facts] : Prop :=
  ∀ (m : (ℓ : Loc Cert.StickKernelIdeal.nD Cert.StickKernelIdeal.τ Cert.StickKernelIdeal.sig) → Buf (Elt Ideal) ℓ) (g : Dev Cert.StickKernelIdeal.nD → PrngReg)
    (m' : (ℓ : Loc Cert.StickReferenceIdeal.nD Cert.StickReferenceIdeal.τ Cert.StickReferenceIdeal.sig) → Buf (Elt Ideal) ℓ) (g' : Dev Cert.StickReferenceIdeal.nD → PrngReg), Pre_StickKernelIdeal_finite_scores m →
    (∀ c : Dev Cert.StickKernelIdeal.nD,
      m' ((c.tc : Thread Cert.StickReferenceIdeal.nD Cert.StickReferenceIdeal.τ).loc Cert.StickReferenceIdeal.main_arg0) = m ((c.tc : Thread Cert.StickKernelIdeal.nD Cert.StickKernelIdeal.τ).loc Cert.StickKernelIdeal.main_arg0)
      ∧ m' ((c.tc : Thread Cert.StickReferenceIdeal.nD Cert.StickReferenceIdeal.τ).loc Cert.StickReferenceIdeal.main_arg1) = m ((c.tc : Thread Cert.StickKernelIdeal.nD Cert.StickKernelIdeal.τ).loc Cert.StickKernelIdeal.main_arg1)
      ∧ m' ((c.tc : Thread Cert.StickReferenceIdeal.nD Cert.StickReferenceIdeal.τ).loc Cert.StickReferenceIdeal.main_arg2) = m ((c.tc : Thread Cert.StickKernelIdeal.nD Cert.StickKernelIdeal.τ).loc Cert.StickKernelIdeal.main_arg2)
      ∧ m' ((c.tc : Thread Cert.StickReferenceIdeal.nD Cert.StickReferenceIdeal.τ).loc Cert.StickReferenceIdeal.main_arg3) = m ((c.tc : Thread Cert.StickKernelIdeal.nD Cert.StickKernelIdeal.τ).loc Cert.StickKernelIdeal.main_arg3)) →
    ∃ (v0 : (c : Dev Cert.StickKernelIdeal.nD) → Buf (Elt Ideal) ((c.tc : Thread Cert.StickKernelIdeal.nD Cert.StickKernelIdeal.τ).loc Cert.StickKernelIdeal.main_v0)),
      θ_run (Cert.StickKernelIdeal.defs (F := Ideal)) (onTc (τ := Cert.StickKernelIdeal.τ) (Cert.StickKernelIdeal.main (F := Ideal))) ⟨m, fun _ => 0, g⟩ (fun r => ∀ c : Dev Cert.StickKernelIdeal.nD,
          r.2.mem ((c.tc : Thread Cert.StickKernelIdeal.nD Cert.StickKernelIdeal.τ).loc Cert.StickKernelIdeal.main_v0) = v0 c
          ∧ r.2.mem ((c.tc : Thread Cert.StickKernelIdeal.nD Cert.StickKernelIdeal.τ).loc Cert.StickKernelIdeal.main_arg0) = m ((c.tc : Thread Cert.StickKernelIdeal.nD Cert.StickKernelIdeal.τ).loc Cert.StickKernelIdeal.main_arg0)
          ∧ r.2.mem ((c.tc : Thread Cert.StickKernelIdeal.nD Cert.StickKernelIdeal.τ).loc Cert.StickKernelIdeal.main_arg1) = m ((c.tc : Thread Cert.StickKernelIdeal.nD Cert.StickKernelIdeal.τ).loc Cert.StickKernelIdeal.main_arg1)
          ∧ r.2.mem ((c.tc : Thread Cert.StickKernelIdeal.nD Cert.StickKernelIdeal.τ).loc Cert.StickKernelIdeal.main_arg2) = m ((c.tc : Thread Cert.StickKernelIdeal.nD Cert.StickKernelIdeal.τ).loc Cert.StickKernelIdeal.main_arg2)
          ∧ r.2.mem ((c.tc : Thread Cert.StickKernelIdeal.nD Cert.StickKernelIdeal.τ).loc Cert.StickKernelIdeal.main_arg3) = m ((c.tc : Thread Cert.StickKernelIdeal.nD Cert.StickKernelIdeal.τ).loc Cert.StickKernelIdeal.main_arg3))
      ∧ θ_run (Cert.StickReferenceIdeal.defs (F := Ideal)) (onTc (τ := Cert.StickReferenceIdeal.τ) (Cert.StickReferenceIdeal.main (F := Ideal))) ⟨m', fun _ => 0, g'⟩ (fun r => ∀ c : Dev Cert.StickReferenceIdeal.nD,
          r.2.mem ((c.tc : Thread Cert.StickReferenceIdeal.nD Cert.StickReferenceIdeal.τ).loc Cert.StickReferenceIdeal.main_v34) = v0 c
          ∧ r.2.mem ((c.tc : Thread Cert.StickReferenceIdeal.nD Cert.StickReferenceIdeal.τ).loc Cert.StickReferenceIdeal.main_arg0) = m' ((c.tc : Thread Cert.StickReferenceIdeal.nD Cert.StickReferenceIdeal.τ).loc Cert.StickReferenceIdeal.main_arg0)
          ∧ r.2.mem ((c.tc : Thread Cert.StickReferenceIdeal.nD Cert.StickReferenceIdeal.τ).loc Cert.StickReferenceIdeal.main_arg1) = m' ((c.tc : Thread Cert.StickReferenceIdeal.nD Cert.StickReferenceIdeal.τ).loc Cert.StickReferenceIdeal.main_arg1)
          ∧ r.2.mem ((c.tc : Thread Cert.StickReferenceIdeal.nD Cert.StickReferenceIdeal.τ).loc Cert.StickReferenceIdeal.main_arg2) = m' ((c.tc : Thread Cert.StickReferenceIdeal.nD Cert.StickReferenceIdeal.τ).loc Cert.StickReferenceIdeal.main_arg2)
          ∧ r.2.mem ((c.tc : Thread Cert.StickReferenceIdeal.nD Cert.StickReferenceIdeal.τ).loc Cert.StickReferenceIdeal.main_arg3) = m' ((c.tc : Thread Cert.StickReferenceIdeal.nD Cert.StickReferenceIdeal.τ).loc Cert.StickReferenceIdeal.main_arg3))

def preserves_LayerKernel_LayerKernelIdeal : Prop :=
  IdealRules.named_const.Statement Cert.LayerKernelIdeal.κ "q_scale" .f32 0x3E38AA3B#32 (((Real.log 256)⁻¹ : ℝ) : EReal)
  ∧ IdealRules.named_const.Statement Cert.LayerKernelIdeal.κ "log2e" .f32 0x3FB8AA3B#32 (((Real.log 2)⁻¹ : ℝ) : EReal)
  ∧ IdealRules.named_const.Statement Cert.LayerKernelIdeal.κ "mask" .f32 0xF149F2CA#32 ⊥

def algebraic_LayerKernelIdeal_LayerReferenceIdeal_pre_finite_inputs [hLayerKernelIdeal : Cert.LayerKernelIdeal.Facts] [hLayerReferenceIdeal : Cert.LayerReferenceIdeal.Facts] [hPre_finite_inputs : Cert.Pre_finite_inputs.Facts] : Prop :=
  ∀ (m : (ℓ : Loc Cert.LayerKernelIdeal.nD Cert.LayerKernelIdeal.τ Cert.LayerKernelIdeal.sig) → Buf (Elt Ideal) ℓ) (g : Dev Cert.LayerKernelIdeal.nD → PrngReg)
    (m' : (ℓ : Loc Cert.LayerReferenceIdeal.nD Cert.LayerReferenceIdeal.τ Cert.LayerReferenceIdeal.sig) → Buf (Elt Ideal) ℓ) (g' : Dev Cert.LayerReferenceIdeal.nD → PrngReg), Pre_LayerKernelIdeal_finite_inputs m →
    (∀ c : Dev Cert.LayerKernelIdeal.nD,
      m' ((c.tc : Thread Cert.LayerReferenceIdeal.nD Cert.LayerReferenceIdeal.τ).loc Cert.LayerReferenceIdeal.main_arg0) = m ((c.tc : Thread Cert.LayerKernelIdeal.nD Cert.LayerKernelIdeal.τ).loc Cert.LayerKernelIdeal.main_arg0)
      ∧ m' ((c.tc : Thread Cert.LayerReferenceIdeal.nD Cert.LayerReferenceIdeal.τ).loc Cert.LayerReferenceIdeal.main_arg1) = m ((c.tc : Thread Cert.LayerKernelIdeal.nD Cert.LayerKernelIdeal.τ).loc Cert.LayerKernelIdeal.main_arg1)
      ∧ m' ((c.tc : Thread Cert.LayerReferenceIdeal.nD Cert.LayerReferenceIdeal.τ).loc Cert.LayerReferenceIdeal.main_arg2) = m ((c.tc : Thread Cert.LayerKernelIdeal.nD Cert.LayerKernelIdeal.τ).loc Cert.LayerKernelIdeal.main_arg2)
      ∧ m' ((c.tc : Thread Cert.LayerReferenceIdeal.nD Cert.LayerReferenceIdeal.τ).loc Cert.LayerReferenceIdeal.main_arg3) = m ((c.tc : Thread Cert.LayerKernelIdeal.nD Cert.LayerKernelIdeal.τ).loc Cert.LayerKernelIdeal.main_arg3)
      ∧ m' ((c.tc : Thread Cert.LayerReferenceIdeal.nD Cert.LayerReferenceIdeal.τ).loc Cert.LayerReferenceIdeal.main_arg4) = m ((c.tc : Thread Cert.LayerKernelIdeal.nD Cert.LayerKernelIdeal.τ).loc Cert.LayerKernelIdeal.main_arg4)
      ∧ m' ((c.tc : Thread Cert.LayerReferenceIdeal.nD Cert.LayerReferenceIdeal.τ).loc Cert.LayerReferenceIdeal.main_arg5) = m ((c.tc : Thread Cert.LayerKernelIdeal.nD Cert.LayerKernelIdeal.τ).loc Cert.LayerKernelIdeal.main_arg5)) →
    ∃ (v0 : (c : Dev Cert.LayerKernelIdeal.nD) → Buf (Elt Ideal) ((c.tc : Thread Cert.LayerKernelIdeal.nD Cert.LayerKernelIdeal.τ).loc Cert.LayerKernelIdeal.main_v17)),
      θ_run (Cert.LayerKernelIdeal.defs (F := Ideal)) (onTc (τ := Cert.LayerKernelIdeal.τ) (Cert.LayerKernelIdeal.main (F := Ideal))) ⟨m, fun _ => 0, g⟩ (fun r => ∀ c : Dev Cert.LayerKernelIdeal.nD,
          r.2.mem ((c.tc : Thread Cert.LayerKernelIdeal.nD Cert.LayerKernelIdeal.τ).loc Cert.LayerKernelIdeal.main_v17) = v0 c
          ∧ r.2.mem ((c.tc : Thread Cert.LayerKernelIdeal.nD Cert.LayerKernelIdeal.τ).loc Cert.LayerKernelIdeal.main_arg0) = m ((c.tc : Thread Cert.LayerKernelIdeal.nD Cert.LayerKernelIdeal.τ).loc Cert.LayerKernelIdeal.main_arg0)
          ∧ r.2.mem ((c.tc : Thread Cert.LayerKernelIdeal.nD Cert.LayerKernelIdeal.τ).loc Cert.LayerKernelIdeal.main_arg1) = m ((c.tc : Thread Cert.LayerKernelIdeal.nD Cert.LayerKernelIdeal.τ).loc Cert.LayerKernelIdeal.main_arg1)
          ∧ r.2.mem ((c.tc : Thread Cert.LayerKernelIdeal.nD Cert.LayerKernelIdeal.τ).loc Cert.LayerKernelIdeal.main_arg2) = m ((c.tc : Thread Cert.LayerKernelIdeal.nD Cert.LayerKernelIdeal.τ).loc Cert.LayerKernelIdeal.main_arg2)
          ∧ r.2.mem ((c.tc : Thread Cert.LayerKernelIdeal.nD Cert.LayerKernelIdeal.τ).loc Cert.LayerKernelIdeal.main_arg3) = m ((c.tc : Thread Cert.LayerKernelIdeal.nD Cert.LayerKernelIdeal.τ).loc Cert.LayerKernelIdeal.main_arg3)
          ∧ r.2.mem ((c.tc : Thread Cert.LayerKernelIdeal.nD Cert.LayerKernelIdeal.τ).loc Cert.LayerKernelIdeal.main_arg4) = m ((c.tc : Thread Cert.LayerKernelIdeal.nD Cert.LayerKernelIdeal.τ).loc Cert.LayerKernelIdeal.main_arg4)
          ∧ r.2.mem ((c.tc : Thread Cert.LayerKernelIdeal.nD Cert.LayerKernelIdeal.τ).loc Cert.LayerKernelIdeal.main_arg5) = m ((c.tc : Thread Cert.LayerKernelIdeal.nD Cert.LayerKernelIdeal.τ).loc Cert.LayerKernelIdeal.main_arg5))
      ∧ θ_run (Cert.LayerReferenceIdeal.defs (F := Ideal)) (onTc (τ := Cert.LayerReferenceIdeal.τ) (Cert.LayerReferenceIdeal.main (F := Ideal))) ⟨m', fun _ => 0, g'⟩ (fun r => ∀ c : Dev Cert.LayerReferenceIdeal.nD,
          r.2.mem ((c.tc : Thread Cert.LayerReferenceIdeal.nD Cert.LayerReferenceIdeal.τ).loc Cert.LayerReferenceIdeal.main_v113) = v0 c
          ∧ r.2.mem ((c.tc : Thread Cert.LayerReferenceIdeal.nD Cert.LayerReferenceIdeal.τ).loc Cert.LayerReferenceIdeal.main_arg0) = m' ((c.tc : Thread Cert.LayerReferenceIdeal.nD Cert.LayerReferenceIdeal.τ).loc Cert.LayerReferenceIdeal.main_arg0)
          ∧ r.2.mem ((c.tc : Thread Cert.LayerReferenceIdeal.nD Cert.LayerReferenceIdeal.τ).loc Cert.LayerReferenceIdeal.main_arg1) = m' ((c.tc : Thread Cert.LayerReferenceIdeal.nD Cert.LayerReferenceIdeal.τ).loc Cert.LayerReferenceIdeal.main_arg1)
          ∧ r.2.mem ((c.tc : Thread Cert.LayerReferenceIdeal.nD Cert.LayerReferenceIdeal.τ).loc Cert.LayerReferenceIdeal.main_arg2) = m' ((c.tc : Thread Cert.LayerReferenceIdeal.nD Cert.LayerReferenceIdeal.τ).loc Cert.LayerReferenceIdeal.main_arg2)
          ∧ r.2.mem ((c.tc : Thread Cert.LayerReferenceIdeal.nD Cert.LayerReferenceIdeal.τ).loc Cert.LayerReferenceIdeal.main_arg3) = m' ((c.tc : Thread Cert.LayerReferenceIdeal.nD Cert.LayerReferenceIdeal.τ).loc Cert.LayerReferenceIdeal.main_arg3)
          ∧ r.2.mem ((c.tc : Thread Cert.LayerReferenceIdeal.nD Cert.LayerReferenceIdeal.τ).loc Cert.LayerReferenceIdeal.main_arg4) = m' ((c.tc : Thread Cert.LayerReferenceIdeal.nD Cert.LayerReferenceIdeal.τ).loc Cert.LayerReferenceIdeal.main_arg4)
          ∧ r.2.mem ((c.tc : Thread Cert.LayerReferenceIdeal.nD Cert.LayerReferenceIdeal.τ).loc Cert.LayerReferenceIdeal.main_arg5) = m' ((c.tc : Thread Cert.LayerReferenceIdeal.nD Cert.LayerReferenceIdeal.τ).loc Cert.LayerReferenceIdeal.main_arg5))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hOutKernel : Cert.OutKernel.Facts) (hOutKernelIdeal : Cert.OutKernelIdeal.Facts) (hOutReferenceIdeal : Cert.OutReferenceIdeal.Facts) (hStickKernel : Cert.StickKernel.Facts) (hStickKernelIdeal : Cert.StickKernelIdeal.Facts) (hStickReferenceIdeal : Cert.StickReferenceIdeal.Facts) (hLayerKernel : Cert.LayerKernel.Facts) (hLayerKernelIdeal : Cert.LayerKernelIdeal.Facts) (hLayerReferenceIdeal : Cert.LayerReferenceIdeal.Facts) (hPre_finite : Cert.Pre_finite.Facts) (hPre_finite_scores : Cert.Pre_finite_scores.Facts) (hPre_finite_inputs : Cert.Pre_finite_inputs.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InKernel (hInKernel := hInKernel)
    ∧ quiescent_InKernelIdeal (hInKernelIdeal := hInKernelIdeal)
    ∧ quiescent_InReferenceIdeal (hInReferenceIdeal := hInReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_StickKernel (hStickKernel := hStickKernel)
    ∧ quiescent_StickKernelIdeal (hStickKernelIdeal := hStickKernelIdeal)
    ∧ quiescent_StickKernelIdeal_pre_finite_scores (hStickKernelIdeal := hStickKernelIdeal) (hPre_finite_scores := hPre_finite_scores)
    ∧ quiescent_StickReferenceIdeal (hStickReferenceIdeal := hStickReferenceIdeal)
    ∧ quiescent_StickReferenceIdeal_pre_finite_scores (hStickReferenceIdeal := hStickReferenceIdeal) (hPre_finite_scores := hPre_finite_scores)
    ∧ quiescent_LayerKernel (hLayerKernel := hLayerKernel)
    ∧ quiescent_LayerKernelIdeal (hLayerKernelIdeal := hLayerKernelIdeal)
    ∧ quiescent_LayerKernelIdeal_pre_finite_inputs (hLayerKernelIdeal := hLayerKernelIdeal) (hPre_finite_inputs := hPre_finite_inputs)
    ∧ quiescent_LayerReferenceIdeal (hLayerReferenceIdeal := hLayerReferenceIdeal)
    ∧ quiescent_LayerReferenceIdeal_pre_finite_inputs (hLayerReferenceIdeal := hLayerReferenceIdeal) (hPre_finite_inputs := hPre_finite_inputs)
    ∧ preserves_Kernel_KernelIdeal
    ∧ algebraic_KernelIdeal_ReferenceIdeal_pre_finite (hKernelIdeal := hKernelIdeal) (hReferenceIdeal := hReferenceIdeal) (hPre_finite := hPre_finite)
    ∧ preserves_InKernel_InKernelIdeal
    ∧ algebraic_InKernelIdeal_InReferenceIdeal (hInKernelIdeal := hInKernelIdeal) (hInReferenceIdeal := hInReferenceIdeal)
    ∧ preserves_OutKernel_OutKernelIdeal
    ∧ algebraic_OutKernelIdeal_OutReferenceIdeal (hOutKernelIdeal := hOutKernelIdeal) (hOutReferenceIdeal := hOutReferenceIdeal)
    ∧ preserves_StickKernel_StickKernelIdeal
    ∧ algebraic_StickKernelIdeal_StickReferenceIdeal_pre_finite_scores (hStickKernelIdeal := hStickKernelIdeal) (hStickReferenceIdeal := hStickReferenceIdeal) (hPre_finite_scores := hPre_finite_scores)
    ∧ preserves_LayerKernel_LayerKernelIdeal
    ∧ algebraic_LayerKernelIdeal_LayerReferenceIdeal_pre_finite_inputs (hLayerKernelIdeal := hLayerKernelIdeal) (hLayerReferenceIdeal := hLayerReferenceIdeal) (hPre_finite_inputs := hPre_finite_inputs)
-- ==== Pre_finite.lean ====
abbrev S8x8192x1024 : Shape := ⟨3, ![8, 8192, 1024]⟩
abbrev S16x257 : Shape := ⟨2, ![16, 257]⟩
abbrev S_ : Shape := ⟨0, ![]⟩

class Facts : Prop where
  bitsLt_bf16_f32 : FTy.bits .bf16 < FTy.bits .f32
  bcast_S_S8x8192x1024 : S_.BroadcastsInDim S8x8192x1024 (![] : Fin 0 → Fin S8x8192x1024.rank)
  bcast_S_S16x257 : S_.BroadcastsInDim S16x257 (![] : Fin 0 → Fin S16x257.rank)

variable [Facts]

def fn {F : FTy → Type} [FloatOps F] (main_arg0 : FVec F S8x8192x1024 .bf16) (main_arg1 : FVec F S8x8192x1024 .bf16) (main_arg2 : FVec F S8x8192x1024 .bf16) (main_arg3 : FVec F S8x8192x1024 .bf16) (main_arg4 : FVec F S16x257 .f32) : IVec S8x8192x1024 1 × IVec S8x8192x1024 1 × IVec S8x8192x1024 1 × IVec S8x8192x1024 1 × IVec S16x257 1 :=
  let main_v0 : FVec F S8x8192x1024 .f32 := (extf .f32 · bitsLt_bf16_f32) main_arg0
  let main_v1 : FVec F S8x8192x1024 .f32 := Host.absf main_v0
  let main_cst : FVec F S_ .f32 := constant S_ .f32 0x7F800000#32
  let main_v2 : FVec F S8x8192x1024 .f32 := broadcastInDim S8x8192x1024 ![] bcast_S_S8x8192x1024 main_cst
  let main_v3 : IVec S8x8192x1024 1 := cmpf .olt main_v1 main_v2
  let main_v4 : FVec F S8x8192x1024 .f32 := (extf .f32 · bitsLt_bf16_f32) main_arg1
  let main_v5 : FVec F S8x8192x1024 .f32 := Host.absf main_v4
  let main_cst_0 : FVec F S_ .f32 := constant S_ .f32 0x7F800000#32
  let main_v6 : FVec F S8x8192x1024 .f32 := broadcastInDim S8x8192x1024 ![] bcast_S_S8x8192x1024 main_cst_0
  let main_v7 : IVec S8x8192x1024 1 := cmpf .olt main_v5 main_v6
  let main_v8 : FVec F S8x8192x1024 .f32 := (extf .f32 · bitsLt_bf16_f32) main_arg2
  let main_v9 : FVec F S8x8192x1024 .f32 := Host.absf main_v8
  let main_cst_1 : FVec F S_ .f32 := constant S_ .f32 0x7F800000#32
  let main_v10 : FVec F S8x8192x1024 .f32 := broadcastInDim S8x8192x1024 ![] bcast_S_S8x8192x1024 main_cst_1
  let main_v11 : IVec S8x8192x1024 1 := cmpf .olt main_v9 main_v10
  let main_v12 : FVec F S8x8192x1024 .f32 := (extf .f32 · bitsLt_bf16_f32) main_arg3
  let main_v13 : FVec F S8x8192x1024 .f32 := Host.absf main_v12
  let main_cst_2 : FVec F S_ .f32 := constant S_ .f32 0x7F800000#32
  let main_v14 : FVec F S8x8192x1024 .f32 := broadcastInDim S8x8192x1024 ![] bcast_S_S8x8192x1024 main_cst_2
  let main_v15 : IVec S8x8192x1024 1 := cmpf .olt main_v13 main_v14
  let main_v16 : FVec F S16x257 .f32 := Host.absf main_arg4
  let main_cst_3 : FVec F S_ .f32 := constant S_ .f32 0x7F800000#32
  let main_v17 : FVec F S16x257 .f32 := broadcastInDim S16x257 ![] bcast_S_S16x257 main_cst_3
  let main_v18 : IVec S16x257 1 := cmpf .olt main_v16 main_v17
  (main_v3, main_v7, main_v11, main_v15, main_v18)
-- ==== Pre_finite_inputs.lean ====
abbrev S8x8192x1024 : Shape := ⟨3, ![8, 8192, 1024]⟩
abbrev S1024 : Shape := ⟨1, ![1024]⟩
abbrev S1024x4096 : Shape := ⟨2, ![1024, 4096]⟩
abbrev S16x257 : Shape := ⟨2, ![16, 257]⟩
abbrev S1024x1024 : Shape := ⟨2, ![1024, 1024]⟩
abbrev S_ : Shape := ⟨0, ![]⟩

class Facts : Prop where
  bcast_S_S8x8192x1024 : S_.BroadcastsInDim S8x8192x1024 (![] : Fin 0 → Fin S8x8192x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S16x257 : S_.BroadcastsInDim S16x257 (![] : Fin 0 → Fin S16x257.rank)

variable [Facts]

def fn {F : FTy → Type} [FloatOps F] (main_arg0 : FVec F S8x8192x1024 .f32) (main_arg1 : FVec F S1024 .f32) (main_arg2 : FVec F S1024x4096 .f32) (main_arg3 : FVec F S16x257 .f32) (main_arg4 : FVec F S1024x1024 .f32) (main_arg5 : FVec F S1024 .f32) : IVec S8x8192x1024 1 × IVec S1024 1 × IVec S1024x4096 1 × IVec S16x257 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S16x257 .f32 := Host.absf main_arg3
  let main_cst_2 : FVec F S_ .f32 := constant S_ .f32 0x7F800000#32
  let main_v10 : FVec F S16x257 .f32 := broadcastInDim S16x257 ![] bcast_S_S16x257 main_cst_2
  let main_v11 : IVec S16x257 1 := cmpf .olt main_v9 main_v10
  (main_v2, main_v5, main_v8, main_v11)
-- ==== Pre_finite_scores.lean ====
abbrev S8x8192x1024 : Shape := ⟨3, ![8, 8192, 1024]⟩
abbrev S_ : Shape := ⟨0, ![]⟩

class Facts : Prop where
  bitsLt_bf16_f32 : FTy.bits .bf16 < FTy.bits .f32
  bcast_S_S8x8192x1024 : S_.BroadcastsInDim S8x8192x1024 (![] : Fin 0 → Fin S8x8192x1024.rank)

variable [Facts]

def fn {F : FTy → Type} [FloatOps F] (main_arg0 : FVec F S8x8192x1024 .bf16) (main_arg1 : FVec F S8x8192x1024 .bf16) (main_arg2 : FVec F S8x8192x1024 .bf16) (main_arg3 : FVec F S8x8192x1024 .bf16) : IVec S8x8192x1024 1 × IVec S8x8192x1024 1 :=
  let main_v0 : FVec F S8x8192x1024 .f32 := (extf .f32 · bitsLt_bf16_f32) main_arg0
  let main_v1 : FVec F S8x8192x1024 .f32 := Host.absf main_v0
  let main_cst : FVec F S_ .f32 := constant S_ .f32 0x7F800000#32
  let main_v2 : FVec F S8x8192x1024 .f32 := broadcastInDim S8x8192x1024 ![] bcast_S_S8x8192x1024 main_cst
  let main_v3 : IVec S8x8192x1024 1 := cmpf .olt main_v1 main_v2
  let main_v4 : FVec F S8x8192x1024 .f32 := (extf .f32 · bitsLt_bf16_f32) main_arg1
  let main_v5 : FVec F S8x8192x1024 .f32 := Host.absf main_v4
  let main_cst_0 : FVec F S_ .f32 := constant S_ .f32 0x7F800000#32
  let main_v6 : FVec F S8x8192x1024 .f32 := broadcastInDim S8x8192x1024 ![] bcast_S_S8x8192x1024 main_cst_0
  let main_v7 : IVec S8x8192x1024 1 := cmpf .olt main_v5 main_v6
  (main_v3, main_v7)
-- ==== Kernel.lean ====
abbrev S8x8192x1024 : Shape := ⟨3, ![8, 8192, 1024]⟩
abbrev S16x257 : Shape := ⟨2, ![16, 257]⟩
abbrev S3x1024 : Shape := ⟨2, ![3, 1024]⟩
abbrev S_ : Shape := ⟨0, ![]⟩
abbrev S3x1024x1 : Shape := ⟨3, ![3, 1024, 1]⟩
abbrev S16x3x1024 : Shape := ⟨3, ![16, 3, 1024]⟩
abbrev S1x8192x128 : Shape := ⟨3, ![1, 8192, 128]⟩
abbrev S2x3x1024 : Shape := ⟨3, ![2, 3, 1024]⟩
abbrev S2x3x256x768 : Shape := ⟨4, ![2, 3, 256, 768]⟩
abbrev S256x768 : Shape := ⟨2, ![256, 768]⟩
abbrev S1x1x1024 : Shape := ⟨3, ![1, 1, 1024]⟩
abbrev S1x1024 : Shape := ⟨2, ![1, 1024]⟩
abbrev S256x1024 : Shape := ⟨2, ![256, 1024]⟩
abbrev S1x1x256x768 : Shape := ⟨4, ![1, 1, 256, 768]⟩
abbrev S1x256x128 : Shape := ⟨3, ![1, 256, 128]⟩
abbrev S256x128 : Shape := ⟨2, ![256, 128]⟩
abbrev S1x768x128 : Shape := ⟨3, ![1, 768, 128]⟩
abbrev S768x128 : Shape := ⟨2, ![768, 128]⟩
abbrev S1x128 : Shape := ⟨2, ![1, 128]⟩
abbrev S256 : Shape := ⟨1, ![256]⟩
abbrev S256x1 : Shape := ⟨2, ![256, 1]⟩

abbrev nBuf : Space → Nat
  | .hbm => 14
  | .vmem => 13
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x1024, .bf16⟩
  | .hbm, ⟨3, _⟩ => ⟨S8x8192x1024, .bf16⟩
  | .hbm, ⟨4, _⟩ => ⟨S16x257, .f32⟩
  | .hbm, ⟨5, _⟩ => ⟨S3x1024, .i32⟩
  | .hbm, ⟨6, _⟩ => ⟨S3x1024, .i1⟩
  | .hbm, ⟨7, _⟩ => ⟨S_, .i32⟩
  | .hbm, ⟨8, _⟩ => ⟨S3x1024, .i32⟩
  | .hbm, ⟨9, _⟩ => ⟨S3x1024, .i32⟩
  | .hbm, ⟨10, _⟩ => ⟨S3x1024, .i32⟩
  | .hbm, ⟨11, _⟩ => ⟨S3x1024x1, .i32⟩
  | .hbm, ⟨12, _⟩ => ⟨S16x3x1024, .f32⟩
  | .hbm, ⟨13, _⟩ => ⟨S8x8192x1024, .bf16⟩
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S2x3x1024, .f32⟩
  | .local _ .vmem, ⟨9, _⟩ => ⟨S2x3x1024, .f32⟩
  | .local _ .vmem, ⟨10, _⟩ => ⟨S1x8192x128, .bf16⟩
  | .local _ .vmem, ⟨11, _⟩ => ⟨S1x8192x128, .bf16⟩
  | .local _ .vmem, ⟨12, _⟩ => ⟨S2x3x256x768, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c1_i32_163 : BitVec 32 := 1#32
  let c15_i32 : BitVec 32 := 15#32
  let v338 : BitVec 32 := Scalar.addi c1_i32_163 c15_i32
  let c1_i32_164 : BitVec 32 := 1#32
  ⟨c1_i32_163, v338, c1_i32_164⟩
def k0_mult1 (k0_t1 : Fin k0_t1_loop.trips) : BitVec 32 :=
  let c2_i32 : BitVec 32 := 2#32
  let c1_i32_163 : BitVec 32 := 1#32
  let c1_i32_164 : BitVec 32 := 1#32
  let arg9 : BitVec 32 := Scf.iv c1_i32_163 c1_i32_164 k0_t1
  let v339 : BitVec 32 := Scalar.muli c2_i32 arg9
  let c256_i32_166 : BitVec 32 := 256#32
  let v340 : BitVec 32 := Scalar.muli v339 c256_i32_166
  v340
def k0_mult2 (k0_t1 : Fin k0_t1_loop.trips) : BitVec 32 :=
  let c2_i32 : BitVec 32 := 2#32
  let c1_i32_163 : BitVec 32 := 1#32
  let c1_i32_164 : BitVec 32 := 1#32
  let arg9 : BitVec 32 := Scf.iv c1_i32_163 c1_i32_164 k0_t1
  let v339 : BitVec 32 := Scalar.muli c2_i32 arg9
  let c256_i32_166 : BitVec 32 := 256#32
  let v340 : BitVec 32 := Scalar.muli v339 c256_i32_166
  let v341 : BitVec 32 := v340
  let c512_i32_167 : BitVec 32 := 512#32
  let v342 : BitVec 32 := Scalar.subi v341 c512_i32_167
  v342
def k0_off1 (k0_t1 : Fin k0_t1_loop.trips) : Fin 3 → Nat :=
  let c0_168 : Index := 0#32
  let c2_i32 : BitVec 32 := 2#32
  let c1_i32_163 : BitVec 32 := 1#32
  let c1_i32_164 : BitVec 32 := 1#32
  let arg9 : BitVec 32 := Scf.iv c1_i32_163 c1_i32_164 k0_t1
  let v339 : BitVec 32 := Scalar.muli c2_i32 arg9
  let c256_i32_166 : BitVec 32 := 256#32
  let v340 : BitVec 32 := Scalar.muli v339 c256_i32_166
  let v341 : BitVec 32 := v340
  let v344 : Index := Scalar.indexCast v341
  let c0_169 : Index := 0#32
  ![0, v344.toNat, 0]
def k0_off2 (k0_t1 : Fin k0_t1_loop.trips) : Fin 3 → Nat :=
  let c0_170 : Index := 0#32
  let c2_i32 : BitVec 32 := 2#32
  let c1_i32_163 : BitVec 32 := 1#32
  let c1_i32_164 : BitVec 32 := 1#32
  let arg9 : BitVec 32 := Scf.iv c1_i32_163 c1_i32_164 k0_t1
  let v339 : BitVec 32 := Scalar.muli c2_i32 arg9
  let c256_i32_166 : BitVec 32 := 256#32
  let v340 : BitVec 32 := Scalar.muli v339 c256_i32_166
  let v341 : BitVec 32 := v340
  let c512_i32_167 : BitVec 32 := 512#32
  let v342 : BitVec 32 := Scalar.subi v341 c512_i32_167
  let v343 : BitVec 32 := v342
  let v347 : Index := Scalar.indexCast v343
  let c0_171 : Index := 0#32
  ![0, v347.toNat, 0]
def k0_mult3 (k0_t1 : Fin k0_t1_loop.trips) : BitVec 32 :=
  let c2_i32_204 : BitVec 32 := 2#32
  let c1_i32_163 : BitVec 32 := 1#32
  let c1_i32_164 : BitVec 32 := 1#32
  let arg9 : BitVec 32 := Scf.iv c1_i32_163 c1_i32_164 k0_t1
  let v432 : BitVec 32 := Scalar.muli c2_i32_204 arg9
  let c1_i32_205 : BitVec 32 := 1#32
  let v433 : BitVec 32 := Scalar.addi v432 c1_i32_205
  let c256_i32_206 : BitVec 32 := 256#32
  let v434 : BitVec 32 := Scalar.muli v433 c256_i32_206
  v434
def k0_mult4 (k0_t1 : Fin k0_t1_loop.trips) : BitVec 32 :=
  let c2_i32_204 : BitVec 32 := 2#32
  let c1_i32_163 : BitVec 32 := 1#32
  let c1_i32_164 : BitVec 32 := 1#32
  let arg9 : BitVec 32 := Scf.iv c1_i32_163 c1_i32_164 k0_t1
  let v432 : BitVec 32 := Scalar.muli c2_i32_204 arg9
  let c1_i32_205 : BitVec 32 := 1#32
  let v433 : BitVec 32 := Scalar.addi v432 c1_i32_205
  let c256_i32_206 : BitVec 32 := 256#32
  let v434 : BitVec 32 := Scalar.muli v433 c256_i32_206
  let v435 : BitVec 32 := v434
  let c512_i32_207 : BitVec 32 := 512#32
  let v436 : BitVec 32 := Scalar.subi v435 c512_i32_207
  v436
def k0_off3 (k0_t1 : Fin k0_t1_loop.trips) : Fin 3 → Nat :=
  let c0_208 : Index := 0#32
  let c2_i32_204 : BitVec 32 := 2#32
  let c1_i32_163 : BitVec 32 := 1#32
  let c1_i32_164 : BitVec 32 := 1#32
  let arg9 : BitVec 32 := Scf.iv c1_i32_163 c1_i32_164 k0_t1
  let v432 : BitVec 32 := Scalar.muli c2_i32_204 arg9
  let c1_i32_205 : BitVec 32 := 1#32
  let v433 : BitVec 32 := Scalar.addi v432 c1_i32_205
  let c256_i32_206 : BitVec 32 := 256#32
  let v434 : BitVec 32 := Scalar.muli v433 c256_i32_206
  let v435 : BitVec 32 := v434
  let v438 : Index := Scalar.indexCast v435
  let c0_209 : Index := 0#32
  ![0, v438.toNat, 0]
def k0_off4 (k0_t1 : Fin k0_t1_loop.trips) : Fin 3 → Nat :=
  let c0_210 : Index := 0#32
  let c2_i32_204 : BitVec 32 := 2#32
  let c1_i32_163 : BitVec 32 := 1#32
  let c1_i32_164 : BitVec 32 := 1#32
  let arg9 : BitVec 32 := Scf.iv c1_i32_163 c1_i32_164 k0_t1
  let v432 : BitVec 32 := Scalar.muli c2_i32_204 arg9
  let c1_i32_205 : BitVec 32 := 1#32
  let v433 : BitVec 32 := Scalar.addi v432 c1_i32_205
  let c256_i32_206 : BitVec 32 := 256#32
  let v434 : BitVec 32 := Scalar.muli v433 c256_i32_206
  let v435 : BitVec 32 := v434
  let c512_i32_207 : BitVec 32 := 512#32
  let v436 : BitVec 32 := Scalar.subi v435 c512_i32_207
  let v437 : BitVec 32 := v436
  let v441 : Index := Scalar.indexCast v437
  let c0_211 : Index := 0#32
  ![0, v441.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x8192x1024 : Shape := ⟨3, ![8, 8192, 1024]⟩
abbrev S16x257 : Shape := ⟨2, ![16, 257]⟩
abbrev S_ : Shape := ⟨0, ![]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S8x128x64x16x64 : Shape := ⟨5, ![8, 128, 64, 16, 64]⟩
abbrev S8x8192x16x64 : Shape := ⟨4, ![8, 8192, 16, 64]⟩
abbrev S8x8704x16x64 : Shape := ⟨4, ![8, 8704, 16, 64]⟩
abbrev S128 : Shape := ⟨1, ![128]⟩
abbrev S128x1 : Shape := ⟨2, ![128, 1]⟩
abbrev S128x576 : Shape := ⟨2, ![128, 576]⟩
abbrev S128x576x1 : Shape := ⟨3, ![128, 576, 1]⟩
abbrev S8x128x576x16x64 : Shape := ⟨5, ![8, 128, 576, 16, 64]⟩
abbrev S8x128x16x64x576 : Shape := ⟨5, ![8, 128, 16, 64, 576]⟩
abbrev S1x1x16x64x576 : Shape := ⟨5, ![1, 1, 16, 64, 576]⟩
abbrev S1x128x1x1x576 : Shape := ⟨5, ![1, 128, 1, 1, 576]⟩
abbrev S8x128x16x64 : Shape := ⟨4, ![8, 128, 16, 64]⟩
abbrev S8x128x16x64x1 : Shape := ⟨5, ![8, 128, 16, 64, 1]⟩
abbrev S8x128x16x64x64 : Shape := ⟨5, ![8, 128, 16, 64, 64]⟩

abbrev nBuf : Space → Nat
  | .hbm => 129
  | .vmem => 0
  | .smem => 0
  | _ => 0

abbrev hbmTy0_0 (i : Nat) : BufTy := match i % 128 with
  | 0 => ⟨S8x8192x1024, .bf16⟩
  | 1 => ⟨S8x8192x1024, .bf16⟩
  | 2 => ⟨S8x8192x1024, .bf16⟩
  | 3 => ⟨S8x8192x1024, .bf16⟩
  | 4 => ⟨S16x257, .f32⟩
  | 5 => ⟨S8x8192x1024, .f32⟩
  | 6 => ⟨S8x8192x1024, .f32⟩
  | 7 => ⟨S8x8192x1024, .f32⟩
  | 8 => ⟨S8x8192x1024, .f32⟩
  | 9 => ⟨S_, .f32⟩
  | 10 => ⟨S_, .f32⟩
  | 11 => ⟨S_, .f32⟩
  | 12 => ⟨S_, .f32⟩
  | 13 => ⟨S8x8192x1024, .f32⟩
  | 14 => ⟨S8x8192x1024, .f32⟩
  | 15 => ⟨S64, .i32⟩
  | 16 => ⟨S64x1, .i32⟩
  | 17 => ⟨S576, .i32⟩
  | 18 => ⟨S1x576, .i32⟩
  | 19 => ⟨S_, .i32⟩
  | 20 => ⟨S64x1, .i32⟩
  | 21 => ⟨S64x1, .i32⟩
  | 22 => ⟨S64x576, .i32⟩
  | 23 => ⟨S64x576, .i32⟩
  | 24 => ⟨S64x576, .i32⟩
  | 25 => ⟨S_, .i32⟩
  | 26 => ⟨S_, .i32⟩
  | 27 => ⟨S_, .i32⟩
  | 28 => ⟨S64x576, .i32⟩
  | 29 => ⟨S64x576, .i32⟩
  | 30 => ⟨S_, .i32⟩
  | 31 => ⟨S64x576, .i32⟩
  | 32 => ⟨S64x576, .i32⟩
  | 33 => ⟨S_, .i32⟩
  | 34 => ⟨S64x576, .i32⟩
  | 35 => ⟨S64x576, .i32⟩
  | 36 => ⟨S_, .i32⟩
  | 37 => ⟨S64x576, .i32⟩
  | 38 => ⟨S64x576, .i1⟩
  | 39 => ⟨S_, .i32⟩
  | 40 => ⟨S64x576, .i32⟩
  | 41 => ⟨S64x576, .i32⟩
  | 42 => ⟨S64x576, .i32⟩
  | 43 => ⟨S64x576x1, .i32⟩
  | 44 => ⟨S16x64x576, .f32⟩
  | 45 => ⟨S8x128x64x16x64, .f32⟩
  | 46 => ⟨S8x8192x16x64, .f32⟩
  | 47 => ⟨S_, .i32⟩
  | 48 => ⟨S_, .f32⟩
  | 49 => ⟨S8x8704x16x64, .f32⟩
  | 50 => ⟨S8x8192x16x64, .f32⟩
  | 51 => ⟨S_, .i32⟩
  | 52 => ⟨S_, .f32⟩
  | 53 => ⟨S8x8704x16x64, .f32⟩
  | 54 => ⟨S128, .i32⟩
  | 55 => ⟨S128x1, .i32⟩
  | 56 => ⟨S_, .i32⟩
  | 57 => ⟨S128x1, .i32⟩
  | 58 => ⟨S128x1, .i32⟩
  | 59 => ⟨S576, .i32⟩
  | 60 => ⟨S1x576, .i32⟩
  | 61 => ⟨S128x576, .i32⟩
  | 62 => ⟨S128x576, .i32⟩
  | 63 => ⟨S128x576, .i32⟩
  | 64 => ⟨S_, .i32⟩
  | 65 => ⟨S128x576, .i32⟩
  | 66 => ⟨S128x576, .i1⟩
  | 67 => ⟨S_, .i32⟩
  | 68 => ⟨S128x576, .i32⟩
  | 69 => ⟨S128x576, .i32⟩
  | 70 => ⟨S128x576, .i32⟩
  | 71 => ⟨S128x576x1, .i32⟩
  | 72 => ⟨S8x128x576x16x64, .f32⟩
  | 73 => ⟨S_, .i32⟩
  | 74 => ⟨S128x576, .i32⟩
  | 75 => ⟨S128x576, .i1⟩
  | 76 => ⟨S_, .i32⟩
  | 77 => ⟨S128x576, .i32⟩
  | 78 => ⟨S128x576, .i32⟩
  | 79 => ⟨S128x576, .i32⟩
  | 80 => ⟨S128x576x1, .i32⟩
  | 81 => ⟨S8x128x576x16x64, .f32⟩
  | 82 => ⟨S8x128x16x64x576, .f32⟩
  | 83 => ⟨S_, .f32⟩
  | 84 => ⟨S8x128x16x64x576, .f32⟩
  | 85 => ⟨S8x128x16x64x576, .f32⟩
  | 86 => ⟨S1x1x16x64x576, .f32⟩
  | 87 => ⟨S8x128x16x64x576, .f32⟩
  | 88 => ⟨S8x128x16x64x576, .f32⟩
  | 89 => ⟨S_, .i32⟩
  | 90 => ⟨S128x576, .i32⟩
  | 91 => ⟨S128x576, .i32⟩
  | 92 => ⟨S_, .i32⟩
  | 93 => ⟨S128x576, .i32⟩
  | 94 => ⟨S128x576, .i1⟩
  | 95 => ⟨S1x128x1x1x576, .i1⟩
  | 96 => ⟨S_, .f32⟩
  | 97 => ⟨S_, .f32⟩
  | 98 => ⟨S8x128x16x64x576, .i1⟩
  | 99 => ⟨S8x128x16x64x576, .f32⟩
  | 100 => ⟨S8x128x16x64x576, .f32⟩
  | 101 => ⟨S_, .f32⟩
  | 102 => ⟨S8x128x16x64, .f32⟩
  | 103 => ⟨S_, .f32⟩
  | 104 => ⟨S8x128x16x64, .f32⟩
  | 105 => ⟨S8x128x16x64, .f32⟩
  | 106 => ⟨S8x128x16x64x1, .f32⟩
  | 107 => ⟨S8x128x16x64x576, .f32⟩
  | 108 => ⟨S8x128x16x64x576, .f32⟩
  | 109 => ⟨S8x128x16x64x576, .f32⟩
  | 110 => ⟨S_, .f32⟩
  | 111 => ⟨S8x128x16x64, .f32⟩
  | 112 => ⟨S8x128x16x64x1, .f32⟩
  | 113 => ⟨S8x128x16x64x576, .f32⟩
  | 114 => ⟨S8x128x16x64x576, .f32⟩
  | 115 => ⟨S8x128x16x64x64, .f32⟩
  | 116 => ⟨S8x128x64x16x64, .f32⟩
  | 117 => ⟨S8x8192x1024, .f32⟩
  | 118 => ⟨S8x8192x1024, .f32⟩
  | 119 => ⟨S8x8192x1024, .f32⟩
  | 120 => ⟨S_, .f32⟩
  | 121 => ⟨S8x8192x1024, .f32⟩
  | 122 => ⟨S8x8192x1024, .f32⟩
  | 123 => ⟨S_, .f32⟩
  | 124 => ⟨S8x8192x1024, .f32⟩
  | 125 => ⟨S8x8192x1024, .f32⟩
  | 126 => ⟨S8x8192x1024, .f32⟩
  | 127 => ⟨S8x8192x1024, .f32⟩
  | _ => ⟨S8x8192x1024, .bf16⟩

abbrev hbmTy0_1 (i : Nat) : BufTy := match i % 128 with
  | 0 => ⟨S8x8192x1024, .bf16⟩
  | _ => ⟨S8x8192x1024, .bf16⟩

abbrev hbmTy (i : Nat) : BufTy := match i / 128 with
  | 0 => hbmTy0_0 i
  | 1 => hbmTy0_1 i
  | _ => ⟨S8x8192x1024, .bf16⟩

abbrev bufTy : (tb : Table) → Fin (tcTables nBuf tb) → BufTy
  | .hbm, ⟨i, _⟩ => hbmTy i
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_c_2 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_call1_v0 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_call2_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_c_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_16 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v66 : Ref sig .tc := ⟨.hbm, 100, rfl⟩
abbrev main_cst_17 : Ref sig .tc := ⟨.hbm, 101, rfl⟩
abbrev main_v67 : Ref sig .tc := ⟨.hbm, 102, rfl⟩
abbrev main_cst_18 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_19 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_call4_v0 : Ref sig .tc := ⟨.hbm, 118, rfl⟩
abbrev main_call4_v1 : Ref sig .tc := ⟨.hbm, 119, rfl⟩
abbrev main_call4_cst : Ref sig .tc := ⟨.hbm, 120, rfl⟩
abbrev main_call4_v2 : Ref sig .tc := ⟨.hbm, 121, rfl⟩
abbrev main_call4_v3 : Ref sig .tc := ⟨.hbm, 122, rfl⟩
abbrev main_call4_cst_0 : Ref sig .tc := ⟨.hbm, 123, rfl⟩
abbrev main_call4_v4 : Ref sig .tc := ⟨.hbm, 124, rfl⟩
abbrev main_call4_v5 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩

abbrev nD : Nat := 1
abbrev τ : Topo := Topo.v7x

variable {F : FTy → Type} [FloatOps F]
-- ==== InKernel.lean ====
abbrev S65536x1024 : Shape := ⟨2, ![65536, 1024]⟩
abbrev S1024 : Shape := ⟨1, ![1024]⟩
abbrev S1024x4096 : Shape := ⟨2, ![1024, 4096]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 9
  | .vmem => 12
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1x1024, .f32⟩
  | .hbm, ⟨5, _⟩ => ⟨S65536x1024, .bf16⟩
  | .hbm, ⟨6, _⟩ => ⟨S65536x1024, .bf16⟩
  | .hbm, ⟨7, _⟩ => ⟨S65536x1024, .bf16⟩
  | .hbm, ⟨8, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InKernelIdeal.lean ====
variable {F : FTy → Type} [FloatOps F] [Named F]
def κ : String → Option EReal := fun
  | "q_scale" => some (((Real.log 256)⁻¹ : ℝ) : EReal)
  | _ => none
-- ==== InReferenceIdeal.lean ====
abbrev S65536x1024 : Shape := ⟨2, ![65536, 1024]⟩
abbrev S1024 : Shape := ⟨1, ![1024]⟩
abbrev S1024x4096 : Shape := ⟨2, ![1024, 4096]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4096 : Shape := ⟨2, ![65536, 4096]⟩

abbrev nBuf : Space → Nat
  | .hbm => 35
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4096, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x4096, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S_, .f32⟩
  | .hbm, ⟨29, _⟩ => ⟨S65536x1024, .f32⟩
  | .hbm, ⟨30, _⟩ => ⟨S65536x1024, .f32⟩
  | .hbm, ⟨31, _⟩ => ⟨S65536x1024, .bf16⟩
  | .hbm, ⟨32, _⟩ => ⟨S65536x1024, .bf16⟩
  | .hbm, ⟨33, _⟩ => ⟨S65536x1024, .bf16⟩
  | .hbm, ⟨34, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== OutKernel.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .f32⟩
  | .hbm, ⟨2, _⟩ => ⟨S65536x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutReferenceIdeal.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .f32⟩
  | .hbm, ⟨2, _⟩ => ⟨S65536x1024, .f32⟩
  | .hbm, ⟨3, _⟩ => ⟨S1024, .f32⟩
  | .hbm, ⟨4, _⟩ => ⟨S65536x1024, .f32⟩
  | .hbm, ⟨5, _⟩ => ⟨S65536x1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== StickKernel.lean ====
abbrev S8x8192x1024 : Shape := ⟨3, ![8, 8192, 1024]⟩
abbrev S1x8192x128 : Shape := ⟨3, ![1, 8192, 128]⟩
abbrev S256x256 : Shape := ⟨2, ![256, 256]⟩
abbrev S2x512x128 : Shape := ⟨3, ![2, 512, 128]⟩
abbrev S1x256x128 : Shape := ⟨3, ![1, 256, 128]⟩
abbrev S256x128 : Shape := ⟨2, ![256, 128]⟩
abbrev S1x128 : Shape := ⟨2, ![1, 128]⟩
abbrev S512x256 : Shape := ⟨2, ![512, 256]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S128 : Shape := ⟨1, ![128]⟩
abbrev S1 : Shape := ⟨1, ![1]⟩
abbrev S1x1 : Shape := ⟨2, ![1, 1]⟩

abbrev nBuf : Space → Nat
  | .hbm => 5
  | .vmem => 14
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x1024, .bf16⟩
  | .hbm, ⟨3, _⟩ => ⟨S8x8192x1024, .bf16⟩
  | .hbm, ⟨4, _⟩ => ⟨S8x8192x1024, .bf16⟩
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x8192x128, .bf16⟩
  | .local _ .vmem, ⟨9, _⟩ => ⟨S1x8192x128, .bf16⟩
  | .local _ .vmem, ⟨10, _⟩ => ⟨S256x256, .bf16⟩
  | .local _ .vmem, ⟨11, _⟩ => ⟨S2x512x128, .bf16⟩
  | .local _ .vmem, ⟨12, _⟩ => ⟨S2x512x128, .f32⟩
  | .local _ .vmem, ⟨13, _⟩ => ⟨S2x512x128, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨2, ![8, 8], ![false, false]⟩

@[reducible] def k0_t1_loop : Scf.Loop 32 :=
  let c0_i32 : BitVec 32 := 0#32
  let c16_i32 : BitVec 32 := 16#32
  let v9 : BitVec 32 := Scalar.addi c0_i32 c16_i32
  let c1_i32 : BitVec 32 := 1#32
  ⟨c0_i32, v9, c1_i32⟩
def k0_mult1 (k0_t1 : Fin k0_t1_loop.trips) : BitVec 32 :=
  let c2_i32 : BitVec 32 := 2#32
  let c0_i32 : BitVec 32 := 0#32
  let c1_i32 : BitVec 32 := 1#32
  let arg11 : BitVec 32 := Scf.iv c0_i32 c1_i32 k0_t1
  let v10 : BitVec 32 := Scalar.muli c2_i32 arg11
  let c0_i32_2 : BitVec 32 := 0#32
  let v11 : BitVec 32 := Scalar.addi v10 c0_i32_2
  let c256_i32 : BitVec 32 := 256#32
  let v12 : BitVec 32 := Scalar.muli v11 c256_i32
  v12
def k0_off1 (k0_t1 : Fin k0_t1_loop.trips) (c0_i32_2 : BitVec 32) : Fin 3 → Nat :=
  let c0_3 : Index := 0#32
  let c2_i32 : BitVec 32 := 2#32
  let c0_i32 : BitVec 32 := 0#32
  let c1_i32 : BitVec 32 := 1#32
  let arg11 : BitVec 32 := Scf.iv c0_i32 c1_i32 k0_t1
  let v10 : BitVec 32 := Scalar.muli c2_i32 arg11
  let v11 : BitVec 32 := Scalar.addi v10 c0_i32_2
  let c256_i32 : BitVec 32 := 256#32
  let v12 : BitVec 32 := Scalar.muli v11 c256_i32
  let v13 : BitVec 32 := v12
  let v14 : Index := Scalar.indexCast v13
  let c0_4 : Index := 0#32
  ![0, v14.toNat, 0]
def k0_mult2 (k0_t1 : Fin k0_t1_loop.trips) : BitVec 32 :=
  let c2_i32_13 : BitVec 32 := 2#32
  let c0_i32 : BitVec 32 := 0#32
  let c1_i32 : BitVec 32 := 1#32
  let arg11 : BitVec 32 := Scf.iv c0_i32 c1_i32 k0_t1
  let v47 : BitVec 32 := Scalar.muli c2_i32_13 arg11
  let c1_i32_14 : BitVec 32 := 1#32
  let v48 : BitVec 32 := Scalar.addi v47 c1_i32_14
  let c256_i32_15 : BitVec 32 := 256#32
  let v49 : BitVec 32 := Scalar.muli v48 c256_i32_15
  v49
def k0_mult3 (k0_t1 : Fin k0_t1_loop.trips) : BitVec 32 :=
  let c2_i32_29 : BitVec 32 := 2#32
  let c0_i32 : BitVec 32 := 0#32
  let c1_i32 : BitVec 32 := 1#32
  let arg11 : BitVec 32 := Scf.iv c0_i32 c1_i32 k0_t1
  let v89 : BitVec 32 := Scalar.muli c2_i32_29 arg11
  let c0_i32_30 : BitVec 32 := 0#32
  let v90 : BitVec 32 := Scalar.addi v89 c0_i32_30
  let c256_i32_31 : BitVec 32 := 256#32
  let v91 : BitVec 32 := Scalar.muli v90 c256_i32_31
  v91
def k0_mult4 (k0_t1 : Fin k0_t1_loop.trips) : BitVec 32 :=
  let c2_i32_29 : BitVec 32 := 2#32
  let c0_i32 : BitVec 32 := 0#32
  let c1_i32 : BitVec 32 := 1#32
  let arg11 : BitVec 32 := Scf.iv c0_i32 c1_i32 k0_t1
  let v89 : BitVec 32 := Scalar.muli c2_i32_29 arg11
  let c0_i32_30 : BitVec 32 := 0#32
  let v90 : BitVec 32 := Scalar.addi v89 c0_i32_30
  let c1_i32_52 : BitVec 32 := 1#32
  let v137 : BitVec 32 := Scalar.subi v90 c1_i32_52
  let c0_i32_53 : BitVec 32 := 0#32
  let v138 : BitVec 32 := Scalar.maxsi v137 c0_i32_53
  let c256_i32_54 : BitVec 32 := 256#32
  let v139 : BitVec 32 := Scalar.muli v138 c256_i32_54
  v139
def k0_off2 (k0_t1 : Fin k0_t1_loop.trips) (c0_i32_30 : BitVec 32) : Fin 3 → Nat :=
  let c0_58 : Index := 0#32
  let c2_i32_29 : BitVec 32 := 2#32
  let c0_i32 : BitVec 32 := 0#32
  let c1_i32 : BitVec 32 := 1#32
  let arg11 : BitVec 32 := Scf.iv c0_i32 c1_i32 k0_t1
  let v89 : BitVec 32 := Scalar.muli c2_i32_29 arg11
  let v90 : BitVec 32 := Scalar.addi v89 c0_i32_30
  let c1_i32_52 : BitVec 32 := 1#32
  let v137 : BitVec 32 := Scalar.subi v90 c1_i32_52
  let c0_i32_53 : BitVec 32 := 0#32
  let v138 : BitVec 32 := Scalar.maxsi v137 c0_i32_53
  let c256_i32_54 : BitVec 32 := 256#32
  let v139 : BitVec 32 := Scalar.muli v138 c256_i32_54
  let v140 : BitVec 32 := v139
  let v143 : Index := Scalar.indexCast v140
  let c0_59 : Index := 0#32
  ![0, v143.toNat, 0]
def k0_mult5 (k0_t1 : Fin k0_t1_loop.trips) : BitVec 32 :=
  let c2_i32_83 : BitVec 32 := 2#32
  let c0_i32 : BitVec 32 := 0#32
  let c1_i32 : BitVec 32 := 1#32
  let arg11 : BitVec 32 := Scf.iv c0_i32 c1_i32 k0_t1
  let v203 : BitVec 32 := Scalar.muli c2_i32_83 arg11
  let c1_i32_84 : BitVec 32 := 1#32
  let v204 : BitVec 32 := Scalar.addi v203 c1_i32_84
  let c256_i32_85 : BitVec 32 := 256#32
  let v205 : BitVec 32 := Scalar.muli v204 c256_i32_85
  v205
def k0_mult6 (k0_t1 : Fin k0_t1_loop.trips) : BitVec 32 :=
  let c2_i32_83 : BitVec 32 := 2#32
  let c0_i32 : BitVec 32 := 0#32
  let c1_i32 : BitVec 32 := 1#32
  let arg11 : BitVec 32 := Scf.iv c0_i32 c1_i32 k0_t1
  let v203 : BitVec 32 := Scalar.muli c2_i32_83 arg11
  let c1_i32_84 : BitVec 32 := 1#32
  let v204 : BitVec 32 := Scalar.addi v203 c1_i32_84
  let c1_i32_107 : BitVec 32 := 1#32
  let v251 : BitVec 32 := Scalar.subi v204 c1_i32_107
  let c0_i32_108 : BitVec 32 := 0#32
  let v252 : BitVec 32 := Scalar.maxsi v251 c0_i32_108
  let c256_i32_109 : BitVec 32 := 256#32
  let v253 : BitVec 32 := Scalar.muli v252 c256_i32_109
  v253
def k0_mult7 (k0_t1 : Fin k0_t1_loop.trips) (arg12 : BitVec 32) : BitVec 32 :=
  let c2_i32_137 : BitVec 32 := 2#32
  let c0_i32 : BitVec 32 := 0#32
  let c1_i32 : BitVec 32 := 1#32
  let arg11 : BitVec 32 := Scf.iv c0_i32 c1_i32 k0_t1
  let v314 : BitVec 32 := Scalar.muli c2_i32_137 arg11
  let c0_i32_138 : BitVec 32 := 0#32
  let v315 : BitVec 32 := Scalar.addi v314 c0_i32_138
  let c2_i32_225 : BitVec 32 := 2#32
  let v472 : BitVec 32 := Scalar.subi v315 c2_i32_225
  let c2_i32_226 : BitVec 32 := 2#32
  let v473 : BitVec 32 := Scalar.muli c2_i32_226 arg12
  let v474 : BitVec 32 := Scalar.subi v472 v473
  let c256_i32_230 : BitVec 32 := 256#32
  let v477 : BitVec 32 := Scalar.muli v474 c256_i32_230
  v477

def k0_off3 (k0_t1 : Fin k0_t1_loop.trips) (arg12 : BitVec 32) : Fin 3 → Nat :=
  let c0_234 : Index := 0#32
  let c2_i32_137 : BitVec 32 := 2#32
  let c0_i32 : BitVec 32 := 0#32
  let c1_i32 : BitVec 32 := 1#32
  let arg11 : BitVec 32 := Scf.iv c0_i32 c1_i32 k0_t1
  let v314 : BitVec 32 := Scalar.muli c2_i32_137 arg11
  let c0_i32_138 : BitVec 32 := 0#32
  let v315 : BitVec 32 := Scalar.addi v314 c0_i32_138
  let c2_i32_225 : BitVec 32 := 2#32
  let v472 : BitVec 32 := Scalar.subi v315 c2_i32_225
  let c2_i32_226 : BitVec 32 := 2#32
  let v473 : BitVec 32 := Scalar.muli c2_i32_226 arg12
  let v474 : BitVec 32 := Scalar.subi v472 v473
  let c256_i32_230 : BitVec 32 := 256#32
  let v477 : BitVec 32 := Scalar.muli v474 c256_i32_230
  let v478 : BitVec 32 := v477
  let v481 : Index := Scalar.indexCast v478
  let c0_235 : Index := 0#32
  ![0, v481.toNat, 0]
def k0_mult8 (k0_t1 : Fin k0_t1_loop.trips) (arg12 : BitVec 32) : BitVec 32 :=
  let c2_i32_137 : BitVec 32 := 2#32
  let c0_i32 : BitVec 32 := 0#32
  let c1_i32 : BitVec 32 := 1#32
  let arg11 : BitVec 32 := Scf.iv c0_i32 c1_i32 k0_t1
  let v314 : BitVec 32 := Scalar.muli c2_i32_137 arg11
  let c0_i32_138 : BitVec 32 := 0#32
  let v315 : BitVec 32 := Scalar.addi v314 c0_i32_138
  let c2_i32_225 : BitVec 32 := 2#32
  let v472 : BitVec 32 := Scalar.subi v315 c2_i32_225
  let c2_i32_226 : BitVec 32 := 2#32
  let v473 : BitVec 32 := Scalar.muli c2_i32_226 arg12
  let v474 : BitVec 32 := Scalar.subi v472 v473
  let c1_i32_252 : BitVec 32 := 1#32
  let v531 : BitVec 32 := Scalar.subi v474 c1_i32_252
  let c256_i32_253 : BitVec 32 := 256#32
  let v532 : BitVec 32 := Scalar.muli v531 c256_i32_253
  v532
def k0_off4 (k0_t1 : Fin k0_t1_loop.trips) (arg12 : BitVec 32) : Fin 3 → Nat :=
  let c0_257 : Index := 0#32
  let c2_i32_137 : BitVec 32 := 2#32
  let c0_i32 : BitVec 32 := 0#32
  let c1_i32 : BitVec 32 := 1#32
  let arg11 : BitVec 32 := Scf.iv c0_i32 c1_i32 k0_t1
  let v314 : BitVec 32 := Scalar.muli c2_i32_137 arg11
  let c0_i32_138 : BitVec 32 := 0#32
  let v315 : BitVec 32 := Scalar.addi v314 c0_i32_138
  let c2_i32_225 : BitVec 32 := 2#32
  let v472 : BitVec 32 := Scalar.subi v315 c2_i32_225
  let c2_i32_226 : BitVec 32 := 2#32
  let v473 : BitVec 32 := Scalar.muli c2_i32_226 arg12
  let v474 : BitVec 32 := Scalar.subi v472 v473
  let c1_i32_252 : BitVec 32 := 1#32
  let v531 : BitVec 32 := Scalar.subi v474 c1_i32_252
  let c256_i32_253 : BitVec 32 := 256#32
  let v532 : BitVec 32 := Scalar.muli v531 c256_i32_253
  let v533 : BitVec 32 := v532
  let v536 : Index := Scalar.indexCast v533
  let c0_258 : Index := 0#32
  ![0, v536.toNat, 0]

def k0_chk1 (k0_t1 : Fin k0_t1_loop.trips) (arg12 : BitVec 32) : Prop :=
  (256 ∣ (k0_mult7 k0_t1 arg12).toNat) ∧
  (∀ a, (k0_off3 k0_t1 arg12) a + S1x256x128.size a ≤ S1x8192x128.size a) ∧
  (256 ∣ (k0_mult8 k0_t1 arg12).toNat) ∧
  (∀ a, (k0_off4 k0_t1 arg12) a + S1x256x128.size a ≤ S1x8192x128.size a)
theorem k0_mult7_dvd : ∀ (k0_t1 : Fin k0_t1_loop.trips) (arg12 : BitVec 32) (k0_hw1 : k0_chk1 k0_t1 arg12), 256 ∣ (k0_mult7 k0_t1 arg12).toNat := fun k0_t1 arg12 k0_hw1 => k0_hw1.1
theorem k0_off3_inb : ∀ (k0_t1 : Fin k0_t1_loop.trips) (arg12 : BitVec 32) (k0_hw1 : k0_chk1 k0_t1 arg12), ∀ a, (k0_off3 k0_t1 arg12) a + S1x256x128.size a ≤ S1x8192x128.size a := fun k0_t1 arg12 k0_hw1 => k0_hw1.2.1
theorem k0_mult8_dvd : ∀ (k0_t1 : Fin k0_t1_loop.trips) (arg12 : BitVec 32) (k0_hw1 : k0_chk1 k0_t1 arg12), 256 ∣ (k0_mult8 k0_t1 arg12).toNat := fun k0_t1 arg12 k0_hw1 => k0_hw1.2.2.1
theorem k0_off4_inb : ∀ (k0_t1 : Fin k0_t1_loop.trips) (arg12 : BitVec 32) (k0_hw1 : k0_chk1 k0_t1 arg12), ∀ a, (k0_off4 k0_t1 arg12) a + S1x256x128.size a ≤ S1x8192x128.size a := fun k0_t1 arg12 k0_hw1 => k0_hw1.2.2.2

def k0_mult9 : BitVec 32 :=
  let c0_i32_228 : BitVec 32 := 0#32
  c0_i32_228
def k0_mult10 (k0_t1 : Fin k0_t1_loop.trips) (arg12 : BitVec 32) : BitVec 32 :=
  let c2_i32_164 : BitVec 32 := 2#32
  let c0_i32 : BitVec 32 := 0#32
  let c1_i32 : BitVec 32 := 1#32
  let arg11 : BitVec 32 := Scf.iv c0_i32 c1_i32 k0_t1
  let v360 : BitVec 32 := Scalar.muli c2_i32_164 arg11
  let c1_i32_165 : BitVec 32 := 1#32
  let v361 : BitVec 32 := Scalar.addi v360 c1_i32_165
  let c2_i32_225 : BitVec 32 := 2#32
  let v472 : BitVec 32 := Scalar.subi v361 c2_i32_225
  let c2_i32_226 : BitVec 32 := 2#32
  let v473 : BitVec 32 := Scalar.muli c2_i32_226 arg12
  let v474 : BitVec 32 := Scalar.subi v472 v473
  let c256_i32_230 : BitVec 32 := 256#32
  let v477 : BitVec 32 := Scalar.muli v474 c256_i32_230
  v477

def k0_off5 (k0_t1 : Fin k0_t1_loop.trips) (arg12 : BitVec 32) : Fin 3 → Nat :=
  let c0_234 : Index := 0#32
  let c2_i32_164 : BitVec 32 := 2#32
  let c0_i32 : BitVec 32 := 0#32
  let c1_i32 : BitVec 32 := 1#32
  let arg11 : BitVec 32 := Scf.iv c0_i32 c1_i32 k0_t1
  let v360 : BitVec 32 := Scalar.muli c2_i32_164 arg11
  let c1_i32_165 : BitVec 32 := 1#32
  let v361 : BitVec 32 := Scalar.addi v360 c1_i32_165
  let c2_i32_225 : BitVec 32 := 2#32
  let v472 : BitVec 32 := Scalar.subi v361 c2_i32_225
  let c2_i32_226 : BitVec 32 := 2#32
  let v473 : BitVec 32 := Scalar.muli c2_i32_226 arg12
  let v474 : BitVec 32 := Scalar.subi v472 v473
  let c256_i32_230 : BitVec 32 := 256#32
  let v477 : BitVec 32 := Scalar.muli v474 c256_i32_230
  let v478 : BitVec 32 := v477
  let v481 : Index := Scalar.indexCast v478
  let c0_235 : Index := 0#32
  ![0, v481.toNat, 0]
def k0_mult11 (k0_t1 : Fin k0_t1_loop.trips) (arg12 : BitVec 32) : BitVec 32 :=
  let c2_i32_164 : BitVec 32 := 2#32
  let c0_i32 : BitVec 32 := 0#32
  let c1_i32 : BitVec 32 := 1#32
  let arg11 : BitVec 32 := Scf.iv c0_i32 c1_i32 k0_t1
  let v360 : BitVec 32 := Scalar.muli c2_i32_164 arg11
  let c1_i32_165 : BitVec 32 := 1#32
  let v361 : BitVec 32 := Scalar.addi v360 c1_i32_165
  let c2_i32_225 : BitVec 32 := 2#32
  let v472 : BitVec 32 := Scalar.subi v361 c2_i32_225
  let c2_i32_226 : BitVec 32 := 2#32
  let v473 : BitVec 32 := Scalar.muli c2_i32_226 arg12
  let v474 : BitVec 32 := Scalar.subi v472 v473
  let c1_i32_252 : BitVec 32 := 1#32
  let v531 : BitVec 32 := Scalar.subi v474 c1_i32_252
  let c256_i32_253 : BitVec 32 := 256#32
  let v532 : BitVec 32 := Scalar.muli v531 c256_i32_253
  v532
def k0_off6 (k0_t1 : Fin k0_t1_loop.trips) (arg12 : BitVec 32) : Fin 3 → Nat :=
  let c0_257 : Index := 0#32
  let c2_i32_164 : BitVec 32 := 2#32
  let c0_i32 : BitVec 32 := 0#32
  let c1_i32 : BitVec 32 := 1#32
  let arg11 : BitVec 32 := Scf.iv c0_i32 c1_i32 k0_t1
  let v360 : BitVec 32 := Scalar.muli c2_i32_164 arg11
  let c1_i32_165 : BitVec 32 := 1#32
  let v361 : BitVec 32 := Scalar.addi v360 c1_i32_165
  let c2_i32_225 : BitVec 32 := 2#32
  let v472 : BitVec 32 := Scalar.subi v361 c2_i32_225
  let c2_i32_226 : BitVec 32 := 2#32
  let v473 : BitVec 32 := Scalar.muli c2_i32_226 arg12
  let v474 : BitVec 32 := Scalar.subi v472 v473
  let c1_i32_252 : BitVec 32 := 1#32
  let v531 : BitVec 32 := Scalar.subi v474 c1_i32_252
  let c256_i32_253 : BitVec 32 := 256#32
  let v532 : BitVec 32 := Scalar.muli v531 c256_i32_253
  let v533 : BitVec 32 := v532
  let v536 : Index := Scalar.indexCast v533
  let c0_258 : Index := 0#32
  ![0, v536.toNat, 0]

def k0_chk2 (k0_t1 : Fin k0_t1_loop.trips) (arg12 : BitVec 32) : Prop :=
  (256 ∣ (k0_mult10 k0_t1 arg12).toNat) ∧
  (∀ a, (k0_off5 k0_t1 arg12) a + S1x256x128.size a ≤ S1x8192x128.size a) ∧
  (256 ∣ (k0_mult11 k0_t1 arg12).toNat) ∧
  (∀ a, (k0_off6 k0_t1 arg12) a + S1x256x128.size a ≤ S1x8192x128.size a)
theorem k0_mult10_dvd : ∀ (k0_t1 : Fin k0_t1_loop.trips) (arg12 : BitVec 32) (k0_hw2 : k0_chk2 k0_t1 arg12), 256 ∣ (k0_mult10 k0_t1 arg12).toNat := fun k0_t1 arg12 k0_hw2 => k0_hw2.1
theorem k0_off5_inb : ∀ (k0_t1 : Fin k0_t1_loop.trips) (arg12 : BitVec 32) (k0_hw2 : k0_chk2 k0_t1 arg12), ∀ a, (k0_off5 k0_t1 arg12) a + S1x256x128.size a ≤ S1x8192x128.size a := fun k0_t1 arg12 k0_hw2 => k0_hw2.2.1
theorem k0_mult11_dvd : ∀ (k0_t1 : Fin k0_t1_loop.trips) (arg12 : BitVec 32) (k0_hw2 : k0_chk2 k0_t1 arg12), 256 ∣ (k0_mult11 k0_t1 arg12).toNat := fun k0_t1 arg12 k0_hw2 => k0_hw2.2.2.1
theorem k0_off6_inb : ∀ (k0_t1 : Fin k0_t1_loop.trips) (arg12 : BitVec 32) (k0_hw2 : k0_chk2 k0_t1 arg12), ∀ a, (k0_off6 k0_t1 arg12) a + S1x256x128.size a ≤ S1x8192x128.size a := fun k0_t1 arg12 k0_hw2 => k0_hw2.2.2.2

def k0_mult12 : BitVec 32 :=
  let c0_i32_228 : BitVec 32 := 0#32
  c0_i32_228
def k0_mult13 (k0_t1 : Fin k0_t1_loop.trips) : BitVec 32 :=
  let c2_i32_191 : BitVec 32 := 2#32
  let c0_i32 : BitVec 32 := 0#32
  let c1_i32 : BitVec 32 := 1#32
  let arg11 : BitVec 32 := Scf.iv c0_i32 c1_i32 k0_t1
  let v406 : BitVec 32 := Scalar.muli c2_i32_191 arg11
  let c0_i32_192 : BitVec 32 := 0#32
  let v407 : BitVec 32 := Scalar.addi v406 c0_i32_192
  let c256_i32_193 : BitVec 32 := 256#32
  let v408 : BitVec 32 := Scalar.muli v407 c256_i32_193
  v408
def k0_off7 (k0_t1 : Fin k0_t1_loop.trips) (c0_i32_192 : BitVec 32) : Fin 3 → Nat :=
  let c0_202 : Index := 0#32
  let c2_i32_191 : BitVec 32 := 2#32
  let c0_i32 : BitVec 32 := 0#32
  let c1_i32 : BitVec 32 := 1#32
  let arg11 : BitVec 32 := Scf.iv c0_i32 c1_i32 k0_t1
  let v406 : BitVec 32 := Scalar.muli c2_i32_191 arg11
  let v407 : BitVec 32 := Scalar.addi v406 c0_i32_192
  let c256_i32_193 : BitVec 32 := 256#32
  let v408 : BitVec 32 := Scalar.muli v407 c256_i32_193
  let v409 : BitVec 32 := v408
  let v423 : Index := Scalar.indexCast v409
  let c0_203 : Index := 0#32
  ![0, v423.toNat, 0]
def k0_mult14 (k0_t1 : Fin k0_t1_loop.trips) : BitVec 32 :=
  let c2_i32_208 : BitVec 32 := 2#32
  let c0_i32 : BitVec 32 := 0#32
  let c1_i32 : BitVec 32 := 1#32
  let arg11 : BitVec 32 := Scf.iv c0_i32 c1_i32 k0_t1
  let v439 : BitVec 32 := Scalar.muli c2_i32_208 arg11
  let c1_i32_209 : BitVec 32 := 1#32
  let v440 : BitVec 32 := Scalar.addi v439 c1_i32_209
  let c256_i32_210 : BitVec 32 := 256#32
  let v441 : BitVec 32 := Scalar.muli v440 c256_i32_210
  v441
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== StickKernelIdeal.lean ====
variable {F : FTy → Type} [FloatOps F] [Named F]
def κ : String → Option EReal := fun
  | "log2e" => some (((Real.log 2)⁻¹ : ℝ) : EReal)
  | "skip" => some ⊤
  | _ => none
-- ==== StickReferenceIdeal.lean ====
abbrev S8x8192x1024 : Shape := ⟨3, ![8, 8192, 1024]⟩
abbrev S_ : Shape := ⟨0, ![]⟩
abbrev S8x8192x16x64 : Shape := ⟨4, ![8, 8192, 16, 64]⟩
abbrev S8x16x8192x8192 : Shape := ⟨4, ![8, 16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x16x64x8192 : Shape := ⟨4, ![8, 16, 64, 8192]⟩

abbrev nBuf : Space → Nat
  | .hbm => 75
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x1024, .bf16⟩
  | .hbm, ⟨3, _⟩ => ⟨S8x8192x1024, .bf16⟩
  | .hbm, ⟨4, _⟩ => ⟨S8x8192x1024, .f32⟩
  | .hbm, ⟨5, _⟩ => ⟨S8x8192x1024, .f32⟩
  | .hbm, ⟨6, _⟩ => ⟨S8x8192x1024, .f32⟩
  | .hbm, ⟨7, _⟩ => ⟨S8x8192x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x8192x1024, .f32⟩
  | .hbm, ⟨13, _⟩ => ⟨S8x8192x1024, .f32⟩
  | .hbm, ⟨14, _⟩ => ⟨S8x8192x16x64, .f32⟩
  | .hbm, ⟨15, _⟩ => ⟨S8x8192x16x64, .f32⟩
  | .hbm, ⟨16, _⟩ => ⟨S8x8192x16x64, .f32⟩
  | .hbm, ⟨17, _⟩ => ⟨S8x16x8192x8192, .f32⟩
  | .hbm, ⟨18, _⟩ => ⟨S_, .f32⟩
  | .hbm, ⟨19, _⟩ => ⟨S8x16x8192x8192, .f32⟩
  | .hbm, ⟨20, _⟩ => ⟨S8x16x8192x8192, .f32⟩
  | .hbm, ⟨21, _⟩ => ⟨S8192, .i32⟩
  | .hbm, ⟨22, _⟩ => ⟨S1x8192, .i32⟩
  | .hbm, ⟨23, _⟩ => ⟨S8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8x16x8192x8192, .f32⟩
  | .hbm, ⟨29, _⟩ => ⟨S_, .f32⟩
  | .hbm, ⟨30, _⟩ => ⟨S8x16x8192x8192, .f32⟩
  | .hbm, ⟨31, _⟩ => ⟨S8x16x8192x8192, .f32⟩
  | .hbm, ⟨32, _⟩ => ⟨S8x16x8192x8192, .f32⟩
  | .hbm, ⟨33, _⟩ => ⟨S8x16x8192x8192, .f32⟩
  | .hbm, ⟨34, _⟩ => ⟨S8x16x8192x8192, .i1⟩
  | .hbm, ⟨35, _⟩ => ⟨S8x16x8192x8192, .f32⟩
  | .hbm, ⟨36, _⟩ => ⟨S8x16x8192x8192, .f32⟩
  | .hbm, ⟨37, _⟩ => ⟨S8x16x8192x8192, .f32⟩
  | .hbm, ⟨38, _⟩ => ⟨S8x16x8192x8192, .f32⟩
  | .hbm, ⟨39, _⟩ => ⟨S8x16x8192x8192, .f32⟩
  | .hbm, ⟨40, _⟩ => ⟨S8x16x8192x8192, .f32⟩
  | .hbm, ⟨41, _⟩ => ⟨S8x16x8192x8192, .f32⟩
  | .hbm, ⟨42, _⟩ => ⟨S8x16x8192x8192, .f32⟩
  | .hbm, ⟨43, _⟩ => ⟨S8x16x8192x8192, .f32⟩
  | .hbm, ⟨44, _⟩ => ⟨S8x16x8192x8192, .f32⟩
  | .hbm, ⟨45, _⟩ => ⟨S_, .f32⟩
  | .hbm, ⟨46, _⟩ => ⟨S_, .f32⟩
  | .hbm, ⟨47, _⟩ => ⟨S8x16x8192x8192, .i1⟩
  | .hbm, ⟨48, _⟩ => ⟨S8x16x8192x8192, .f32⟩
  | .hbm, ⟨49, _⟩ => ⟨S8x16x8192x8192, .f32⟩
  | .hbm, ⟨50, _⟩ => ⟨S_, .f32⟩
  | .hbm, ⟨51, _⟩ => ⟨S_, .f32⟩
  | .hbm, ⟨52, _⟩ => ⟨S8x16x8192x8192, .f32⟩
  | .hbm, ⟨53, _⟩ => ⟨S8x16x8192x8192, .f32⟩
  | .hbm, ⟨54, _⟩ => ⟨S8x16x8192x8192, .f32⟩
  | .hbm, ⟨55, _⟩ => ⟨S8x16x8192x8192, .f32⟩
  | .hbm, ⟨56, _⟩ => ⟨S_, .f32⟩
  | .hbm, ⟨57, _⟩ => ⟨S_, .f32⟩
  | .hbm, ⟨58, _⟩ => ⟨S8x16x8192x8192, .i1⟩
  | .hbm, ⟨59, _⟩ => ⟨S8x16x8192x8192, .f32⟩
  | .hbm, ⟨60, _⟩ => ⟨S8x16x8192x8192, .f32⟩
  | .hbm, ⟨61, _⟩ => ⟨S8x16x64x8192, .f32⟩
  | .hbm, ⟨62, _⟩ => ⟨S8x8192x16x64, .f32⟩
  | .hbm, ⟨63, _⟩ => ⟨S8x8192x1024, .f32⟩
  | .hbm, ⟨64, _⟩ => ⟨S8x8192x1024, .f32⟩
  | .hbm, ⟨65, _⟩ => ⟨S8x8192x1024, .f32⟩
  | .hbm, ⟨66, _⟩ => ⟨S_, .f32⟩
  | .hbm, ⟨67, _⟩ => ⟨S8x8192x1024, .f32⟩
  | .hbm, ⟨68, _⟩ => ⟨S8x8192x1024, .f32⟩
  | .hbm, ⟨69, _⟩ => ⟨S_, .f32⟩
  | .hbm, ⟨70, _⟩ => ⟨S8x8192x1024, .f32⟩
  | .hbm, ⟨71, _⟩ => ⟨S8x8192x1024, .f32⟩
  | .hbm, ⟨72, _⟩ => ⟨S8x8192x1024, .f32⟩
  | .hbm, ⟨73, _⟩ => ⟨S8x8192x1024, .f32⟩
  | .hbm, ⟨74, _⟩ => ⟨S8x8192x1024, .bf16⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v23 : Ref sig .tc := ⟨.hbm, 49, rfl⟩
abbrev main_call2_cst : Ref sig .tc := ⟨.hbm, 50, rfl⟩
abbrev main_call2_v0 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_3 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_call4_v0 : Ref sig .tc := ⟨.hbm, 64, rfl⟩
abbrev main_call4_v1 : Ref sig .tc := ⟨.hbm, 65, rfl⟩
abbrev main_call4_cst : Ref sig .tc := ⟨.hbm, 66, rfl⟩
abbrev main_call4_v2 : Ref sig .tc := ⟨.hbm, 67, rfl⟩
abbrev main_call4_v3 : Ref sig .tc := ⟨.hbm, 68, rfl⟩
abbrev main_call4_cst_0 : Ref sig .tc := ⟨.hbm, 69, rfl⟩
abbrev main_call4_v4 : Ref sig .tc := ⟨.hbm, 70, rfl⟩
abbrev main_call4_v5 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩

abbrev nD : Nat := 1
abbrev τ : Topo := Topo.v7x

variable {F : FTy → Type} [FloatOps F]
-- ==== LayerKernel.lean ====
abbrev S8x8192x1024 : Shape := ⟨3, ![8, 8192, 1024]⟩
abbrev S1024 : Shape := ⟨1, ![1024]⟩
abbrev S1024x4096 : Shape := ⟨2, ![1024, 4096]⟩
abbrev S16x257 : Shape := ⟨2, ![16, 257]⟩
abbrev S1024x1024 : Shape := ⟨2, ![1024, 1024]⟩
abbrev S3x1024 : Shape := ⟨2, ![3, 1024]⟩
abbrev S65536x1024 : Shape := ⟨2, ![65536, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S_ : Shape := ⟨0, ![]⟩
abbrev S3x1024x1 : Shape := ⟨3, ![3, 1024, 1]⟩
abbrev S16x3x1024 : Shape := ⟨3, ![16, 3, 1024]⟩
abbrev S1x8192x128 : Shape := ⟨3, ![1, 8192, 128]⟩
abbrev S2x3x1024 : Shape := ⟨3, ![2, 3, 1024]⟩
abbrev S2x3x256x768 : Shape := ⟨4, ![2, 3, 256, 768]⟩
abbrev S256x768 : Shape := ⟨2, ![256, 768]⟩
abbrev S1x1x1024 : Shape := ⟨3, ![1, 1, 1024]⟩
abbrev S256x1024 : Shape := ⟨2, ![256, 1024]⟩
abbrev S1x1x256x768 : Shape := ⟨4, ![1, 1, 256, 768]⟩
abbrev S1x256x128 : Shape := ⟨3, ![1, 256, 128]⟩
abbrev S256x128 : Shape := ⟨2, ![256, 128]⟩
abbrev S1x768x128 : Shape := ⟨3, ![1, 768, 128]⟩
abbrev S768x128 : Shape := ⟨2, ![768, 128]⟩
abbrev S1x128 : Shape := ⟨2, ![1, 128]⟩
abbrev S256 : Shape := ⟨1, ![256]⟩
abbrev S256x1 : Shape := ⟨2, ![256, 1]⟩

abbrev nBuf : Space → Nat
  | .hbm => 30
  | .vmem => 33
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x4096, .f32⟩
  | .hbm, ⟨3, _⟩ => ⟨S16x257, .f32⟩
  | .hbm, ⟨4, _⟩ => ⟨S1024x1024, .f32⟩
  | .hbm, ⟨5, _⟩ => ⟨S1024, .f32⟩
  | .hbm, ⟨6, _⟩ => ⟨S3x1024, .i32⟩
  | .hbm, ⟨7, _⟩ => ⟨S3x1024, .i1⟩
  | .hbm, ⟨8, _⟩ => ⟨S65536x1024, .f32⟩
  | .hbm, ⟨9, _⟩ => ⟨S1024x4096, .bf16⟩
  | .hbm, ⟨10, _⟩ => ⟨S1x1024, .f32⟩
  | .hbm, ⟨11, _⟩ => ⟨S65536x1024, .bf16⟩
  | .hbm, ⟨12, _⟩ => ⟨S65536x1024, .bf16⟩
  | .hbm, ⟨13, _⟩ => ⟨S65536x1024, .bf16⟩
  | .hbm, ⟨14, _⟩ => ⟨S65536x1024, .bf16⟩
  | .hbm, ⟨15, _⟩ => ⟨S8x8192x1024, .bf16⟩
  | .hbm, ⟨16, _⟩ => ⟨S8x8192x1024, .bf16⟩
  | .hbm, ⟨17, _⟩ => ⟨S8x8192x1024, .bf16⟩
  | .hbm, ⟨18, _⟩ => ⟨S8x8192x1024, .bf16⟩
  | .hbm, ⟨19, _⟩ => ⟨S_, .i32⟩
  | .hbm, ⟨20, _⟩ => ⟨S3x1024, .i32⟩
  | .hbm, ⟨21, _⟩ => ⟨S3x1024, .i32⟩
  | .hbm, ⟨22, _⟩ => ⟨S3x1024, .i32⟩
  | .hbm, ⟨23, _⟩ => ⟨S3x1024x1, .i32⟩
  | .hbm, ⟨24, _⟩ => ⟨S16x3x1024, .f32⟩
  | .hbm, ⟨25, _⟩ => ⟨S8x8192x1024, .bf16⟩
  | .hbm, ⟨26, _⟩ => ⟨S65536x1024, .bf16⟩
  | .hbm, ⟨27, _⟩ => ⟨S1024x1024, .bf16⟩
  | .hbm, ⟨28, _⟩ => ⟨S1x1024, .f32⟩
  | .hbm, ⟨29, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x8192x128, .bf16⟩
  | .local _ .vmem, ⟨13, _⟩ => ⟨S1x8192x128, .bf16⟩
  | .local _ .vmem, ⟨14, _⟩ => ⟨S1x8192x128, .bf16⟩
  | .local _ .vmem, ⟨15, _⟩ => ⟨S1x8192x128, .bf16⟩
  | .local _ .vmem, ⟨16, _⟩ => ⟨S1x8192x128, .bf16⟩
  | .local _ .vmem, ⟨17, _⟩ => ⟨S1x8192x128, .bf16⟩
  | .local _ .vmem, ⟨18, _⟩ => ⟨S1x8192x128, .bf16⟩
  | .local _ .vmem, ⟨19, _⟩ => ⟨S1x8192x128, .bf16⟩
  | .local _ .vmem, ⟨20, _⟩ => ⟨S2x3x1024, .f32⟩
  | .local _ .vmem, ⟨21, _⟩ => ⟨S2x3x1024, .f32⟩
  | .local _ .vmem, ⟨22, _⟩ => ⟨S1x8192x128, .bf16⟩
  | .local _ .vmem, ⟨23, _⟩ => ⟨S1x8192x128, .bf16⟩
  | .local _ .vmem, ⟨24, _⟩ => ⟨S2x3x256x768, .f32⟩
  | .local _ .vmem, ⟨25, _⟩ => ⟨S512x1024, .bf16⟩
  | .local _ .vmem, ⟨26, _⟩ => ⟨S512x1024, .bf16⟩
  | .local _ .vmem, ⟨27, _⟩ => ⟨S1024x1024, .bf16⟩
  | .local _ .vmem, ⟨28, _⟩ => ⟨S512x1024, .f32⟩
  | .local _ .vmem, ⟨29, _⟩ => ⟨S512x1024, .f32⟩
  | .local _ .vmem, ⟨30, _⟩ => ⟨S1x1024, .f32⟩
  | .local _ .vmem, ⟨31, _⟩ => ⟨S512x1024, .f32⟩
  | .local _ .vmem, ⟨32, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_scratch0 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg4_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem4_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

@[reducible] def k1_t1_loop : Scf.Loop 32 :=
  let c1_i32_163 : BitVec 32 := 1#32
  let c15_i32 : BitVec 32 := 15#32
  let v338 : BitVec 32 := Scalar.addi c1_i32_163 c15_i32
  let c1_i32_164 : BitVec 32 := 1#32
  ⟨c1_i32_163, v338, c1_i32_164⟩
def k1_mult1 (k1_t1 : Fin k1_t1_loop.trips) : BitVec 32 :=
  let c2_i32 : BitVec 32 := 2#32
  let c1_i32_163 : BitVec 32 := 1#32
  let c1_i32_164 : BitVec 32 := 1#32
  let arg9 : BitVec 32 := Scf.iv c1_i32_163 c1_i32_164 k1_t1
  let v339 : BitVec 32 := Scalar.muli c2_i32 arg9
  let c256_i32_166 : BitVec 32 := 256#32
  let v340 : BitVec 32 := Scalar.muli v339 c256_i32_166
  v340
def k1_mult2 (k1_t1 : Fin k1_t1_loop.trips) : BitVec 32 :=
  let c2_i32 : BitVec 32 := 2#32
  let c1_i32_163 : BitVec 32 := 1#32
  let c1_i32_164 : BitVec 32 := 1#32
  let arg9 : BitVec 32 := Scf.iv c1_i32_163 c1_i32_164 k1_t1
  let v339 : BitVec 32 := Scalar.muli c2_i32 arg9
  let c256_i32_166 : BitVec 32 := 256#32
  let v340 : BitVec 32 := Scalar.muli v339 c256_i32_166
  let v341 : BitVec 32 := v340
  let c512_i32_167 : BitVec 32 := 512#32
  let v342 : BitVec 32 := Scalar.subi v341 c512_i32_167
  v342
def k1_off1 (k1_t1 : Fin k1_t1_loop.trips) : Fin 3 → Nat :=
  let c0_168 : Index := 0#32
  let c2_i32 : BitVec 32 := 2#32
  let c1_i32_163 : BitVec 32 := 1#32
  let c1_i32_164 : BitVec 32 := 1#32
  let arg9 : BitVec 32 := Scf.iv c1_i32_163 c1_i32_164 k1_t1
  let v339 : BitVec 32 := Scalar.muli c2_i32 arg9
  let c256_i32_166 : BitVec 32 := 256#32
  let v340 : BitVec 32 := Scalar.muli v339 c256_i32_166
  let v341 : BitVec 32 := v340
  let v344 : Index := Scalar.indexCast v341
  let c0_169 : Index := 0#32
  ![0, v344.toNat, 0]
def k1_off2 (k1_t1 : Fin k1_t1_loop.trips) : Fin 3 → Nat :=
  let c0_170 : Index := 0#32
  let c2_i32 : BitVec 32 := 2#32
  let c1_i32_163 : BitVec 32 := 1#32
  let c1_i32_164 : BitVec 32 := 1#32
  let arg9 : BitVec 32 := Scf.iv c1_i32_163 c1_i32_164 k1_t1
  let v339 : BitVec 32 := Scalar.muli c2_i32 arg9
  let c256_i32_166 : BitVec 32 := 256#32
  let v340 : BitVec 32 := Scalar.muli v339 c256_i32_166
  let v341 : BitVec 32 := v340
  let c512_i32_167 : BitVec 32 := 512#32
  let v342 : BitVec 32 := Scalar.subi v341 c512_i32_167
  let v343 : BitVec 32 := v342
  let v347 : Index := Scalar.indexCast v343
  let c0_171 : Index := 0#32
  ![0, v347.toNat, 0]
def k1_mult3 (k1_t1 : Fin k1_t1_loop.trips) : BitVec 32 :=
  let c2_i32_204 : BitVec 32 := 2#32
  let c1_i32_163 : BitVec 32 := 1#32
  let c1_i32_164 : BitVec 32 := 1#32
  let arg9 : BitVec 32 := Scf.iv c1_i32_163 c1_i32_164 k1_t1
  let v432 : BitVec 32 := Scalar.muli c2_i32_204 arg9
  let c1_i32_205 : BitVec 32 := 1#32
  let v433 : BitVec 32 := Scalar.addi v432 c1_i32_205
  let c256_i32_206 : BitVec 32 := 256#32
  let v434 : BitVec 32 := Scalar.muli v433 c256_i32_206
  v434
def k1_mult4 (k1_t1 : Fin k1_t1_loop.trips) : BitVec 32 :=
  let c2_i32_204 : BitVec 32 := 2#32
  let c1_i32_163 : BitVec 32 := 1#32
  let c1_i32_164 : BitVec 32 := 1#32
  let arg9 : BitVec 32 := Scf.iv c1_i32_163 c1_i32_164 k1_t1
  let v432 : BitVec 32 := Scalar.muli c2_i32_204 arg9
  let c1_i32_205 : BitVec 32 := 1#32
  let v433 : BitVec 32 := Scalar.addi v432 c1_i32_205
  let c256_i32_206 : BitVec 32 := 256#32
  let v434 : BitVec 32 := Scalar.muli v433 c256_i32_206
  let v435 : BitVec 32 := v434
  let c512_i32_207 : BitVec 32 := 512#32
  let v436 : BitVec 32 := Scalar.subi v435 c512_i32_207
  v436
def k1_off3 (k1_t1 : Fin k1_t1_loop.trips) : Fin 3 → Nat :=
  let c0_208 : Index := 0#32
  let c2_i32_204 : BitVec 32 := 2#32
  let c1_i32_163 : BitVec 32 := 1#32
  let c1_i32_164 : BitVec 32 := 1#32
  let arg9 : BitVec 32 := Scf.iv c1_i32_163 c1_i32_164 k1_t1
  let v432 : BitVec 32 := Scalar.muli c2_i32_204 arg9
  let c1_i32_205 : BitVec 32 := 1#32
  let v433 : BitVec 32 := Scalar.addi v432 c1_i32_205
  let c256_i32_206 : BitVec 32 := 256#32
  let v434 : BitVec 32 := Scalar.muli v433 c256_i32_206
  let v435 : BitVec 32 := v434
  let v438 : Index := Scalar.indexCast v435
  let c0_209 : Index := 0#32
  ![0, v438.toNat, 0]
def k1_off4 (k1_t1 : Fin k1_t1_loop.trips) : Fin 3 → Nat :=
  let c0_210 : Index := 0#32
  let c2_i32_204 : BitVec 32 := 2#32
  let c1_i32_163 : BitVec 32 := 1#32
  let c1_i32_164 : BitVec 32 := 1#32
  let arg9 : BitVec 32 := Scf.iv c1_i32_163 c1_i32_164 k1_t1
  let v432 : BitVec 32 := Scalar.muli c2_i32_204 arg9
  let c1_i32_205 : BitVec 32 := 1#32
  let v433 : BitVec 32 := Scalar.addi v432 c1_i32_205
  let c256_i32_206 : BitVec 32 := 256#32
  let v434 : BitVec 32 := Scalar.muli v433 c256_i32_206
  let v435 : BitVec 32 := v434
  let c512_i32_207 : BitVec 32 := 512#32
  let v436 : BitVec 32 := Scalar.subi v435 c512_i32_207
  let v437 : BitVec 32 := v436
  let v441 : Index := Scalar.indexCast v437
  let c0_211 : Index := 0#32
  ![0, v441.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x8192x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x8192x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2x3x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x8192x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== LayerKernelIdeal.lean ====
variable {F : FTy → Type} [FloatOps F] [Named F]
def κ : String → Option EReal := fun
  | "log2e" => some (((Real.log 2)⁻¹ : ℝ) : EReal)
  | "mask" => some ⊥
  | "q_scale" => some (((Real.log 256)⁻¹ : ℝ) : EReal)
  | _ => none
-- ==== LayerReferenceIdeal.lean ====
abbrev S8x8192x1024 : Shape := ⟨3, ![8, 8192, 1024]⟩
abbrev S1024 : Shape := ⟨1, ![1024]⟩
abbrev S1024x4096 : Shape := ⟨2, ![1024, 4096]⟩
abbrev S16x257 : Shape := ⟨2, ![16, 257]⟩
abbrev S1024x1024 : Shape := ⟨2, ![1024, 1024]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4096 : Shape := ⟨2, ![65536, 4096]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S8x128x64x16x64 : Shape := ⟨5, ![8, 128, 64, 16, 64]⟩
abbrev S8x8192x16x64 : Shape := ⟨4, ![8, 8192, 16, 64]⟩
abbrev S8x8704x16x64 : Shape := ⟨4, ![8, 8704, 16, 64]⟩
abbrev S128 : Shape := ⟨1, ![128]⟩
abbrev S128x1 : Shape := ⟨2, ![128, 1]⟩
abbrev S128x576 : Shape := ⟨2, ![128, 576]⟩
abbrev S128x576x1 : Shape := ⟨3, ![128, 576, 1]⟩
abbrev S8x128x576x16x64 : Shape := ⟨5, ![8, 128, 576, 16, 64]⟩
abbrev S8x128x16x64x576 : Shape := ⟨5, ![8, 128, 16, 64, 576]⟩
abbrev S1x1x16x64x576 : Shape := ⟨5, ![1, 1, 16, 64, 576]⟩
abbrev S1x128x1x1x576 : Shape := ⟨5, ![1, 128, 1, 1, 576]⟩
abbrev S8x128x16x64 : Shape := ⟨4, ![8, 128, 16, 64]⟩
abbrev S8x128x16x64x1 : Shape := ⟨5, ![8, 128, 16, 64, 1]⟩
abbrev S8x128x16x64x64 : Shape := ⟨5, ![8, 128, 16, 64, 64]⟩

abbrev nBuf : Space → Nat
  | .hbm => 164
  | .vmem => 0
  | .smem => 0
  | _ => 0

abbrev hbmTy0_0 (i : Nat) : BufTy := match i % 128 with
  | 0 => ⟨S8x8192x1024, .f32⟩
  | 1 => ⟨S1024, .f32⟩
  | 2 => ⟨S1024x4096, .f32⟩
  | 3 => ⟨S16x257, .f32⟩
  | 4 => ⟨S1024x1024, .f32⟩
  | 5 => ⟨S1024, .f32⟩
  | 6 => ⟨S65536x1024, .f32⟩
  | 7 => ⟨S65536x1024, .f32⟩
  | 8 => ⟨S_, .f32⟩
  | 9 => ⟨S65536, .f32⟩
  | 10 => ⟨S65536x1, .f32⟩
  | 11 => ⟨S_, .f32⟩
  | 12 => ⟨S65536x1, .f32⟩
  | 13 => ⟨S65536x1, .f32⟩
  | 14 => ⟨S_, .f32⟩
  | 15 => ⟨S65536x1, .f32⟩
  | 16 => ⟨S65536x1, .f32⟩
  | 17 => ⟨S65536x1, .f32⟩
  | 18 => ⟨S65536x1024, .f32⟩
  | 19 => ⟨S65536x1024, .f32⟩
  | 20 => ⟨S1x1024, .f32⟩
  | 21 => ⟨S65536x1024, .f32⟩
  | 22 => ⟨S65536x1024, .f32⟩
  | 23 => ⟨S65536x4096, .f32⟩
  | 24 => ⟨S65536x1024, .f32⟩
  | 25 => ⟨S65536x1024, .f32⟩
  | 26 => ⟨S65536x1024, .f32⟩
  | 27 => ⟨S65536x1024, .f32⟩
  | 28 => ⟨S8x8192x1024, .f32⟩
  | 29 => ⟨S8x8192x1024, .f32⟩
  | 30 => ⟨S8x8192x1024, .f32⟩
  | 31 => ⟨S8x8192x1024, .f32⟩
  | 32 => ⟨S64, .i32⟩
  | 33 => ⟨S64x1, .i32⟩
  | 34 => ⟨S576, .i32⟩
  | 35 => ⟨S1x576, .i32⟩
  | 36 => ⟨S_, .i32⟩
  | 37 => ⟨S64x1, .i32⟩
  | 38 => ⟨S64x1, .i32⟩
  | 39 => ⟨S64x576, .i32⟩
  | 40 => ⟨S64x576, .i32⟩
  | 41 => ⟨S64x576, .i32⟩
  | 42 => ⟨S_, .i32⟩
  | 43 => ⟨S_, .i32⟩
  | 44 => ⟨S_, .i32⟩
  | 45 => ⟨S64x576, .i32⟩
  | 46 => ⟨S64x576, .i32⟩
  | 47 => ⟨S_, .i32⟩
  | 48 => ⟨S64x576, .i32⟩
  | 49 => ⟨S64x576, .i32⟩
  | 50 => ⟨S_, .i32⟩
  | 51 => ⟨S64x576, .i32⟩
  | 52 => ⟨S64x576, .i32⟩
  | 53 => ⟨S_, .i32⟩
  | 54 => ⟨S64x576, .i32⟩
  | 55 => ⟨S64x576, .i1⟩
  | 56 => ⟨S_, .i32⟩
  | 57 => ⟨S64x576, .i32⟩
  | 58 => ⟨S64x576, .i32⟩
  | 59 => ⟨S64x576, .i32⟩
  | 60 => ⟨S64x576x1, .i32⟩
  | 61 => ⟨S16x64x576, .f32⟩
  | 62 => ⟨S8x128x64x16x64, .f32⟩
  | 63 => ⟨S8x8192x16x64, .f32⟩
  | 64 => ⟨S_, .i32⟩
  | 65 => ⟨S_, .f32⟩
  | 66 => ⟨S8x8704x16x64, .f32⟩
  | 67 => ⟨S8x8192x16x64, .f32⟩
  | 68 => ⟨S_, .i32⟩
  | 69 => ⟨S_, .f32⟩
  | 70 => ⟨S8x8704x16x64, .f32⟩
  | 71 => ⟨S128, .i32⟩
  | 72 => ⟨S128x1, .i32⟩
  | 73 => ⟨S_, .i32⟩
  | 74 => ⟨S128x1, .i32⟩
  | 75 => ⟨S128x1, .i32⟩
  | 76 => ⟨S576, .i32⟩
  | 77 => ⟨S1x576, .i32⟩
  | 78 => ⟨S128x576, .i32⟩
  | 79 => ⟨S128x576, .i32⟩
  | 80 => ⟨S128x576, .i32⟩
  | 81 => ⟨S_, .i32⟩
  | 82 => ⟨S128x576, .i32⟩
  | 83 => ⟨S128x576, .i1⟩
  | 84 => ⟨S_, .i32⟩
  | 85 => ⟨S128x576, .i32⟩
  | 86 => ⟨S128x576, .i32⟩
  | 87 => ⟨S128x576, .i32⟩
  | 88 => ⟨S128x576x1, .i32⟩
  | 89 => ⟨S8x128x576x16x64, .f32⟩
  | 90 => ⟨S_, .i32⟩
  | 91 => ⟨S128x576, .i32⟩
  | 92 => ⟨S128x576, .i1⟩
  | 93 => ⟨S_, .i32⟩
  | 94 => ⟨S128x576, .i32⟩
  | 95 => ⟨S128x576, .i32⟩
  | 96 => ⟨S128x576, .i32⟩
  | 97 => ⟨S128x576x1, .i32⟩
  | 98 => ⟨S8x128x576x16x64, .f32⟩
  | 99 => ⟨S8x128x16x64x576, .f32⟩
  | 100 => ⟨S_, .f32⟩
  | 101 => ⟨S8x128x16x64x576, .f32⟩
  | 102 => ⟨S8x128x16x64x576, .f32⟩
  | 103 => ⟨S1x1x16x64x576, .f32⟩
  | 104 => ⟨S8x128x16x64x576, .f32⟩
  | 105 => ⟨S8x128x16x64x576, .f32⟩
  | 106 => ⟨S_, .i32⟩
  | 107 => ⟨S128x576, .i32⟩
  | 108 => ⟨S128x576, .i32⟩
  | 109 => ⟨S_, .i32⟩
  | 110 => ⟨S128x576, .i32⟩
  | 111 => ⟨S128x576, .i1⟩
  | 112 => ⟨S1x128x1x1x576, .i1⟩
  | 113 => ⟨S_, .f32⟩
  | 114 => ⟨S_, .f32⟩
  | 115 => ⟨S8x128x16x64x576, .i1⟩
  | 116 => ⟨S8x128x16x64x576, .f32⟩
  | 117 => ⟨S8x128x16x64x576, .f32⟩
  | 118 => ⟨S_, .f32⟩
  | 119 => ⟨S8x128x16x64, .f32⟩
  | 120 => ⟨S_, .f32⟩
  | 121 => ⟨S8x128x16x64, .f32⟩
  | 122 => ⟨S8x128x16x64, .f32⟩
  | 123 => ⟨S8x128x16x64x1, .f32⟩
  | 124 => ⟨S8x128x16x64x576, .f32⟩
  | 125 => ⟨S8x128x16x64x576, .f32⟩
  | 126 => ⟨S8x128x16x64x576, .f32⟩
  | 127 => ⟨S_, .f32⟩
  | _ => ⟨S8x8192x1024, .f32⟩

abbrev hbmTy0_1 (i : Nat) : BufTy := match i % 128 with
  | 0 => ⟨S8x128x16x64, .f32⟩
  | 1 => ⟨S8x128x16x64x1, .f32⟩
  | 2 => ⟨S8x128x16x64x576, .f32⟩
  | 3 => ⟨S8x128x16x64x576, .f32⟩
  | 4 => ⟨S8x128x16x64x64, .f32⟩
  | 5 => ⟨S8x128x64x16x64, .f32⟩
  | 6 => ⟨S8x8192x1024, .f32⟩
  | 7 => ⟨S8x8192x1024, .f32⟩
  | 8 => ⟨S8x8192x1024, .f32⟩
  | 9 => ⟨S_, .f32⟩
  | 10 => ⟨S8x8192x1024, .f32⟩
  | 11 => ⟨S8x8192x1024, .f32⟩
  | 12 => ⟨S_, .f32⟩
  | 13 => ⟨S8x8192x1024, .f32⟩
  | 14 => ⟨S8x8192x1024, .f32⟩
  | 15 => ⟨S8x8192x1024, .f32⟩
  | 16 => ⟨S8x8192x1024, .f32⟩
  | 17 => ⟨S65536x1024, .f32⟩
  | 18 => ⟨S65536x1024, .f32⟩
  | 19 => ⟨S65536x1024, .f32⟩
  | 20 => ⟨S_, .f32⟩
  | 21 => ⟨S65536, .f32⟩
  | 22 => ⟨S65536x1, .f32⟩
  | 23 => ⟨S_, .f32⟩
  | 24 => ⟨S65536x1, .f32⟩
  | 25 => ⟨S65536x1, .f32⟩
  | 26 => ⟨S_, .f32⟩
  | 27 => ⟨S65536x1, .f32⟩
  | 28 => ⟨S65536x1, .f32⟩
  | 29 => ⟨S65536x1, .f32⟩
  | 30 => ⟨S65536x1024, .f32⟩
  | 31 => ⟨S65536x1024, .f32⟩
  | 32 => ⟨S1x1024, .f32⟩
  | 33 => ⟨S65536x1024, .f32⟩
  | 34 => ⟨S65536x1024, .f32⟩
  | 35 => ⟨S65536x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_2 : Ref sig .tc := ⟨.hbm, 42, rfl⟩
abbrev main_c_3 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_call1_v0 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_call2_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_10 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_15 : Ref sig .tc := ⟨.hbm, 106, rfl⟩
abbrev main_v76 : Ref sig .tc := ⟨.hbm, 107, rfl⟩
abbrev main_v77 : Ref sig .tc := ⟨.hbm, 108, rfl⟩
abbrev main_c_16 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_17 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_v81 : Ref sig .tc := ⟨.hbm, 117, rfl⟩
abbrev main_cst_18 : Ref sig .tc := ⟨.hbm, 118, rfl⟩
abbrev main_v82 : Ref sig .tc := ⟨.hbm, 119, rfl⟩
abbrev main_cst_19 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_20 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_call4_v0 : Ref sig .tc := ⟨.hbm, 135, rfl⟩
abbrev main_call4_v1 : Ref sig .tc := ⟨.hbm, 136, rfl⟩
abbrev main_call4_cst : Ref sig .tc := ⟨.hbm, 137, rfl⟩
abbrev main_call4_v2 : Ref sig .tc := ⟨.hbm, 138, rfl⟩
abbrev main_call4_v3 : Ref sig .tc := ⟨.hbm, 139, rfl⟩
abbrev main_call4_cst_0 : Ref sig .tc := ⟨.hbm, 140, rfl⟩
abbrev main_call4_v4 : Ref sig .tc := ⟨.hbm, 141, rfl⟩
abbrev main_call4_v5 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_21 : Ref sig .tc := ⟨.hbm, 148, rfl⟩
abbrev main_v101 : Ref sig .tc := ⟨.hbm, 149, rfl⟩
abbrev main_v102 : Ref sig .tc := ⟨.hbm, 150, rfl⟩
abbrev main_cst_22 : Ref sig .tc := ⟨.hbm, 151, rfl⟩
abbrev main_v103 : Ref sig .tc := ⟨.hbm, 152, rfl⟩
abbrev main_v104 : Ref sig .tc := ⟨.hbm, 153, rfl⟩
abbrev main_cst_23 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩

abbrev nD : Nat := 1
abbrev τ : Topo := Topo.v7x

variable {F : FTy → Type} [FloatOps F]
-- ==== Proof.Softmax.lean ====
/-
  The mathematics of a softmax-weighted mean, apart from any program: a mean of values weighted by exponentials of
  scores over a range of keys, and the two ways the programs compute it. Both read a finite family of scores in which a
  masked entry is `-∞`, subtract the largest, take exponentials and divide; one divides after the weighted sum and works
  in powers of two, the other divides every weight first and works in powers of e.
-/
module

public import Idealize.ShloMosaic.Lib.Pipeline.ValueKit
public import Mathlib.Analysis.SpecialFunctions.Pow.Real

@[expose] public section

noncomputable section

open Idealize.ShloMosaic

namespace Cert.Band

/-- The mean of the values `v` over the keys `lo, …, hi - 1`, weighted by `exp` of the scores `s`. -/
def mean (s v : ℕ → ℝ) (lo hi : ℕ) : ℝ :=
  (∑ m ∈ Finset.Ico lo hi, Real.exp (s m) * v m) / ∑ m ∈ Finset.Ico lo hi, Real.exp (s m)

/-- Moving every score by the same amount does not move the mean. -/
theorem mean_shift (s v : ℕ → ℝ) (lo hi : ℕ) (a : ℝ) :
    (∑ m ∈ Finset.Ico lo hi, Real.exp (s m - a) * v m) / (∑ m ∈ Finset.Ico lo hi, Real.exp (s m - a)) = mean s v lo hi := by
  have e : ∀ m, Real.exp (s m - a) = Real.exp (-a) * Real.exp (s m) := fun m => by rw [← Real.exp_add]; ring_nf
  simp only [e, mul_assoc, ← Finset.mul_sum]
  exact mul_div_mul_left _ _ (Real.exp_pos _).ne'

/-- A sum of reals, read in the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum of extended reals that are all real is the sum of the reals. -/
theorem sum_of_coe {ι : Type} (t : Finset ι) (f : ι → EReal) (g : ι → ℝ) (h : ∀ i, f i = (g i : EReal)) :
    ∑ i ∈ t, f i = ((∑ i ∈ t, g i : ℝ) : EReal) := by
  rw [coe_sum]; exact Finset.sum_congr rfl fun i _ => h i

/-- The largest of finitely many scores, each real or `-∞` and one of them real, is real. -/
theorem max_real {ι : Type} (t : Finset ι) (f : ι → EReal) (ht : ∀ i ∈ t, f i ≠ ⊤) (i₀ : ι) (h₀ : i₀ ∈ t) (hb : f i₀ ≠ ⊥) :
    ∃ M : ℝ, t.fold max ⊥ f = (M : EReal) := by
  have h1 : t.fold max ⊥ f ≠ ⊤ := by
    have : t.fold max ⊥ f < ⊤ := by
      rw [Finset.fold_max_lt]
      exact ⟨bot_lt_top, fun i hi => lt_top_iff_ne_top.mpr (ht i hi)⟩
    exact this.ne
  have h2 : t.fold max ⊥ f ≠ ⊥ := by
    have : ⊥ < t.fold max ⊥ f := by
      rw [Finset.lt_fold_max]
      exact Or.inr ⟨i₀, h₀, bot_lt_iff_ne_bot.mpr hb⟩
    exact this.ne'
  exact ⟨_, (EReal.coe_toReal h1 h2).symm⟩

section Mean

variable {N : ℕ} (ok : Fin N → Prop) [DecidablePred ok] (p : Fin N → ℕ) (lo hi : ℕ) (s vv : ℕ → ℝ)
  (hre : ∀ g : ℕ → ℝ, (∑ w, if ok w then g (p w) else 0) = ∑ m ∈ Finset.Ico lo hi, g m) (hlt : lo < hi)

include hre hlt

theorem exists_ok : ∃ w, ok w := by
  by_contra h
  push Not at h
  have := hre fun _ => 1
  simp only [h, if_false, Finset.sum_const_zero, Finset.sum_const, Nat.card_Ico, nsmul_eq_mul, mul_one] at this
  have : hi - lo = 0 := by exact_mod_cast this.symm
  omega

/-- Powers of two, divided after the sum: the scores are held over `log 2`. -/
theorem mean_of_exp2 (f v : Fin N → EReal)
    (hf : ∀ w, f w = if ok w then ((s (p w) / Real.log 2 : ℝ) : EReal) else ⊥)
    (hv : ∀ w, ∃ r : ℝ, v w = r) (hvk : ∀ w, ok w → v w = (vv (p w) : EReal)) :
    Ideal.div (0 + ∑ w, Ideal.exp2 (f w - Finset.univ.fold max ⊥ f) * v w)
      (∑ w, Ideal.exp2 (f w - Finset.univ.fold max ⊥ f)) = ((mean s vv lo hi : ℝ) : EReal) := by
  obtain ⟨w₀, hw₀⟩ := exists_ok ok p lo hi hre hlt
  obtain ⟨M, hM⟩ := max_real Finset.univ f (fun w _ => by rw [hf]; split <;> simp) w₀ (Finset.mem_univ _) (by rw [hf, if_pos hw₀]; simp)
  rw [hM]
  have hp : ∀ w, Ideal.exp2 (f w - M) = ((if ok w then Real.exp (s (p w) - Real.log 2 * M) else 0 : ℝ) : EReal) := fun w => by
    rw [hf]
    by_cases h : ok w
    · rw [if_pos h, if_pos h, ← EReal.coe_sub, Ideal.exp2_coe]
      congr 1
      show (2 : ℝ) ^ (_ : ℝ) = _
      rw [Real.rpow_def_of_pos two_pos]
      congr 1
      have : Real.log 2 ≠ 0 := (Real.log_pos one_lt_two).ne'
      field_simp
    · rw [if_neg h, if_neg h, EReal.bot_sub, Ideal.exp2_bot]; rfl
  have hpv : ∀ w, Ideal.exp2 (f w - M) * v w = ((if ok w then Real.exp (s (p w) - Real.log 2 * M) * vv (p w) else 0 : ℝ) : EReal) := fun w => by
    rw [hp]
    by_cases h : ok w
    · rw [if_pos h, if_pos h, hvk w h, EReal.coe_mul]
    · obtain ⟨r, hr⟩ := hv w
      rw [if_neg h, if_neg h, hr, ← EReal.coe_mul, zero_mul]
  rw [zero_add, sum_of_coe _ _ _ hpv, sum_of_coe _ _ _ hp, hre fun m => Real.exp (s m - Real.log 2 * M) * vv m,
    hre fun m => Real.exp (s m - Real.log 2 * M), Ideal.div_coe, ← EReal.coe_mul, mul_one_div, mean_shift]
  exact (Finset.sum_pos (fun _ _ => Real.exp_pos _) (by simpa using hlt)).ne'

/-- Powers of e, every weight divided before the sum. -/
theorem mean_of_exp (f v : Fin N → EReal)
    (hf : ∀ w, f w = if ok w then ((s (p w) : ℝ) : EReal) else ⊥)
    (hv : ∀ w, ∃ r : ℝ, v w = r) (hvk : ∀ w, ok w → v w = (vv (p w) : EReal)) :
    ∑ w, v w * Ideal.div (Ideal.exp (f w - Finset.univ.fold max ⊥ f))
      (0 + ∑ w, Ideal.exp (f w - Finset.univ.fold max ⊥ f)) = ((mean s vv lo hi : ℝ) : EReal) := by
  obtain ⟨w₀, hw₀⟩ := exists_ok ok p lo hi hre hlt
  obtain ⟨M, hM⟩ := max_real Finset.univ f (fun w _ => by rw [hf]; split <;> simp) w₀ (Finset.mem_univ _) (by rw [hf, if_pos hw₀]; simp)
  rw [hM]
  have hp : ∀ w, Ideal.exp (f w - M) = ((if ok w then Real.exp (s (p w) - M) else 0 : ℝ) : EReal) := fun w => by
    rw [hf]
    by_cases h : ok w
    · rw [if_pos h, if_pos h, ← EReal.coe_sub, Ideal.exp_coe]
    · rw [if_neg h, if_neg h, EReal.bot_sub, Ideal.exp_bot]; rfl
  rw [zero_add, sum_of_coe _ _ _ hp, hre fun m => Real.exp (s m - M)]
  have hD : (∑ m ∈ Finset.Ico lo hi, Real.exp (s m - M)) ≠ 0 :=
    (Finset.sum_pos (fun _ _ => Real.exp_pos _) (by simpa using hlt)).ne'
  rw [sum_of_coe _ _ (fun w => if ok w then (fun m => Real.exp (s m - M) / (∑ m ∈ Finset.Ico lo hi, Real.exp (s m - M)) * vv m) (p w) else 0),
    hre fun m => Real.exp (s m - M) / (∑ m ∈ Finset.Ico lo hi, Real.exp (s m - M)) * vv m]
  · congr 1
    rw [← mean_shift s vv lo hi M, Finset.sum_div]
    exact Finset.sum_congr rfl fun m _ => by ring
  · intro w
    rw [hp, Ideal.div_coe hD]
    obtain ⟨r, hr⟩ := hv w
    by_cases h : ok w
    · rw [if_pos h, if_pos h, hvk w h, ← EReal.coe_mul, ← EReal.coe_mul]
      congr 1
      ring
    · rw [if_neg h, if_neg h, hr, ← EReal.coe_mul, ← EReal.coe_mul, zero_mul, mul_zero]

end Mean

/-- Keys of a window that starts at `k0`, reaches past both ends of `lo, …, hi - 1` and is masked to it. -/
theorem sum_window (N k0 lo hi : ℕ) (h0 : k0 ≤ lo) (h1 : hi ≤ k0 + N) (g : ℕ → ℝ) :
    (∑ w : Fin N, if lo ≤ k0 + w.val ∧ k0 + w.val < hi then g (k0 + w.val) else 0) = ∑ m ∈ Finset.Ico lo hi, g m := by
  rw [Fin.sum_univ_eq_sum_range (fun w => if lo ≤ k0 + w ∧ k0 + w < hi then g (k0 + w) else 0), ← Finset.sum_filter]
  refine Finset.sum_bij (fun w _ => k0 + w) ?_ ?_ ?_ ?_
  · intro w hw; simp only [Finset.mem_filter, Finset.mem_range, Finset.mem_Ico] at *; omega
  · intro a _ b _ h; omega
  · intro m hm; simp only [Finset.mem_Ico] at hm
    exact ⟨m - k0, by simp only [Finset.mem_filter, Finset.mem_range]; omega, by omega⟩
  · intros; rfl

/-- Keys of a band that starts `P` before `lo`'s place in a padded array and drops the padding. -/
theorem sum_padded (N base P : ℕ) (h : P ≤ N + base) (g : ℕ → ℝ) :
    (∑ j : Fin N, if P ≤ base + j.val then g (base + j.val - P) else 0) = ∑ m ∈ Finset.Ico (base - P) (base + N - P), g m := by
  rw [Fin.sum_univ_eq_sum_range (fun j => if P ≤ base + j then g (base + j - P) else 0), ← Finset.sum_filter]
  refine Finset.sum_bij (fun j _ => base + j - P) ?_ ?_ ?_ ?_
  · intro w hw; simp only [Finset.mem_filter, Finset.mem_range, Finset.mem_Ico] at *; omega
  · intro a ha b hb h; simp only [Finset.mem_filter, Finset.mem_range] at ha hb; omega
  · intro m hm; simp only [Finset.mem_Ico] at hm
    exact ⟨m + P - base, by simp only [Finset.mem_filter, Finset.mem_range]; omega, by omega⟩
  · intros; rfl

end Cert.Band

end
-- ==== Proof.Tile.lean ====
/-
  One tile of 256 queries against a window of 768 keys, for two heads that share the 128 lanes, as vectors; and its
  element at a row and a lane. The band kernel runs this tile 32 times per block, with other rows and another bias each
  time.
-/
module

public import proofs.«01_k».proof.Proof.Gen.KernelIdeal.Skeleton
public import proofs.«01_k».proof.Proof.Softmax
public import Idealize.ShloMosaic.Lib.Pointwise

@[expose] public section

set_option maxRecDepth 16384

noncomputable section

open Idealize.ShloMosaic

namespace Cert.Band

open Cert.KernelIdeal Cert.KernelIdeal.Gen

/-- The lanes `lo, …, hi - 1`, over every row of a tile. -/
def lanes (lo hi : BitVec 32) : IVec S256x128 1 :=
  broadcastTo S256x128 (shapeCast S1x128 (andi (cmpi .sge (iota .tc S1x128 32 [1] iota_S1x128_d1_w32) (broadcast S1x128 lo))
    (cmpi .slt (iota .tc S1x128 32 [1] iota_S1x128_d1_w32) (broadcast S1x128 hi))) shapeCasts_S1x128_S1x128) broadcasts_S1x128_S256x128

/-- The scores of a tile for the head whose lanes are `mask`: queries times keys, plus the bias. -/
def scores (mask : IVec S256x128 1) (q : FVec Ideal S1x256x128 .bf16) (k : FVec Ideal S1x768x128 .bf16)
    (b : FVec Ideal S1x1x256x768 .f32) : FVec Ideal S256x768 .f32 :=
  addf (matmul dot_S256x128_S768x128_S256x768_1_1_0_0_n_n none
      (truncf .bf16 (select mask (extf .f32 (shapeCast S256x128 q shapeCasts_S1x256x128_S256x128) bitsLt_bf16_f32)
        (broadcast S256x128 (Scalar.ofBits (F := Ideal) .f32 0x00000000#32))) bitsLt_bf16_f32)
      (shapeCast S768x128 k shapeCasts_S1x768x128_S768x128) (constant (F := Ideal) S256x768 .f32 0x00000000#32))
    (shapeCast S256x768 b shapeCasts_S1x1x256x768_S256x768)

/-- Powers of two of the scores less their row's largest. -/
def weights (x : FVec Ideal S256x768 .f32) : FVec Ideal S256x768 .f32 :=
  exp2 (subf x (broadcastTo S256x768 (shapeCast S256x1
    (multiReduction .maximumf [1] S256 x 0xFF800000#32 reduces_S256x768_S256 (.inl rfl) rfl) shapeCasts_S256_S256x1) broadcasts_S256x1_S256x768))

/-- The weighted sum of the values over the sum of the weights. -/
def ratio (p : FVec Ideal S256x768 .f32) (v : FVec Ideal S1x768x128 .bf16) : FVec Ideal S256x128 .f32 :=
  divf (matmul dot_S256x768_S768x128_S256x128_1_0_0_1_n_n none (truncf .bf16 p bitsLt_bf16_f32)
      (shapeCast S768x128 v shapeCasts_S1x768x128_S768x128) (constant (F := Ideal) S256x128 .f32 0x00000000#32))
    (broadcastTo S256x128 (shapeCast S256x1
      (multiReduction .add [1] S256 p 0x00000000#32 reduces_S256x768_S256 (.inl rfl) rfl) shapeCasts_S256_S256x1) broadcasts_S256x1_S256x128)

/-- The tile: the first head on the low lanes, the second on the high lanes, times the gate. -/
def tile (q : FVec Ideal S1x256x128 .bf16) (k v : FVec Ideal S1x768x128 .bf16) (b0 b1 : FVec Ideal S1x1x256x768 .f32)
    (g : FVec Ideal S1x256x128 .bf16) : FVec Ideal S1x256x128 .bf16 :=
  let gf : FVec Ideal S256x128 .f32 := extf .f32 (shapeCast S256x128 g shapeCasts_S1x256x128_S256x128) bitsLt_bf16_f32
  shapeCast S1x256x128 (truncf .bf16 (mulf
    (select (lanes 0#32 64#32) (ratio (weights (scores (lanes 0#32 64#32) q k b0)) v) (ratio (weights (scores (lanes 64#32 128#32) q k b1)) v))
    (divf gf (addf (broadcast S256x128 (Scalar.ofBits (F := Ideal) .f32 0x3F800000#32))
      (exp (subf (broadcast S256x128 (Scalar.ofBits (F := Ideal) .f32 0x00000000#32)) gf))))) bitsLt_bf16_f32) shapeCasts_S256x128_S1x256x128

/-- A lane is in the range when its number is. -/
theorem lanes_low (r : Fin 256) (l : Fin 128) : lanes 0#32 64#32 (ix2 r l) = BitVec.ofBool (decide (l.val < 64)) := by
  have : ∀ l : Fin 128, lanes 0#32 64#32 (ix2 (0 : Fin 256) l) = BitVec.ofBool (decide (l.val < 64)) := by decide +kernel
  exact this l

theorem lanes_high (r : Fin 256) (l : Fin 128) : lanes 64#32 128#32 (ix2 r l) = BitVec.ofBool (decide (64 ≤ l.val)) := by
  have : ∀ l : Fin 128, lanes 64#32 128#32 (ix2 (0 : Fin 256) l) = BitVec.ofBool (decide (64 ≤ l.val)) := by decide +kernel
  exact this l

theorem scores_apply (mask : IVec S256x128 1) (q : FVec Ideal S1x256x128 .bf16) (k : FVec Ideal S1x768x128 .bf16)
    (b : FVec Ideal S1x1x256x768 .f32) (r : Fin 256) (w : Fin 768) :
    scores mask q k b (ix2 r w) = (∑ d : Fin 128, Scalar.select (mask (ix2 r d)) (q (ix3 0 r d)) 0 * k (ix3 0 w d)) + b (ix4 0 0 r w) := by
  pointwise [scores]

/-- The pattern of minus infinity. -/
theorem ofBits_neg_inf : Ideal.ofBits .f32 0xFF800000#32 = ⊥ := by simp [Ideal.ofBits, Ideal.ieee]

theorem weights_apply (x : FVec Ideal S256x768 .f32) (r : Fin 256) (w : Fin 768) :
    weights x (ix2 r w) = Ideal.exp2 (x (ix2 r w) - Finset.univ.fold max ⊥ fun w : Fin 768 => x (ix2 r w)) := by
  pointwise [weights]
  rw [ofBits_neg_inf]
  rfl

theorem ratio_apply (p : FVec Ideal S256x768 .f32) (v : FVec Ideal S1x768x128 .bf16) (r : Fin 256) (l : Fin 128) :
    ratio p v (ix2 r l) = Ideal.div (∑ w : Fin 768, p (ix2 r w) * v (ix3 0 w l)) (∑ w : Fin 768, p (ix2 r w)) := by
  pointwise [ratio]

theorem tile_apply (q : FVec Ideal S1x256x128 .bf16) (k v : FVec Ideal S1x768x128 .bf16) (b0 b1 : FVec Ideal S1x1x256x768 .f32)
    (g : FVec Ideal S1x256x128 .bf16) (r : Fin 256) (l : Fin 128) :
    tile q k v b0 b1 g (ix3 0 r l) =
      (if l.val < 64 then ratio (weights (scores (lanes 0#32 64#32) q k b0)) v (ix2 r l) else ratio (weights (scores (lanes 64#32 128#32) q k b1)) v (ix2 r l)) *
        Ideal.div (g (ix3 0 r l)) (1 + Ideal.exp (0 - g (ix3 0 r l))) := by
  pointwise [tile, lanes_low]

end Cert.Band

end
-- ==== Proof.TileValue.lean ====
/-
  The value of a tile when its operands are real: every element is the softmax-weighted mean of the values over the
  row's band of keys, times the gate.
-/
module

public import proofs.«01_k».proof.Proof.Tile

@[expose] public section

set_option maxRecDepth 16384

noncomputable section

open Idealize.ShloMosaic

namespace Cert.Band

open Cert.KernelIdeal Cert.KernelIdeal.Gen

/-- The gate `g / (1 + e^(-g))`. -/
def gate (g : EReal) : EReal := Ideal.div g (1 + Ideal.exp (0 - g))

/-- The score of a query `q` and a key `k` (both of 128 lanes) for the head `h` of the two, with the bias `t`; in
    natural units, where the queries come over `log 2`. -/
def score (h : ℕ) (q k : ℕ → ℝ) (t : ℝ) : ℝ := (∑ d : Fin 64, q (64 * h + d) * k (64 * h + d)) * Real.log 2 + t

theorem sum_low (a b : ℕ → ℝ) : (∑ d : Fin 128, (if d.val < 64 then a d else 0) * b d) = ∑ d : Fin 64, a (64 * 0 + d) * b (64 * 0 + d) := by
  rw [Fin.sum_univ_two_halves 64 64 rfl]
  simp

theorem sum_high (a b : ℕ → ℝ) : (∑ d : Fin 128, (if 64 ≤ d.val then a d else 0) * b d) = ∑ d : Fin 64, a (64 * 1 + d) * b (64 * 1 + d) := by
  rw [Fin.sum_univ_two_halves 64 64 rfl]
  have h : ∀ d : Fin 64, ¬ 64 ≤ d.val := fun d => by omega
  simp [h]

section Head

variable (mask : IVec S256x128 1) (ok : ℕ → Prop) [DecidablePred ok] (h : ℕ)
  (q : FVec Ideal S1x256x128 .bf16) (k v : FVec Ideal S1x768x128 .bf16) (b : FVec Ideal S1x1x256x768 .f32)
  (r : Fin 256) (k0 lo hi : ℕ) (Q : ℕ → ℝ) (K V : ℕ → ℕ → ℝ) (T : ℕ → ℝ)
  (hm : ∀ d : Fin 128, mask (ix2 r d) = BitVec.ofBool (decide (ok d)))
  (hs : ∀ a b : ℕ → ℝ, (∑ d : Fin 128, (if ok d then a d else 0) * b d) = ∑ d : Fin 64, a (64 * h + d) * b (64 * h + d))
  (hq : ∀ d : Fin 128, q (ix3 0 r d) = (Q d : EReal)) (hk : ∀ (w : Fin 768) (d : Fin 128), k (ix3 0 w d) = (K (k0 + w) d : EReal))
  (hv : ∀ (w : Fin 768) (d : Fin 128), v (ix3 0 w d) = (V (k0 + w) d : EReal))
  (hb : ∀ w : Fin 768, b (ix4 0 0 r w) = if lo ≤ k0 + w.val ∧ k0 + w.val < hi then ((T (k0 + w) / Real.log 2 : ℝ) : EReal) else ⊥)
  (h0 : k0 ≤ lo) (h1 : hi ≤ k0 + 768) (h2 : lo < hi)

include hm hs hq hk hb

theorem scores_value (w : Fin 768) : scores mask q k b (ix2 r w) = if lo ≤ k0 + w.val ∧ k0 + w.val < hi then
    ((score h Q (K (k0 + w)) (T (k0 + w)) / Real.log 2 : ℝ) : EReal) else ⊥ := by
  rw [scores_apply, hb]
  split
  · rw [sum_of_coe _ _ (fun d : Fin 128 => (if ok d then Q d else 0) * K (k0 + w) d)]
    · rw [hs, ← EReal.coe_add]
      congr 1
      rw [score, add_div, mul_div_cancel_right₀ _ (Real.log_pos one_lt_two).ne']
    · intro d
      rw [hm, hq, hk, EReal.coe_mul]
      congr 1
      by_cases hd : ok d <;> simp [hd, Scalar.select]
  · rw [EReal.add_bot]

include hv h0 h1 h2

theorem head_value (l : Fin 128) : ratio (weights (scores mask q k b)) v (ix2 r l) =
    ((mean (fun m => score h Q (K m) (T m)) (fun m => V m l) lo hi : ℝ) : EReal) := by
  rw [ratio_apply]
  simp only [weights_apply]
  have := mean_of_exp2 (fun w : Fin 768 => lo ≤ k0 + w.val ∧ k0 + w.val < hi) (fun w => k0 + w.val) lo hi
    (fun m => score h Q (K m) (T m)) (fun m => V m l) (sum_window 768 k0 lo hi h0 h1) h2
    (fun w => scores mask q k b (ix2 r w)) (fun w => v (ix3 0 w l))
    (fun w => scores_value mask ok h q k b r k0 lo hi Q K T hm hs hq hk hb w) (fun w => ⟨_, hv w l⟩) (fun w _ => hv w l)
  rw [zero_add] at this
  exact this

end Head

theorem tile_value (q : FVec Ideal S1x256x128 .bf16) (k v : FVec Ideal S1x768x128 .bf16) (b0 b1 : FVec Ideal S1x1x256x768 .f32)
    (g : FVec Ideal S1x256x128 .bf16) (r : Fin 256) (k0 lo hi : ℕ) (Q : ℕ → ℝ) (K V T : ℕ → ℕ → ℝ)
    (hq : ∀ d : Fin 128, q (ix3 0 r d) = (Q d : EReal)) (hk : ∀ (w : Fin 768) (d : Fin 128), k (ix3 0 w d) = (K (k0 + w) d : EReal))
    (hv : ∀ (w : Fin 768) (d : Fin 128), v (ix3 0 w d) = (V (k0 + w) d : EReal))
    (hb0 : ∀ w : Fin 768, b0 (ix4 0 0 r w) = if lo ≤ k0 + w.val ∧ k0 + w.val < hi then ((T 0 (k0 + w) / Real.log 2 : ℝ) : EReal) else ⊥)
    (hb1 : ∀ w : Fin 768, b1 (ix4 0 0 r w) = if lo ≤ k0 + w.val ∧ k0 + w.val < hi then ((T 1 (k0 + w) / Real.log 2 : ℝ) : EReal) else ⊥)
    (h0 : k0 ≤ lo) (h1 : hi ≤ k0 + 768) (h2 : lo < hi) (l : Fin 128) :
    tile q k v b0 b1 g (ix3 0 r l) =
      ((mean (fun m => score (l.val / 64) Q (K m) (T (l.val / 64) m)) (fun m => V m l) lo hi : ℝ) : EReal) * gate (g (ix3 0 r l)) := by
  rw [tile_apply]
  congr 1
  split
  · have e : l.val / 64 = 0 := by omega
    rw [e]
    exact head_value _ (fun d => d < 64) 0 q k v b0 r k0 lo hi Q K V (T 0) (lanes_low r) sum_low hq hk hv hb0 h0 h1 h2 l
  · have e : l.val / 64 = 1 := by omega
    rw [e]
    exact head_value _ (fun d => 64 ≤ d) 1 q k v b1 r k0 lo hi Q K V (T 1) (lanes_high r) sum_high hq hk hv hb1 h0 h1 h2 l

end Cert.Band

end
-- ==== Proof.BiasTile.lean ====
/-
  One bias tile: a row of 1024 bias entries is laid along the diagonals of 256 x 768 places by turning row `r` of 256
  copies by `r`, and what lies outside the band of chunks is replaced by the named mask value, which is `-∞`.
-/
module

public import proofs.«01_k».proof.Proof.TileValue

@[expose] public section

set_option maxRecDepth 16384

noncomputable section

open Idealize.ShloMosaic

namespace Cert.Band

open Cert.KernelIdeal Cert.KernelIdeal.Gen

/-- Key places of a window. -/
def places : IVec S256x768 32 := iota .tc S256x768 32 [1] iota_S256x768_d1_w32

/-- The band of a tile whose window begins `off` before its first query. -/
def inBand (off : BitVec 32) : IVec S256x768 1 :=
  andi (cmpi .sge places (addi (subi k0_pay20 (broadcast S256x768 512#32)) (broadcast S256x768 off)))
    (cmpi .slt places (addi (addi k0_pay20 (broadcast S256x768 64#32)) (broadcast S256x768 off)))

/-- The bias of a tile from its row of bias entries. -/
def biasTile (off : BitVec 32) (b : FVec Ideal S1x1x1024 .f32) : FVec Ideal S1x1x256x768 .f32 :=
  shapeCast S1x1x256x768 (select (inBand off)
    (extractStridedSlice S256x768 ![0, 0] (dynamicRotate 1 0#32 (some (1, 0)) (broadcastTo S256x1024
      (shapeCast S1x1024 (mulf (shapeCast S1x1024 b shapeCasts_S1x1x1024_S1x1024)
        (broadcast S1x1024 (Named.named (F := Ideal) κ "log2e" 0x3FB8AA3B#32))) shapeCasts_S1x1024_S1x1024)
      broadcasts_S1x1024_S256x1024) rotates_S256x1024_d1s1a0) slices_S256x1024_o0_0_S256x768)
    (broadcast S256x768 (Named.named (F := Ideal) κ "mask" 0xF149F2CA#32))) shapeCasts_S256x768_S1x1x256x768

/-- The chunk of a row begins at the row rounded down to a multiple of 64. -/
theorem chunk_start (r : Fin 256) (w : Fin 768) : k0_pay20 (ix2 r w) = BitVec.ofNat 32 (64 * (r.val / 64)) := by
  have : ∀ r : Fin 256, k0_pay20 (ix2 r (0 : Fin 768)) = BitVec.ofNat 32 (64 * (r.val / 64)) := by decide +kernel
  exact this r

theorem places_apply (r : Fin 256) (w : Fin 768) : places (ix2 r w) = BitVec.ofNat 32 w.val := by
  pointwise [places]

/-- The three offsets of a window's first key before the tile's first query. -/
theorem inBand_apply (o : Fin 3) (r : Fin 256) (w : Fin 768) : inBand (BitVec.ofNat 32 (256 * o.val)) (ix2 r w) =
    BitVec.ofBool (decide (64 * (r.val / 64) + 256 * o.val ≤ w.val + 512 ∧ w.val < 64 * (r.val / 64) + 64 + 256 * o.val)) := by
  pointwise [inBand]
  rw [chunk_start, places_apply]
  have key : ∀ (o : Fin 3) (c : Fin 4) (w : Fin 768),
      IntOp.andi (IntOp.cmpi .sge (BitVec.ofNat 32 w.val) (BitVec.ofNat 32 (64 * c.val) - 512#32 + BitVec.ofNat 32 (256 * o.val)))
        (IntOp.cmpi .slt (BitVec.ofNat 32 w.val) (BitVec.ofNat 32 (64 * c.val) + 64#32 + BitVec.ofNat 32 (256 * o.val))) =
      BitVec.ofBool (decide (64 * c.val + 256 * o.val ≤ w.val + 512 ∧ w.val < 64 * c.val + 64 + 256 * o.val)) := by decide +kernel
  exact key o ⟨r.val / 64, by omega⟩ w

theorem named_log2e : Named.named (F := Ideal) κ "log2e" (φ := .f32) 0x3FB8AA3B#32 = (((Real.log 2)⁻¹ : ℝ) : EReal) :=
  IdealRules.named_const.ideal_named_scalar _ _ _ _ rfl

theorem named_mask : Named.named (F := Ideal) κ "mask" (φ := .f32) 0xF149F2CA#32 = ⊥ :=
  IdealRules.named_const.ideal_named_scalar _ _ _ _ rfl

theorem biasTile_apply (o : Fin 3) (b : FVec Ideal S1x1x1024 .f32) (r : Fin 256) (w : Fin 768) :
    biasTile (BitVec.ofNat 32 (256 * o.val)) b (ix4 0 0 r w) =
      if 64 * (r.val / 64) + 256 * o.val ≤ w.val + 512 ∧ w.val < 64 * (r.val / 64) + 64 + 256 * o.val then
        b (ix3 0 0 ⟨(w.val + 1024 - r.val) % 1024, Nat.mod_lt _ (by norm_num)⟩) * (((Real.log 2)⁻¹ : ℝ) : EReal) else ⊥ := by
  pointwise [biasTile]
  have e : r.val % 1024 = r.val := Nat.mod_eq_of_lt (by omega)
  rw [inBand_apply, named_log2e, named_mask]
  simp only [e]
  split_ifs with h <;> simp [h, Scalar.select]

end Cert.Band

end
-- ==== Proof.BiasStore.lean ====
/-
  What the band kernel's scratch buffer holds after its six stores: for each of the two heads of a block and each of the
  three offsets of a window, the bias tile of that head's row of bias entries.
-/
module

public import proofs.«01_k».proof.Proof.Gen.KernelIdeal.Value
public import proofs.«01_k».proof.Proof.BiasTile
public import Idealize.ShloMosaic.Lib.Pipeline.ReadBack
import all proofs.«01_k».proof.Proof.Gen.KernelIdeal.Frame.RunA

@[expose] public section

set_option maxRecDepth 16384

noncomputable section

open Idealize.ShloMosaic

namespace Cert.Band

open Cert.KernelIdeal Cert.KernelIdeal.Gen

/-- The row of bias entries of one head at one offset. -/
def biasRow (x4 : FVec Ideal S2x3x1024 .f32) (h : Fin 2) (v : Fin 3) : FVec Ideal S1x1x1024 .f32 := fun p => x4 (ix3 h v (p 2))

/-- The six bias tiles. -/
def biasAll (x4 : FVec Ideal S2x3x1024 .f32) : FVec Ideal S2x3x256x768 .f32 :=
  fun y => biasTile (BitVec.ofNat 32 (256 * (y 1).val)) (biasRow x4 (y 0) (y 1)) (ix4 0 0 (y 2) (y 3))

section Loads

variable {sg : RefSig} (arg6 : Memref sg .tc .vmem S2x3x1024 .f32) (harg6 : arg6.IsWhole)
  (arg8 : Memref sg .tc .vmem S2x3x256x768 .f32) (x4 : FVec Ideal S2x3x1024 .f32)

/-- A load of one row of bias entries. -/
theorem load_row (h : Fin 2) (v : Fin 3) (off : Fin 3 → ℕ) (hoff : off = ![h.val, v.val, 0]) (inb) :
    View.readAt (Elt Ideal) arg6.view (Rect.unit (s := S2x3x1024) off S1x1x1024.size inb).toLoadRect (harg6.unread x4) = biasRow x4 h v := by
  rw [View.readAt_eq_ld, harg6.read_unread]
  funext p
  refine View.ld_unit_apply_of _ _ _ _ _ _ fun a => ?_
  subst hoff
  have h0 := (p 0).isLt
  have h1 := (p 1).isLt
  fin_cases a
  · show h.val = h.val + (p 0).val
    have : (p 0).val < 1 := h0
    omega
  · show v.val = v.val + (p 1).val
    have : (p 1).val < 1 := h1
    omega
  · show (p 2).val = 0 + (p 2).val
    omega

theorem piece_bias (h : Fin 2) (v : Fin 3) (off : Fin 4 → ℕ) (hoff : off = ![h.val, v.val, 0, 0]) (inb) (w : FVec Ideal S1x1x256x768 .f32)
    (hw : w = biasTile (BitVec.ofNat 32 (256 * v.val)) (biasRow x4 h v)) (x : S1x1x256x768.Idx) :
    w x = biasAll x4 ((Rect.unit (s := S2x3x256x768) off S1x1x256x768.size inb).emb x) := by
  subst hw
  subst hoff
  have e : (Rect.unit (s := S2x3x256x768) ![h.val, v.val, 0, 0] S1x1x256x768.size inb).emb x = ix4 h v (x 2) (x 3) := by
    idx_vars x
    funext a
    refine Fin.ext ((Rect.idx_unit_val _ _ inb _ a).trans ?_)
    fin_cases a
    · show h.val + x0.val = h.val; omega
    · show v.val + x1.val = v.val; omega
    · show 0 + x2.val = x2.val; omega
    · show 0 + x3.val = x3.val; omega
  rw [e]
  idx_vars x
  obtain rfl : x0 = 0 := Subsingleton.elim _ _
  obtain rfl : x1 = 0 := Subsingleton.elim _ _
  rfl

/-- A load of one tile from a buffer after stores that are blocks of `biasAll`, one for each tile. -/
theorem load_stored (L : List (View.Piece (Elt Ideal) S2x3x256x768 .f32)) (hL : View.PiecesOf (biasAll x4) L)
    (hs : ∀ (h : Fin 2) (v : Fin 3), ∃ p ∈ L, ∃ inb,
      p.1.set = (Rect.unit (s := S2x3x256x768) ![h.val, v.val, 0, 0] S1x1x256x768.size inb).set)
    (h : Fin 2) (v : Fin 3) (off : Fin 4 → ℕ) (hoff : off = ![h.val, v.val, 0, 0]) (inb) :
    View.readAt (Elt Ideal) arg8.view (Rect.unit (s := S2x3x256x768) off S1x1x256x768.size inb).toLoadRect
      (arg8.view.writes (Elt Ideal) arg8.view.junk L) =
    biasTile (BitVec.ofNat 32 (256 * v.val)) (biasRow x4 h v) := by
  rw [View.readAt_writes_junk_eq_canon]
  funext x
  rw [piece_bias x4 h v off hoff inb _ rfl x]
  subst hoff
  refine View.canon_eq_of_allAt _ _ _ ?_ fun p hp z hz => ?_
  · obtain ⟨p, hp, inb', he⟩ := hs h v
    refine ⟨p, hp, ?_⟩
    rw [he]
    refine Rect.mem_set_unit.mpr fun a => ?_
    have e := Rect.idx_unit_val (s := S2x3x256x768) ![h.val, v.val, 0, 0] S1x1x256x768.size inb x a
    have hlt : (x a).val < S1x1x256x768.size a := (x a).isLt
    rw [e]
    exact ⟨Nat.le_add_right _ _, Nat.add_lt_add_left hlt _⟩
  · rw [hL.mem p hp z, hz]; rfl

end Loads

variable (c : Dev nD) (arg6 : Memref sig .tc .vmem S2x3x1024 .f32) (harg6 : arg6.IsWhole)
  (arg8 : Memref sig .tc .vmem S2x3x256x768 .f32) (x4 : FVec Ideal S2x3x1024 .f32)

/-- Every store of the scratch buffer is a block of `biasAll`. -/
theorem stores_bias : View.PiecesOf (biasAll x4) (kernelRun0_A.sl.HS0_6 (F := Ideal) c arg6 harg6 x4) := by
  unfold kernelRun0_A.sl.HS0_6
  refine ⟨piece_bias x4 1 2 _ rfl inb_S2x3x256x768_S1x1x256x768_1_2_0_0 _ ?_, piece_bias x4 1 1 _ rfl inb_S2x3x256x768_S1x1x256x768_1_1_0_0 _ ?_,
    piece_bias x4 1 0 _ rfl inb_S2x3x256x768_S1x1x256x768_1_0_0_0 _ ?_, piece_bias x4 0 2 _ rfl inb_S2x3x256x768_S1x1x256x768_0_2_0_0 _ ?_,
    piece_bias x4 0 1 _ rfl inb_S2x3x256x768_S1x1x256x768_0_1_0_0 _ ?_, piece_bias x4 0 0 _ rfl inb_S2x3x256x768_S1x1x256x768_0_0_0_0 _ ?_, trivial⟩
  · rw [← load_row arg6 harg6 x4 1 2 ![1, 2, 0] rfl inb_S2x3x1024_S1x1x1024_1_2_0]; rfl
  · rw [← load_row arg6 harg6 x4 1 1 ![1, 1, 0] rfl inb_S2x3x1024_S1x1x1024_1_1_0]; rfl
  · rw [← load_row arg6 harg6 x4 1 0 ![1, 0, 0] rfl inb_S2x3x1024_S1x1x1024_1_0_0]; rfl
  · rw [← load_row arg6 harg6 x4 0 2 ![0, 2, 0] rfl inb_S2x3x1024_S1x1x1024_0_2_0]; rfl
  · rw [← load_row arg6 harg6 x4 0 1 ![0, 1, 0] rfl inb_S2x3x1024_S1x1x1024_0_1_0]; rfl
  · rw [← load_row arg6 harg6 x4 0 0 ![0, 0, 0] rfl inb_S2x3x1024_S1x1x1024_0_0_0]; rfl

/-- Each of the six places is stored. -/
theorem stored (h : Fin 2) (v : Fin 3) : ∃ p ∈ kernelRun0_A.sl.HS0_6 (F := Ideal) c arg6 harg6 x4,
    ∃ inb, p.1.set = (Rect.unit (s := S2x3x256x768) ![h.val, v.val, 0, 0] S1x1x256x768.size inb).set := by
  unfold kernelRun0_A.sl.HS0_6
  simp only [List.mem_cons, List.not_mem_nil, or_false, exists_eq_or_imp, exists_eq_left]
  match h, v with
  | 1, 2 => exact Or.inl ⟨inb_S2x3x256x768_S1x1x256x768_1_2_0_0, rfl⟩
  | 1, 1 => exact Or.inr (Or.inl ⟨inb_S2x3x256x768_S1x1x256x768_1_1_0_0, rfl⟩)
  | 1, 0 => exact Or.inr (Or.inr (Or.inl ⟨inb_S2x3x256x768_S1x1x256x768_1_0_0_0, rfl⟩))
  | 0, 2 => exact Or.inr (Or.inr (Or.inr (Or.inl ⟨inb_S2x3x256x768_S1x1x256x768_0_2_0_0, rfl⟩)))
  | 0, 1 => exact Or.inr (Or.inr (Or.inr (Or.inr (Or.inl ⟨inb_S2x3x256x768_S1x1x256x768_0_1_0_0, rfl⟩))))
  | 0, 0 => exact Or.inr (Or.inr (Or.inr (Or.inr (Or.inr ⟨inb_S2x3x256x768_S1x1x256x768_0_0_0_0, rfl⟩))))

/-- A load of one tile from the scratch buffer after the stores. -/
theorem load_bias (h : Fin 2) (v : Fin 3) (off : Fin 4 → ℕ) (hoff : off = ![h.val, v.val, 0, 0]) (inb) :
    View.readAt (Elt Ideal) arg8.view (Rect.unit (s := S2x3x256x768) off S1x1x256x768.size inb).toLoadRect
      (arg8.view.writes (Elt Ideal) arg8.view.junk (kernelRun0_A.sl.HS0_6 (F := Ideal) c arg6 harg6 x4)) =
    biasTile (BitVec.ofNat 32 (256 * v.val)) (biasRow x4 h v) :=
  load_stored arg8 x4 _ (stores_bias c arg6 harg6 x4) (stored c arg6 harg6 x4) h v off hoff inb

end Cert.Band

end
-- ==== Proof.Block.lean ====
/-
  What one block of the band kernel holds when its operands are real: at row `n` and lane `l`, the mean of the values
  over the keys of the row's chunk and the eight chunks before it, weighted by `exp` of the row's scores, times the gate.
-/
module

public import proofs.«01_k».proof.Proof.BiasStore
import all proofs.«01_k».proof.Proof.Gen.KernelIdeal.Frame.RunA
import all proofs.«01_k».proof.Proof.Gen.KernelIdeal.Loops

@[expose] public section

set_option maxRecDepth 16384

noncomputable section

open Idealize.ShloMosaic

namespace Cert.Band

open Cert.KernelIdeal Cert.KernelIdeal.Gen

/-- The band attention of row `n` at lane `l` of two heads that share 128 lanes, times the gate of `g`. -/
def attend (Q K V : ℕ → ℕ → ℝ) (tab : ℕ → ℤ → ℝ) (n l : ℕ) (g : EReal) : EReal :=
  ((mean (fun m => score (l / 64) (Q n) (K m) (tab (l / 64) (n - m))) (fun m => V m l) (64 * (n / 64) - 512) (64 * (n / 64) + 64) : ℝ) : EReal) * gate g

/-- The distance of the query from the key that entry `p` of a bias row of offset `256 * v` is for. -/
def dist (v p : ℕ) : ℤ := 256 * v - (if p < 768 then (p : ℤ) else p - 1024)

section Block

variable (xq xk xv xg : FVec Ideal S1x8192x128 .bf16) (xb : FVec Ideal S2x3x1024 .f32) (Q K V : ℕ → ℕ → ℝ) (tab : ℕ → ℤ → ℝ)

/-- The block, as a function of its index. -/
def blockOut : FVec Ideal S1x8192x128 .bf16 := fun y => attend Q K V tab (y 1).val (y 2).val (xg y)

variable (hQ : ∀ (n : Fin 8192) (l : Fin 128), xq (ix3 0 n l) = (Q n l : EReal)) (hK : ∀ (n : Fin 8192) (l : Fin 128), xk (ix3 0 n l) = (K n l : EReal))
  (hV : ∀ (n : Fin 8192) (l : Fin 128), xv (ix3 0 n l) = (V n l : EReal))
  (hB : ∀ (h : Fin 2) (v : Fin 3) (p : Fin 1024), xb (ix3 h v p) = (tab h (dist v p) : EReal))

include hB in
/-- A bias tile's entry, by the numbers of the query and the key. -/
theorem bias_value (h : Fin 2) (v : Fin 3) (i k0 : ℕ) (hi : k0 + 256 * v.val = 256 * i) (r : Fin 256) (w : Fin 768) :
    biasTile (BitVec.ofNat 32 (256 * v.val)) (biasRow xb h v) (ix4 0 0 r w) =
      if 64 * ((256 * i + r.val) / 64) - 512 ≤ k0 + w.val ∧ k0 + w.val < 64 * ((256 * i + r.val) / 64) + 64 then
        ((tab h.val ((256 * i + r.val : ℕ) - (k0 + w.val : ℕ)) / Real.log 2 : ℝ) : EReal) else ⊥ := by
  rw [biasTile_apply]
  have hr := r.isLt
  have hw := w.isLt
  have e : (64 * (r.val / 64) + 256 * v.val ≤ w.val + 512 ∧ w.val < 64 * (r.val / 64) + 64 + 256 * v.val) ↔
      (64 * ((256 * i + r.val) / 64) - 512 ≤ k0 + w.val ∧ k0 + w.val < 64 * ((256 * i + r.val) / 64) + 64) := by omega
  simp only [e]
  refine if_congr Iff.rfl ?_ rfl
  have hb := hB h v ⟨(w.val + 1024 - r.val) % 1024, Nat.mod_lt _ (by norm_num)⟩
  show xb (ix3 h v ⟨(w.val + 1024 - r.val) % 1024, _⟩) * _ = _
  rw [hb, ← EReal.coe_mul, div_eq_mul_inv]
  have ed : dist v.val ((w.val + 1024 - r.val) % 1024) = ((256 * i + r.val : ℕ) : ℤ) - (k0 + w.val : ℕ) := by
    unfold dist
    split <;> omega
  rw [ed]

include hQ hK hV hB

/-- One tile of the block. -/
theorem tile_block (v : Fin 3) (i k0 : ℕ) (hi : k0 + 256 * v.val = 256 * i) (hlo : v.val = 2 ∨ k0 = 0) (h32 : i < 32)
    (oq ok : Fin 3 → ℕ) (hoq : oq = ![0, 256 * i, 0]) (hok : ok = ![0, k0, 0]) (inq) (ink) (x : S1x256x128.Idx) :
    tile (View.ld (Val := Elt Ideal) (e' := .bf16) xq (Rect.unit (s := S1x8192x128) oq S1x256x128.size inq)) (View.ld (Val := Elt Ideal) (e' := .bf16) xk (Rect.unit (s := S1x8192x128) ok S1x768x128.size ink))
        (View.ld (Val := Elt Ideal) (e' := .bf16) xv (Rect.unit (s := S1x8192x128) ok S1x768x128.size ink))
        (biasTile (BitVec.ofNat 32 (256 * v.val)) (biasRow xb 0 v)) (biasTile (BitVec.ofNat 32 (256 * v.val)) (biasRow xb 1 v))
        (View.ld (Val := Elt Ideal) (e' := .bf16) xg (Rect.unit (s := S1x8192x128) oq S1x256x128.size inq)) x =
      blockOut xg Q K V tab ((Rect.unit (s := S1x8192x128) oq S1x256x128.size inq).emb x) := by
  subst hoq
  subst hok
  idx_vars x
  obtain rfl : x0 = 0 := Subsingleton.elim _ _
  have hv := v.isLt
  have eq : ∀ (r : Fin 256) (l : Fin 128), (Rect.unit (s := S1x8192x128) ![0, 256 * i, 0] S1x256x128.size inq).emb (ix3 0 r l) =
      ix3 0 ⟨256 * i + r.val, by omega⟩ l := fun r l => by
    funext a
    refine Fin.ext ((Rect.idx_unit_val _ _ inq _ a).trans ?_)
    fin_cases a
    · rfl
    · rfl
    · show 0 + l.val = l.val; omega
  have ek : ∀ (w : Fin 768) (l : Fin 128), (Rect.unit (s := S1x8192x128) ![0, k0, 0] S1x768x128.size ink).emb (ix3 0 w l) =
      ix3 0 ⟨k0 + w.val, by omega⟩ l := fun w l => by
    funext a
    refine Fin.ext ((Rect.idx_unit_val _ _ ink _ a).trans ?_)
    fin_cases a
    · rfl
    · rfl
    · show 0 + l.val = l.val; omega
  rw [tile_value _ _ _ _ _ _ _ k0 (64 * ((256 * i + x1.val) / 64) - 512) (64 * ((256 * i + x1.val) / 64) + 64) (Q (256 * i + x1.val)) K V
    (fun h m => tab h ((256 * i + x1.val : ℕ) - (m : ℤ)))]
  · rw [eq]
    have eg : View.ld (Val := Elt Ideal) (e' := .bf16) xg (Rect.unit (s := S1x8192x128) ![0, 256 * i, 0] S1x256x128.size inq) (ix3 0 x1 x2) =
        xg (ix3 0 ⟨256 * i + x1.val, by omega⟩ x2) := congrArg xg (eq x1 x2)
    rw [eg]
    rfl
  · intro d; exact (congrArg xq (eq _ d)).trans (hQ _ d)
  · intro w d; exact (congrArg xk (ek w d)).trans (hK _ d)
  · intro w d; exact (congrArg xv (ek w d)).trans (hV _ d)
  · exact fun w => bias_value xb tab hB 0 v i k0 hi _ w
  · exact fun w => bias_value xb tab hB 1 v i k0 hi _ w
  · omega
  · omega
  · omega

end Block

/-- Two lists of blocks of one array, one after the other. -/
theorem piecesOf_append {Val : EltTy → Type} {s : Shape} {e : EltTy} (G : s.Idx → Val e) (L' : List (View.Piece Val s e)) (hL' : View.PiecesOf G L') :
    ∀ L : List (View.Piece Val s e), View.PiecesOf G L → View.PiecesOf G (L ++ L')
  | [], _ => hL'
  | _ :: L, h => ⟨h.1, piecesOf_append G L' hL' L h.2⟩

section Stores

variable (c : Dev nD) (i : grid0.Coords) (arg2 : Memref sig .tc .vmem S1x8192x128 .bf16) (harg2 : arg2.IsWhole)
  (arg3 : Memref sig .tc .vmem S1x8192x128 .bf16) (harg3 : arg3.IsWhole) (arg4 : Memref sig .tc .vmem S1x8192x128 .bf16) (harg4 : arg4.IsWhole)
  (arg5 : Memref sig .tc .vmem S1x8192x128 .bf16) (harg5 : arg5.IsWhole) (arg6 : Memref sig .tc .vmem S2x3x1024 .f32) (harg6 : arg6.IsWhole)
  (arg7 : Memref sig .tc .vmem S1x8192x128 .bf16) (harg7 : arg7.IsWhole) (arg8 : Memref sig .tc .vmem S2x3x256x768 .f32) (harg8 : arg8.IsWhole)
  (xq xk xv xg : FVec Ideal S1x8192x128 .bf16) (xb : FVec Ideal S2x3x1024 .f32) (Q K V : ℕ → ℕ → ℝ) (tab : ℕ → ℤ → ℝ)
  (hQ : ∀ (n : Fin 8192) (l : Fin 128), xq (ix3 0 n l) = (Q n l : EReal)) (hK : ∀ (n : Fin 8192) (l : Fin 128), xk (ix3 0 n l) = (K n l : EReal))
  (hV : ∀ (n : Fin 8192) (l : Fin 128), xv (ix3 0 n l) = (V n l : EReal))
  (hB : ∀ (h : Fin 2) (v : Fin 3) (p : Fin 1024), xb (ix3 h v p) = (tab h (dist v p) : EReal))

/-- The scratch buffer after the six stores. -/
abbrev scratch : arg8.view.ty.Contents (Elt Ideal) :=
  arg8.view.writes (Elt Ideal) arg8.view.junk (kernelRun0_A.sl.HS0_6 (F := Ideal) c arg6 harg6 xb)

include hQ hK hV hB

/-- The two tiles a trip of the loop stores. -/
theorem trip_stores (k : Fin k0_t1_loop.trips) :
    View.PiecesOf (blockOut xg Q K V tab) (tripL_k0_t1 (F := Ideal) Variants.none c none i arg2 harg2 arg3 harg3 arg4 harg4 arg5 harg5 arg6 harg6 arg7 harg7
      arg8 harg8 (harg2.unread xq) (harg3.unread xk) (harg4.unread xv) (harg5.unread xg) (scratch c arg6 harg6 arg8 xb) k) := by
  have hk : k.val < 15 := k.isLt
  have b0 := load_bias c arg6 harg6 arg8 xb 0 2 ![0, 2, 0, 0] rfl inb_S2x3x256x768_S1x1x256x768_0_2_0_0
  have b1 := load_bias c arg6 harg6 arg8 xb 1 2 ![1, 2, 0, 0] rfl inb_S2x3x256x768_S1x1x256x768_1_2_0_0
  have rq : View.read (Elt Ideal) arg2.view (harg2.unread xq) = xq := harg2.read_unread (Val := Elt Ideal) xq
  have rk : View.read (Elt Ideal) arg3.view (harg3.unread xk) = xk := harg3.read_unread (Val := Elt Ideal) xk
  have rv : View.read (Elt Ideal) arg4.view (harg4.unread xv) = xv := harg4.read_unread (Val := Elt Ideal) xv
  have rg : View.read (Elt Ideal) arg5.view (harg5.unread xg) = xg := harg5.read_unread (Val := Elt Ideal) xg
  unfold tripL_k0_t1 trip_k0_t1
  dsimp only
  refine ⟨fun x => ?_, fun x => ?_, trivial⟩
  · rw [← tile_block xq xk xv xg xb Q K V tab hQ hK hV hB 2 (2 * k.val + 3) (512 * k.val + 256) (by simp; omega) (Or.inl rfl) (by omega)
      (k0_off3 k) (k0_off4 k) (by rw [k0_off3_eq]; congr 2; omega) (k0_off4_eq k) (k0_off3_inb k) (k0_off4_inb k) x, ← b0, ← b1]
    conv_rhs => rw [← rq, ← rk, ← rv, ← rg]
    rfl
  · rw [← tile_block xq xk xv xg xb Q K V tab hQ hK hV hB 2 (2 * k.val + 2) (512 * k.val) (by simp; omega) (Or.inl rfl) (by omega)
      (k0_off1 k) (k0_off2 k) (by rw [k0_off1_eq]; congr 2; omega) (k0_off2_eq k) (k0_off1_inb k) (k0_off2_inb k) x, ← b0, ← b1]
    conv_rhs => rw [← rq, ← rk, ← rv, ← rg]
    rfl

/-- The tiles of any number of trips. -/
theorem loop_stores : ∀ k : ℕ,
    View.PiecesOf (blockOut xg Q K V tab) (pb_k0_t1 (F := Ideal) Variants.none c none i arg2 harg2 arg3 harg3 arg4 harg4 arg5 harg5 arg6 harg6 arg7 harg7
      arg8 harg8 (harg2.unread xq) (harg3.unread xk) (harg4.unread xv) (harg5.unread xg) (scratch c arg6 harg6 arg8 xb) k)
  | 0 => trivial
  | k + 1 => by
    rw [pb_k0_t1.eq_2]
    unfold pb_k0_t1Step
    split
    · exact piecesOf_append _ _ (loop_stores k) _
        (trip_stores c i arg2 harg2 arg3 harg3 arg4 harg4 arg5 harg5 arg6 harg6 arg7 harg7 arg8 harg8 xq xk xv xg xb Q K V tab hQ hK hV hB _)
    · exact loop_stores k

/-- Every store of the block is a block of `blockOut`. -/
theorem block_stores : View.PiecesOf (blockOut xg Q K V tab) (kernelRun0_A (F := Ideal) c i arg2 harg2 arg3 harg3 arg4 harg4 arg5 harg5 arg6 harg6 arg7 harg7
    arg8 harg8 xq xk xv xg xb).1 := by
  have b00 := load_bias c arg6 harg6 arg8 xb 0 0 ![0, 0, 0, 0] rfl inb_S2x3x256x768_S1x1x256x768_0_0_0_0
  have b10 := load_bias c arg6 harg6 arg8 xb 1 0 ![1, 0, 0, 0] rfl inb_S2x3x256x768_S1x1x256x768_1_0_0_0
  have b01 := load_bias c arg6 harg6 arg8 xb 0 1 ![0, 1, 0, 0] rfl inb_S2x3x256x768_S1x1x256x768_0_1_0_0
  have b11 := load_bias c arg6 harg6 arg8 xb 1 1 ![1, 1, 0, 0] rfl inb_S2x3x256x768_S1x1x256x768_1_1_0_0
  have rq : View.read (Elt Ideal) arg2.view (harg2.unread xq) = xq := harg2.read_unread (Val := Elt Ideal) xq
  have rk : View.read (Elt Ideal) arg3.view (harg3.unread xk) = xk := harg3.read_unread (Val := Elt Ideal) xk
  have rv : View.read (Elt Ideal) arg4.view (harg4.unread xv) = xv := harg4.read_unread (Val := Elt Ideal) xv
  have rg : View.read (Elt Ideal) arg5.view (harg5.unread xg) = xg := harg5.read_unread (Val := Elt Ideal) xg
  dsimp only [kernelRun0_A]
  refine piecesOf_append _ _ ?_ _
    (loop_stores c i arg2 harg2 arg3 harg3 arg4 harg4 arg5 harg5 arg6 harg6 arg7 harg7 arg8 harg8 xq xk xv xg xb Q K V tab hQ hK hV hB _)
  refine ⟨fun x => ?_, fun x => ?_, trivial⟩
  · rw [← tile_block xq xk xv xg xb Q K V tab hQ hK hV hB 1 1 0 rfl (Or.inr rfl) (by omega)
      ![0, 256, 0] ![0, 0, 0] rfl rfl inb_S1x8192x128_S1x256x128_0_256_0 inb_S1x8192x128_S1x768x128_0_0_0 x, ← b01, ← b11]
    conv_rhs => rw [← rq, ← rk, ← rv, ← rg]
    rfl
  · rw [← tile_block xq xk xv xg xb Q K V tab hQ hK hV hB 0 0 0 rfl (Or.inr rfl) (by omega)
      ![0, 0, 0] ![0, 0, 0] rfl rfl inb_S1x8192x128_S1x256x128_0_0_0 inb_S1x8192x128_S1x768x128_0_0_0 x, ← b00, ← b10]
    conv_rhs => rw [← rq, ← rk, ← rv, ← rg]
    rfl

/-- What the body leaves of a block. -/
theorem block_value : out0_A_5 (F := Ideal) c i arg2 harg2 arg3 harg3 arg4 harg4 arg5 harg5 arg6 harg6 arg7 harg7 arg8 harg8 xq xk xv xg xb =
    blockOut xg Q K V tab := by
  unfold out0_A_5
  rw [View.read_writes_junk_eq_canon]
  funext y
  refine View.canon_eq_of_allAt _ _ _ (cover0_A_5 (F := Ideal) c i arg2 harg2 arg3 harg3 arg4 harg4 arg5 harg5 arg6 harg6 arg7 harg7 arg8 harg8 xq xk xv xg xb y) ?_
  intro p hp x hx
  rw [(block_stores c i arg2 harg2 arg3 harg3 arg4 harg4 arg5 harg5 arg6 harg6 arg7 harg7 arg8 harg8 xq xk xv xg xb Q K V tab hQ hK hV hB).mem p hp x, hx]

end Stores

end Cert.Band

end
-- ==== Proof.Spec.lean ====
/-
  The gated band attention of whole arrays, as a function of the real entries of queries, keys and values and of the bias
  table: what kernel and reference both compute.
-/
module

public import proofs.«01_k».proof.Proof.Block

@[expose] public section

set_option maxRecDepth 16384

noncomputable section

open Idealize.ShloMosaic

namespace Cert.Band

open Cert.KernelIdeal Cert.KernelIdeal.Gen

/-- Every entry of the array is a real number. -/
def Real' {s : Shape} (X : s.Idx → EReal) : Prop := ∀ y, ∃ r : ℝ, X y = (r : EReal)

/-- The real at batch `b`, row `n` and lane `l`. -/
def entry (X : S8x8192x1024.Idx → EReal) (b n l : ℕ) : ℝ :=
  (X (ix3 (⟨b % 8, Nat.mod_lt _ (by decide)⟩ : Fin 8) (⟨n % 8192, Nat.mod_lt _ (by decide)⟩ : Fin 8192)
    (⟨l % 1024, Nat.mod_lt _ (by decide)⟩ : Fin 1024))).toReal

/-- The place in the bias table of a distance, which is clipped to 128 on either side. -/
def slot (d : ℤ) : Fin 257 := ⟨(max (-128) (min d 128) + 128).toNat % 257, Nat.mod_lt _ (by decide)⟩

/-- The bias of head `h` at a distance. -/
def bias (T : S16x257.Idx → EReal) (h : ℕ) (d : ℤ) : ℝ :=
  (T (ix2 (⟨h % 16, Nat.mod_lt _ (by decide)⟩ : Fin 16) (slot d))).toReal

theorem entry_coe {X : S8x8192x1024.Idx → EReal} (hX : Real' X) (b : Fin 8) (n : Fin 8192) (l : Fin 1024) :
    X (ix3 b n l) = (entry X b n l : EReal) := by
  obtain ⟨r, hr⟩ := hX (ix3 b n l)
  have e : entry X b n l = (X (ix3 b n l)).toReal := by
    unfold entry
    congr 3 <;> exact Fin.ext (Nat.mod_eq_of_lt (Fin.isLt _))
  rw [e, hr, EReal.toReal_coe]

theorem bias_coe {T : S16x257.Idx → EReal} (hT : Real' T) (h : Fin 16) (d : ℤ) :
    T (ix2 h (slot d)) = (bias T h d : EReal) := by
  obtain ⟨r, hr⟩ := hT (ix2 h (slot d))
  have e : bias T h d = (T (ix2 h (slot d))).toReal := by
    unfold bias
    congr 3; exact Fin.ext (Nat.mod_eq_of_lt (Fin.isLt _))
  rw [e, hr, EReal.toReal_coe]

/-- The weighted mean of the values over the band of row `n`, at lane `l`. -/
def bandMean (xq xk xv : S8x8192x1024.Idx → EReal) (T : S16x257.Idx → EReal) (b n l : ℕ) : ℝ :=
  mean (fun m => score (l / 64) (entry xq b n) (entry xk b m) (bias T (l / 64) (n - m))) (fun m => entry xv b m l)
    (64 * (n / 64) - 512) (64 * (n / 64) + 64)

/-- The gated band attention. -/
def band (xq xk xv xg : S8x8192x1024.Idx → EReal) (T : S16x257.Idx → EReal) : S8x8192x1024.Idx → EReal := fun y =>
  (bandMean xq xk xv T (y 0).val (y 1).val (y 2).val : EReal) * gate (xg y)

end Cert.Band

end
-- ==== Proof.BiasRows.lean ====
/-
  The rows of the bias table that the host lays out for the kernel: entry `p` of the row of offset `256 * v` is the
  table's entry at the clipped distance of that place.
-/
module

public import proofs.«01_k».proof.Proof.Spec
public import proofs.«01_k».proof.Proof.Gen.KernelIdeal.Frame.Runs

@[expose] public section

set_option maxRecDepth 16384

noncomputable section

open Idealize.ShloMosaic

namespace Cert.Band

open Cert.KernelIdeal Cert.KernelIdeal.Gen Idealize.ShloMosaic.TcCoe

/-- The places that the rows take from the table. -/
def rowSlots : IVec S3x1024 32 := fun i => lit0 (S3x1024.rowMajor i)

theorem rowSlots_apply : ∀ (v : Fin 3) (p : Fin 1024), rowSlots (ix2 v p) = BitVec.ofNat 32 (slot (dist v p)).val := by
  have h : ∀ (v : Fin 3) (p : Fin 1024), lit0 (⟨1024 * v.val + p.val, by omega⟩ : Fin 3072) = BitVec.ofNat 32 (slot (dist v p)).val := by
    decide +kernel
  intro v p
  rw [← h v p]
  exact congrArg lit0 (Fin.ext ((Shape.rowMajor_val_two (d := ![3, 1024]) (ix2 v p)).trans (show v.val * 1024 + p.val = 1024 * v.val + p.val by omega)))

theorem gather_rows (T : FVec Ideal S16x257 .f32) (i : IVec S3x1024x1 32) (h : Fin 16) (v : Fin 3) (p : Fin 1024) (j : Fin 257)
    (hi : i (ix3 v p 0) = BitVec.ofNat 32 j.val) :
    Host.gather gather_S16x257_S3x1024x1_S16x3x1024_0_1_n_n_1_2_161 T i (ix3 h v p) = T (ix2 h j) := by
  unfold Host.gather
  congr 1
  funext a
  refine Fin.ext ?_
  match a with
  | ⟨0, _⟩ =>
    have hs : gather_S16x257_S3x1024x1_S16x3x1024_0_1_n_n_1_2_161.start (ix3 h v p) i (0 : Fin 2) = 0 := by
      unfold GatherDims.start
      rw [dif_neg (by decide)]
    show gather_S16x257_S3x1024x1_S16x3x1024_0_1_n_n_1_2_161.start (ix3 h v p) i (0 : Fin 2) + 0 + h.val = h.val
    rw [hs]; omega
  | ⟨1, _⟩ =>
    have hs : gather_S16x257_S3x1024x1_S16x3x1024_0_1_n_n_1_2_161.start (ix3 h v p) i (1 : Fin 2) = min (i (ix3 v p 0)).toInt.toNat 256 := by
      unfold GatherDims.start
      rw [dif_pos (by decide)]
      congr 4
      funext b
      match b with
      | ⟨0, _⟩ => rfl
      | ⟨1, _⟩ => rfl
      | ⟨2, _⟩ => rfl
    have hn : (i (ix3 v p 0)).toInt.toNat = j.val := by
      rw [hi, BitVec.toInt_ofNat']
      have := j.isLt
      rw [Int.bmod_eq_of_le (by omega) (by omega)]; omega
    show gather_S16x257_S3x1024x1_S16x3x1024_0_1_n_n_1_2_161.start (ix3 h v p) i (1 : Fin 2) + 0 + 0 = j.val
    rw [hs, hn]
    have := j.isLt
    omega

section Host

variable (m : (ℓ : Loc nD τ sig) → Buf (Elt Ideal) ℓ) (c : Dev nD)

theorem V_rows : (V m c main_v4 : FVec Ideal S16x3x1024 .f32) = Host.gather gather_S16x257_S3x1024x1_S16x3x1024_0_1_n_n_1_2_161
    (m ((c : Thread nD τ).loc main_arg4) : FVec Ideal S16x257 .f32)
    (broadcastInDim S3x1024x1 ![0, 1] bcast_S3x1024_S3x1024x1_0_1 (select (constantI S3x1024 1 0#1)
      (addi rowSlots (broadcastInDim S3x1024 ![] bcast_S_S3x1024 (constantI S_ 32 257#32))) rowSlots)) := by
  unfold_abbrev_sides
  after_results
  rfl

theorem rows_apply (h : Fin 16) (v : Fin 3) (p : Fin 1024) : (V m c main_v4 : FVec Ideal S16x3x1024 .f32) (ix3 h v p) =
    (m ((c : Thread nD τ).loc main_arg4) : FVec Ideal S16x257 .f32) (ix2 h (slot (dist v p))) := by
  rw [V_rows]
  refine gather_rows _ _ h v p _ ?_
  rw [← rowSlots_apply]
  pointwise []

end Host

end Cert.Band

end
-- ==== Proof.Array.lean ====
/-
  The kernel's result as a whole array: each grid point is a batch and a block of 128 lanes, its block of the result is
  the gated band attention there, and the blocks cover the array.
-/
module

public import proofs.«01_k».proof.Proof.BiasRows
public import proofs.«01_k».proof.Proof.Gen.KernelIdeal.Value

@[expose] public section

set_option maxRecDepth 16384

noncomputable section

open Idealize.ShloMosaic

namespace Cert.Band

open Cert.KernelIdeal Cert.KernelIdeal.Gen Cert.KernelIdeal.Value Idealize.ShloMosaic.TcCoe Idealize.SL.Sem

/-- The batch of a grid point. -/
def bat (t : Fin cfg0.N) : Fin 8 := ⟨t.val / 8 % 8, Nat.mod_lt _ (by decide)⟩

/-- The block of lanes of a grid point. -/
def lane (t : Fin cfg0.N) : Fin 8 := ⟨t.val % 8, Nat.mod_lt _ (by decide)⟩

theorem at0 : ∀ t : Fin cfg0.N, win0_0.index t (0 : Fin 3) = (bat t).val ∧ win0_0.index t (1 : Fin 3) = 0 ∧ win0_0.index t (2 : Fin 3) = (lane t).val :=
  (by decide +kernel : ∀ t : Fin grid0.N, _)
theorem at1 : ∀ t : Fin cfg0.N, win0_1.index t (0 : Fin 3) = (bat t).val ∧ win0_1.index t (1 : Fin 3) = 0 ∧ win0_1.index t (2 : Fin 3) = (lane t).val :=
  (by decide +kernel : ∀ t : Fin grid0.N, _)
theorem at2 : ∀ t : Fin cfg0.N, win0_2.index t (0 : Fin 3) = (bat t).val ∧ win0_2.index t (1 : Fin 3) = 0 ∧ win0_2.index t (2 : Fin 3) = (lane t).val :=
  (by decide +kernel : ∀ t : Fin grid0.N, _)
theorem at3 : ∀ t : Fin cfg0.N, win0_3.index t (0 : Fin 3) = (bat t).val ∧ win0_3.index t (1 : Fin 3) = 0 ∧ win0_3.index t (2 : Fin 3) = (lane t).val :=
  (by decide +kernel : ∀ t : Fin grid0.N, _)
theorem at4 : ∀ t : Fin cfg0.N, win0_4.index t (0 : Fin 3) = (lane t).val ∧ win0_4.index t (1 : Fin 3) = 0 ∧ win0_4.index t (2 : Fin 3) = 0 :=
  (by decide +kernel : ∀ t : Fin grid0.N, _)
theorem at5 : ∀ t : Fin cfg0.N, win0_5.index t (0 : Fin 3) = (bat t).val ∧ win0_5.index t (1 : Fin 3) = 0 ∧ win0_5.index t (2 : Fin 3) = (lane t).val :=
  (by decide +kernel : ∀ t : Fin grid0.N, _)

/-- The lane of the array that lane `l` of a block is. -/
def wide (t : Fin cfg0.N) (l : Fin 128) : Fin 1024 := ⟨128 * (lane t).val + l.val, by have := (lane t).isLt; omega⟩

/-- The head that head `h` of a block is. -/
def headOf (t : Fin cfg0.N) (h : Fin 2) : Fin 16 := ⟨2 * (lane t).val + h.val, by have := (lane t).isLt; omega⟩

theorem emb0 (t : Fin cfg0.N) (n : Fin 8192) (l : Fin 128) : ((cfg0.win 0).blk t).view.emb (ix3 (0 : Fin 1) n l) = ix3 (bat t) n (wide t l) := by
  obtain ⟨e0, e1, e2⟩ := at0 t
  funext a; apply Fin.ext
  match a with
  | ⟨0, _⟩ => show win0_0.index t (0 : Fin 3) * 1 + 1 * 0 = (bat t).val; omega
  | ⟨1, _⟩ => show win0_0.index t (1 : Fin 3) * 8192 + 1 * n.val = n.val; omega
  | ⟨2, _⟩ => show win0_0.index t (2 : Fin 3) * 128 + 1 * l.val = 128 * (lane t).val + l.val; omega

theorem emb1 (t : Fin cfg0.N) (n : Fin 8192) (l : Fin 128) : ((cfg0.win 1).blk t).view.emb (ix3 (0 : Fin 1) n l) = ix3 (bat t) n (wide t l) := by
  obtain ⟨e0, e1, e2⟩ := at1 t
  funext a; apply Fin.ext
  match a with
  | ⟨0, _⟩ => show win0_1.index t (0 : Fin 3) * 1 + 1 * 0 = (bat t).val; omega
  | ⟨1, _⟩ => show win0_1.index t (1 : Fin 3) * 8192 + 1 * n.val = n.val; omega
  | ⟨2, _⟩ => show win0_1.index t (2 : Fin 3) * 128 + 1 * l.val = 128 * (lane t).val + l.val; omega

theorem emb2 (t : Fin cfg0.N) (n : Fin 8192) (l : Fin 128) : ((cfg0.win 2).blk t).view.emb (ix3 (0 : Fin 1) n l) = ix3 (bat t) n (wide t l) := by
  obtain ⟨e0, e1, e2⟩ := at2 t
  funext a; apply Fin.ext
  match a with
  | ⟨0, _⟩ => show win0_2.index t (0 : Fin 3) * 1 + 1 * 0 = (bat t).val; omega
  | ⟨1, _⟩ => show win0_2.index t (1 : Fin 3) * 8192 + 1 * n.val = n.val; omega
  | ⟨2, _⟩ => show win0_2.index t (2 : Fin 3) * 128 + 1 * l.val = 128 * (lane t).val + l.val; omega

theorem emb3 (t : Fin cfg0.N) (n : Fin 8192) (l : Fin 128) : ((cfg0.win 3).blk t).view.emb (ix3 (0 : Fin 1) n l) = ix3 (bat t) n (wide t l) := by
  obtain ⟨e0, e1, e2⟩ := at3 t
  funext a; apply Fin.ext
  match a with
  | ⟨0, _⟩ => show win0_3.index t (0 : Fin 3) * 1 + 1 * 0 = (bat t).val; omega
  | ⟨1, _⟩ => show win0_3.index t (1 : Fin 3) * 8192 + 1 * n.val = n.val; omega
  | ⟨2, _⟩ => show win0_3.index t (2 : Fin 3) * 128 + 1 * l.val = 128 * (lane t).val + l.val; omega

theorem emb4 (t : Fin cfg0.N) (h : Fin 2) (v : Fin 3) (p : Fin 1024) : ((cfg0.win 4).blk t).view.emb (ix3 h v p) = ix3 (headOf t h) v p := by
  obtain ⟨e0, e1, e2⟩ := at4 t
  funext a; apply Fin.ext
  match a with
  | ⟨0, _⟩ => show win0_4.index t (0 : Fin 3) * 2 + 1 * h.val = 2 * (lane t).val + h.val; omega
  | ⟨1, _⟩ => show win0_4.index t (1 : Fin 3) * 3 + 1 * v.val = v.val; omega
  | ⟨2, _⟩ => show win0_4.index t (2 : Fin 3) * 1024 + 1 * p.val = p.val; omega

theorem emb5 (t : Fin cfg0.N) (n : Fin 8192) (l : Fin 128) : ((cfg0.win 5).blk t).view.emb (ix3 (0 : Fin 1) n l) = ix3 (bat t) n (wide t l) := by
  obtain ⟨e0, e1, e2⟩ := at5 t
  funext a; apply Fin.ext
  match a with
  | ⟨0, _⟩ => show win0_5.index t (0 : Fin 3) * 1 + 1 * 0 = (bat t).val; omega
  | ⟨1, _⟩ => show win0_5.index t (1 : Fin 3) * 8192 + 1 * n.val = n.val; omega
  | ⟨2, _⟩ => show win0_5.index t (2 : Fin 3) * 128 + 1 * l.val = 128 * (lane t).val + l.val; omega

/-- The attention of a block's row, read off the whole arrays. -/
theorem attend_wide (xq xk xv : S8x8192x1024.Idx → EReal) (T : S16x257.Idx → EReal) (t : Fin cfg0.N) (n : Fin 8192) (l : Fin 128) (g : EReal) :
    attend (fun n l => entry xq (bat t) n (128 * (lane t).val + l)) (fun n l => entry xk (bat t) n (128 * (lane t).val + l))
      (fun n l => entry xv (bat t) n (128 * (lane t).val + l)) (fun h d => bias T (2 * (lane t).val + h) d) n l g =
    (bandMean xq xk xv T (bat t) n (wide t l) : EReal) * gate g := by
  have hh : (128 * (lane t).val + l.val) / 64 = 2 * (lane t).val + l.val / 64 := by omega
  have hd : ∀ d : ℕ, 64 * (2 * (lane t).val + l.val / 64) + d = 128 * (lane t).val + (64 * (l.val / 64) + d) := fun d => by omega
  unfold attend bandMean score wide
  simp only [hh, hd]

/-- Every element of the result is in some grid point's block. -/
theorem covered (i : S8x8192x1024.Idx) : ∃ t : Fin cfg0.N, (cfg0.win 5).flush t = true ∧ i ∈ ((cfg0.win 5).blk t).view.set := by
  have h0 : (i 0).val < 8 := (i 0).isLt
  have h2 : (i 2).val < 1024 := (i 2).isLt
  let t : Fin cfg0.N := ⟨8 * (i 0).val + (i 2).val / 128, by show _ < 64; omega⟩
  refine ⟨t, flush0_5 _, ?_⟩
  have h := ((cfg0.win 5).blk t).view.emb_mem_set (ix3 (0 : Fin 1) (i 1 : Fin 8192) (⟨(i 2).val % 128, Nat.mod_lt _ (by decide)⟩ : Fin 128))
  refine cast (congrArg (· ∈ _) ((emb5 t (i 1) _).trans ?_)) h
  funext a; apply Fin.ext
  match a with
  | ⟨0, _⟩ => show (8 * (i 0).val + (i 2).val / 128) / 8 % 8 = (i 0).val; omega
  | ⟨1, _⟩ => rfl
  | ⟨2, _⟩ => show 128 * ((8 * (i 0).val + (i 2).val / 128) % 8) + (i 2).val % 128 = (i 2).val; omega

variable (m : (ℓ : Loc nD τ sig) → Buf (Elt Ideal) ℓ) (c : Dev nD)

theorem block0 (t : Fin cfg0.N) (n : Fin 8192) (l : Fin 128) : (iblk m c 0 t : FVec Ideal S1x8192x128 .bf16) (ix3 0 n l) = (m ((c : Thread nD τ).loc main_arg0) : S8x8192x1024.Idx → EReal) (ix3 (bat t) n (wide t l)) := by
  show V m c main_arg0 (((cfg0.win 0).blk t).view.emb (ix3 0 n l)) = _
  rw [emb0, V_main_arg0]

theorem block1 (t : Fin cfg0.N) (n : Fin 8192) (l : Fin 128) : (iblk m c 1 t : FVec Ideal S1x8192x128 .bf16) (ix3 0 n l) = (m ((c : Thread nD τ).loc main_arg1) : S8x8192x1024.Idx → EReal) (ix3 (bat t) n (wide t l)) := by
  show V m c main_arg1 (((cfg0.win 1).blk t).view.emb (ix3 0 n l)) = _
  rw [emb1, V_main_arg1]

theorem block2 (t : Fin cfg0.N) (n : Fin 8192) (l : Fin 128) : (iblk m c 2 t : FVec Ideal S1x8192x128 .bf16) (ix3 0 n l) = (m ((c : Thread nD τ).loc main_arg2) : S8x8192x1024.Idx → EReal) (ix3 (bat t) n (wide t l)) := by
  show V m c main_arg2 (((cfg0.win 2).blk t).view.emb (ix3 0 n l)) = _
  rw [emb2, V_main_arg2]

theorem block3 (t : Fin cfg0.N) (n : Fin 8192) (l : Fin 128) : (iblk m c 3 t : FVec Ideal S1x8192x128 .bf16) (ix3 0 n l) = (m ((c : Thread nD τ).loc main_arg3) : S8x8192x1024.Idx → EReal) (ix3 (bat t) n (wide t l)) := by
  show V m c main_arg3 (((cfg0.win 3).blk t).view.emb (ix3 0 n l)) = _
  rw [emb3, V_main_arg3]

theorem block4 (t : Fin cfg0.N) (h : Fin 2) (v : Fin 3) (p : Fin 1024) : (iblk m c 4 t : FVec Ideal S2x3x1024 .f32) (ix3 h v p) =
    (m ((c : Thread nD τ).loc main_arg4) : S16x257.Idx → EReal) (ix2 (headOf t h) (slot (dist v p))) := by
  show V m c main_v4 (((cfg0.win 4).blk t).view.emb (ix3 h v p)) = _
  rw [emb4]
  exact rows_apply m c (headOf t h) v p

/-- What kernel and reference compute, of the buffers at launch. -/
abbrev result : S8x8192x1024.Idx → EReal :=
  band (m ((c : Thread nD τ).loc main_arg0)) (m ((c : Thread nD τ).loc main_arg1)) (m ((c : Thread nD τ).loc main_arg2))
    (m ((c : Thread nD τ).loc main_arg3)) (m ((c : Thread nD τ).loc main_arg4))

section Real

variable (hq : Real' (m ((c : Thread nD τ).loc main_arg0) : S8x8192x1024.Idx → EReal)) (hk : Real' (m ((c : Thread nD τ).loc main_arg1) : S8x8192x1024.Idx → EReal))
  (hv : Real' (m ((c : Thread nD τ).loc main_arg2) : S8x8192x1024.Idx → EReal)) (hT : Real' (m ((c : Thread nD τ).loc main_arg4) : S16x257.Idx → EReal))

include hq hk hv hT

/-- What a grid point writes back is its block of the result. -/
theorem flushed_result (t : Fin cfg0.N) : (dats m 0 c).flushed 5 t = ((cfg0.win 5).blk t).view.read (Elt Ideal) (result m c) := by
  rw [flushed5_A, block_value c (grid0.coords t) _ _ _ _ _ _ _ _ _ _ _ _ _ _ (iblk m c 0 t) (iblk m c 1 t) (iblk m c 2 t) (iblk m c 3 t) (iblk m c 4 t)
    (fun n l => entry (m ((c : Thread nD τ).loc main_arg0)) (bat t) n (128 * (lane t).val + l))
    (fun n l => entry (m ((c : Thread nD τ).loc main_arg1)) (bat t) n (128 * (lane t).val + l))
    (fun n l => entry (m ((c : Thread nD τ).loc main_arg2)) (bat t) n (128 * (lane t).val + l))
    (fun h d => bias (m ((c : Thread nD τ).loc main_arg4)) (2 * (lane t).val + h) d)
    (fun n l => (block0 m c t n l).trans (entry_coe hq _ _ _)) (fun n l => (block1 m c t n l).trans (entry_coe hk _ _ _))
    (fun n l => (block2 m c t n l).trans (entry_coe hv _ _ _)) (fun h v p => (block4 m c t h v p).trans (bias_coe hT _ _))]
  funext y
  obtain ⟨n, l, rfl⟩ : ∃ (n : Fin 8192) (l : Fin 128), y = ix3 (0 : Fin 1) n l := ⟨y 1, y 2, by
    funext a
    match a with
    | ⟨0, _⟩ => exact Subsingleton.elim (α := Fin 1) _ _
    | ⟨1, _⟩ => rfl
    | ⟨2, _⟩ => rfl⟩
  show attend _ _ _ _ n.val l.val ((iblk m c 3 t : FVec Ideal S1x8192x128 .bf16) (ix3 0 n l)) = result m c (((cfg0.win 5).blk t).view.emb (ix3 (0 : Fin 1) n l))
  rw [emb5, block3, attend_wide]
  rfl

/-- The result array after the run. -/
theorem final : (dats m 0 c).arrAt 5 cfg0.N = result m c :=
  (dats m 0 c).arrAt_eq_of_cover 5 (result m c) (fun t _ => flushed_result m c hq hk hv hT t) covered

end Real

end Cert.Band

end
-- ==== Proof.RefIndex.lean ====
/-
  What the reference takes from where: the places of the bias table, and the keys and values of a chunk's window, in
  arrays that begin with 512 rows of zeros.
-/
module

public import proofs.«01_k».proof.Proof.Spec
public import proofs.«01_k».proof.Proof.Gen.ReferenceIdeal.Read
public import Idealize.ShloMosaic.Lib.KernelVsHost

@[expose] public section

set_option maxRecDepth 16384

noncomputable section

open Idealize.ShloMosaic

namespace Cert.BandReference

open Cert.ReferenceIdeal Cert.ReferenceIdeal.Gen Cert.ReferenceIdeal.Read Cert.Band

/-! ## The bias -/

/-- A distance as the reference brings it to a place of the table: clipped, shifted, and wrapped if negative. -/
def place (x : BitVec 32) : BitVec 32 :=
  Scalar.select (IntOp.cmpi .slt (IntOp.addi (IntOp.minsi 128#32 (IntOp.maxsi 4294967168#32 x)) 128#32) 0#32)
    (IntOp.addi (IntOp.addi (IntOp.minsi 128#32 (IntOp.maxsi 4294967168#32 x)) 128#32) 257#32)
    (IntOp.addi (IntOp.minsi 128#32 (IntOp.maxsi 4294967168#32 x)) 128#32)

theorem place_slot : ∀ e : Fin 639, place (BitVec.ofNat 32 e.val - 63#32) = BitVec.ofNat 32 (slot ((e.val : ℤ) - 63)).val := by
  decide +kernel

theorem v16_apply (r : Fin 64) (j : Fin 576) : val_main_v16 (F := Ideal) (ix2 r j) = BitVec.ofNat 32 (r.val + 575 - j.val) - 63#32 := by
  rw [val_main_v16_apply, val_main_v14_apply, val_main_v13_apply, val_main_v9_apply, val_main_v8_apply, val_main_v12_apply,
    val_main_c_apply, val_main_v15_apply, val_main_v11_apply, val_main_v10_apply]
  show (BitVec.ofNat 32 r.val + 512#32) - BitVec.ofNat 32 j.val = _
  have hr := r.isLt
  have hj := j.isLt
  apply BitVec.eq_of_toNat_eq
  simp only [BitVec.toNat_sub, BitVec.toNat_add, BitVec.toNat_ofNat]
  omega

theorem v24_apply (r : Fin 64) (j : Fin 576) :
    val_main_v24 (F := Ideal) (ix2 r j) = BitVec.ofNat 32 (slot ((r.val : ℤ) + 512 - j.val)).val := by
  have hr := r.isLt
  have hj := j.isLt
  have h := place_slot ⟨r.val + 575 - j.val, by omega⟩
  have he : (((r.val + 575 - j.val : ℕ) : ℤ) - 63) = (r.val : ℤ) + 512 - j.val := by omega
  rw [he, ← v16_apply] at h
  rw [← h]
  simp only [val_main_v24_apply, val_main_v23_apply, val_main_v22_apply, val_main_c_5_apply, val_main_v21_apply, val_main_v20_apply,
    val_main_c_4_apply, val_main_v19_apply, val_main_v18_apply, val_main_c_3_apply, val_main_v17_apply, val_main_call0_v4_apply,
    val_main_call0_v3_apply, val_main_c_2_apply, val_main_call0_v2_apply, val_main_call0_v1_apply, val_main_call0_v0_apply, val_main_c_1_apply]
  rfl

/-- The table, gathered along its places. -/
theorem gather_table (T : FVec Ideal S16x257 .f32) (i : IVec S64x576x1 32) (h : Fin 16) (r : Fin 64) (w : Fin 576) (j : Fin 257)
    (hi : i (ix3 r w 0) = BitVec.ofNat 32 j.val) :
    Host.gather gather_S16x257_S64x576x1_S16x64x576_0_1_n_n_1_2_161 T i (ix3 h r w) = T (ix2 h j) := by
  have hn : (i (ix3 r w 0)).toInt.toNat = j.val := by
    rw [hi, BitVec.toInt_ofNat']
    have := j.isLt
    rw [Int.bmod_eq_of_le (by omega) (by omega)]; omega
  have h0 : gather_S16x257_S64x576x1_S16x64x576_0_1_n_n_1_2_161.start (ix3 h r w) i (0 : Fin 2) = 0 := by
    unfold GatherDims.start
    rw [dif_neg (by decide)]
  have h1 : gather_S16x257_S64x576x1_S16x64x576_0_1_n_n_1_2_161.start (ix3 h r w) i (1 : Fin 2) = min (i (ix3 r w 0)).toInt.toNat 256 := by
    unfold GatherDims.start
    rw [dif_pos (by decide)]
    congr 4
    funext b
    match b with
    | ⟨0, _⟩ => rfl
    | ⟨1, _⟩ => rfl
    | ⟨2, _⟩ => rfl
  refine congrArg T (funext fun a => Fin.ext ?_)
  match a with
  | ⟨0, _⟩ =>
    show gather_S16x257_S64x576x1_S16x64x576_0_1_n_n_1_2_161.start (ix3 h r w) i (0 : Fin 2) + 0 + h.val = h.val
    omega
  | ⟨1, _⟩ =>
    show gather_S16x257_S64x576x1_S16x64x576_0_1_n_n_1_2_161.start (ix3 h r w) i (1 : Fin 2) + 0 + 0 = j.val
    have := j.isLt
    omega

theorem bias_at (T : FVec Ideal S16x257 .f32) (h : Fin 16) (r : Fin 64) (w : Fin 576) :
    val_main_v26 (F := Ideal) T (ix3 h r w) = T (ix2 h (slot ((r.val : ℤ) + 512 - w.val))) :=
  gather_table T _ h r w _ (by rw [val_main_v25_apply, ← v24_apply]; rfl)

/-! ## The windows of keys and values -/

/-- The row of the padded arrays at place `w` of the window of chunk `c`. -/
theorem v40_apply (c : Fin 128) (w : Fin 576) : val_main_v40 (F := Ideal) (ix2 c w) = BitVec.ofNat 32 (64 * c.val + w.val) := by
  rw [val_main_v40_apply, val_main_v38_apply, val_main_v35_apply, val_main_v33_apply, val_main_v32_apply, val_main_v34_apply,
    val_main_c_8_apply, val_main_v39_apply, val_main_v37_apply, val_main_v36_apply]
  show BitVec.ofNat 32 c.val * 64#32 + BitVec.ofNat 32 w.val = _
  apply BitVec.eq_of_toNat_eq
  simp only [BitVec.toNat_mul, BitVec.toNat_add, BitVec.toNat_ofNat]
  omega

theorem small_nonneg (n : ℕ) (hn : n < 2 ^ 31) : IntOp.cmpi .slt (BitVec.ofNat 32 n) 0#32 = 0#1 := by
  have h : (BitVec.ofNat 32 n).slt 0#32 = false := by
    rw [BitVec.slt, BitVec.toInt_ofNat', Int.bmod_eq_of_le (by omega) (by omega)]
    simp
  unfold IntOp.cmpi
  simp [h]

theorem v45_apply (c : Fin 128) (w : Fin 576) : val_main_v45 (F := Ideal) (ix2 c w) = BitVec.ofNat 32 (64 * c.val + w.val) := by
  have hc := c.isLt
  have hw := w.isLt
  rw [val_main_v45_apply, val_main_v42_apply, val_main_v41_apply, val_main_c_9_apply, v40_apply, small_nonneg _ (by omega)]
  rfl

theorem v52_apply (c : Fin 128) (w : Fin 576) : val_main_v52 (F := Ideal) (ix2 c w) = BitVec.ofNat 32 (64 * c.val + w.val) := by
  have hc := c.isLt
  have hw := w.isLt
  rw [val_main_v52_apply, val_main_v49_apply, val_main_v48_apply, val_main_c_11_apply, v40_apply, small_nonneg _ (by omega)]
  rfl

/-- A window of rows, gathered. -/
theorem gather_window (X : FVec Ideal S8x8704x16x64 .f32) (i : IVec S128x576x1 32) (b : Fin 8) (c : Fin 128) (w : Fin 576) (h : Fin 16) (d : Fin 64)
    (j : Fin 8704) (hi : i (ix3 c w 0) = BitVec.ofNat 32 j.val) :
    Host.gather gather_S8x8704x16x64_S128x576x1_S8x128x576x16x64_034_1_n_n_1_2_811664 X i (ix5 b c w h d) = X (ix4 b j h d) := by
  have hn : (i (ix3 c w 0)).toInt.toNat = j.val := by
    rw [hi, BitVec.toInt_ofNat']
    have := j.isLt
    rw [Int.bmod_eq_of_le (by omega) (by omega)]; omega
  have h0 : ∀ a : Fin 4, a ≠ 1 → gather_S8x8704x16x64_S128x576x1_S8x128x576x16x64_034_1_n_n_1_2_811664.start (ix5 b c w h d) i a = 0 := fun a ha => by
    unfold GatherDims.start
    rw [dif_neg (by revert ha; revert a; decide)]
  have h1 : gather_S8x8704x16x64_S128x576x1_S8x128x576x16x64_034_1_n_n_1_2_811664.start (ix5 b c w h d) i (1 : Fin 4) = min (i (ix3 c w 0)).toInt.toNat 8703 := by
    unfold GatherDims.start
    rw [dif_pos (by decide)]
    congr 4
    funext b
    match b with
    | ⟨0, _⟩ => rfl
    | ⟨1, _⟩ => rfl
    | ⟨2, _⟩ => rfl
  refine congrArg X (funext fun a => Fin.ext ?_)
  match a with
  | ⟨0, _⟩ =>
    show gather_S8x8704x16x64_S128x576x1_S8x128x576x16x64_034_1_n_n_1_2_811664.start (ix5 b c w h d) i (0 : Fin 4) + 0 + b.val = b.val
    rw [h0 0 (by decide)]; omega
  | ⟨1, _⟩ =>
    show gather_S8x8704x16x64_S128x576x1_S8x128x576x16x64_034_1_n_n_1_2_811664.start (ix5 b c w h d) i (1 : Fin 4) + 0 + 0 = j.val
    have := j.isLt
    omega
  | ⟨2, _⟩ =>
    show gather_S8x8704x16x64_S128x576x1_S8x128x576x16x64_034_1_n_n_1_2_811664.start (ix5 b c w h d) i (2 : Fin 4) + 0 + h.val = h.val
    rw [h0 2 (by decide)]; omega
  | ⟨3, _⟩ =>
    show gather_S8x8704x16x64_S128x576x1_S8x128x576x16x64_034_1_n_n_1_2_811664.start (ix5 b c w h d) i (3 : Fin 4) + 0 + d.val = d.val
    rw [h0 3 (by decide)]; omega

/-- Lane `d` of head `h`. -/
def lane (h : Fin 16) (d : Fin 64) : Fin 1024 := ⟨64 * h.val + d.val, by omega⟩

/-- An array of rows of 16 heads behind 512 rows of a padding value. -/
theorem padded (X : FVec Ideal S8x8192x1024 .f32) (v : FVec Ideal S_ .f32) (b : Fin 8) (j : Fin 8704) (h : Fin 16) (d : Fin 64) :
    pad S8x8704x16x64 ![0, 512, 0, 0] ![0, 0, 0, 0] ![0, 0, 0, 0] (shapeCast S8x8192x16x64 X shapeCasts_S8x8192x1024_S8x8192x16x64) v
      pads_S8x8192x16x64_S8x8704x16x64_000_51200_000_000 h_S_ (ix4 b j h d) =
      if hj : 512 ≤ j.val then X (ix3 b (⟨j.val - 512, by omega⟩ : Fin 8192) (lane h d)) else v (Shape.Idx.first h_S_) := by
  split
  · rename_i hj
    rw [pad_apply_of_inside _ _ _ _ _ _ _ _ (ix4 b (⟨j.val - 512, by omega⟩ : Fin 8192) h d)]
    · refine shapeCast_apply X shapeCasts_S8x8192x1024_S8x8192x16x64 _ _ ?_
      rw [Shape.rowMajor_val_three, Shape.rowMajor_val_four]
      show (b.val * 8192 + (j.val - 512)) * 1024 + (64 * h.val + d.val) = ((b.val * 8192 + (j.val - 512)) * 16 + h.val) * 64 + d.val
      omega
    · intro a
      match a with
      | ⟨0, _⟩ => show b.val = 0 + b.val * 1; omega
      | ⟨1, _⟩ => show j.val = 512 + (j.val - 512) * 1; omega
      | ⟨2, _⟩ => show h.val = 0 + h.val * 1; omega
      | ⟨3, _⟩ => show d.val = 0 + d.val * 1; omega
  · rename_i hj
    exact pad_apply_of_not_inside _ _ _ _ _ _ _ _ (1 : Fin 4) (fun h => hj h.1)

/-- The key row at place `w` of the window of chunk `c`; the padding is zero. -/
theorem keys_at (X : FVec Ideal S8x8192x1024 .bf16) (b : Fin 8) (c : Fin 128) (w : Fin 576) (h : Fin 16) (d : Fin 64) :
    val_main_v47 (F := Ideal) X (ix5 b c w h d) =
      if hj : 512 ≤ 64 * c.val + w.val then X (ix3 b (⟨64 * c.val + w.val - 512, by omega⟩ : Fin 8192) (lane h d)) else ((0 : ℝ) : EReal) := by
  have e := gather_window (val_main_v29 (F := Ideal) X) (val_main_v46 (F := Ideal)) b c w h d (⟨64 * c.val + w.val, by omega⟩ : Fin 8704)
    (by rw [val_main_v46_apply, ← v45_apply]; rfl)
  refine e.trans ((padded (val_main_v1 (F := Ideal) X) (val_main_call1_v0 (F := Ideal)) b _ h d).trans ?_)
  split
  · rfl
  · show ((((0#32 : BitVec 32).toInt : ℤ) : ℝ) : EReal) = _
    simp

/-- The value row at place `w` of the window of chunk `c`; the padding is zero. -/
theorem values_at (X : FVec Ideal S8x8192x1024 .bf16) (b : Fin 8) (c : Fin 128) (w : Fin 576) (h : Fin 16) (d : Fin 64) :
    val_main_v54 (F := Ideal) X (ix5 b c w h d) =
      if hj : 512 ≤ 64 * c.val + w.val then X (ix3 b (⟨64 * c.val + w.val - 512, by omega⟩ : Fin 8192) (lane h d)) else ((0 : ℝ) : EReal) := by
  have e := gather_window (val_main_v31 (F := Ideal) X) (val_main_v53 (F := Ideal)) b c w h d (⟨64 * c.val + w.val, by omega⟩ : Fin 8704)
    (by rw [val_main_v53_apply, ← v52_apply]; rfl)
  refine e.trans ((padded (val_main_v2 (F := Ideal) X) (val_main_call2_v0 (F := Ideal)) b _ h d).trans ?_)
  split
  · rfl
  · show ((((0#32 : BitVec 32).toInt : ℤ) : ℝ) : EReal) = _
    simp

end Cert.BandReference

end
-- ==== Proof.RefValue.lean ====
/-
  The reference's result when its arguments are real: the gated band attention.
-/
module

public import proofs.«01_k».proof.Proof.RefIndex
public import Idealize.ShloMosaic.Lib.IdealHost

@[expose] public section

set_option maxRecDepth 16384

noncomputable section

open Idealize.ShloMosaic

namespace Cert.BandReference

open Cert.ReferenceIdeal Cert.ReferenceIdeal.Gen Cert.ReferenceIdeal.Read Cert.Band

theorem two_lit : Ideal.ofBits .f32 0x40000000#32 = ((2 : ℝ) : EReal) := by
  simp [Ideal.ofBits, Ideal.ieee, -EReal.coe_mul]; norm_num

theorem eighth_lit : Ideal.ofBits .f32 0x3E000000#32 = ((1 / 8 : ℝ) : EReal) := by
  simp [Ideal.ofBits, Ideal.ieee, -EReal.coe_mul]; norm_num

/-- What the queries are multiplied with. -/
theorem scale_at (i : S_.Idx) : val_main_v5 (F := Ideal) i = ((Real.log 2 * 8 : ℝ) : EReal) := by
  show Ideal.div (Ideal.log (Ideal.ofBits .f32 0x40000000#32)) (Ideal.ofBits .f32 0x3E000000#32) = _
  rw [two_lit, eighth_lit, Ideal.log_coe, if_neg (by norm_num), Ideal.div_coe (by norm_num), ← EReal.coe_mul]
  norm_num

/-- Row `r` of chunk `c`. -/
def row (c : Fin 128) (r : Fin 64) : Fin 8192 := ⟨64 * c.val + r.val, by omega⟩

theorem queries_at (X : FVec Ideal S8x8192x1024 .bf16) (b : Fin 8) (c : Fin 128) (r : Fin 64) (h : Fin 16) (d : Fin 64) :
    val_main_v27 (F := Ideal) X (ix5 b c r h d) = X (ix3 b (row c r) (lane h d)) * ((Real.log 2 * 8 : ℝ) : EReal) := by
  have e : idx_main_v27 (ix5 b c r h d) = ix3 b (row c r) (lane h d) := by
    have hb := b.isLt; have hc := c.isLt; have hr := r.isLt; have hh := h.isLt; have hd := d.isLt
    funext a; apply Fin.ext
    match a with
    | ⟨0, _⟩ => show ((((b.val * 128 + c.val) * 64 + r.val) * 16 + h.val) * 64 + d.val) / 8388608 = b.val; omega
    | ⟨1, _⟩ => show ((((b.val * 128 + c.val) * 64 + r.val) * 16 + h.val) * 64 + d.val) / 1024 % 8192 = 64 * c.val + r.val; omega
    | ⟨2, _⟩ => show ((((b.val * 128 + c.val) * 64 + r.val) * 16 + h.val) * 64 + d.val) % 1024 = 64 * h.val + d.val; omega
  rw [val_main_v27_apply, e, val_main_v7_apply, val_main_v6_apply, scale_at]
  rfl

/-- A place of a window is a key, and not padding. -/
theorem valid_at (c : Fin 128) (w : Fin 576) : val_main_v64 (F := Ideal) (ix2 c w) = BitVec.ofBool (decide (512 ≤ 64 * c.val + w.val)) := by
  rw [val_main_v64_apply, val_main_v62_apply, val_main_v61_apply, val_main_c_14_apply, val_main_v63_apply, val_main_c_15_apply, v40_apply]
  have hc := c.isLt
  have hw := w.isLt
  show IntOp.cmpi .sge (BitVec.ofNat 32 (64 * c.val + w.val) - 512#32) 0#32 = _
  have e : (BitVec.ofNat 32 (64 * c.val + w.val) - 512#32).toInt = (64 * c.val + w.val : ℤ) - 512 := by
    rw [BitVec.toInt_sub, BitVec.toInt_ofNat', Int.bmod_eq_of_le (n := ((64 * c.val + w.val : ℕ) : ℤ)) (by omega) (by omega)]
    show Int.bmod (_ - 512) _ = _
    rw [Int.bmod_eq_of_le (by omega) (by omega)]
    omega
  show BitVec.ofBool (BitVec.sle 0#32 (BitVec.ofNat 32 (64 * c.val + w.val) - 512#32)) = _
  rw [BitVec.sle, e]
  congr 2
  show ((0 : ℤ) ≤ _) = _
  apply propext
  omega

theorem silu_gate (r : ℝ) : (r : EReal) * Ideal.div 1 (1 + Ideal.exp (-(r : EReal))) = gate r := by
  unfold gate
  have h : (1 : EReal) + Ideal.exp (-(r : EReal)) = ((1 + Real.exp (-r) : ℝ) : EReal) := by
    rw [← EReal.coe_neg, Ideal.exp_coe, ← EReal.coe_one, ← EReal.coe_add]
  have hne : (1 + Real.exp (-r) : ℝ) ≠ 0 := by positivity
  rw [zero_sub, h, Ideal.div_coe hne, Ideal.div_coe hne, one_mul]

/-! ## Where the operations read -/

section Index

variable (b : Fin 8) (c : Fin 128) (h : Fin 16) (r : Fin 64) (w : Fin 576) (d : Fin 64)

theorem bias_index : idx_main_v58 (idx_main_v59 (ix5 b c h r w)) = ix3 h r w := funext fun a => Fin.ext (by match a with | ⟨0, _⟩ => rfl | ⟨1, _⟩ => rfl | ⟨2, _⟩ => rfl)

theorem query_index : lidx_main_v55 (ix5 b c h r w) d = ix5 b c r h d := funext fun a => Fin.ext (by match a with | ⟨0, _⟩ => rfl | ⟨1, _⟩ => rfl | ⟨2, _⟩ => rfl | ⟨3, _⟩ => rfl | ⟨4, _⟩ => rfl)

theorem key_index : ridx_main_v55 (ix5 b c h r w) d = ix5 b c w h d := funext fun a => Fin.ext (by match a with | ⟨0, _⟩ => rfl | ⟨1, _⟩ => rfl | ⟨2, _⟩ => rfl | ⟨3, _⟩ => rfl | ⟨4, _⟩ => rfl)

theorem valid_index : idx_main_v65 (idx_main_call3_v1 (ix5 b c h r w)) = ix2 c w := funext fun a => Fin.ext (by match a with | ⟨0, _⟩ => rfl | ⟨1, _⟩ => rfl)

theorem max_index : idx_main_v70 (idx_main_v71 (ix5 b c h r w)) = ix4 b c h r := funext fun a => Fin.ext (by match a with | ⟨0, _⟩ => rfl | ⟨1, _⟩ => rfl | ⟨2, _⟩ => rfl | ⟨3, _⟩ => rfl)

theorem total_index : idx_main_v75 (idx_main_v76 (ix5 b c h r w)) = ix4 b c h r := funext fun a => Fin.ext (by match a with | ⟨0, _⟩ => rfl | ⟨1, _⟩ => rfl | ⟨2, _⟩ => rfl | ⟨3, _⟩ => rfl)

theorem power_index : idx_main_v74 (ix4 b c h r) w = ix5 b c h r w := funext fun a => Fin.ext (by match a with | ⟨0, _⟩ => rfl | ⟨1, _⟩ => rfl | ⟨2, _⟩ => rfl | ⟨3, _⟩ => rfl | ⟨4, _⟩ => rfl)

theorem value_index : lidx_main_v78 (ix5 b c h d r) w = ix5 b c w h d := funext fun a => Fin.ext (by match a with | ⟨0, _⟩ => rfl | ⟨1, _⟩ => rfl | ⟨2, _⟩ => rfl | ⟨3, _⟩ => rfl | ⟨4, _⟩ => rfl)

theorem weight_index : ridx_main_v78 (ix5 b c h d r) w = ix5 b c h r w := funext fun a => Fin.ext (by match a with | ⟨0, _⟩ => rfl | ⟨1, _⟩ => rfl | ⟨2, _⟩ => rfl | ⟨3, _⟩ => rfl | ⟨4, _⟩ => rfl)

theorem row_max (x : FVec Ideal S8x128x16x64x576 .f32) (i : FVec Ideal S_ .f32) :
    Host.reduce FloatOps.maximumf x i reducesTo_S8x128x16x64x576_S8x128x16x64_d4 h_S_ (ix4 b c h r) =
      Finset.univ.fold max (i (Shape.Idx.first h_S_)) fun w : Fin 576 => x (ix5 b c h r w) := by
  have e : S8x128x16x64x576.Reduces [4] S8x128x16x64 := by decide
  have hl : ∀ w : Fin 576, e.lift (ix4 b c h r) w = ix5 b c h r w := fun w =>
    funext fun a => Fin.ext (by match a with | ⟨0, _⟩ => rfl | ⟨1, _⟩ => rfl | ⟨2, _⟩ => rfl | ⟨3, _⟩ => rfl | ⟨4, _⟩ => rfl)
  rw [Host.reduce_eq_fold_single (FloatOps.maximumf (F := Ideal) (φ := .f32)) x i _ e]
  exact congrArg (Finset.fold _ _ · _) (funext fun w => congrArg x (hl w))

end Index

section Value

variable (xq xk xv xg : FVec Ideal S8x8192x1024 .bf16) (T : FVec Ideal S16x257 .f32)
  (hq : Real' xq) (hk : Real' xk) (hv : Real' xv) (hg : Real' xg) (hT : Real' T)

include hq hk hT

/-- A score of the reference. -/
theorem score_at (b : Fin 8) (c : Fin 128) (h : Fin 16) (r : Fin 64) (w : Fin 576) :
    val_main_v66 (F := Ideal) xq xk T (ix5 b c h r w) = if 512 ≤ 64 * c.val + w.val then
      ((score h (entry xq b (row c r)) (entry xk b (64 * c.val + w.val - 512)) (bias T h ((row c r).val - (64 * c.val + w.val - 512 : ℕ))) : ℝ) : EReal) else ⊥ := by
  have hc := c.isLt
  have hw := w.isLt
  have e1 : val_main_call3_v1 (F := Ideal) (ix5 b c h r w) = BitVec.ofBool (decide (512 ≤ 64 * c.val + w.val)) := by
    rw [val_main_call3_v1_apply, val_main_v65_apply, valid_index, valid_at]
  have e2 : val_main_call3_v2 (F := Ideal) (ix5 b c h r w) = ⊥ := by
    rw [val_main_call3_v2_apply]
    exact ofBits_neg_inf
  rw [val_main_v66_apply, e1, e2]
  by_cases hj : 512 ≤ 64 * c.val + w.val
  · rw [if_pos hj, decide_eq_true hj]
    show val_main_v60 (F := Ideal) xq xk T (ix5 b c h r w) = _
    have eb : val_main_v59 (F := Ideal) T (ix5 b c h r w) = (bias T h ((row c r).val - (64 * c.val + w.val - 512 : ℕ)) : EReal) := by
      rw [val_main_v59_apply, val_main_v58_apply, bias_index, bias_at, bias_coe hT]
      congr 2
      unfold row
      show (r.val : ℤ) + 512 - w.val = ((64 * c.val + r.val : ℕ) : ℤ) - _
      omega
    have es : val_main_v55 (F := Ideal) xq xk (ix5 b c h r w) =
        ((∑ d : Fin 64, entry xq b (row c r) (64 * h.val + d) * (Real.log 2 * 8) * entry xk b (64 * c.val + w.val - 512) (64 * h.val + d) : ℝ) : EReal) := by
      rw [val_main_v55_apply]
      refine sum_of_coe _ _ _ fun d => ?_
      rw [query_index, key_index, queries_at, keys_at, dif_pos hj, entry_coe hq, entry_coe hk, ← EReal.coe_mul, ← EReal.coe_mul]
      rfl
    rw [val_main_v60_apply, val_main_v57_apply, es, eb, val_main_v56_apply, val_main_cst_13_apply]
    show ((_ : ℝ) : EReal) * Ideal.ofBits .f32 0x3E000000#32 + _ = _
    rw [eighth_lit, ← EReal.coe_mul, ← EReal.coe_add]
    congr 1
    unfold score
    congr 1
    rw [Finset.sum_mul, Finset.sum_mul]
    exact Finset.sum_congr rfl fun d _ => by ring
  · rw [if_neg hj, decide_eq_false hj]
    rfl

/-- The largest score of a row. -/
theorem max_at (b : Fin 8) (c : Fin 128) (h : Fin 16) (r : Fin 64) : val_main_v69 (F := Ideal) xq xk T (ix4 b c h r) =
    Finset.univ.fold max ⊥ fun w : Fin 576 => val_main_v66 (F := Ideal) xq xk T (ix5 b c h r w) := by
  rw [val_main_v69_apply, val_main_v68_apply, val_main_cst_18_apply]
  show max (Ideal.ofBits .f32 0xFF800000#32) _ = _
  rw [ofBits_neg_inf, max_eq_right bot_le]
  unfold val_main_v67
  rw [row_max, val_main_cst_17_apply]
  show Finset.univ.fold max (Ideal.ofBits .f32 0xFF800000#32) _ = _
  rw [ofBits_neg_inf]

/-- A power of a row. -/
theorem power_at (b : Fin 8) (c : Fin 128) (h : Fin 16) (r : Fin 64) (w : Fin 576) : val_main_v73 (F := Ideal) xq xk T (ix5 b c h r w) =
    Ideal.exp (val_main_v66 (F := Ideal) xq xk T (ix5 b c h r w)
      - Finset.univ.fold max ⊥ fun w : Fin 576 => val_main_v66 (F := Ideal) xq xk T (ix5 b c h r w)) := by
  rw [val_main_v73_apply, val_main_v72_apply, val_main_v71_apply, val_main_v70_apply, max_index, max_at xq xk T hq hk hT]
  rfl

/-- A weight of a row. -/
theorem weight_at (b : Fin 8) (c : Fin 128) (h : Fin 16) (r : Fin 64) (w : Fin 576) : val_main_v77 (F := Ideal) xq xk T (ix5 b c h r w) =
    Ideal.div (val_main_v73 (F := Ideal) xq xk T (ix5 b c h r w)) (0 + ∑ w : Fin 576, val_main_v73 (F := Ideal) xq xk T (ix5 b c h r w)) := by
  rw [val_main_v77_apply, val_main_v76_apply, val_main_v75_apply, total_index, val_main_v74_apply, val_main_cst_19_apply]
  simp only [power_index]
  refine congrArg (Ideal.div _) (congrArg (· + _) Ideal.ofBits_zero_f32)

include hv

/-- The attention of a row. -/
theorem mean_at (b : Fin 8) (c : Fin 128) (h : Fin 16) (d : Fin 64) (r : Fin 64) :
    val_main_v78 (F := Ideal) xq xk xv T (ix5 b c h d r) = (bandMean xq xk xv T b (row c r) (lane h d) : EReal) := by
  have hh : (lane h d).val / 64 = h.val := by show (64 * h.val + d.val) / 64 = _; omega
  have hr : (row c r).val / 64 = c.val := by show (64 * c.val + r.val) / 64 = _; omega
  unfold bandMean
  rw [hh, hr, val_main_v78_apply]
  have e := mean_of_exp (fun w : Fin 576 => 512 ≤ 64 * c.val + w.val) (fun w => 64 * c.val + w.val - 512) (64 * c.val - 512) (64 * c.val + 64)
    (fun m => score h (entry xq b (row c r)) (entry xk b m) (bias T h ((row c r).val - m))) (fun m => entry xv b m (lane h d))
    (fun g => sum_padded 576 (64 * c.val) 512 (by omega) g) (by omega)
    (fun w => val_main_v66 (F := Ideal) xq xk T (ix5 b c h r w)) (fun w => val_main_v54 (F := Ideal) xv (ix5 b c w h d))
    (fun w => score_at xq xk T hq hk hT b c h r w)
    (fun w => by
      rw [values_at]
      split
      · exact hv _
      · exact ⟨_, rfl⟩)
    (fun w hw => (values_at xv b c w h d).trans ((dif_pos hw).trans (entry_coe hv _ _ _)))
  refine Eq.trans ?_ e
  refine Finset.sum_congr rfl fun w _ => ?_
  rw [value_index, weight_index, weight_at xq xk T hq hk hT]
  simp only [power_at xq xk T hq hk hT]

include hg

/-- The reference computes the gated band attention. -/
theorem reference_value : val_main_v83 (F := Ideal) xq xk xv xg T = band xq xk xv xg T := by
  funext y
  have h0 : (y 0).val < 8 := (y 0).isLt
  have h1 : (y 1).val < 8192 := (y 1).isLt
  have h2 : (y 2).val < 1024 := (y 2).isLt
  have e0 : idx_main_v79 (idx_main_v80 y) = ix5 (⟨(y 0).val, h0⟩ : Fin 8) (⟨(y 1).val / 64, by omega⟩ : Fin 128) (⟨(y 2).val / 64, by omega⟩ : Fin 16)
      (⟨(y 2).val % 64, Nat.mod_lt _ (by decide)⟩ : Fin 64) (⟨(y 1).val % 64, Nat.mod_lt _ (by decide)⟩ : Fin 64) := by
    funext a; apply Fin.ext
    match a with
    | ⟨0, _⟩ => show (((y 0).val * 8192 + (y 1).val) * 1024 + (y 2).val) / 8388608 = (y 0).val; omega
    | ⟨1, _⟩ => show (((y 0).val * 8192 + (y 1).val) * 1024 + (y 2).val) / 65536 % 128 = (y 1).val / 64; omega
    | ⟨2, _⟩ => show (((y 0).val * 8192 + (y 1).val) * 1024 + (y 2).val) / 64 % 16 = (y 2).val / 64; omega
    | ⟨3, _⟩ => show (((y 0).val * 8192 + (y 1).val) * 1024 + (y 2).val) % 64 = (y 2).val % 64; omega
    | ⟨4, _⟩ => show (((y 0).val * 8192 + (y 1).val) * 1024 + (y 2).val) / 1024 % 64 = (y 1).val % 64; omega
  have er : (row (⟨(y 1).val / 64, by omega⟩ : Fin 128) (⟨(y 1).val % 64, Nat.mod_lt _ (by decide)⟩ : Fin 64)).val = (y 1).val := by
    show 64 * ((y 1).val / 64) + (y 1).val % 64 = _; omega
  have el : (lane (⟨(y 2).val / 64, by omega⟩ : Fin 16) (⟨(y 2).val % 64, Nat.mod_lt _ (by decide)⟩ : Fin 64)).val = (y 2).val := by
    show 64 * ((y 2).val / 64) + (y 2).val % 64 = _; omega
  rw [val_main_v83_apply, val_main_v82_apply, val_main_v80_apply, val_main_v79_apply, e0, mean_at xq xk xv T hq hk hv hT, er, el]
  unfold band
  obtain ⟨r, hr⟩ := hg y
  show _ * val_main_v81 (F := Ideal) xg y = _ * _
  refine congrArg _ ?_
  rw [hr, ← silu_gate, ← hr]
  show xg y * Ideal.div (Ideal.ofBits .f32 0x3F800000#32) (Ideal.ofBits .f32 0x3F800000#32 + Ideal.exp (-(xg y))) = _
  rw [Ideal.ofBits_one_f32]

end Value

end Cert.BandReference

end
-- ==== Proof.Finite.lean ====
/-
  The precondition: every entry of the arguments is smaller than `+∞` in absolute value, so a real number.
-/
module

public import proofs.«01_k».proof.Defs
public import proofs.«01_k».proof.Proof.Spec

@[expose] public section

noncomputable section

open Idealize.ShloMosaic

namespace Cert.Band

theorem finite_facts : Cert.Pre_finite.Facts := ⟨by decide, by decide, by decide⟩

theorem inf_lit : Ideal.ofBits .f32 0x7F800000#32 = ⊤ := by simp [Ideal.ofBits, Ideal.ieee]

/-- What is smaller than `+∞` in absolute value is a real number. -/
theorem real_of_lt (x : EReal) (h : BitVec.ofBool (decide (max x (-x) < Ideal.ofBits .f32 0x7F800000#32)) = 1#1) : ∃ r : ℝ, x = (r : EReal) := by
  rw [inf_lit] at h
  have h' : max x (-x) < ⊤ := by
    by_contra hn
    rw [decide_eq_false hn] at h
    exact absurd h (by decide)
  induction x with
  | bot => simp at h'
  | top => simp at h'
  | coe r => exact ⟨r, rfl⟩

/-- Under the precondition every argument has real entries. -/
theorem real_of_finite (xq xk xv xg : FVec Ideal Cert.Pre_finite.S8x8192x1024 .bf16) (T : FVec Ideal Cert.Pre_finite.S16x257 .f32)
    (h : letI := finite_facts
      (Cert.Pre_finite.fn xq xk xv xg T).1 = (fun _ => 1#1) ∧ (Cert.Pre_finite.fn xq xk xv xg T).2.1 = (fun _ => 1#1)
      ∧ (Cert.Pre_finite.fn xq xk xv xg T).2.2.1 = (fun _ => 1#1) ∧ (Cert.Pre_finite.fn xq xk xv xg T).2.2.2.1 = (fun _ => 1#1)
      ∧ (Cert.Pre_finite.fn xq xk xv xg T).2.2.2.2 = (fun _ => 1#1)) :
    Real' xq ∧ Real' xk ∧ Real' xv ∧ Real' xg ∧ Real' T :=
  ⟨fun y => real_of_lt _ (congrFun h.1 y), fun y => real_of_lt _ (congrFun h.2.1 y), fun y => real_of_lt _ (congrFun h.2.2.1 y),
    fun y => real_of_lt _ (congrFun h.2.2.2.1 y), fun y => real_of_lt _ (congrFun h.2.2.2.2 y)⟩

end Cert.Band

end
-- ==== Proof.Norm.lean ====
/-
  The mathematics of the two projections, apart from any program: a root mean square norm of a row, a row times a
  matrix, and the two layers that are made of them.
-/
module

public import Idealize.ShloMosaic.Lib.Pipeline.ValueKit
public import Idealize.ShloMosaic.Lib.Pointwise

@[expose] public section

noncomputable section

open Idealize.ShloMosaic

namespace Cert.Projection

/-- The reciprocal root of a sum of squares over 1024, with the small constant added to it. -/
def root (s : EReal) : EReal :=
  Ideal.rsqrt (Ideal.div s (Ideal.ofBits .f32 0x44800000#32) + Ideal.ofBits .f32 0x358637BD#32)

/-- A row, normed and multiplied by its gain. -/
def normed (x g : Fin 1024 → EReal) (k : Fin 1024) : EReal := x k * root (∑ d, x d * x d) * g k

/-- Row `n` of the input projection at column `e` of the weights. -/
def project (x : (⟨2, ![65536, 1024]⟩ : Shape).Idx → EReal) (g : (⟨1, ![1024]⟩ : Shape).Idx → EReal)
    (w : (⟨2, ![1024, 4096]⟩ : Shape).Idx → EReal) (n : Fin 65536) (e : Fin 4096) : EReal :=
  ∑ k : Fin 1024, normed (fun d => x (ix2 n d)) (fun d => g (ix1 d)) k * w (ix2 k e)

/-- The columns `1024 p, …, 1024 p + 1023` of the input projection. -/
def part (p : Fin 4) (x : (⟨2, ![65536, 1024]⟩ : Shape).Idx → EReal) (g : (⟨1, ![1024]⟩ : Shape).Idx → EReal)
    (w : (⟨2, ![1024, 4096]⟩ : Shape).Idx → EReal) : (⟨2, ![65536, 1024]⟩ : Shape).Idx → EReal :=
  fun y => project x g w (y 0) ⟨1024 * p.val + (y 1).val, by have h : (y 1).val < 1024 := (y 1).isLt; have := p.isLt; omega⟩

/-- The queries: the first columns, scaled for scores in powers of two. -/
def query (x : (⟨2, ![65536, 1024]⟩ : Shape).Idx → EReal) (g : (⟨1, ![1024]⟩ : Shape).Idx → EReal)
    (w : (⟨2, ![1024, 4096]⟩ : Shape).Idx → EReal) : (⟨2, ![65536, 1024]⟩ : Shape).Idx → EReal :=
  fun y => part 0 x g w y * (((Real.log 256)⁻¹ : ℝ) : EReal)

/-- A row of the mixer's output times the output weights. -/
def mixed (a : (⟨2, ![65536, 1024]⟩ : Shape).Idx → EReal) (w : (⟨2, ![1024, 1024]⟩ : Shape).Idx → EReal) (n : Fin 65536)
    (l : Fin 1024) : EReal := ∑ k : Fin 1024, a (ix2 n k) * w (ix2 k l)

/-- The output projection: the residual plus the normed row. -/
def residual (a : (⟨2, ![65536, 1024]⟩ : Shape).Idx → EReal) (w : (⟨2, ![1024, 1024]⟩ : Shape).Idx → EReal)
    (x : (⟨2, ![65536, 1024]⟩ : Shape).Idx → EReal) (g : (⟨1, ![1024]⟩ : Shape).Idx → EReal) :
    (⟨2, ![65536, 1024]⟩ : Shape).Idx → EReal :=
  fun y => x y + normed (mixed a w (y 0)) (fun d => g (ix1 d)) (y 1)

/-- Scaling by an eighth and dividing by `log 2` is dividing by `log 256`. -/
theorem scaled (u : EReal) : Ideal.div (u * Ideal.ofBits .f32 0x3E000000#32) (Ideal.log (Ideal.ofBits .f32 0x40000000#32)) =
    u * (((Real.log 256)⁻¹ : ℝ) : EReal) := by
  have e8 : Ideal.ofBits .f32 0x3E000000#32 = ((1 / 8 : ℝ) : EReal) := by
    simp [Ideal.ofBits, Ideal.ieee, -EReal.coe_mul]; norm_num
  have e2 : Ideal.ofBits .f32 0x40000000#32 = ((2 : ℝ) : EReal) := by
    simp [Ideal.ofBits, Ideal.ieee, -EReal.coe_mul]; norm_num
  have h2 : Real.log 2 ≠ 0 := (Real.log_pos one_lt_two).ne'
  have hl : Real.log 256 = 8 * Real.log 2 := by
    rw [show (256 : ℝ) = 2 ^ 8 by norm_num, Real.log_pow]; norm_num
  rw [e8, e2, Ideal.log_coe, if_neg (by norm_num), Ideal.div_coe h2, mul_assoc, ← EReal.coe_mul, hl]
  congr 2
  field_simp

end Cert.Projection

end
-- ==== Proof.InBlock.lean ====
/-
  The input projection: what one grid point computes of its block of 512 rows, and the four arrays after the run.
-/
module

public import proofs.«01_k».proof.Proof.Norm
public import proofs.«01_k».proof.Proof.Gen.InKernelIdeal.Value

@[expose] public section

set_option maxRecDepth 16384

noncomputable section

open Idealize.ShloMosaic

namespace Cert.Projection

open Cert.InKernelIdeal Cert.InKernelIdeal.Gen Cert.InKernelIdeal.Value Idealize.ShloMosaic.TcCoe Idealize.SL.Sem

section Payload

variable (x : FVec Ideal S512x1024 .f32) (g : FVec Ideal S1x1024 .f32) (w : FVec Ideal S1024x1024 .bf16) (r : Fin 512) (l : Fin 1024)

/-- The normed rows of a block. -/
theorem pay_norm : (k0_pay2 x g : FVec Ideal S512x1024 .bf16) (ix2 r l) = normed (fun d => x (ix2 r d)) (fun d => g (ix2 0 d)) l := by
  pointwise [k0_pay2]
  rfl

theorem pay_key : (k0_pay4 x g w : FVec Ideal S512x1024 .bf16) (ix2 r l) =
    ∑ k : Fin 1024, normed (fun d => x (ix2 r d)) (fun d => g (ix2 0 d)) k * w (ix2 k l) := by
  simp only [← pay_norm]
  unfold k0_pay4
  generalize (k0_pay2 x g : FVec Ideal S512x1024 .bf16) = h
  pointwise []

theorem pay_value : (k0_pay5 x g w : FVec Ideal S512x1024 .bf16) (ix2 r l) =
    ∑ k : Fin 1024, normed (fun d => x (ix2 r d)) (fun d => g (ix2 0 d)) k * w (ix2 k l) := pay_key x g w r l

theorem pay_gate : (k0_pay1 (k0_pay2 x g : FVec Ideal S512x1024 .bf16) w : FVec Ideal S512x1024 .bf16) (ix2 r l) =
    ∑ k : Fin 1024, normed (fun d => x (ix2 r d)) (fun d => g (ix2 0 d)) k * w (ix2 k l) := pay_key x g w r l

theorem pay_query : (k0_pay3 x g w : FVec Ideal S512x1024 .bf16) (ix2 r l) =
    (∑ k : Fin 1024, normed (fun d => x (ix2 r d)) (fun d => g (ix2 0 d)) k * w (ix2 k l)) * (((Real.log 256)⁻¹ : ℝ) : EReal) := by
  simp only [← pay_norm]
  unfold k0_pay3
  generalize (k0_pay2 x g : FVec Ideal S512x1024 .bf16) = h
  pointwise []
  rfl

end Payload

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = 0 ∧ win0_2.index t (1 : Fin 2) = 0 := (by decide +kernel : ∀ t : Fin grid0.N, _)
theorem at3 : ∀ t : Fin cfg0.N, win0_3.index t (0 : Fin 2) = t.val ∧ win0_3.index t (1 : Fin 2) = 0 := (by decide +kernel : ∀ t : Fin grid0.N, _)

/-- The row of the array that row `r` of a grid point's block is. -/
def row (t : Fin cfg0.N) (r : Fin 512) : Fin 65536 :=
  ⟨512 * t.val + r.val, by have h : t.val < 128 := t.isLt; omega⟩

theorem emb0 (t : Fin cfg0.N) (r : Fin 512) (l : Fin 1024) : ((cfg0.win 0).blk t).view.emb (ix2 r l) = ix2 (row t r) l := by
  obtain ⟨e0, e1⟩ := at0 t
  funext a; apply Fin.ext
  match a with
  | ⟨0, _⟩ => show win0_0.index t (0 : Fin 2) * 512 + 1 * r.val = 512 * t.val + r.val; omega
  | ⟨1, _⟩ => show win0_0.index t (1 : Fin 2) * 1024 + 1 * l.val = l.val; omega

theorem emb1 (t : Fin cfg0.N) (l : Fin 1024) : ((cfg0.win 1).blk t).view.emb (ix2 (0 : Fin 1) l) = ix2 (0 : Fin 1) l := by
  obtain ⟨e0, e1⟩ := at1 t
  funext a; apply Fin.ext
  match a with
  | ⟨0, _⟩ => show win0_1.index t (0 : Fin 2) * 1 + 1 * 0 = 0; omega
  | ⟨1, _⟩ => show win0_1.index t (1 : Fin 2) * 1024 + 1 * l.val = l.val; omega

theorem emb2 (t : Fin cfg0.N) (k : Fin 1024) (e : Fin 4096) : ((cfg0.win 2).blk t).view.emb (ix2 k e) = ix2 k e := by
  obtain ⟨e0, e1⟩ := at2 t
  funext a; apply Fin.ext
  match a with
  | ⟨0, _⟩ => show win0_2.index t (0 : Fin 2) * 1024 + 1 * k.val = k.val; omega
  | ⟨1, _⟩ => show win0_2.index t (1 : Fin 2) * 4096 + 1 * e.val = e.val; omega

/-- Where an element of a block of the first result lies in the array. -/
theorem emb3 (t : Fin cfg0.N) (r : Fin 512) (l : Fin 1024) : ((cfg0.win 3).blk t).view.emb (ix2 r l) = ix2 (row t r) l := by
  obtain ⟨e0, e1⟩ := at3 t
  funext a; apply Fin.ext
  match a with
  | ⟨0, _⟩ => show win0_3.index t (0 : Fin 2) * 512 + 1 * r.val = 512 * t.val + r.val; omega
  | ⟨1, _⟩ => show win0_3.index t (1 : Fin 2) * 1024 + 1 * l.val = l.val; omega

/-- The four results have the same blocks. -/
theorem emb4 (t : Fin cfg0.N) (r : Fin 512) (l : Fin 1024) : ((cfg0.win 4).blk t).view.emb (ix2 r l) = ix2 (row t r) l := emb3 t r l
theorem emb5 (t : Fin cfg0.N) (r : Fin 512) (l : Fin 1024) : ((cfg0.win 5).blk t).view.emb (ix2 r l) = ix2 (row t r) l := emb3 t r l
theorem emb6 (t : Fin cfg0.N) (r : Fin 512) (l : Fin 1024) : ((cfg0.win 6).blk t).view.emb (ix2 r l) = ix2 (row t r) l := emb3 t r l

/-- Every element is an element of some grid point's block. -/
theorem in_block (i : S65536x1024.Idx) : ∃ (t : Fin cfg0.N) (r : Fin 512) (l : Fin 1024), ix2 (row t r) l = i := by
  have h0 : (i 0).val < 65536 := (i 0).isLt
  refine ⟨⟨(i 0).val / 512, by show _ < 128; omega⟩, ⟨(i 0).val % 512, Nat.mod_lt _ (by decide)⟩, i 1, ?_⟩
  funext a; apply Fin.ext
  match a with
  | ⟨0, _⟩ => show 512 * ((i 0).val / 512) + (i 0).val % 512 = (i 0).val; omega
  | ⟨1, _⟩ => rfl

variable (m : (ℓ : Loc nD τ sig) → Buf (Elt Ideal) ℓ) (c : Dev nD)

theorem V_weights : (V m c main_v0 : FVec Ideal S1024x4096 .bf16) = (m ((c : Thread nD τ).loc main_arg2) : S1024x4096.Idx → EReal) := by
  unfold_abbrev_sides
  after_results
  rfl

theorem V_gain : (V m c main_v1 : FVec Ideal S1x1024 .f32) =
    shapeCast S1x1024 (m ((c : Thread nD τ).loc main_arg1) : FVec Ideal S1024 .f32) shapeCasts_S1024_S1x1024 := by
  unfold_abbrev_sides
  after_results
  rfl

theorem block0 (t : Fin cfg0.N) (r : Fin 512) (l : Fin 1024) : (iblk m c 0 t : FVec Ideal S512x1024 .f32) (ix2 r l) =
    (m ((c : Thread nD τ).loc main_arg0) : S65536x1024.Idx → EReal) (ix2 (row t r) l) := by
  show V m c main_arg0 (((cfg0.win 0).blk t).view.emb (ix2 r l)) = _
  rw [emb0, V_main_arg0]

theorem block1 (t : Fin cfg0.N) (l : Fin 1024) : (iblk m c 1 t : FVec Ideal S1x1024 .f32) (ix2 0 l) =
    (m ((c : Thread nD τ).loc main_arg1) : S1024.Idx → EReal) (ix1 l) := by
  show (V m c main_v1 : FVec Ideal S1x1024 .f32) (((cfg0.win 1).blk t).view.emb (ix2 0 l)) = _
  rw [emb1, V_gain]
  pointwise []

theorem block2 (t : Fin cfg0.N) (k : Fin 1024) (e : Fin 4096) : (iblk m c 2 t : FVec Ideal S1024x4096 .bf16) (ix2 k e) =
    (m ((c : Thread nD τ).loc main_arg2) : S1024x4096.Idx → EReal) (ix2 k e) := by
  show (V m c main_v0 : FVec Ideal S1024x4096 .bf16) (((cfg0.win 2).blk t).view.emb (ix2 k e)) = _
  rw [emb2, V_weights]

theorem whole_x (X : Vec Ideal S512x1024 .f32) : View.ld X r0_0 = X :=
  View.ld_unit_zero (by funext a; match a with | ⟨0, _⟩ => rfl | ⟨1, _⟩ => rfl) _ _
theorem whole_g (X : Vec Ideal S1x1024 .f32) : View.ld X r0_1 = X :=
  View.ld_unit_zero (by funext a; match a with | ⟨0, _⟩ => rfl | ⟨1, _⟩ => rfl) _ _

/-- What a store of a whole block leaves is what it stores. -/
theorem whole_out (p : Vec Ideal S512x1024 .bf16) (r : Fin 512) (l : Fin 1024) :
    View.canon (Val := Elt Ideal) (e := .bf16) [⟨r0_0, p⟩] (ix2 r l) = p (ix2 r l) := by
  have h : r0_0.emb (ix2 r l) = ix2 r l := by
    funext a; apply Fin.ext
    match a with
    | ⟨0, _⟩ => show 0 + 1 * r.val = r.val; omega
    | ⟨1, _⟩ => show 0 + 1 * l.val = l.val; omega
  have := View.canon_cons_emb (Val := Elt Ideal) (e := .bf16) r0_0 p [] (ix2 r l)
  rwa [h] at this

/-- The weights of the four parts, read off a block of all of them. -/
theorem cols (X : Vec Ideal S1024x4096 .bf16) (k l : Fin 1024) :
    (View.ld X r0_2 : FVec Ideal S1024x1024 .bf16) (ix2 k l) = X (ix2 k ⟨1024 * 0 + l.val, by omega⟩) ∧
    (View.ld X r0_3 : FVec Ideal S1024x1024 .bf16) (ix2 k l) = X (ix2 k ⟨1024 * 1 + l.val, by omega⟩) ∧
    (View.ld X r0_4 : FVec Ideal S1024x1024 .bf16) (ix2 k l) = X (ix2 k ⟨1024 * 2 + l.val, by omega⟩) ∧
    (View.ld X r0_5 : FVec Ideal S1024x1024 .bf16) (ix2 k l) = X (ix2 k ⟨1024 * 3 + l.val, by omega⟩) := by
  refine ⟨congrArg X ?_, congrArg X ?_, congrArg X ?_, congrArg X ?_⟩
  all_goals
    funext a; apply Fin.ext
    match a with
    | ⟨0, _⟩ => show 0 + 1 * k.val = k.val; omega
    | ⟨1, _⟩ => first
      | (show 0 + 1 * l.val = 1024 * 0 + l.val; omega)
      | (show 1024 + 1 * l.val = 1024 * 1 + l.val; omega)
      | (show 2048 + 1 * l.val = 1024 * 2 + l.val; omega)
      | (show 3072 + 1 * l.val = 1024 * 3 + l.val; omega)

section Share

variable {x : FVec Ideal S512x1024 .f32} {g : FVec Ideal S1x1024 .f32} {w : FVec Ideal S1024x4096 .bf16} {X : S65536x1024.Idx → EReal}
  {G : S1024.Idx → EReal} {W : S1024x4096.Idx → EReal} {n : Fin 65536} {r : Fin 512} (hx : ∀ d : Fin 1024, x (ix2 r d) = X (ix2 n d))
  (hg : ∀ d : Fin 1024, g (ix2 0 d) = G (ix1 d)) (hw : ∀ (k : Fin 1024) (e : Fin 4096), w (ix2 k e) = W (ix2 k e)) (l : Fin 1024)

include hx hg hw

/-- The product of a row of a block, normed, with the weights of one part is the row of that part. -/
theorem part_block (p : Fin 4) (u : FVec Ideal S1024x1024 .bf16) (hu : ∀ k l : Fin 1024, u (ix2 k l) = w (ix2 k ⟨1024 * p.val + l.val, by omega⟩)) :
    (∑ k : Fin 1024, normed (fun d => x (ix2 r d)) (fun d => g (ix2 0 d)) k * u (ix2 k l)) = part p X G W (ix2 n l) := by
  simp only [hu, hx, hg, hw]
  rfl

/-- What a block of each of the four results holds of a row. -/
theorem block_query : out0_3 (F := Ideal) x g w (ix2 r l) = query X G W (ix2 n l) := by
  refine (whole_out _ r l).trans ?_
  rw [pay_query, whole_x, whole_g]
  exact congrArg (· * (((Real.log 256)⁻¹ : ℝ) : EReal)) (part_block hx hg hw l 0 _ (fun k l => (cols w k l).1))

theorem block_key : out0_4 (F := Ideal) x g w (ix2 r l) = part 1 X G W (ix2 n l) := by
  refine (whole_out _ r l).trans ?_
  rw [pay_key, whole_x, whole_g]
  exact part_block hx hg hw l 1 _ (fun k l => (cols w k l).2.1)

theorem block_value : out0_5 (F := Ideal) x g w (ix2 r l) = part 2 X G W (ix2 n l) := by
  refine (whole_out _ r l).trans ?_
  rw [pay_value, whole_x, whole_g]
  exact part_block hx hg hw l 2 _ (fun k l => (cols w k l).2.2.1)

theorem block_gate : out0_6 (F := Ideal) x g w (ix2 r l) = part 3 X G W (ix2 n l) := by
  refine (whole_out _ r l).trans ?_
  rw [pay_gate, whole_x, whole_g]
  exact part_block hx hg hw l 3 _ (fun k l => (cols w k l).2.2.2)

end Share

/-- The scaled queries after the run. -/
theorem final_query : (dats m 0 c).arrAt 3 cfg0.N =
    query (m ((c : Thread nD τ).loc main_arg0)) (m ((c : Thread nD τ).loc main_arg1)) (m ((c : Thread nD τ).loc main_arg2)) := by
  refine (dats m 0 c).arrAt_eq_of_cover 3 _ (fun t _ => ?_) fun i => ?_
  · rw [flushed3]
    funext y
    obtain ⟨r, l, rfl⟩ : ∃ (r : Fin 512) (l : Fin 1024), y = ix2 r l := ⟨y 0, y 1, eq_ix2 y⟩
    refine (block_query (block0 m c t r) (block1 m c t) (block2 m c t) l).trans ?_
    show _ = query _ _ _ (((cfg0.win 3).blk t).view.emb (ix2 r l))
    rw [emb3]
  · obtain ⟨t, r, l, h⟩ := in_block i
    exact ⟨t, flush0_3 t, by rw [← h, ← emb3]; exact View.emb_mem_set _ _⟩

/-- The keys after the run. -/
theorem final_key : (dats m 0 c).arrAt 4 cfg0.N =
    part 1 (m ((c : Thread nD τ).loc main_arg0)) (m ((c : Thread nD τ).loc main_arg1)) (m ((c : Thread nD τ).loc main_arg2)) := by
  refine (dats m 0 c).arrAt_eq_of_cover 4 _ (fun t _ => ?_) fun i => ?_
  · rw [flushed4]
    funext y
    obtain ⟨r, l, rfl⟩ : ∃ (r : Fin 512) (l : Fin 1024), y = ix2 r l := ⟨y 0, y 1, eq_ix2 y⟩
    refine (block_key (block0 m c t r) (block1 m c t) (block2 m c t) l).trans ?_
    show _ = part 1 _ _ _ (((cfg0.win 4).blk t).view.emb (ix2 r l))
    rw [emb4]
  · obtain ⟨t, r, l, h⟩ := in_block i
    exact ⟨t, flush0_4 t, by rw [← h, ← emb4]; exact View.emb_mem_set _ _⟩

/-- The values after the run. -/
theorem final_value : (dats m 0 c).arrAt 5 cfg0.N =
    part 2 (m ((c : Thread nD τ).loc main_arg0)) (m ((c : Thread nD τ).loc main_arg1)) (m ((c : Thread nD τ).loc main_arg2)) := by
  refine (dats m 0 c).arrAt_eq_of_cover 5 _ (fun t _ => ?_) fun i => ?_
  · rw [flushed5]
    funext y
    obtain ⟨r, l, rfl⟩ : ∃ (r : Fin 512) (l : Fin 1024), y = ix2 r l := ⟨y 0, y 1, eq_ix2 y⟩
    refine (block_value (block0 m c t r) (block1 m c t) (block2 m c t) l).trans ?_
    show _ = part 2 _ _ _ (((cfg0.win 5).blk t).view.emb (ix2 r l))
    rw [emb5]
  · obtain ⟨t, r, l, h⟩ := in_block i
    exact ⟨t, flush0_5 t, by rw [← h, ← emb5]; exact View.emb_mem_set _ _⟩

/-- The gates after the run. -/
theorem final_gate : (dats m 0 c).arrAt 6 cfg0.N =
    part 3 (m ((c : Thread nD τ).loc main_arg0)) (m ((c : Thread nD τ).loc main_arg1)) (m ((c : Thread nD τ).loc main_arg2)) := by
  refine (dats m 0 c).arrAt_eq_of_cover 6 _ (fun t _ => ?_) fun i => ?_
  · rw [flushed6]
    funext y
    obtain ⟨r, l, rfl⟩ : ∃ (r : Fin 512) (l : Fin 1024), y = ix2 r l := ⟨y 0, y 1, eq_ix2 y⟩
    refine (block_gate (block0 m c t r) (block1 m c t) (block2 m c t) l).trans ?_
    show _ = part 3 _ _ _ (((cfg0.win 6).blk t).view.emb (ix2 r l))
    rw [emb6]
  · obtain ⟨t, r, l, h⟩ := in_block i
    exact ⟨t, flush0_6 t, by rw [← h, ← emb6]; exact View.emb_mem_set _ _⟩

end Cert.Projection

end
-- ==== Proof.InReference.lean ====
/-
  The input projection's reference, written over whole arrays: its four results.
-/
module

public import proofs.«01_k».proof.Proof.Norm
public import proofs.«01_k».proof.Proof.Gen.InReferenceIdeal.Read

@[expose] public section

set_option maxRecDepth 16384

noncomputable section

open Idealize.ShloMosaic

namespace Cert.Projection.InRef

open Cert.InReferenceIdeal Cert.InReferenceIdeal.Gen Cert.InReferenceIdeal.Read Cert.Projection

variable (x : FVec Ideal S65536x1024 .f32) (g : FVec Ideal S1024 .f32) (w : FVec Ideal S1024x4096 .f32)

theorem sum_at (n : Fin 65536) : val_main_v1 (F := Ideal) x (ix1 n) = ∑ d, x (ix2 n d) * x (ix2 n d) := by
  rw [val_main_v1_apply]
  have hi : ∀ k : Fin 1024, idx_main_v1 (ix1 n) k = ix2 n k := fun k => by
    funext a; match a with | ⟨0, _⟩ => rfl | ⟨1, _⟩ => rfl
  simp only [hi, val_main_cst_apply, val_main_v0_apply]
  show Ideal.ofBits .f32 0x00000000#32 + _ = _
  rw [Ideal.ofBits_zero_f32, zero_add]
  rfl

theorem root_at (n : Fin 65536) : val_main_v7 (F := Ideal) x (ix2 n 0) = root (∑ d, x (ix2 n d) * x (ix2 n d)) := by
  have hi : idx_main_v2 (ix2 n (0 : Fin 1)) = ix1 n := by
    funext a; match a with | ⟨0, _⟩ => rfl
  rw [val_main_v7_apply, val_main_v6_apply, val_main_v4_apply, val_main_v2_apply, hi, sum_at, val_main_v3_apply, val_main_v5_apply]
  rfl

theorem normed_at (n : Fin 65536) (k : Fin 1024) : val_main_v12 (F := Ideal) x g (ix2 n k) = normed (fun d => x (ix2 n d)) (fun d => g (ix1 d)) k := by
  have h8 : idx_main_v8 (ix2 n k) = ix2 n 0 := by
    funext a; match a with | ⟨0, _⟩ => rfl | ⟨1, _⟩ => rfl
  have h11 : idx_main_v10 (idx_main_v11 (ix2 n k)) = ix1 k := by
    funext a; match a with | ⟨0, _⟩ => rfl
  rw [val_main_v12_apply, val_main_v9_apply, val_main_v8_apply, h8, root_at, val_main_v11_apply, val_main_v10_apply, h11]
  rfl

theorem project_at (n : Fin 65536) (e : Fin 4096) : val_main_v13 (F := Ideal) x g w (ix2 n e) = project x g w n e := by
  have hl : ∀ k : Fin 1024, lidx_main_v13 (ix2 n e) k = ix2 n k := fun k => by
    funext a; match a with | ⟨0, _⟩ => rfl | ⟨1, _⟩ => rfl
  have hr : ∀ k : Fin 1024, ridx_main_v13 (ix2 n e) k = ix2 k e := fun k => by
    funext a; match a with | ⟨0, _⟩ => rfl | ⟨1, _⟩ => rfl
  rw [val_main_v13_apply]
  simp only [hl, hr, normed_at]
  rfl

theorem part0 (n : Fin 65536) (l : Fin 1024) : val_main_v14 (F := Ideal) x g w (ix2 n l) = part 0 x g w (ix2 n l) := by
  have hi : idx_main_v14 (ix2 n l) = ix2 n (⟨1024 * 0 + l.val, by omega⟩ : Fin 4096) := by
    funext a; match a with | ⟨0, _⟩ => rfl | ⟨1, _⟩ => exact Fin.ext (by show l.val = 1024 * 0 + l.val; omega)
  rw [val_main_v14_apply, hi, project_at]
  rfl

theorem part1 (n : Fin 65536) (l : Fin 1024) : val_main_v15 (F := Ideal) x g w (ix2 n l) = part 1 x g w (ix2 n l) := by
  have hi : idx_main_v15 (ix2 n l) = ix2 n (⟨1024 * 1 + l.val, by omega⟩ : Fin 4096) := by
    funext a; match a with | ⟨0, _⟩ => rfl | ⟨1, _⟩ => rfl
  rw [val_main_v15_apply, hi, project_at]
  rfl

theorem part2 (n : Fin 65536) (l : Fin 1024) : val_main_v16 (F := Ideal) x g w (ix2 n l) = part 2 x g w (ix2 n l) := by
  have hi : idx_main_v16 (ix2 n l) = ix2 n (⟨1024 * 2 + l.val, by omega⟩ : Fin 4096) := by
    funext a; match a with | ⟨0, _⟩ => rfl | ⟨1, _⟩ => rfl
  rw [val_main_v16_apply, hi, project_at]
  rfl

theorem part3 (n : Fin 65536) (l : Fin 1024) : val_main_v17 (F := Ideal) x g w (ix2 n l) = part 3 x g w (ix2 n l) := by
  have hi : idx_main_v17 (ix2 n l) = ix2 n (⟨1024 * 3 + l.val, by omega⟩ : Fin 4096) := by
    funext a; match a with | ⟨0, _⟩ => rfl | ⟨1, _⟩ => rfl
  rw [val_main_v17_apply, hi, project_at]
  rfl

theorem queries : val_main_v23 (F := Ideal) x g w = query x g w := by
  funext y
  obtain ⟨n, l, rfl⟩ : ∃ (n : Fin 65536) (l : Fin 1024), y = ix2 n l := ⟨y 0, y 1, eq_ix2 y⟩
  rw [val_main_v23_apply, val_main_v22_apply, val_main_v19_apply, part0, val_main_v18_apply, val_main_v21_apply, val_main_v20_apply]
  exact scaled _

theorem keys : val_main_v24 (F := Ideal) x g w = part 1 x g w := by
  funext y
  obtain ⟨n, l, rfl⟩ : ∃ (n : Fin 65536) (l : Fin 1024), y = ix2 n l := ⟨y 0, y 1, eq_ix2 y⟩
  rw [val_main_v24_apply, part1]
  rfl

theorem values : val_main_v25 (F := Ideal) x g w = part 2 x g w := by
  funext y
  obtain ⟨n, l, rfl⟩ : ∃ (n : Fin 65536) (l : Fin 1024), y = ix2 n l := ⟨y 0, y 1, eq_ix2 y⟩
  rw [val_main_v25_apply, part2]
  rfl

theorem gates : val_main_v26 (F := Ideal) x g w = part 3 x g w := by
  funext y
  obtain ⟨n, l, rfl⟩ : ∃ (n : Fin 65536) (l : Fin 1024), y = ix2 n l := ⟨y 0, y 1, eq_ix2 y⟩
  rw [val_main_v26_apply, part3]
  rfl

end Cert.Projection.InRef

end
-- ==== Proof.OutBlock.lean ====
/-
  The output projection: what one grid point computes of its block of 512 rows, and the array after the run.
-/
module

public import proofs.«01_k».proof.Proof.Norm
public import proofs.«01_k».proof.Proof.Gen.OutKernelIdeal.Value

@[expose] public section

set_option maxRecDepth 16384

noncomputable section

open Idealize.ShloMosaic

namespace Cert.Projection.Out

open Cert.OutKernelIdeal Cert.OutKernelIdeal.Gen Cert.OutKernelIdeal.Value Idealize.ShloMosaic.TcCoe Idealize.SL.Sem

/-- What is stored: the residual plus the normed product. -/
theorem pay (a : FVec Ideal S512x1024 .bf16) (w : FVec Ideal S1024x1024 .bf16) (x : FVec Ideal S512x1024 .f32)
    (g : FVec Ideal S1x1024 .f32) (r : Fin 512) (l : Fin 1024) :
    (k0_pay1 a w x g : FVec Ideal S512x1024 .f32) (ix2 r l) =
    x (ix2 r l) + normed (fun l => ∑ k : Fin 1024, a (ix2 r k) * w (ix2 k l)) (fun d => g (ix2 0 d)) l := by
  pointwise [k0_pay1]
  rfl

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 2) = t.val ∧ win0_4.index t (1 : Fin 2) = 0 := (by decide +kernel : ∀ t : Fin grid0.N, _)

/-- The row of the array that row `r` of a grid point's block is. -/
def row (t : Fin cfg0.N) (r : Fin 512) : Fin 65536 :=
  ⟨512 * t.val + r.val, by have h : t.val < 128 := t.isLt; omega⟩

theorem emb0 (t : Fin cfg0.N) (r : Fin 512) (l : Fin 1024) : ((cfg0.win 0).blk t).view.emb (ix2 r l) = ix2 (row t r) l := by
  obtain ⟨e0, e1⟩ := at0 t
  funext a; apply Fin.ext
  match a with
  | ⟨0, _⟩ => show win0_0.index t (0 : Fin 2) * 512 + 1 * r.val = 512 * t.val + r.val; omega
  | ⟨1, _⟩ => show win0_0.index t (1 : Fin 2) * 1024 + 1 * l.val = l.val; omega

theorem emb1 (t : Fin cfg0.N) (k : Fin 1024) (l : Fin 1024) : ((cfg0.win 1).blk t).view.emb (ix2 k l) = ix2 k l := by
  obtain ⟨e0, e1⟩ := at1 t
  funext a; apply Fin.ext
  match a with
  | ⟨0, _⟩ => show win0_1.index t (0 : Fin 2) * 1024 + 1 * k.val = k.val; omega
  | ⟨1, _⟩ => show win0_1.index t (1 : Fin 2) * 1024 + 1 * l.val = l.val; omega

theorem emb2 (t : Fin cfg0.N) (r : Fin 512) (l : Fin 1024) : ((cfg0.win 2).blk t).view.emb (ix2 r l) = ix2 (row t r) l := by
  obtain ⟨e0, e1⟩ := at2 t
  funext a; apply Fin.ext
  match a with
  | ⟨0, _⟩ => show win0_2.index t (0 : Fin 2) * 512 + 1 * r.val = 512 * t.val + r.val; omega
  | ⟨1, _⟩ => show win0_2.index t (1 : Fin 2) * 1024 + 1 * l.val = l.val; omega

theorem emb3 (t : Fin cfg0.N) (l : Fin 1024) : ((cfg0.win 3).blk t).view.emb (ix2 (0 : Fin 1) l) = ix2 (0 : Fin 1) l := by
  obtain ⟨e0, e1⟩ := at3 t
  funext a; apply Fin.ext
  match a with
  | ⟨0, _⟩ => show win0_3.index t (0 : Fin 2) * 1 + 1 * 0 = 0; omega
  | ⟨1, _⟩ => show win0_3.index t (1 : Fin 2) * 1024 + 1 * l.val = l.val; omega

theorem emb4 (t : Fin cfg0.N) (r : Fin 512) (l : Fin 1024) : ((cfg0.win 4).blk t).view.emb (ix2 r l) = ix2 (row t r) l := by
  obtain ⟨e0, e1⟩ := at4 t
  funext a; apply Fin.ext
  match a with
  | ⟨0, _⟩ => show win0_4.index t (0 : Fin 2) * 512 + 1 * r.val = 512 * t.val + r.val; omega
  | ⟨1, _⟩ => show win0_4.index t (1 : Fin 2) * 1024 + 1 * l.val = l.val; omega

/-- Every element is an element of some grid point's block. -/
theorem in_block (i : S65536x1024.Idx) : ∃ (t : Fin cfg0.N) (r : Fin 512) (l : Fin 1024), ix2 (row t r) l = i := by
  have h0 : (i 0).val < 65536 := (i 0).isLt
  refine ⟨⟨(i 0).val / 512, by show _ < 128; omega⟩, ⟨(i 0).val % 512, Nat.mod_lt _ (by decide)⟩, i 1, ?_⟩
  funext a; apply Fin.ext
  match a with
  | ⟨0, _⟩ => show 512 * ((i 0).val / 512) + (i 0).val % 512 = (i 0).val; omega
  | ⟨1, _⟩ => rfl

variable (m : (ℓ : Loc nD τ sig) → Buf (Elt Ideal) ℓ) (c : Dev nD)

theorem V_weights : (V m c main_v0 : FVec Ideal S1024x1024 .bf16) = (m ((c : Thread nD τ).loc main_arg1) : S1024x1024.Idx → EReal) := by
  unfold_abbrev_sides
  after_results
  rfl

theorem V_gain : (V m c main_v1 : FVec Ideal S1x1024 .f32) =
    shapeCast S1x1024 (m ((c : Thread nD τ).loc main_arg3) : FVec Ideal S1024 .f32) shapeCasts_S1024_S1x1024 := by
  unfold_abbrev_sides
  after_results
  rfl

theorem block0 (t : Fin cfg0.N) (r : Fin 512) (l : Fin 1024) : (iblk m c 0 t : FVec Ideal S512x1024 .bf16) (ix2 r l) =
    (m ((c : Thread nD τ).loc main_arg0) : S65536x1024.Idx → EReal) (ix2 (row t r) l) := by
  show V m c main_arg0 (((cfg0.win 0).blk t).view.emb (ix2 r l)) = _
  rw [emb0, V_main_arg0]

theorem block1 (t : Fin cfg0.N) (k l : Fin 1024) : (iblk m c 1 t : FVec Ideal S1024x1024 .bf16) (ix2 k l) =
    (m ((c : Thread nD τ).loc main_arg1) : S1024x1024.Idx → EReal) (ix2 k l) := by
  show (V m c main_v0 : FVec Ideal S1024x1024 .bf16) (((cfg0.win 1).blk t).view.emb (ix2 k l)) = _
  rw [emb1, V_weights]

theorem block2 (t : Fin cfg0.N) (r : Fin 512) (l : Fin 1024) : (iblk m c 2 t : FVec Ideal S512x1024 .f32) (ix2 r l) =
    (m ((c : Thread nD τ).loc main_arg2) : S65536x1024.Idx → EReal) (ix2 (row t r) l) := by
  show V m c main_arg2 (((cfg0.win 2).blk t).view.emb (ix2 r l)) = _
  rw [emb2, V_main_arg2]

theorem block3 (t : Fin cfg0.N) (l : Fin 1024) : (iblk m c 3 t : FVec Ideal S1x1024 .f32) (ix2 0 l) =
    (m ((c : Thread nD τ).loc main_arg3) : S1024.Idx → EReal) (ix1 l) := by
  show (V m c main_v1 : FVec Ideal S1x1024 .f32) (((cfg0.win 3).blk t).view.emb (ix2 0 l)) = _
  rw [emb3, V_gain]
  pointwise []

theorem whole_a (X : Vec Ideal S512x1024 .bf16) : View.ld X r0_0 = X :=
  View.ld_unit_zero (by funext a; match a with | ⟨0, _⟩ => rfl | ⟨1, _⟩ => rfl) _ _
theorem whole_w (X : Vec Ideal S1024x1024 .bf16) : View.ld X r0_1 = X :=
  View.ld_unit_zero (by funext a; match a with | ⟨0, _⟩ => rfl | ⟨1, _⟩ => rfl) _ _
theorem whole_x (X : Vec Ideal S512x1024 .f32) : View.ld X r0_0 = X :=
  View.ld_unit_zero (by funext a; match a with | ⟨0, _⟩ => rfl | ⟨1, _⟩ => rfl) _ _
theorem whole_g (X : Vec Ideal S1x1024 .f32) : View.ld X r0_2 = X :=
  View.ld_unit_zero (by funext a; match a with | ⟨0, _⟩ => rfl | ⟨1, _⟩ => rfl) _ _

/-- What a store of a whole block leaves is what it stores. -/
theorem whole_out (p : Vec Ideal S512x1024 .f32) (r : Fin 512) (l : Fin 1024) :
    View.canon (Val := Elt Ideal) (e := .f32) [⟨r0_0, p⟩] (ix2 r l) = p (ix2 r l) := by
  have h : r0_0.emb (ix2 r l) = ix2 r l := by
    funext a; apply Fin.ext
    match a with
    | ⟨0, _⟩ => show 0 + 1 * r.val = r.val; omega
    | ⟨1, _⟩ => show 0 + 1 * l.val = l.val; omega
  have := View.canon_cons_emb (Val := Elt Ideal) (e := .f32) r0_0 p [] (ix2 r l)
  rwa [h] at this

/-- What a block of the result holds of a row. -/
theorem block_out {a : FVec Ideal S512x1024 .bf16} {w : FVec Ideal S1024x1024 .bf16} {x : FVec Ideal S512x1024 .f32} {g : FVec Ideal S1x1024 .f32}
    {A X : S65536x1024.Idx → EReal} {W : S1024x1024.Idx → EReal} {G : S1024.Idx → EReal} {n : Fin 65536} {r : Fin 512}
    (ha : ∀ d : Fin 1024, a (ix2 r d) = A (ix2 n d)) (hw : ∀ k d : Fin 1024, w (ix2 k d) = W (ix2 k d))
    (hx : ∀ d : Fin 1024, x (ix2 r d) = X (ix2 n d)) (hg : ∀ d : Fin 1024, g (ix2 0 d) = G (ix1 d)) (l : Fin 1024) :
    out0_4 (F := Ideal) a w x g (ix2 r l) = residual A W X G (ix2 n l) := by
  refine (whole_out _ r l).trans ?_
  rw [pay, whole_a, whole_w, whole_x, whole_g]
  simp only [ha, hw, hx, hg]
  rfl

/-- The result after the run. -/
theorem final : (dats m 0 c).arrAt 4 cfg0.N = residual (m ((c : Thread nD τ).loc main_arg0)) (m ((c : Thread nD τ).loc main_arg1))
    (m ((c : Thread nD τ).loc main_arg2)) (m ((c : Thread nD τ).loc main_arg3)) := by
  refine (dats m 0 c).arrAt_eq_of_cover 4 _ (fun t _ => ?_) fun i => ?_
  · rw [flushed4]
    funext y
    obtain ⟨r, l, rfl⟩ : ∃ (r : Fin 512) (l : Fin 1024), y = ix2 r l := ⟨y 0, y 1, eq_ix2 y⟩
    refine (block_out (block0 m c t r) (block1 m c t) (block2 m c t r) (block3 m c t) l).trans ?_
    show _ = residual _ _ _ _ (((cfg0.win 4).blk t).view.emb (ix2 r l))
    rw [emb4]
  · obtain ⟨t, r, l, h⟩ := in_block i
    exact ⟨t, flush0_4 t, by rw [← h, ← emb4]; exact View.emb_mem_set _ _⟩

end Cert.Projection.Out

end
-- ==== Proof.OutReference.lean ====
/-
  The output projection's reference, written over whole arrays: its result.
-/
module

public import proofs.«01_k».proof.Proof.Norm
public import proofs.«01_k».proof.Proof.Gen.OutReferenceIdeal.Read

@[expose] public section

set_option maxRecDepth 16384

noncomputable section

open Idealize.ShloMosaic

namespace Cert.Projection.OutRef

open Cert.OutReferenceIdeal Cert.OutReferenceIdeal.Gen Cert.OutReferenceIdeal.Read Cert.Projection

variable (a : FVec Ideal S65536x1024 .bf16) (w : FVec Ideal S1024x1024 .f32) (x : FVec Ideal S65536x1024 .f32) (g : FVec Ideal S1024 .f32)

theorem mixed_at (n : Fin 65536) (l : Fin 1024) : val_main_v1 (F := Ideal) a w (ix2 n l) = mixed a w n l := by
  have hl : ∀ k : Fin 1024, lidx_main_v1 (ix2 n l) k = ix2 n k := fun k => by
    funext a; match a with | ⟨0, _⟩ => rfl | ⟨1, _⟩ => rfl
  have hr : ∀ k : Fin 1024, ridx_main_v1 (ix2 n l) k = ix2 k l := fun k => by
    funext a; match a with | ⟨0, _⟩ => rfl | ⟨1, _⟩ => rfl
  rw [val_main_v1_apply]
  simp only [hl, hr, val_main_v0_apply]
  rfl

theorem sum_at (n : Fin 65536) : val_main_v3 (F := Ideal) a w (ix1 n) = ∑ d, mixed a w n d * mixed a w n d := by
  rw [val_main_v3_apply]
  have hi : ∀ k : Fin 1024, idx_main_v3 (ix1 n) k = ix2 n k := fun k => by
    funext a; match a with | ⟨0, _⟩ => rfl | ⟨1, _⟩ => rfl
  simp only [hi, val_main_cst_apply, val_main_v2_apply, mixed_at]
  show Ideal.ofBits .f32 0x00000000#32 + _ = _
  rw [Ideal.ofBits_zero_f32, zero_add]
  rfl

theorem root_at (n : Fin 65536) : val_main_v9 (F := Ideal) a w (ix2 n 0) = root (∑ d, mixed a w n d * mixed a w n d) := by
  have hi : idx_main_v4 (ix2 n (0 : Fin 1)) = ix1 n := by
    funext a; match a with | ⟨0, _⟩ => rfl
  rw [val_main_v9_apply, val_main_v8_apply, val_main_v6_apply, val_main_v4_apply, hi, sum_at, val_main_v5_apply, val_main_v7_apply]
  rfl

theorem reference_value : val_main_v15 (F := Ideal) a w x g = residual a w x g := by
  funext y
  obtain ⟨n, l, rfl⟩ : ∃ (n : Fin 65536) (l : Fin 1024), y = ix2 n l := ⟨y 0, y 1, eq_ix2 y⟩
  have h10 : idx_main_v10 (ix2 n l) = ix2 n 0 := by
    funext a; match a with | ⟨0, _⟩ => rfl | ⟨1, _⟩ => rfl
  have h13 : idx_main_v12 (idx_main_v13 (ix2 n l)) = ix1 l := by
    funext a; match a with | ⟨0, _⟩ => rfl
  rw [val_main_v15_apply, val_main_v14_apply, val_main_v11_apply, mixed_at, val_main_v10_apply, h10, root_at, val_main_v13_apply,
    val_main_v12_apply, h13]
  rfl

end Cert.Projection.OutRef

end
-- ==== Proof.StickLoop.lean ====
/-
  The two loops of the stick-breaking kernel that run while pairs of key blocks remain, over the idealized program: a
  pair of steps keeps whatever relation the caller states between the count of pairs done, the slab of sums and the
  slab of survivals, and the loop ends with no pair left or with the least survival at the named limit.
-/
module

public import proofs.«01_k».proof.Proof.Gen.StickKernelIdeal.Launch
public import proofs.«01_k».proof.Proof.Gen.StickKernelIdeal.Skeleton
public import proofs.«01_k».proof.Proof.Gen.StickKernelIdeal.Loops
public import proofs.«01_k».proof.Proof.Gen.StickKernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.StickKernelIdeal.Run

open Cert.StickKernelIdeal Cert.StickKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open sWPT (consume produce arbitrary)

variable {F : FTy → Type} [FloatOps F] [Named F]

local notation "𝕄" => MT nD τ sig Unit (Elt F) ℕ (UR sig nD τ) ℕ

/-- The loops are counted down by the naturals. -/
abbrev 𝒱₀ : Variants := Variants.nat

/-- The whole of a memref held at contents `f`. -/
def pt {s : Shape} {e : EltTy} (c : Dev nD) (a : Memref sig .tc .vmem s e) (f : Buf (Elt F) (a.view.loc (c : Thread nD τ))) : sProp 𝕄 :=
  iprop(a.view.loc (c : Thread nD τ) ↦[a.view.set]{fullShare} f)

/-- The slab of two heads' rows at slot 0, -/
abbrev slot0 : Rect S2x512x128 := Rect.unit (s := S2x512x128) ![0, 0, 0] S1x512x128.size inb_S2x512x128_S1x512x128_0_0_0
/-- and at slot 1. -/
abbrev slot1 : Rect S2x512x128 := Rect.unit (s := S2x512x128) ![1, 0, 0] S1x512x128.size inb_S2x512x128_S1x512x128_1_0_0

/-- What a slab reads of a buffer's contents. -/
def slab {e : EltTy} (a : Memref sig .tc .vmem S2x512x128 e) (r : Rect S2x512x128) (f : a.view.ty.Contents (Elt F)) : r.shape.Idx → Elt F e :=
  a.view.readAt (Elt F) r.toLoadRect f

omit [FloatOps F] [Named F] in
/-- A slab reads what was stored to it last. -/
theorem slab_same {e : EltTy} (a : Memref sig .tc .vmem S2x512x128 e) (r : Rect S2x512x128) (f : a.view.ty.Contents (Elt F))
    (w : r.shape.Idx → Elt F e) (L : List (View.Piece (Elt F) S2x512x128 e)) : slab a r (a.view.writes (Elt F) f (⟨r, w⟩ :: L)) = w := by
  funext x
  exact View.read_writes_cons_emb a.view f r w L x

omit [FloatOps F] [Named F] in
/-- Slot 1 does not see a store to slot 0. -/
theorem slab1_of_0 {e : EltTy} (a : Memref sig .tc .vmem S2x512x128 e) (f : a.view.ty.Contents (Elt F)) (w : slot0.shape.Idx → Elt F e) :
    slab a slot1 (a.view.writes (Elt F) f [⟨slot0, w⟩]) = slab a slot1 f :=
  readAt_writes_eq_of_disjAll (c := ((0 : Dev nD) : Thread nD τ)) f _ _ (by rfl)

omit [FloatOps F] [Named F] in
/-- Slot 0 does not see a store to slot 1. -/
theorem slab0_of_1 {e : EltTy} (a : Memref sig .tc .vmem S2x512x128 e) (f : a.view.ty.Contents (Elt F)) (w : slot1.shape.Idx → Elt F e) :
    slab a slot0 (a.view.writes (Elt F) f [⟨slot1, w⟩]) = slab a slot0 f :=
  readAt_writes_eq_of_disjAll (c := ((0 : Dev nD) : Thread nD τ)) f _ _ (by rfl)

/-- Rows of 256 of a block of 8192. -/
abbrev rows (o : Fin 3 → ℕ) (h : ∀ a, o a + S1x256x128.size a ≤ S1x8192x128.size a) : Rect S1x8192x128 :=
  Rect.unit (s := S1x8192x128) o S1x256x128.size h

/-- Those rows of a buffer's contents. -/
def rowsOf (a : Memref sig .tc .vmem S1x8192x128 .bf16) (o : Fin 3 → ℕ) (h : ∀ x, o x + S1x256x128.size x ≤ S1x8192x128.size x)
    (f : a.view.ty.Contents (Elt F)) : Vec F S1x256x128 .bf16 :=
  a.view.readAt (Elt F) (rows o h).toLoadRect f

/-- The scratch of zeros and ones, whole. -/
def whole7 (a : Memref sig .tc .vmem S256x256 .bf16) (f : a.view.ty.Contents (Elt F)) : Vec F S256x256 .bf16 :=
  a.view.readAt (Elt F) (Rect.unit (s := S256x256) ![0, 0] S256x256.size inb_S256x256_S256x256_0_0).toLoadRect f

/-- The factor from natural to binary logarithms. -/
abbrev kLog : F .f32 := Named.named κ "log2e" 0x3FB8AA3B#32
/-- The limit of the survivals. -/
abbrev kSkip : F .f32 := Named.named κ "skip" 0x43180000#32

/-- The survivals after a pair of key blocks, -/
def pairCar (car : Vec F S1x512x128 .f32) (qq : Vec F S1x512x128 .bf16) (k1 k2 : Vec F S1x256x128 .bf16) : Vec F S1x512x128 .f32 :=
  k0_pay3 (k0_pay74 (k0_pay67 (k0_pay59 car) (k0_pay63 qq k1)) (k0_pay70 qq k2) (k0_pay71 qq k2) kLog)
/-- and the sums. -/
def pairAcc (acc car : Vec F S1x512x128 .f32) (qq : Vec F S1x512x128 .bf16) (k1 v1 k2 v2 : Vec F S1x256x128 .bf16) (w : Vec F S256x256 .bf16) :
    Vec F S1x512x128 .f32 :=
  k0_pay73 (k0_pay66 (k0_pay60 v1) (k0_pay61 qq k1) (k0_pay62 qq k1) (k0_pay64 car) (k0_pay65 qq k1) w) (k0_pay67 (k0_pay59 car) (k0_pay63 qq k1))
    (k0_pay68 v2) (k0_pay69 qq k2) (k0_pay70 qq k2) (k0_pay71 qq k2) kLog w acc

variable (c : Dev nD) (i : grid0.Coords) (t : Fin k0_t1_loop.trips)
    (arg10 : Memref sig .tc .vmem S2x512x128 .f32) (harg10 : arg10.IsWhole)
    (arg8 : Memref sig .tc .vmem S2x512x128 .bf16) (harg8 : arg8.IsWhole)
    (arg3 : Memref sig .tc .vmem S1x8192x128 .bf16) (harg3 : arg3.IsWhole)
    (arg4 : Memref sig .tc .vmem S1x8192x128 .bf16) (harg4 : arg4.IsWhole)
    (arg7 : Memref sig .tc .vmem S256x256 .bf16) (harg7 : arg7.IsWhole)
    (arg9 : Memref sig .tc .vmem S2x512x128 .f32) (harg9 : arg9.IsWhole)

/-- What a loop holds: the operands at given contents, and sums and survivals of which `Q` holds. -/
def loopHeld (f8 : arg8.view.ty.Contents (Elt F)) (f3 : arg3.view.ty.Contents (Elt F)) (f4 : arg4.view.ty.Contents (Elt F))
    (f7 : arg7.view.ty.Contents (Elt F)) (Q : arg9.view.ty.Contents (Elt F) → arg10.view.ty.Contents (Elt F) → Prop) : sProp 𝕄 :=
  iprop(∃ f9 f10, ⌜Q f9 f10⌝ ∗ pt c arg10 f10 ∗ pt c arg8 f8 ∗ pt c arg3 f3 ∗ pt c arg4 f4 ∗ pt c arg7 f7 ∗ pt c arg9 f9)

/-- A conjunction of words that is one has one on the left. -/
theorem word_and_left {a b : BitVec 1} (h : Scalar.andi a b = 1#1) : a = 1#1 := by
  revert h; unfold Scalar.andi; revert a b; decide
/-- And on the right. -/
theorem word_and_right {a b : BitVec 1} (h : Scalar.andi a b = 1#1) : b = 1#1 := by
  revert h; unfold Scalar.andi; revert a b; decide
/-- Two words that are one. -/
theorem word_and {a b : BitVec 1} (h : a = 1#1) (h' : b = 1#1) : Scalar.andi a b = 1#1 := by
  subst h h'; rfl

/-! ## Slot 0 -/

/-- The relation kept by the loop of slot 0: `Q` of its slabs, slot 1's slabs as they were. -/
def kept0 {arg9 arg10 : Memref sig .tc .vmem S2x512x128 .f32} (Q : ℕ → Vec F S1x512x128 .f32 → Vec F S1x512x128 .f32 → F .f32 → Prop) (b9 b10 : Vec F S1x512x128 .f32) (p : ℕ) (low : F .f32)
    (f9 : arg9.view.ty.Contents (Elt F)) (f10 : arg10.view.ty.Contents (Elt F)) : Prop :=
  Q p (slab arg9 slot0 f9) (slab arg10 slot0 f10) low ∧ slab arg9 slot1 f9 = b9 ∧ slab arg10 slot1 f10 = b10

/-- What the loop of slot 0 does after `p` pairs: it ends with no pair left or the limit reached. -/
def spec0 (f8 : arg8.view.ty.Contents (Elt F)) (f3 : arg3.view.ty.Contents (Elt F)) (f4 : arg4.view.ty.Contents (Elt F))
    (f7 : arg7.view.ty.Contents (Elt F)) (Q : ℕ → Vec F S1x512x128 .f32 → Vec F S1x512x128 .f32 → F .f32 → Prop)
    (b9 b10 : Vec F S1x512x128 .f32) (p : ℕ) (low : F .f32) : sWPT 𝕄 (BitVec 32 × F .f32) := do
  consume (loopHeld c arg10 arg8 arg3 arg4 arg7 arg9 f8 f3 f4 f7 (kept0 Q b9 b10 p low))
  let r ← (arbitrary : sWPT 𝕄 (ℕ × F .f32))
  produce iprop(⌜r.1 < t.val - 1 → Scalar.cmpf .olt r.2 kSkip ≠ 1#1⌝ ∗ loopHeld c arg10 arg8 arg3 arg4 arg7 arg9 f8 f3 f4 f7 (kept0 Q b9 b10 r.1 r.2))
  pure (BitVec.ofNat 32 r.1, r.2)

/-- Spelled out. -/
theorem spec0_apply (f8 : arg8.view.ty.Contents (Elt F)) (f3 : arg3.view.ty.Contents (Elt F)) (f4 : arg4.view.ty.Contents (Elt F))
    (f7 : arg7.view.ty.Contents (Elt F)) (Q : ℕ → Vec F S1x512x128 .f32 → Vec F S1x512x128 .f32 → F .f32 → Prop)
    (b9 b10 : Vec F S1x512x128 .f32) (p : ℕ) (low : F .f32) (K : BitVec 32 × F .f32 → sProp 𝕄) :
    spec0 c t arg10 arg8 arg3 arg4 arg7 arg9 f8 f3 f4 f7 Q b9 b10 p low K
      = iprop(loopHeld c arg10 arg8 arg3 arg4 arg7 arg9 f8 f3 f4 f7 (kept0 Q b9 b10 p low)
          ∗ ∀ r : ℕ × F .f32, (⌜r.1 < t.val - 1 → Scalar.cmpf .olt r.2 kSkip ≠ 1#1⌝
              ∗ loopHeld c arg10 arg8 arg3 arg4 arg7 arg9 f8 f3 f4 f7 (kept0 Q b9 b10 r.1 r.2)) -∗ K (BitVec.ofNat 32 r.1, r.2)) := rfl

set_option maxHeartbeats 1000000 in
/-- One entry of the loop of slot 0, given what the next one does. -/
theorem step0_le (E : Set ℕ) (f8 : arg8.view.ty.Contents (Elt F)) (f3 : arg3.view.ty.Contents (Elt F)) (f4 : arg4.view.ty.Contents (Elt F))
    (f7 : arg7.view.ty.Contents (Elt F)) (Q : ℕ → Vec F S1x512x128 .f32 → Vec F S1x512x128 .f32 → F .f32 → Prop)
    (hQ : ∀ p acc car low, p < t.val - 1 → ∀ hk : k0_chk1 t (BitVec.ofNat 32 p), Q p acc car low →
      Q (p + 1) (pairAcc acc car (slab arg8 slot0 f8) (rowsOf arg3 _ (k0_off3_inb t _ hk) f3) (rowsOf arg4 _ (k0_off3_inb t _ hk) f4)
          (rowsOf arg3 _ (k0_off4_inb t _ hk) f3) (rowsOf arg4 _ (k0_off4_inb t _ hk) f4) (whole7 arg7 f7))
        (pairCar car (slab arg8 slot0 f8) (rowsOf arg3 _ (k0_off3_inb t _ hk) f3) (rowsOf arg3 _ (k0_off4_inb t _ hk) f3))
        (k0_pay4 (pairCar car (slab arg8 slot0 f8) (rowsOf arg3 _ (k0_off3_inb t _ hk) f3) (rowsOf arg3 _ (k0_off4_inb t _ hk) f3))))
    (b9 b10 : Vec F S1x512x128 .f32) (n p : ℕ) (hp : p < 17)
    (ih : p < t.val - 1 → ∃ m, m < n ∧ ∀ low K, spec0 c t arg10 arg8 arg3 arg4 arg7 arg9 f8 f3 f4 f7 Q b9 b10 (p + 1) low K
      ⊢ wp frame (wpE (defs₀ (F := F)) 𝒱₀ (c : Thread nD τ) (some m)) E
          (defs₀ (F := F) .tc 1 ⟨i, t, arg10, harg10, arg8, harg8, arg3, harg3, arg4, harg4, arg7, harg7, arg9, harg9, BitVec.ofNat 32 (p + 1), low⟩) K)
    (low : F .f32) (K : BitVec 32 × F .f32 → sProp 𝕄) :
      spec0 c t arg10 arg8 arg3 arg4 arg7 arg9 f8 f3 f4 f7 Q b9 b10 p low K
      ⊢ wp frame (wpE (defs₀ (F := F)) 𝒱₀ (c : Thread nD τ) (some n)) E
          (defs₀ (F := F) .tc 1 ⟨i, t, arg10, harg10, arg8, harg8, arg3, harg3, arg4, harg4, arg7, harg7, arg9, harg9, BitVec.ofNat 32 p, low⟩) K := by
  show _ ⊢ wp frame (wpE (defs₀ (F := F)) 𝒱₀ (c : Thread nD τ) (some n)) E
    (cc0_while1 i t arg10 harg10 arg8 harg8 arg3 harg3 arg4 harg4 arg7 harg7 arg9 harg9 (BitVec.ofNat 32 p) low) K
  simp only [cc0_while1_eq_skeleton]; unfold cc0_while1_skel
  rw [spec0_apply]; unfold loopHeld pt
  iintro ⟨⟨%f9, %f10, %hq, H10, H8, H3, H4, H7, H9⟩, Hk⟩
  sl_exec
  by_cases hc : step0_le.sl.v474 t p low = 1#1
  · have hlt : p < t.val - 1 ∧ k0_chk1 t (BitVec.ofNat 32 p) := by
      have h : ∀ t : Fin k0_t1_loop.trips, ∀ n : Fin 17, step0_le.sl.v472 t n.val = 1#1 → n.val < t.val - 1 ∧ k0_chk1 t (BitVec.ofNat 32 n.val) := by
        decide +kernel
      exact h t ⟨p, hp⟩ (word_and_left hc)
    obtain ⟨hl, hk⟩ := hlt
    obtain ⟨m, hm, hih⟩ := ih hl
    sl_exec
    have e10 : step0_le.sl.H10_1 t arg10 arg8 arg3 f8 f3 p f10 hk
        = [⟨slot0, pairCar (slab arg10 slot0 f10) (slab arg8 slot0 f8) (rowsOf arg3 _ (k0_off3_inb t _ hk) f3) (rowsOf arg3 _ (k0_off4_inb t _ hk) f3)⟩] := rfl
    have e9 : step0_le.sl.v589 t arg10 arg8 arg3 arg4 arg7 arg9 f8 f3 f4 f7 p f9 f10 hk
        = pairAcc (slab arg9 slot0 f9) (slab arg10 slot0 f10) (slab arg8 slot0 f8) (rowsOf arg3 _ (k0_off3_inb t _ hk) f3) (rowsOf arg4 _ (k0_off3_inb t _ hk) f4)
          (rowsOf arg3 _ (k0_off4_inb t _ hk) f3) (rowsOf arg4 _ (k0_off4_inb t _ hk) f4) (whole7 arg7 f7) := rfl
    have e97 : step0_le.sl.v597 t arg10 arg8 arg3 f8 f3 p f10 hk
        = pairCar (slab arg10 slot0 f10) (slab arg8 slot0 f8) (rowsOf arg3 _ (k0_off3_inb t _ hk) f3) (rowsOf arg3 _ (k0_off4_inb t _ hk) f3) := by
      unfold step0_le.sl.v597
      rw [e10]
      exact slab_same arg10 slot0 arg10.view.junk _ []
    have e96 : step0_le.sl.v596 p = BitVec.ofNat 32 (p + 1) := (BitVec.ofNat_add p 1).symm
    rw [e10, e9, e97, e96]
    iapply (wp_call_spec 𝒱₀ (c : Thread nD τ) (some n) E (spec0 c t arg10 arg8 arg3 arg4 arg7 arg9 f8 f3 f4 f7 Q b9 b10 (p + 1) _) m
      (fun u hu => by cases hu; exact hm) (hih _))
    rw [spec0_apply]; unfold loopHeld pt
    isplitr [Hk]
    · iexists _, _
      isplitr
      rotate_left
      · isplitl [H10]; · iexact H10
        isplitl [H8]; · iexact H8
        isplitl [H3]; · iexact H3
        isplitl [H4]; · iexact H4
        isplitl [H7]; · iexact H7
        iexact H9
      · ipureintro
        obtain ⟨h1, h2, h3⟩ := hq
        refine ⟨?_, (slab1_of_0 _ _ _).trans h2, (slab1_of_0 _ _ _).trans h3⟩
        rw [slab_same, slab_same]
        exact hQ p _ _ low hl hk h1
    · iintro %r
      iintro Hr
      rw [wp_ret]; imodintro
      ispecialize Hk $$ %r
      iapply Hk
      iexact Hr
  · have hn : p < t.val - 1 → Scalar.cmpf .olt low kSkip ≠ 1#1 := by
      have h : ∀ t : Fin k0_t1_loop.trips, ∀ n : Fin 17, n.val < t.val - 1 → step0_le.sl.v472 t n.val = 1#1 := by
        decide +kernel
      exact fun hp' h' => hc (word_and (h t ⟨p, hp⟩ hp') h')
    sl_exec
    rw [wp_ret]; imodintro
    ispecialize Hk $$ %((p, low) : ℕ × F .f32)
    iapply Hk
    isplitr
    · ipureintro; exact hn
    · iexists f9, f10
      isplitr
      rotate_left
      · isplitl [H10]; · iexact H10
        isplitl [H8]; · iexact H8
        isplitl [H3]; · iexact H3
        isplitl [H4]; · iexact H4
        isplitl [H7]; · iexact H7
        iexact H9
      · ipureintro; exact hq

/-- The loop of slot 0 does what it is said to. -/
theorem spec0_le (E : Set ℕ) (f8 : arg8.view.ty.Contents (Elt F)) (f3 : arg3.view.ty.Contents (Elt F)) (f4 : arg4.view.ty.Contents (Elt F))
    (f7 : arg7.view.ty.Contents (Elt F)) (Q : ℕ → Vec F S1x512x128 .f32 → Vec F S1x512x128 .f32 → F .f32 → Prop)
    (hQ : ∀ p acc car low, p < t.val - 1 → ∀ hk : k0_chk1 t (BitVec.ofNat 32 p), Q p acc car low →
      Q (p + 1) (pairAcc acc car (slab arg8 slot0 f8) (rowsOf arg3 _ (k0_off3_inb t _ hk) f3) (rowsOf arg4 _ (k0_off3_inb t _ hk) f4)
          (rowsOf arg3 _ (k0_off4_inb t _ hk) f3) (rowsOf arg4 _ (k0_off4_inb t _ hk) f4) (whole7 arg7 f7))
        (pairCar car (slab arg8 slot0 f8) (rowsOf arg3 _ (k0_off3_inb t _ hk) f3) (rowsOf arg3 _ (k0_off4_inb t _ hk) f3))
        (k0_pay4 (pairCar car (slab arg8 slot0 f8) (rowsOf arg3 _ (k0_off3_inb t _ hk) f3) (rowsOf arg3 _ (k0_off4_inb t _ hk) f3))))
    (b9 b10 : Vec F S1x512x128 .f32) : ∀ n p, p + n = 16 → ∀ low K,
      spec0 c t arg10 arg8 arg3 arg4 arg7 arg9 f8 f3 f4 f7 Q b9 b10 p low K
      ⊢ wp frame (wpE (defs₀ (F := F)) 𝒱₀ (c : Thread nD τ) (some n)) E
          (defs₀ (F := F) .tc 1 ⟨i, t, arg10, harg10, arg8, harg8, arg3, harg3, arg4, harg4, arg7, harg7, arg9, harg9, BitVec.ofNat 32 p, low⟩) K := by
  have ht : t.val < 16 := t.isLt
  intro n
  induction n with
  | zero =>
    intro p hp low K
    obtain rfl : p = 16 := hp
    exact step0_le c i t arg10 harg10 arg8 harg8 arg3 harg3 arg4 harg4 arg7 harg7 arg9 harg9 E f8 f3 f4 f7 Q hQ b9 b10 0 16 (by omega)
      (fun h => by omega) low K
  | succ n ih =>
    intro p hp low K
    exact step0_le c i t arg10 harg10 arg8 harg8 arg3 harg3 arg4 harg4 arg7 harg7 arg9 harg9 E f8 f3 f4 f7 Q hQ b9 b10 (n + 1) p (by omega)
      (fun h => ⟨n, Nat.lt_succ_self n, fun low K => ih (p + 1) (by omega) low K⟩) low K

/-! ## Slot 1 -/

/-- The relation kept by the loop of slot 1: `Q` of its slabs, slot 0's slabs as they were. -/
def kept1 {arg9 arg10 : Memref sig .tc .vmem S2x512x128 .f32} (Q : ℕ → Vec F S1x512x128 .f32 → Vec F S1x512x128 .f32 → F .f32 → Prop) (b9 b10 : Vec F S1x512x128 .f32) (p : ℕ) (low : F .f32)
    (f9 : arg9.view.ty.Contents (Elt F)) (f10 : arg10.view.ty.Contents (Elt F)) : Prop :=
  Q p (slab arg9 slot1 f9) (slab arg10 slot1 f10) low ∧ slab arg9 slot0 f9 = b9 ∧ slab arg10 slot0 f10 = b10

/-- What the loop of slot 1 does after `p` pairs: it ends with no pair left or the limit reached. -/
def spec1 (f8 : arg8.view.ty.Contents (Elt F)) (f3 : arg3.view.ty.Contents (Elt F)) (f4 : arg4.view.ty.Contents (Elt F))
    (f7 : arg7.view.ty.Contents (Elt F)) (Q : ℕ → Vec F S1x512x128 .f32 → Vec F S1x512x128 .f32 → F .f32 → Prop)
    (b9 b10 : Vec F S1x512x128 .f32) (p : ℕ) (low : F .f32) : sWPT 𝕄 (BitVec 32 × F .f32) := do
  consume (loopHeld c arg10 arg8 arg3 arg4 arg7 arg9 f8 f3 f4 f7 (kept1 Q b9 b10 p low))
  let r ← (arbitrary : sWPT 𝕄 (ℕ × F .f32))
  produce iprop(⌜r.1 < t.val → Scalar.cmpf .olt r.2 kSkip ≠ 1#1⌝ ∗ loopHeld c arg10 arg8 arg3 arg4 arg7 arg9 f8 f3 f4 f7 (kept1 Q b9 b10 r.1 r.2))
  pure (BitVec.ofNat 32 r.1, r.2)

/-- Spelled out. -/
theorem spec1_apply (f8 : arg8.view.ty.Contents (Elt F)) (f3 : arg3.view.ty.Contents (Elt F)) (f4 : arg4.view.ty.Contents (Elt F))
    (f7 : arg7.view.ty.Contents (Elt F)) (Q : ℕ → Vec F S1x512x128 .f32 → Vec F S1x512x128 .f32 → F .f32 → Prop)
    (b9 b10 : Vec F S1x512x128 .f32) (p : ℕ) (low : F .f32) (K : BitVec 32 × F .f32 → sProp 𝕄) :
    spec1 c t arg10 arg8 arg3 arg4 arg7 arg9 f8 f3 f4 f7 Q b9 b10 p low K
      = iprop(loopHeld c arg10 arg8 arg3 arg4 arg7 arg9 f8 f3 f4 f7 (kept1 Q b9 b10 p low)
          ∗ ∀ r : ℕ × F .f32, (⌜r.1 < t.val → Scalar.cmpf .olt r.2 kSkip ≠ 1#1⌝
              ∗ loopHeld c arg10 arg8 arg3 arg4 arg7 arg9 f8 f3 f4 f7 (kept1 Q b9 b10 r.1 r.2)) -∗ K (BitVec.ofNat 32 r.1, r.2)) := rfl

set_option maxHeartbeats 1000000 in
/-- One entry of the loop of slot 1, given what the next one does. -/
theorem step1_le (E : Set ℕ) (v356 : BitVec 1) (f8 : arg8.view.ty.Contents (Elt F)) (f3 : arg3.view.ty.Contents (Elt F)) (f4 : arg4.view.ty.Contents (Elt F))
    (f7 : arg7.view.ty.Contents (Elt F)) (Q : ℕ → Vec F S1x512x128 .f32 → Vec F S1x512x128 .f32 → F .f32 → Prop)
    (hQ : ∀ p acc car low, p < t.val → ∀ hk : k0_chk2 t (BitVec.ofNat 32 p), Q p acc car low →
      Q (p + 1) (pairAcc acc car (slab arg8 slot1 f8) (rowsOf arg3 _ (k0_off5_inb t _ hk) f3) (rowsOf arg4 _ (k0_off5_inb t _ hk) f4)
          (rowsOf arg3 _ (k0_off6_inb t _ hk) f3) (rowsOf arg4 _ (k0_off6_inb t _ hk) f4) (whole7 arg7 f7))
        (pairCar car (slab arg8 slot1 f8) (rowsOf arg3 _ (k0_off5_inb t _ hk) f3) (rowsOf arg3 _ (k0_off6_inb t _ hk) f3))
        (k0_pay4 (pairCar car (slab arg8 slot1 f8) (rowsOf arg3 _ (k0_off5_inb t _ hk) f3) (rowsOf arg3 _ (k0_off6_inb t _ hk) f3))))
    (b9 b10 : Vec F S1x512x128 .f32) (n p : ℕ) (hp : p < 17)
    (ih : p < t.val → ∃ m, m < n ∧ ∀ low K, spec1 c t arg10 arg8 arg3 arg4 arg7 arg9 f8 f3 f4 f7 Q b9 b10 (p + 1) low K
      ⊢ wp frame (wpE (defs₀ (F := F)) 𝒱₀ (c : Thread nD τ) (some m)) E
          (defs₀ (F := F) .tc 2 ⟨i, t, v356, arg10, harg10, arg8, harg8, arg3, harg3, arg4, harg4, arg7, harg7, arg9, harg9, BitVec.ofNat 32 (p + 1), low⟩) K)
    (low : F .f32) (K : BitVec 32 × F .f32 → sProp 𝕄) :
      spec1 c t arg10 arg8 arg3 arg4 arg7 arg9 f8 f3 f4 f7 Q b9 b10 p low K
      ⊢ wp frame (wpE (defs₀ (F := F)) 𝒱₀ (c : Thread nD τ) (some n)) E
          (defs₀ (F := F) .tc 2 ⟨i, t, v356, arg10, harg10, arg8, harg8, arg3, harg3, arg4, harg4, arg7, harg7, arg9, harg9, BitVec.ofNat 32 p, low⟩) K := by
  show _ ⊢ wp frame (wpE (defs₀ (F := F)) 𝒱₀ (c : Thread nD τ) (some n)) E
    (cc0_while2 i t v356 arg10 harg10 arg8 harg8 arg3 harg3 arg4 harg4 arg7 harg7 arg9 harg9 (BitVec.ofNat 32 p) low) K
  simp only [cc0_while2_eq_skeleton]; unfold cc0_while2_skel
  rw [spec1_apply]; unfold loopHeld pt
  iintro ⟨⟨%f9, %f10, %hq, H10, H8, H3, H4, H7, H9⟩, Hk⟩
  sl_exec
  by_cases hc : step1_le.sl.v474 t p low = 1#1
  · have hlt : p < t.val ∧ k0_chk2 t (BitVec.ofNat 32 p) := by
      have h : ∀ t : Fin k0_t1_loop.trips, ∀ n : Fin 17, step1_le.sl.v472 t n.val = 1#1 → n.val < t.val ∧ k0_chk2 t (BitVec.ofNat 32 n.val) := by
        decide +kernel
      exact h t ⟨p, hp⟩ (word_and_left hc)
    obtain ⟨hl, hk⟩ := hlt
    obtain ⟨m, hm, hih⟩ := ih hl
    sl_exec
    have e10 : step1_le.sl.H10_1 t arg10 arg8 arg3 f8 f3 p f10 hk
        = [⟨slot1, pairCar (slab arg10 slot1 f10) (slab arg8 slot1 f8) (rowsOf arg3 _ (k0_off5_inb t _ hk) f3) (rowsOf arg3 _ (k0_off6_inb t _ hk) f3)⟩] := rfl
    have e9 : step1_le.sl.v589 t arg10 arg8 arg3 arg4 arg7 arg9 f8 f3 f4 f7 p f9 f10 hk
        = pairAcc (slab arg9 slot1 f9) (slab arg10 slot1 f10) (slab arg8 slot1 f8) (rowsOf arg3 _ (k0_off5_inb t _ hk) f3) (rowsOf arg4 _ (k0_off5_inb t _ hk) f4)
          (rowsOf arg3 _ (k0_off6_inb t _ hk) f3) (rowsOf arg4 _ (k0_off6_inb t _ hk) f4) (whole7 arg7 f7) := rfl
    have e97 : step1_le.sl.v597 t arg10 arg8 arg3 f8 f3 p f10 hk
        = pairCar (slab arg10 slot1 f10) (slab arg8 slot1 f8) (rowsOf arg3 _ (k0_off5_inb t _ hk) f3) (rowsOf arg3 _ (k0_off6_inb t _ hk) f3) := by
      unfold step1_le.sl.v597
      rw [e10]
      exact slab_same arg10 slot1 arg10.view.junk _ []
    have e96 : step1_le.sl.v596 p = BitVec.ofNat 32 (p + 1) := (BitVec.ofNat_add p 1).symm
    rw [e10, e9, e97, e96]
    iapply (wp_call_spec 𝒱₀ (c : Thread nD τ) (some n) E (spec1 c t arg10 arg8 arg3 arg4 arg7 arg9 f8 f3 f4 f7 Q b9 b10 (p + 1) _) m
      (fun u hu => by cases hu; exact hm) (hih _))
    rw [spec1_apply]; unfold loopHeld pt
    isplitr [Hk]
    · iexists _, _
      isplitr
      rotate_left
      · isplitl [H10]; · iexact H10
        isplitl [H8]; · iexact H8
        isplitl [H3]; · iexact H3
        isplitl [H4]; · iexact H4
        isplitl [H7]; · iexact H7
        iexact H9
      · ipureintro
        obtain ⟨h1, h2, h3⟩ := hq
        refine ⟨?_, (slab0_of_1 _ _ _).trans h2, (slab0_of_1 _ _ _).trans h3⟩
        rw [slab_same, slab_same]
        exact hQ p _ _ low hl hk h1
    · iintro %r
      iintro Hr
      rw [wp_ret]; imodintro
      ispecialize Hk $$ %r
      iapply Hk
      iexact Hr
  · have hn : p < t.val → Scalar.cmpf .olt low kSkip ≠ 1#1 := by
      have h : ∀ t : Fin k0_t1_loop.trips, ∀ n : Fin 17, n.val < t.val → step1_le.sl.v472 t n.val = 1#1 := by
        decide +kernel
      exact fun hp' h' => hc (word_and (h t ⟨p, hp⟩ hp') h')
    sl_exec
    rw [wp_ret]; imodintro
    ispecialize Hk $$ %((p, low) : ℕ × F .f32)
    iapply Hk
    isplitr
    · ipureintro; exact hn
    · iexists f9, f10
      isplitr
      rotate_left
      · isplitl [H10]; · iexact H10
        isplitl [H8]; · iexact H8
        isplitl [H3]; · iexact H3
        isplitl [H4]; · iexact H4
        isplitl [H7]; · iexact H7
        iexact H9
      · ipureintro; exact hq

/-- The loop of slot 1 does what it is said to. -/
theorem spec1_le (E : Set ℕ) (v356 : BitVec 1) (f8 : arg8.view.ty.Contents (Elt F)) (f3 : arg3.view.ty.Contents (Elt F)) (f4 : arg4.view.ty.Contents (Elt F))
    (f7 : arg7.view.ty.Contents (Elt F)) (Q : ℕ → Vec F S1x512x128 .f32 → Vec F S1x512x128 .f32 → F .f32 → Prop)
    (hQ : ∀ p acc car low, p < t.val → ∀ hk : k0_chk2 t (BitVec.ofNat 32 p), Q p acc car low →
      Q (p + 1) (pairAcc acc car (slab arg8 slot1 f8) (rowsOf arg3 _ (k0_off5_inb t _ hk) f3) (rowsOf arg4 _ (k0_off5_inb t _ hk) f4)
          (rowsOf arg3 _ (k0_off6_inb t _ hk) f3) (rowsOf arg4 _ (k0_off6_inb t _ hk) f4) (whole7 arg7 f7))
        (pairCar car (slab arg8 slot1 f8) (rowsOf arg3 _ (k0_off5_inb t _ hk) f3) (rowsOf arg3 _ (k0_off6_inb t _ hk) f3))
        (k0_pay4 (pairCar car (slab arg8 slot1 f8) (rowsOf arg3 _ (k0_off5_inb t _ hk) f3) (rowsOf arg3 _ (k0_off6_inb t _ hk) f3))))
    (b9 b10 : Vec F S1x512x128 .f32) : ∀ n p, p + n = 16 → ∀ low K,
      spec1 c t arg10 arg8 arg3 arg4 arg7 arg9 f8 f3 f4 f7 Q b9 b10 p low K
      ⊢ wp frame (wpE (defs₀ (F := F)) 𝒱₀ (c : Thread nD τ) (some n)) E
          (defs₀ (F := F) .tc 2 ⟨i, t, v356, arg10, harg10, arg8, harg8, arg3, harg3, arg4, harg4, arg7, harg7, arg9, harg9, BitVec.ofNat 32 p, low⟩) K := by
  have ht : t.val < 16 := t.isLt
  intro n
  induction n with
  | zero =>
    intro p hp low K
    obtain rfl : p = 16 := hp
    exact step1_le c i t arg10 harg10 arg8 harg8 arg3 harg3 arg4 harg4 arg7 harg7 arg9 harg9 E v356 f8 f3 f4 f7 Q hQ b9 b10 0 16 (by omega)
      (fun h => by omega) low K
  | succ n ih =>
    intro p hp low K
    exact step1_le c i t arg10 harg10 arg8 harg8 arg3 harg3 arg4 harg4 arg7 harg7 arg9 harg9 E v356 f8 f3 f4 f7 Q hQ b9 b10 (n + 1) p (by omega)
      (fun h => ⟨n, Nat.lt_succ_self n, fun low K => ih (p + 1) (by omega) low K⟩) low K

end Cert.StickKernelIdeal.Run
-- ==== Proof.StickSteps.lean ====
/-
  One trip of the stick-breaking kernel's loop over row blocks, over the idealized program: two blocks of 256 rows, one in
  each slot of the scratch. What the trip's own steps must keep is stated as a plan, whatever the relation kept.
-/
module

public import proofs.«01_k».proof.Proof.StickLoop
public import Idealize.ShloMosaic.Lib.ValueIdx
public import Idealize.ShloMosaic.Lib.WritesUnit

@[expose] public section

set_option maxRecDepth 16384

noncomputable section

namespace Cert.StickKernelIdeal.Run

open Cert.StickKernelIdeal Cert.StickKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

/-! ## The steps of a trip, as functions of what is loaded -/

/-- The sums of slot 0 after the block on the diagonal and the one before it, -/
def startAcc0 (w : BitVec 32) (qq : Vec F S1x512x128 .bf16) (kd vd kp vp : Vec F S1x256x128 .bf16) (L : Vec F S256x256 .bf16) : Vec F S1x512x128 .f32 :=
  k0_pay37 w (k0_pay29 k0_pay23 (k0_pay24 vd) (k0_pay28 k0_pay23 qq kd L)) (k0_pay30 (k0_pay27 k0_pay23 qq kd)) (k0_pay31 vp) (k0_pay32 qq kp)
    (k0_pay33 qq kp) k0_pay35 (k0_pay36 (F := F)) L
/-- and the survivals. -/
def startCar0 (qq : Vec F S1x512x128 .bf16) (kd kp : Vec F S1x256x128 .bf16) : Vec F S1x512x128 .f32 :=
  k0_pay38 (k0_pay30 (k0_pay27 k0_pay23 qq kd)) (k0_pay34 qq kp)
/-- The sums of slot 1 after the block on the diagonal and the one before it, -/
def startAcc1 (qq : Vec F S1x512x128 .bf16) (kd vd kp vp : Vec F S1x256x128 .bf16) (L : Vec F S256x256 .bf16) : Vec F S1x512x128 .f32 :=
  k0_pay51 (k0_pay42 k0_pay23 (k0_pay39 qq) kd vd L) (k0_pay44 vp) (k0_pay45 qq kp) (k0_pay48 (k0_pay43 k0_pay23 (k0_pay39 qq) kd) qq kp)
    (k0_pay49 (k0_pay43 k0_pay23 (k0_pay39 qq) kd) qq kp) L (k0_pay50 (k0_pay43 k0_pay23 (k0_pay39 qq) kd) qq kp)
/-- and the survivals. -/
def startCar1 (qq : Vec F S1x512x128 .bf16) (kd kp : Vec F S1x256x128 .bf16) : Vec F S1x512x128 .f32 :=
  k0_pay52 (k0_pay43 k0_pay23 (k0_pay39 qq) kd) (k0_pay47 qq kp)
/-- The sums of slot 0 after the first key block of all, when it has no pair. -/
def lastAcc (acc car : Vec F S1x512x128 .f32) (qq : Vec F S1x512x128 .bf16) (k v : Vec F S1x256x128 .bf16) (L : Vec F S256x256 .bf16) : Vec F S1x512x128 .f32 :=
  k0_pay54 (k0_pay7 v) (k0_pay8 qq k) (k0_pay9 car qq k) (k0_pay10 car qq k) L (k0_pay11 car qq k) acc
/-- Two halves of 256 rows as one slab. -/
def stack {e : EltTy} (a b : Vec F S1x256x128 e) : Vec F S1x512x128 e :=
  fun x => if h : (x 1).val < 256 then a (ix3 (0 : Fin 1) (⟨(x 1).val, h⟩ : Fin 256) (x 2 : Fin 128))
    else b (ix3 (0 : Fin 1) (⟨(x 1).val - 256, by have h1 : (x 1).val < 512 := (x 1).isLt; omega⟩ : Fin 256) (x 2 : Fin 128))
/-- The half of a slab from row 0, -/
def half0 {e : EltTy} (x : Vec F S1x512x128 e) : Vec F S1x256x128 e :=
  fun y => x (ix3 (0 : Fin 1) (⟨(y 1).val, by have h1 : (y 1).val < 256 := (y 1).isLt; omega⟩ : Fin 512) (y 2 : Fin 128))
/-- and from row 256. -/
def half1 {e : EltTy} (x : Vec F S1x512x128 e) : Vec F S1x256x128 e :=
  fun y => x (ix3 (0 : Fin 1) (⟨(y 1).val + 256, by have h1 : (y 1).val < 256 := (y 1).isLt; omega⟩ : Fin 512) (y 2 : Fin 128))
/-- The rows given out, of the sums and the gate. -/
def outRows (acc : Vec F S1x512x128 .f32) (g : Vec F S1x256x128 .bf16) : Vec F S1x256x128 .bf16 := k0_pay57 (half0 acc) (half1 acc) g
/-- The two heads' queries of a row block. -/
def qqOf (q : Vec F S1x256x128 .bf16) : Vec F S1x512x128 .bf16 := stack (k0_pay18 q) (k0_pay19 q)

/-- A slab of two stored halves. -/
theorem slab0_stored (a : Memref sig .tc .vmem S2x512x128 .bf16) (f : a.view.ty.Contents (Elt F)) (x0 x1 y0 y1 : Vec F S1x256x128 .bf16) :
    slab a slot0 (a.view.writes (Elt F) f [
      ⟨Rect.unit (s := S2x512x128) ![1, 256, 0] S1x256x128.size inb_S2x512x128_S1x256x128_1_256_0, y1⟩,
      ⟨Rect.unit (s := S2x512x128) ![1, 0, 0] S1x256x128.size inb_S2x512x128_S1x256x128_1_0_0, y0⟩,
      ⟨Rect.unit (s := S2x512x128) ![0, 256, 0] S1x256x128.size inb_S2x512x128_S1x256x128_0_256_0, x1⟩,
      ⟨Rect.unit (s := S2x512x128) ![0, 0, 0] S1x256x128.size inb_S2x512x128_S1x256x128_0_0_0, x0⟩]) = stack x0 x1 := by
  funext x
  unfold slab stack
  rw [View.readAt_apply]
  have h0 : (x 0).val < 1 := (x 0).isLt
  have h1 : (x 1).val < 512 := (x 1).isLt
  have e0 : ((slot0.toLoadRect.idx x) 0).val = 0 := by show 0 + 1 * (x 0).val = 0; omega
  have e1 : ((slot0.toLoadRect.idx x) 1).val = (x 1).val := by show 0 + 1 * (x 1).val = _; omega
  have e2 : ((slot0.toLoadRect.idx x) 2).val = (x 2).val := by show 0 + 1 * (x 2).val = _; omega
  refine Eq.trans (View.read_writes_cons_unit_of_not_mem (off' := ![1, 256, 0]) _ _ _ _ _ _ rfl 0 (Or.inl (by rw [e0]; decide))) ?_
  refine Eq.trans (View.read_writes_cons_unit_of_not_mem (off' := ![1, 0, 0]) _ _ _ _ _ _ rfl 0 (Or.inl (by rw [e0]; decide))) ?_
  by_cases h : (x 1).val < 256
  · rw [dif_pos h]
    refine Eq.trans (View.read_writes_cons_unit_of_not_mem (off' := ![0, 256, 0]) _ _ _ _ _ _ rfl 1 (Or.inl (by rw [e1]; exact h))) ?_
    refine View.read_writes_cons_unit_of_mem (off' := ![0, 0, 0]) _ _ _ _ _ _ _ rfl (Fin.forall_fin_succ.2 ⟨?_, Fin.forall_fin_succ.2 ⟨?_, Fin.forall_fin_succ.2 ⟨?_, fun a => a.elim0⟩⟩⟩)
    · rw [e0]; rfl
    · exact e1.trans (Nat.zero_add _).symm
    · exact e2.trans (Nat.zero_add _).symm
  · rw [dif_neg h]
    refine View.read_writes_cons_unit_of_mem (off' := ![0, 256, 0]) _ _ _ _ _ _ _ rfl (Fin.forall_fin_succ.2 ⟨?_, Fin.forall_fin_succ.2 ⟨?_, Fin.forall_fin_succ.2 ⟨?_, fun a => a.elim0⟩⟩⟩)
    · rw [e0]; rfl
    · exact e1.trans (by show _ = 256 + ((x 1).val - 256); omega)
    · exact e2.trans (Nat.zero_add _).symm

/-- The same of slot 1. -/
theorem slab1_stored (a : Memref sig .tc .vmem S2x512x128 .bf16) (f : a.view.ty.Contents (Elt F)) (y0 y1 : Vec F S1x256x128 .bf16)
    (L : List (View.Piece (Elt F) S2x512x128 .bf16)) :
    slab a slot1 (a.view.writes (Elt F) f (
      ⟨Rect.unit (s := S2x512x128) ![1, 256, 0] S1x256x128.size inb_S2x512x128_S1x256x128_1_256_0, y1⟩ ::
      ⟨Rect.unit (s := S2x512x128) ![1, 0, 0] S1x256x128.size inb_S2x512x128_S1x256x128_1_0_0, y0⟩ :: L)) = stack y0 y1 := by
  funext x
  unfold slab stack
  rw [View.readAt_apply]
  have h0 : (x 0).val < 1 := (x 0).isLt
  have h1 : (x 1).val < 512 := (x 1).isLt
  have e0 : ((slot1.toLoadRect.idx x) 0).val = 1 := by show 1 + 1 * (x 0).val = 1; omega
  have e1 : ((slot1.toLoadRect.idx x) 1).val = (x 1).val := by show 0 + 1 * (x 1).val = _; omega
  have e2 : ((slot1.toLoadRect.idx x) 2).val = (x 2).val := by show 0 + 1 * (x 2).val = _; omega
  by_cases h : (x 1).val < 256
  · rw [dif_pos h]
    refine Eq.trans (View.read_writes_cons_unit_of_not_mem (off' := ![1, 256, 0]) _ _ _ _ _ _ rfl 1 (Or.inl (by rw [e1]; exact h))) ?_
    refine View.read_writes_cons_unit_of_mem (off' := ![1, 0, 0]) _ _ _ _ _ _ _ rfl (Fin.forall_fin_succ.2 ⟨?_, Fin.forall_fin_succ.2 ⟨?_, Fin.forall_fin_succ.2 ⟨?_, fun a => a.elim0⟩⟩⟩)
    · rw [e0]; rfl
    · exact e1.trans (Nat.zero_add _).symm
    · exact e2.trans (Nat.zero_add _).symm
  · rw [dif_neg h]
    refine View.read_writes_cons_unit_of_mem (off' := ![1, 256, 0]) _ _ _ _ _ _ _ rfl (Fin.forall_fin_succ.2 ⟨?_, Fin.forall_fin_succ.2 ⟨?_, Fin.forall_fin_succ.2 ⟨?_, fun a => a.elim0⟩⟩⟩)
    · rw [e0]; rfl
    · exact e1.trans (by show _ = 256 + ((x 1).val - 256); omega)
    · exact e2.trans (Nat.zero_add _).symm

omit [FloatOps F] [Named F] in
/-- The half of a slab's sums from row 0, read by itself, -/
theorem half0_slab0 (a : Memref sig .tc .vmem S2x512x128 .f32) (f : a.view.ty.Contents (Elt F)) :
    a.view.readAt (Elt F) (Rect.unit (s := S2x512x128) ![0, 0, 0] S1x256x128.size inb_S2x512x128_S1x256x128_0_0_0).toLoadRect f = half0 (slab a slot0 f) := by
  funext y
  have h0 : (y 0).val < 1 := (y 0).isLt
  refine congrArg (a.view.read (Elt F) f) (funext (Fin.forall_fin_succ.2 ⟨Fin.ext ?_, Fin.forall_fin_succ.2 ⟨rfl, Fin.forall_fin_succ.2 ⟨rfl, fun x => x.elim0⟩⟩⟩))
  show 0 + 1 * (y 0).val = 0; omega
omit [FloatOps F] [Named F] in
/-- from row 256, -/
theorem half1_slab0 (a : Memref sig .tc .vmem S2x512x128 .f32) (f : a.view.ty.Contents (Elt F)) :
    a.view.readAt (Elt F) (Rect.unit (s := S2x512x128) ![0, 256, 0] S1x256x128.size inb_S2x512x128_S1x256x128_0_256_0).toLoadRect f = half1 (slab a slot0 f) := by
  funext y
  have h0 : (y 0).val < 1 := (y 0).isLt
  refine congrArg (a.view.read (Elt F) f) (funext (Fin.forall_fin_succ.2 ⟨Fin.ext ?_, Fin.forall_fin_succ.2 ⟨Fin.ext ?_, Fin.forall_fin_succ.2 ⟨rfl, fun x => x.elim0⟩⟩⟩))
  · show 0 + 1 * (y 0).val = 0; omega
  · show 256 + 1 * (y 1).val = 0 + 1 * ((y 1).val + 256); omega
omit [FloatOps F] [Named F] in
/-- the same of slot 1, -/
theorem half0_slab1 (a : Memref sig .tc .vmem S2x512x128 .f32) (f : a.view.ty.Contents (Elt F)) :
    a.view.readAt (Elt F) (Rect.unit (s := S2x512x128) ![1, 0, 0] S1x256x128.size inb_S2x512x128_S1x256x128_1_0_0).toLoadRect f = half0 (slab a slot1 f) := by
  funext y
  have h0 : (y 0).val < 1 := (y 0).isLt
  refine congrArg (a.view.read (Elt F) f) (funext (Fin.forall_fin_succ.2 ⟨Fin.ext ?_, Fin.forall_fin_succ.2 ⟨rfl, Fin.forall_fin_succ.2 ⟨rfl, fun x => x.elim0⟩⟩⟩))
  show 1 + 1 * (y 0).val = 1; omega
omit [FloatOps F] [Named F] in
/-- and of its other half. -/
theorem half1_slab1 (a : Memref sig .tc .vmem S2x512x128 .f32) (f : a.view.ty.Contents (Elt F)) :
    a.view.readAt (Elt F) (Rect.unit (s := S2x512x128) ![1, 256, 0] S1x256x128.size inb_S2x512x128_S1x256x128_1_256_0).toLoadRect f = half1 (slab a slot1 f) := by
  funext y
  have h0 : (y 0).val < 1 := (y 0).isLt
  refine congrArg (a.view.read (Elt F) f) (funext (Fin.forall_fin_succ.2 ⟨Fin.ext ?_, Fin.forall_fin_succ.2 ⟨Fin.ext ?_, Fin.forall_fin_succ.2 ⟨rfl, fun x => x.elim0⟩⟩⟩))
  · show 1 + 1 * (y 0).val = 1; omega
  · show 256 + 1 * (y 1).val = 0 + 1 * ((y 1).val + 256); omega

/-! ## What a trip must keep -/

/-- The number of the row block in slot 0, as the kernel computes it. -/
abbrev word0 (t : Fin k0_t1_loop.trips) : BitVec 32 := Scalar.addi (Scalar.muli 2#32 (Scf.iv 0#32 1#32 t)) 0#32

/-- Relations kept by the steps of trip `t` on the operands' contents: `Q0`, `Q1` of each slot's sums and survivals while
    pairs of blocks remain, `D0`, `D1` of its sums at the end. -/
structure Plan (t : Fin k0_t1_loop.trips) (arg2 arg3 arg4 : Memref sig .tc .vmem S1x8192x128 .bf16) (arg7 : Memref sig .tc .vmem S256x256 .bf16)
    (f2 : arg2.view.ty.Contents (Elt F)) (f3 : arg3.view.ty.Contents (Elt F)) (f4 : arg4.view.ty.Contents (Elt F)) (f7 : arg7.view.ty.Contents (Elt F)) where
  Q0 : ℕ → Vec F S1x512x128 .f32 → Vec F S1x512x128 .f32 → F .f32 → Prop
  Q1 : ℕ → Vec F S1x512x128 .f32 → Vec F S1x512x128 .f32 → F .f32 → Prop
  D0 : Vec F S1x512x128 .f32 → Prop
  D1 : Vec F S1x512x128 .f32 → Prop
  start0 : Q0 0 (startAcc0 (word0 t) (qqOf (rowsOf arg2 _ (k0_off1_inb t 0) f2)) (rowsOf arg3 _ (k0_off1_inb t 0) f3) (rowsOf arg4 _ (k0_off1_inb t 0) f4) (rowsOf arg3 _ (k0_off2_inb t 0) f3) (rowsOf arg4 _ (k0_off2_inb t 0) f4) (whole7 arg7 f7)) (startCar0 (qqOf (rowsOf arg2 _ (k0_off1_inb t 0) f2)) (rowsOf arg3 _ (k0_off1_inb t 0) f3) (rowsOf arg3 _ (k0_off2_inb t 0) f3))
    (k0_pay53 (startCar0 (qqOf (rowsOf arg2 _ (k0_off1_inb t 0) f2)) (rowsOf arg3 _ (k0_off1_inb t 0) f3) (rowsOf arg3 _ (k0_off2_inb t 0) f3)))
  pair0 : ∀ p acc car low, p < t.val - 1 → ∀ hk : k0_chk1 t (BitVec.ofNat 32 p), Q0 p acc car low →
    Q0 (p + 1) (pairAcc acc car (qqOf (rowsOf arg2 _ (k0_off1_inb t 0) f2)) (rowsOf arg3 _ (k0_off3_inb t _ hk) f3) (rowsOf arg4 _ (k0_off3_inb t _ hk) f4) (rowsOf arg3 _ (k0_off4_inb t _ hk) f3) (rowsOf arg4 _ (k0_off4_inb t _ hk) f4) (whole7 arg7 f7)) (pairCar car (qqOf (rowsOf arg2 _ (k0_off1_inb t 0) f2)) (rowsOf arg3 _ (k0_off3_inb t _ hk) f3) (rowsOf arg3 _ (k0_off4_inb t _ hk) f3))
      (k0_pay4 (pairCar car (qqOf (rowsOf arg2 _ (k0_off1_inb t 0) f2)) (rowsOf arg3 _ (k0_off3_inb t _ hk) f3) (rowsOf arg3 _ (k0_off4_inb t _ hk) f3)))
  last0 : ∀ p acc car low, Q0 p acc car low → (p < t.val - 1 → Scalar.cmpf .olt low kSkip ≠ 1#1) → 1 ≤ t.val → Scalar.cmpf .olt low kSkip = 1#1 →
    D0 (lastAcc acc car (qqOf (rowsOf arg2 _ (k0_off1_inb t 0) f2)) (rowsOf arg3 ![0, 0, 0] inb_S1x8192x128_S1x256x128_0_0_0 f3)
      (rowsOf arg4 ![0, 0, 0] inb_S1x8192x128_S1x256x128_0_0_0 f4) (whole7 arg7 f7))
  done0 : ∀ p acc car low, Q0 p acc car low → (p < t.val - 1 → Scalar.cmpf .olt low kSkip ≠ 1#1) → ¬ (1 ≤ t.val ∧ Scalar.cmpf .olt low kSkip = 1#1) → D0 acc
  start1 : Q1 0 (startAcc1 (qqOf (rowsOf arg2 _ (k0_off1_inb t 1) f2)) (rowsOf arg3 _ (k0_off1_inb t 1) f3) (rowsOf arg4 _ (k0_off1_inb t 1) f4) (rowsOf arg3 _ (k0_off2_inb t 1) f3) (rowsOf arg4 _ (k0_off2_inb t 1) f4) (whole7 arg7 f7)) (startCar1 (qqOf (rowsOf arg2 _ (k0_off1_inb t 1) f2)) (rowsOf arg3 _ (k0_off1_inb t 1) f3) (rowsOf arg3 _ (k0_off2_inb t 1) f3))
    (k0_pay53 (startCar1 (qqOf (rowsOf arg2 _ (k0_off1_inb t 1) f2)) (rowsOf arg3 _ (k0_off1_inb t 1) f3) (rowsOf arg3 _ (k0_off2_inb t 1) f3)))
  pair1 : ∀ p acc car low, p < t.val → ∀ hk : k0_chk2 t (BitVec.ofNat 32 p), Q1 p acc car low →
    Q1 (p + 1) (pairAcc acc car (qqOf (rowsOf arg2 _ (k0_off1_inb t 1) f2)) (rowsOf arg3 _ (k0_off5_inb t _ hk) f3) (rowsOf arg4 _ (k0_off5_inb t _ hk) f4) (rowsOf arg3 _ (k0_off6_inb t _ hk) f3) (rowsOf arg4 _ (k0_off6_inb t _ hk) f4) (whole7 arg7 f7)) (pairCar car (qqOf (rowsOf arg2 _ (k0_off1_inb t 1) f2)) (rowsOf arg3 _ (k0_off5_inb t _ hk) f3) (rowsOf arg3 _ (k0_off6_inb t _ hk) f3))
      (k0_pay4 (pairCar car (qqOf (rowsOf arg2 _ (k0_off1_inb t 1) f2)) (rowsOf arg3 _ (k0_off5_inb t _ hk) f3) (rowsOf arg3 _ (k0_off6_inb t _ hk) f3)))
  done1 : ∀ p acc car low, Q1 p acc car low → (p < t.val → Scalar.cmpf .olt low kSkip ≠ 1#1) → D1 acc

/-- The plan that keeps nothing. -/
def Plan.none (t : Fin k0_t1_loop.trips) (arg2 arg3 arg4 : Memref sig .tc .vmem S1x8192x128 .bf16) (arg7 : Memref sig .tc .vmem S256x256 .bf16)
    (f2 : arg2.view.ty.Contents (Elt F)) (f3 : arg3.view.ty.Contents (Elt F)) (f4 : arg4.view.ty.Contents (Elt F)) (f7 : arg7.view.ty.Contents (Elt F)) :
    Plan t arg2 arg3 arg4 arg7 f2 f3 f4 f7 where
  Q0 := fun _ _ _ _ => True
  Q1 := fun _ _ _ _ => True
  D0 := fun _ => True
  D1 := fun _ => True
  start0 := trivial
  pair0 := fun _ _ _ _ _ _ _ => trivial
  last0 := fun _ _ _ _ _ _ _ _ => trivial
  done0 := fun _ _ _ _ _ _ _ => trivial
  start1 := trivial
  pair1 := fun _ _ _ _ _ _ _ => trivial
  done1 := fun _ _ _ _ _ _ => trivial

end Cert.StickKernelIdeal.Run
-- ==== Proof.StickTrip.lean ====
/-
  One trip of the stick-breaking kernel's loop over row blocks, run: by any plan for the trip's steps, the two blocks of
  rows given out come of sums the plan's ends hold of.
-/
module

public import proofs.«01_k».proof.Proof.StickSteps

@[expose] public section

set_option maxRecDepth 16384

noncomputable section

namespace Cert.StickKernelIdeal.Run

open Cert.StickKernelIdeal Cert.StickKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (t : Fin k0_t1_loop.trips)
    (arg2 : Memref sig .tc .vmem S1x8192x128 .bf16) (harg2 : arg2.IsWhole)
    (arg3 : Memref sig .tc .vmem S1x8192x128 .bf16) (harg3 : arg3.IsWhole)
    (arg4 : Memref sig .tc .vmem S1x8192x128 .bf16) (harg4 : arg4.IsWhole)
    (arg5 : Memref sig .tc .vmem S1x8192x128 .bf16) (harg5 : arg5.IsWhole)
    (arg6 : Memref sig .tc .vmem S1x8192x128 .bf16) (harg6 : arg6.IsWhole)
    (arg7 : Memref sig .tc .vmem S256x256 .bf16) (harg7 : arg7.IsWhole)
    (arg8 : Memref sig .tc .vmem S2x512x128 .bf16) (harg8 : arg8.IsWhole)
    (arg9 : Memref sig .tc .vmem S2x512x128 .f32) (harg9 : arg9.IsWhole)
    (arg10 : Memref sig .tc .vmem S2x512x128 .f32) (harg10 : arg10.IsWhole)

/-- The flag of a conjunction, as it is tested. -/
theorem flag_on {a b : BitVec 1} (h : Scalar.cmpi .ne (Scalar.extui (Scalar.andi a b) : BitVec 32) 0#32 = 1#1) : a = 1#1 ∧ b = 1#1 := by
  revert a b; decide
/-- And the other way. -/
theorem flag_of {a b : BitVec 1} (ha : a = 1#1) (hb : b = 1#1) : Scalar.cmpi .ne (Scalar.extui (Scalar.andi a b) : BitVec 32) 0#32 = 1#1 := by
  subst ha hb; decide

/-- What a trip leaves in the output: two blocks of rows, of sums the plan's ends hold of. -/
def Left {f2 : arg2.view.ty.Contents (Elt F)} {f3 : arg3.view.ty.Contents (Elt F)} {f4 : arg4.view.ty.Contents (Elt F)} {f7 : arg7.view.ty.Contents (Elt F)}
    (P : Plan t arg2 arg3 arg4 arg7 f2 f3 f4 f7) (f5 : arg5.view.ty.Contents (Elt F)) (f6 f6' : arg6.view.ty.Contents (Elt F)) : Prop :=
  ∃ a0 a1, P.D0 a0 ∧ P.D1 a1 ∧ f6' = arg6.view.writes (Elt F) f6
    [⟨rows _ (k0_off7_inb t 1), outRows a1 (rowsOf arg5 _ (k0_off7_inb t 1) f5)⟩, ⟨rows _ (k0_off7_inb t 0), outRows a0 (rowsOf arg5 _ (k0_off7_inb t 0) f5)⟩]

set_option maxHeartbeats 2000000 in
/-- A trip. -/
theorem trip (f2 : arg2.view.ty.Contents (Elt F)) (f3 : arg3.view.ty.Contents (Elt F)) (f4 : arg4.view.ty.Contents (Elt F))
    (f5 : arg5.view.ty.Contents (Elt F)) (f6 : arg6.view.ty.Contents (Elt F))
    (f7 : arg7.view.ty.Contents (Elt F)) (f8 : arg8.view.ty.Contents (Elt F)) (f9 : arg9.view.ty.Contents (Elt F)) (f10 : arg10.view.ty.Contents (Elt F))
    (P : Plan t arg2 arg3 arg4 arg7 f2 f3 f4 f7) (K : Unit → sProp 𝕄) :
    (iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10
        ∗ (∀ f6' f8' f9' f10', ⌜Left t arg2 arg3 arg4 arg5 arg6 arg7 P f5 f6 f6'⌝ -∗ pt c arg2 f2 -∗ pt c arg3 f3 -∗ pt c arg4 f4 -∗ pt c arg5 f5 -∗ pt c arg6 f6'
            -∗ pt c arg7 f7 -∗ pt c arg8 f8' -∗ pt c arg9 f9' -∗ pt c arg10 f10' -∗ K ())) : sProp 𝕄)
      ⊢ wp frame (wpE (defs₀ (F := F)) 𝒱₀ (c : Thread nD τ) none) Set.univ
          (k0_t1_body (F := F) i arg2 harg2 arg3 harg3 arg4 harg4 arg5 harg5 arg6 harg6 arg7 harg7 arg8 harg8 arg9 harg9 arg10 harg10 t ()) K := by
  unfold k0_t1_body pt
  iintro ⟨H2, H3, H4, H5, H6, H7, H8, H9, H10, HK⟩
  sl_exec
  have e8 : slab arg8 slot0 (arg8.view.writes (Elt F) f8 (trip.sl.H8_4 t arg2 f2)) = qqOf (rowsOf arg2 _ (k0_off1_inb t 0) f2) := slab0_stored _ _ _ _ _ _
  have e8' : slab arg8 slot1 (arg8.view.writes (Elt F) f8 (trip.sl.H8_4 t arg2 f2)) = qqOf (rowsOf arg2 _ (k0_off1_inb t 1) f2) := slab1_stored _ _ _ _ _
  have e8j : (slab arg8 slot0 (arg8.view.writes (Elt F) arg8.view.junk (trip.sl.H8_4 t arg2 f2))) = qqOf (rowsOf arg2 _ (k0_off1_inb t 0) f2) := slab0_stored _ _ _ _ _ _
  have e8j' : (slab arg8 slot1 (arg8.view.writes (Elt F) arg8.view.junk (trip.sl.H8_4 t arg2 f2))) = qqOf (rowsOf arg2 _ (k0_off1_inb t 1) f2) := slab1_stored _ _ _ _ _
  have e10 : trip.sl.H10_2 t arg2 arg3 arg8 f2 f3
      = [⟨slot1, startCar1 (qqOf (rowsOf arg2 _ (k0_off1_inb t 1) f2)) (rowsOf arg3 _ (k0_off1_inb t 1) f3) (rowsOf arg3 _ (k0_off2_inb t 1) f3)⟩, ⟨slot0, startCar0 (qqOf (rowsOf arg2 _ (k0_off1_inb t 0) f2)) (rowsOf arg3 _ (k0_off1_inb t 0) f3) (rowsOf arg3 _ (k0_off2_inb t 0) f3)⟩] := by
    rw [← e8j, ← e8j']; rfl
  have e9 : trip.sl.v196 t arg2 arg3 arg4 arg7 arg8 f2 f3 f4 f7 = startAcc0 (word0 t) (qqOf (rowsOf arg2 _ (k0_off1_inb t 0) f2)) (rowsOf arg3 _ (k0_off1_inb t 0) f3) (rowsOf arg4 _ (k0_off1_inb t 0) f4) (rowsOf arg3 _ (k0_off2_inb t 0) f3) (rowsOf arg4 _ (k0_off2_inb t 0) f4) (whole7 arg7 f7) := by
    rw [← e8j]; rfl
  have e9' : trip.sl.v307 t arg2 arg3 arg4 arg7 arg8 f2 f3 f4 f7 = startAcc1 (qqOf (rowsOf arg2 _ (k0_off1_inb t 1) f2)) (rowsOf arg3 _ (k0_off1_inb t 1) f3) (rowsOf arg4 _ (k0_off1_inb t 1) f4) (rowsOf arg3 _ (k0_off2_inb t 1) f3) (rowsOf arg4 _ (k0_off2_inb t 1) f4) (whole7 arg7 f7) := by
    rw [← e8j']; rfl
  have hc0 (f : arg10.view.ty.Contents (Elt F)) : slab arg10 slot0 (arg10.view.writes (Elt F) f [⟨slot1, startCar1 (qqOf (rowsOf arg2 _ (k0_off1_inb t 1) f2)) (rowsOf arg3 _ (k0_off1_inb t 1) f3) (rowsOf arg3 _ (k0_off2_inb t 1) f3)⟩, ⟨slot0, startCar0 (qqOf (rowsOf arg2 _ (k0_off1_inb t 0) f2)) (rowsOf arg3 _ (k0_off1_inb t 0) f3) (rowsOf arg3 _ (k0_off2_inb t 0) f3)⟩]) = startCar0 (qqOf (rowsOf arg2 _ (k0_off1_inb t 0) f2)) (rowsOf arg3 _ (k0_off1_inb t 0) f3) (rowsOf arg3 _ (k0_off2_inb t 0) f3) :=
    (slab0_of_1 _ _ _).trans (slab_same _ _ _ _ _)
  have h0 : k0_pay53 (trip.sl.v335 t arg2 arg3 arg8 arg10 f2 f3) = k0_pay53 (startCar0 (qqOf (rowsOf arg2 _ (k0_off1_inb t 0) f2)) (rowsOf arg3 _ (k0_off1_inb t 0) f3) (rowsOf arg3 _ (k0_off2_inb t 0) f3)) := by
    unfold trip.sl.v335
    rw [e10]
    exact congrArg k0_pay53 (hc0 arg10.view.junk)
  rw [h0, e10, e9, e9']
  iapply (wp_call_spec 𝒱₀ (c : Thread nD τ) none Set.univ
    (spec0 c t arg10 arg8 arg3 arg4 arg7 arg9 (arg8.view.writes (Elt F) f8 (trip.sl.H8_4 t arg2 f2)) f3 f4 f7 P.Q0
      (startAcc1 (qqOf (rowsOf arg2 _ (k0_off1_inb t 1) f2)) (rowsOf arg3 _ (k0_off1_inb t 1) f3) (rowsOf arg4 _ (k0_off1_inb t 1) f4) (rowsOf arg3 _ (k0_off2_inb t 1) f3) (rowsOf arg4 _ (k0_off2_inb t 1) f4) (whole7 arg7 f7))
      (startCar1 (qqOf (rowsOf arg2 _ (k0_off1_inb t 1) f2)) (rowsOf arg3 _ (k0_off1_inb t 1) f3) (rowsOf arg3 _ (k0_off2_inb t 1) f3)) 0 _) 16
    (fun u hu => nomatch hu)
    (spec0_le c i t arg10 harg10 arg8 harg8 arg3 harg3 arg4 harg4 arg7 harg7 arg9 harg9 Set.univ _ f3 f4 f7 P.Q0 (by rw [e8]; exact P.pair0) _ _ 16 0 rfl _))
  rw [spec0_apply]; unfold loopHeld pt
  isplitl [H10 H8 H3 H4 H7 H9]
  · iexists _, _
    isplitr
    rotate_left
    · isplitl [H10]; · iexact H10
      isplitl [H8]; · iexact H8
      isplitl [H3]; · iexact H3
      isplitl [H4]; · iexact H4
      isplitl [H7]; · iexact H7
      iexact H9
    · ipureintro
      refine ⟨?_, slab_same _ _ _ _ _, slab_same _ _ _ _ _⟩
      have hs : slab arg9 slot0 (arg9.view.writes (Elt F) f9 [⟨slot1, startAcc1 (qqOf (rowsOf arg2 _ (k0_off1_inb t 1) f2)) (rowsOf arg3 _ (k0_off1_inb t 1) f3) (rowsOf arg4 _ (k0_off1_inb t 1) f4) (rowsOf arg3 _ (k0_off2_inb t 1) f3) (rowsOf arg4 _ (k0_off2_inb t 1) f4) (whole7 arg7 f7)⟩, ⟨slot0, startAcc0 (word0 t) (qqOf (rowsOf arg2 _ (k0_off1_inb t 0) f2)) (rowsOf arg3 _ (k0_off1_inb t 0) f3) (rowsOf arg4 _ (k0_off1_inb t 0) f4) (rowsOf arg3 _ (k0_off2_inb t 0) f3) (rowsOf arg4 _ (k0_off2_inb t 0) f4) (whole7 arg7 f7)⟩]) = startAcc0 (word0 t) (qqOf (rowsOf arg2 _ (k0_off1_inb t 0) f2)) (rowsOf arg3 _ (k0_off1_inb t 0) f3) (rowsOf arg4 _ (k0_off1_inb t 0) f4) (rowsOf arg3 _ (k0_off2_inb t 0) f3) (rowsOf arg4 _ (k0_off2_inb t 0) f4) (whole7 arg7 f7) :=
        (slab0_of_1 _ _ _).trans (slab_same _ _ _ _ _)
      rw [hc0, hs]
      exact P.start0
  iintro %r
  iintro ⟨%hr, ⟨%f9', %f10', %hq, H10, H8, H3, H4, H7, H9⟩⟩
  sl_exec
  obtain ⟨hq0, hq1, hq2⟩ := hq
  have hflag : ∀ t : Fin k0_t1_loop.trips, trip.sl.v355 t = 1#1 ↔ 1 ≤ t.val := by decide +kernel
  have hX : P.D0 (slab arg9 slot0 (if hc : trip.sl.v359 t r = 1#1 then arg9.view.writes (Elt F) f9'
        [⟨slot0, lastAcc (slab arg9 slot0 f9') (slab arg10 slot0 f10') (qqOf (rowsOf arg2 _ (k0_off1_inb t 0) f2)) (rowsOf arg3 ![0, 0, 0] inb_S1x8192x128_S1x256x128_0_0_0 f3)
          (rowsOf arg4 ![0, 0, 0] inb_S1x8192x128_S1x256x128_0_0_0 f4) (whole7 arg7 f7)⟩] else f9'))
      ∧ slab arg9 slot1 (if hc : trip.sl.v359 t r = 1#1 then arg9.view.writes (Elt F) f9'
        [⟨slot0, lastAcc (slab arg9 slot0 f9') (slab arg10 slot0 f10') (qqOf (rowsOf arg2 _ (k0_off1_inb t 0) f2)) (rowsOf arg3 ![0, 0, 0] inb_S1x8192x128_S1x256x128_0_0_0 f3)
          (rowsOf arg4 ![0, 0, 0] inb_S1x8192x128_S1x256x128_0_0_0 f4) (whole7 arg7 f7)⟩] else f9') = startAcc1 (qqOf (rowsOf arg2 _ (k0_off1_inb t 1) f2)) (rowsOf arg3 _ (k0_off1_inb t 1) f3) (rowsOf arg4 _ (k0_off1_inb t 1) f4) (rowsOf arg3 _ (k0_off2_inb t 1) f3) (rowsOf arg4 _ (k0_off2_inb t 1) f4) (whole7 arg7 f7) := by
    by_cases hc : trip.sl.v359 t r = 1#1
    · rw [dif_pos hc, slab_same]
      have hb := flag_on (a := trip.sl.v355 t) (b := Scalar.cmpf .olt r.2 kSkip) hc
      exact ⟨P.last0 r.1 _ _ r.2 hq0 hr ((hflag t).1 hb.1) hb.2, (slab1_of_0 _ _ _).trans hq1⟩
    · rw [dif_neg hc]
      exact ⟨P.done0 r.1 _ _ r.2 hq0 hr (fun hb => hc (flag_of (a := trip.sl.v355 t) (b := Scalar.cmpf .olt r.2 kSkip) ((hflag t).2 hb.1) hb.2)), hq1⟩
  have eL : k0_pay54 (trip.sl.r_18 arg4 f4) (trip.sl.r_19 t arg2 arg3 f2 f3) (trip.sl.r_20 t arg2 arg3 arg10 f2 f3 f10')
      (trip.sl.r_21 t arg2 arg3 arg10 f2 f3 f10') (trip.sl.r_22 arg7 f7) (trip.sl.r_23 t arg2 arg3 arg10 f2 f3 f10')
      (View.readAt (Elt F) arg9.view (Rect.unit (s := S2x512x128) ![0, 0, 0] S1x512x128.size inb_S2x512x128_S1x512x128_0_0_0).toLoadRect f9')
        = lastAcc (slab arg9 slot0 f9') (slab arg10 slot0 f10') (qqOf (rowsOf arg2 _ (k0_off1_inb t 0) f2)) (rowsOf arg3 ![0, 0, 0] inb_S1x8192x128_S1x256x128_0_0_0 f3)
          (rowsOf arg4 ![0, 0, 0] inb_S1x8192x128_S1x256x128_0_0_0 f4) (whole7 arg7 f7) := rfl
  rw [eL]
  revert hX
  generalize (if hc : trip.sl.v359 t r = 1#1 then arg9.view.writes (Elt F) f9'
        [⟨slot0, lastAcc (slab arg9 slot0 f9') (slab arg10 slot0 f10') (qqOf (rowsOf arg2 _ (k0_off1_inb t 0) f2)) (rowsOf arg3 ![0, 0, 0] inb_S1x8192x128_S1x256x128_0_0_0 f3)
          (rowsOf arg4 ![0, 0, 0] inb_S1x8192x128_S1x256x128_0_0_0 f4) (whole7 arg7 f7)⟩] else f9') = Y
  rintro ⟨hX0, hX1⟩
  have h1 : k0_pay55 (slab arg10 slot1 f10') = k0_pay53 (startCar1 (qqOf (rowsOf arg2 _ (k0_off1_inb t 1) f2)) (rowsOf arg3 _ (k0_off1_inb t 1) f3) (rowsOf arg3 _ (k0_off2_inb t 1) f3)) := by rw [hq2]; rfl
  iapply (wp_call_spec 𝒱₀ (c : Thread nD τ) none Set.univ
    (spec1 c t arg10 arg8 arg3 arg4 arg7 arg9 (arg8.view.writes (Elt F) f8 (trip.sl.H8_4 t arg2 f2)) f3 f4 f7 P.Q1
      (slab arg9 slot0 Y)
      (slab arg10 slot0 f10') 0 _) 16
    (fun u hu => nomatch hu)
    (spec1_le c i t arg10 harg10 arg8 harg8 arg3 harg3 arg4 harg4 arg7 harg7 arg9 harg9 Set.univ _ _ f3 f4 f7 P.Q1 (by rw [e8']; exact P.pair1) _ _ 16 0 rfl _))
  rw [spec1_apply]; unfold loopHeld pt
  isplitl [H10 H8 H3 H4 H7 H9]
  · iexists _, _
    isplitr
    rotate_left
    · isplitl [H10]; · iexact H10
      isplitl [H8]; · iexact H8
      isplitl [H3]; · iexact H3
      isplitl [H4]; · iexact H4
      isplitl [H7]; · iexact H7
      iexact H9
    · ipureintro
      refine ⟨?_, rfl, rfl⟩
      have hs := P.start1
      rw [← h1, ← hX1, ← hq2] at hs
      exact hs
  iintro %r'
  iintro ⟨%hr', ⟨%f9'', %f10'', %hq', H10, H8, H3, H4, H7, H9⟩⟩
  sl_exec
  have hne : ¬ trip.sl.v405 r' = 1#1 := by
    intro h
    exact absurd (flag_on (a := 0#1) (b := trip.sl.v402 r') h).1 (by decide)
  have e449 : trip.sl.v449 t arg2 arg3 arg4 arg7 arg9 arg10 f2 f3 f4 f7 r' f9'' f10'' = half0 (slab arg9 slot1 f9'') := by
    clear * - hne
    unfold trip.sl.v449
    rw [dif_neg hne]; exact half0_slab1 _ _
  have e451 : trip.sl.v451 t arg2 arg3 arg4 arg7 arg9 arg10 f2 f3 f4 f7 r' f9'' f10'' = half1 (slab arg9 slot1 f9'') := by
    clear * - hne
    unfold trip.sl.v451
    rw [dif_neg hne]; exact half1_slab1 _ _
  have e438 : trip.sl.v438 t arg2 arg3 arg4 arg5 arg7 arg9 arg10 f2 f3 f4 f5 f7 r' f9'' f10'' = outRows (slab arg9 slot0 f9'') (rowsOf arg5 _ (k0_off7_inb t 0) f5) := by
    clear * - hne
    unfold trip.sl.v438 trip.sl.v434 trip.sl.v433 trip.sl.v422 trip.sl.v417 trip.sl.v419 trip.sl.v416 trip.sl.v418
    rw [dif_neg hne, half0_slab0, half1_slab0]; rfl
  rw [e449, e451, e438, wp_ret]
  imodintro
  ispecialize HK $$ %_ %_ %_ %_
  iapply HK $$ [] [H2] [H3] [H4] [H5] [H6] [H7] [H8] [H9] [H10]
  · ipureintro
    obtain ⟨hp0, hp1, hp2⟩ := hq'
    refine ⟨slab arg9 slot0 f9'', slab arg9 slot1 f9'', ?_, P.done1 _ _ _ _ hp0 hr', rfl⟩
    rw [hp1]; exact hX0
  · iexact H2
  · iexact H3
  · iexact H4
  · iexact H5
  · iexact H6
  · iexact H7
  · iexact H8
  · iexact H9
  · iexact H10

end Cert.StickKernelIdeal.Run
-- ==== Proof.StickBody.lean ====
/-
  The whole body of the stick-breaking kernel, run: sixteen trips, each leaving two blocks of rows of the output, so
  that whatever is shown of every block of rows holds of the staged output at the end.
-/
module

public import proofs.«01_k».proof.Proof.StickTrip
public import Idealize.ShloMosaic.Lib.WritesUnit

@[expose] public section

set_option maxRecDepth 16384

noncomputable section

namespace Cert.StickKernelIdeal.Run

open Cert.StickKernelIdeal Cert.StickKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Where a block of rows begins. -/
theorem off7_eq : ∀ (t : Fin k0_t1_loop.trips) (s : Fin 2), k0_off7 t (BitVec.ofNat 32 s.val) = ![0, 512 * t.val + 256 * s.val, 0] := by
  decide +kernel

omit [FloatOps F] [Named F] in
/-- Rows read what was stored to them last. -/
theorem rowsOf_same (a : Memref sig .tc .vmem S1x8192x128 .bf16) (o : Fin 3 → ℕ) (h : ∀ x, o x + S1x256x128.size x ≤ S1x8192x128.size x)
    (f : a.view.ty.Contents (Elt F)) (w : (rows o h).shape.Idx → Elt F .bf16) (L : List (View.Piece (Elt F) S1x8192x128 .bf16)) :
    rowsOf a o h (a.view.writes (Elt F) f (⟨rows o h, w⟩ :: L)) = w := by
  funext x
  exact View.read_writes_cons_emb a.view f (rows o h) w L x

omit [FloatOps F] [Named F] in
/-- Rows do not see a store to the rows of another block. -/
theorem rowsOf_other (a : Memref sig .tc .vmem S1x8192x128 .bf16) (t t' : Fin k0_t1_loop.trips) (s s' : Fin 2)
    (hn : t'.val < t.val ∨ (t'.val = t.val ∧ s'.val < s.val))
    (f : a.view.ty.Contents (Elt F)) (w : (rows _ (k0_off7_inb t s)).shape.Idx → Elt F .bf16) (L : List (View.Piece (Elt F) S1x8192x128 .bf16)) :
    rowsOf a _ (k0_off7_inb t' s') (a.view.writes (Elt F) f (⟨rows _ (k0_off7_inb t s), w⟩ :: L)) = rowsOf a _ (k0_off7_inb t' s') (a.view.writes (Elt F) f L) := by
  funext x
  refine View.read_writes_cons_unit_of_not_mem (off' := ![0, 512 * t.val + 256 * s.val, 0]) _ _ _ _ _ _ (off7_eq t s) 1 (Or.inl ?_)
  show k0_off7 t' (BitVec.ofNat 32 s'.val) 1 + 1 * (x 1).val < 512 * t.val + 256 * s.val
  rw [off7_eq t' s']
  have hx : (x 1).val < 256 := (x 1).isLt
  have hs := s.isLt
  have hs' := s'.isLt
  show 512 * t'.val + 256 * s'.val + 1 * (x 1).val < 512 * t.val + 256 * s.val
  omega

/-- Rows of a staged block. -/
theorem rowsOf_unread (a : Memref sig .tc .vmem S1x8192x128 .bf16) (ha : a.IsWhole) (o : Fin 3 → ℕ) (h : ∀ x, o x + S1x256x128.size x ≤ S1x8192x128.size x)
    (x : Vec F S1x8192x128 .bf16) : rowsOf a o h (ha.unread x) = fun y => x ((rows o h).emb y) := by
  funext y
  exact congrFun (ha.read_unread x) ((rows o h).emb y)

variable (c : Dev nD) (i : grid0.Coords) (t : Fin k0_t1_loop.trips)
    (arg2 : Memref sig .tc .vmem S1x8192x128 .bf16) (harg2 : arg2.IsWhole)
    (arg3 : Memref sig .tc .vmem S1x8192x128 .bf16) (harg3 : arg3.IsWhole)
    (arg4 : Memref sig .tc .vmem S1x8192x128 .bf16) (harg4 : arg4.IsWhole)
    (arg5 : Memref sig .tc .vmem S1x8192x128 .bf16) (harg5 : arg5.IsWhole)
    (arg6 : Memref sig .tc .vmem S1x8192x128 .bf16) (harg6 : arg6.IsWhole)
    (arg7 : Memref sig .tc .vmem S256x256 .bf16) (harg7 : arg7.IsWhole)
    (arg8 : Memref sig .tc .vmem S2x512x128 .bf16) (harg8 : arg8.IsWhole)
    (arg9 : Memref sig .tc .vmem S2x512x128 .f32) (harg9 : arg9.IsWhole)
    (arg10 : Memref sig .tc .vmem S2x512x128 .f32) (harg10 : arg10.IsWhole)

/-- What the trips before `k` have left: every block of rows of theirs is as `R` asks. -/
def upTo (R : Fin k0_t1_loop.trips → Fin 2 → Vec F S1x256x128 .bf16 → Prop) (f2 : arg2.view.ty.Contents (Elt F)) (f3 : arg3.view.ty.Contents (Elt F))
    (f4 : arg4.view.ty.Contents (Elt F)) (f5 : arg5.view.ty.Contents (Elt F)) (f7 : arg7.view.ty.Contents (Elt F)) (k : ℕ) : sProp 𝕄 :=
  iprop(∃ f6 f8 f9 f10, ⌜∀ t' : Fin k0_t1_loop.trips, t'.val < k → ∀ s : Fin 2, R t' s (rowsOf arg6 _ (k0_off7_inb t' s) f6)⌝
    ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10)

/-- One more trip. -/
theorem upTo_succ (R : Fin k0_t1_loop.trips → Fin 2 → Vec F S1x256x128 .bf16 → Prop) (f2 : arg2.view.ty.Contents (Elt F)) (f3 : arg3.view.ty.Contents (Elt F))
    (f4 : arg4.view.ty.Contents (Elt F)) (f5 : arg5.view.ty.Contents (Elt F)) (f7 : arg7.view.ty.Contents (Elt F))
    (hP : ∀ t, ∃ P : Plan t arg2 arg3 arg4 arg7 f2 f3 f4 f7, ∀ a, (P.D0 a → R t 0 (outRows a (rowsOf arg5 _ (k0_off7_inb t 0) f5)))
      ∧ (P.D1 a → R t 1 (outRows a (rowsOf arg5 _ (k0_off7_inb t 1) f5)))) (acc : Unit) :
    (upTo c arg2 arg3 arg4 arg5 arg6 arg7 arg8 arg9 arg10 R f2 f3 f4 f5 f7 t.val : sProp 𝕄)
      ⊢ wp frame (wpE (defs₀ (F := F)) 𝒱₀ (c : Thread nD τ) none) Set.univ
          (k0_t1_body (F := F) i arg2 harg2 arg3 harg3 arg4 harg4 arg5 harg5 arg6 harg6 arg7 harg7 arg8 harg8 arg9 harg9 arg10 harg10 t acc)
          (fun _ => upTo c arg2 arg3 arg4 arg5 arg6 arg7 arg8 arg9 arg10 R f2 f3 f4 f5 f7 (t.val + 1)) := by
  obtain ⟨P, hP⟩ := hP t
  unfold upTo
  iintro ⟨%f6, %f8, %f9, %f10, %hR, H2, H3, H4, H5, H6, H7, H8, H9, H10⟩
  iapply (trip c i t arg2 harg2 arg3 harg3 arg4 harg4 arg5 harg5 arg6 harg6 arg7 harg7 arg8 harg8 arg9 harg9 arg10 harg10 f2 f3 f4 f5 f6 f7 f8 f9 f10 P _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro %f6' %f8' %f9' %f10' %hL H2 H3 H4 H5 H6 H7 H8 H9 H10
  iexists f6', f8', f9', f10'
  isplitr
  · ipureintro
    obtain ⟨a0, a1, h0, h1, rfl⟩ := hL
    intro t' ht' s
    rcases Nat.lt_or_ge t'.val t.val with hlt | hge
    · rw [rowsOf_other arg6 t t' 1 s (Or.inl hlt), rowsOf_other arg6 t t' 0 s (Or.inl hlt)]
      exact hR t' hlt s
    · obtain rfl : t' = t := Fin.ext (by omega)
      fin_cases s
      · show R t' 0 (rowsOf arg6 _ (k0_off7_inb t' 0) _)
        rw [rowsOf_other arg6 t' t' 1 0 (Or.inr ⟨rfl, by decide⟩), rowsOf_same]
        exact (hP a0).1 h0
      · show R t' 1 (rowsOf arg6 _ (k0_off7_inb t' 1) _)
        rw [rowsOf_same]
        exact (hP a1).2 h1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 1000000 in
/-- The body, from its staged inputs: all of the output's rows are as `R` asks. -/
theorem body_run (R : Fin k0_t1_loop.trips → Fin 2 → Vec F S1x256x128 .bf16 → Prop) (x0 x1 x2 x3 : Vec F S1x8192x128 .bf16)
    (hP : ∀ t f7, whole7 arg7 f7 = k0_pay1 → ∃ P : Plan t arg2 arg3 arg4 arg7 (harg2.unread x0) (harg3.unread x1) (harg4.unread x2) f7,
      ∀ a, (P.D0 a → R t 0 (outRows a (fun y => x3 ((rows _ (k0_off7_inb t 0)).emb y))))
        ∧ (P.D1 a → R t 1 (outRows a (fun y => x3 ((rows _ (k0_off7_inb t 1)).emb y))))) (K : PUnit → sProp 𝕄) :
    (iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ (∃ X, ⌜∀ t s, R t s (fun y => X ((rows _ (k0_off7_inb t s)).emb y))⌝ ∗ owns (c : Thread nD τ) arg6 fullShare X) ∗ (∃ d, owns (c : Thread nD τ) arg7 fullShare d)
            ∗ (∃ d, owns (c : Thread nD τ) arg8 fullShare d) ∗ (∃ d, owns (c : Thread nD τ) arg9 fullShare d) ∗ (∃ d, owns (c : Thread nD τ) arg10 fullShare d)) -∗ K ⟨⟩)) : sProp 𝕄)
      ⊢ wp frame (wpE (defs₀ (F := F)) 𝒱₀ (c : Thread nD τ) none) Set.univ
          (cc0_stick_breaking_attention (F := F) i arg2 harg2 arg3 harg3 arg4 harg4 arg5 harg5 arg6 harg6 arg7 harg7 arg8 harg8 arg9 harg9 arg10 harg10) K := by
  simp only [cc0_stick_breaking_attention_eq_skeleton]; unfold cc0_stick_breaking_attention_skel
  unfold owns
  iintro ⟨⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%d10, %f10, -, H10⟩, HK⟩
  obtain rfl := harg2.eq_unread h2
  obtain rfl := harg3.eq_unread h3
  obtain rfl := harg4.eq_unread h4
  obtain rfl := harg5.eq_unread h5
  sl_exec
  have h7 : whole7 arg7 (arg7.view.writes (Elt F) arg7.view.junk body_run.sl.H7_1) = k0_pay1 := by
    funext x
    exact View.read_writes_cons_emb (Val := Elt F) arg7.view _ (Rect.unit (s := S256x256) ![0, 0] S256x256.size inb_S256x256_S256x256_0_0) (k0_pay1 (F := F)) [] x
  ihave HI := (show (iprop(pt c arg2 (harg2.unread x0) ∗ pt c arg3 (harg3.unread x1) ∗ pt c arg4 (harg4.unread x2) ∗ pt c arg5 (harg5.unread x3) ∗ pt c arg6 f6
      ∗ pt c arg7 (arg7.view.writes (Elt F) arg7.view.junk body_run.sl.H7_1) ∗ pt c arg8 f8 ∗ pt c arg9 f9 ∗ pt c arg10 f10) : sProp 𝕄)
      ⊢ upTo c arg2 arg3 arg4 arg5 arg6 arg7 arg8 arg9 arg10 R (harg2.unread x0) (harg3.unread x1) (harg4.unread x2) (harg5.unread x3)
        (arg7.view.writes (Elt F) arg7.view.junk body_run.sl.H7_1) 0 from by
    unfold upTo
    iintro H
    iexists f6, f8, f9, f10
    isplitr
    · ipureintro; intro t' ht'; exact absurd ht' (Nat.not_lt_zero _)
    iexact H) $$ [H2 H3 H4 H5 H6 H7 H8 H9 H10]
  · unfold pt
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iapply (Scf.wp_for_bind frame (wpE (defs₀ (F := F)) 𝒱₀ (c : Thread nD τ) none) Set.univ k0_t1_loop.lb k0_t1_loop.ub k0_t1_loop.st k0_t1_ok _ _
    (fun k _ => upTo c arg2 arg3 arg4 arg5 arg6 arg7 arg8 arg9 arg10 R (harg2.unread x0) (harg3.unread x1) (harg4.unread x2) (harg5.unread x3)
      (arg7.view.writes (Elt F) arg7.view.junk body_run.sl.H7_1) k)
    (fun t acc => upTo_succ c i t arg2 harg2 arg3 harg3 arg4 harg4 arg5 harg5 arg6 harg6 arg7 harg7 arg8 harg8 arg9 harg9 arg10 harg10 R _ _ _ _ _
      (fun t => by
        simp only [rowsOf_unread]
        exact hP t _ h7) acc)) $$ HI
  iintro %acc HI
  unfold upTo
  icases HI with ⟨%g6, %g8, %g9, %g10, %hR, H2, H3, H4, H5, H6, H7, H8, H9, H10⟩
  unfold pt
  rw [show (Pure.pure PUnit.unit : Prog (TpuEff nD τ sig (Elt F) (Λ₀ F) .tc) PUnit) = Prog.ret PUnit.unit from rfl, wp_ret]; imodintro
  iapply HK
  isplitl [H2]; · iexists _; isplitr; swap; iexact H2; ipureintro; exact h2
  isplitl [H3]; · iexists _; isplitr; swap; iexact H3; ipureintro; exact h3
  isplitl [H4]; · iexists _; isplitr; swap; iexact H4; ipureintro; exact h4
  isplitl [H5]; · iexists _; isplitr; swap; iexact H5; ipureintro; exact h5
  isplitl [H6]
  · iexists (arg6.view.read (Elt F) g6)
    isplitr
    · ipureintro; exact fun t s => hR t t.isLt s
    iexists _; isplitr; swap; iexact H6; ipureintro; rfl
  isplitl [H7]; · iexists _, _; isplitr; swap; iexact H7; ipureintro; rfl
  isplitl [H8]; · iexists _, _; isplitr; swap; iexact H8; ipureintro; rfl
  isplitl [H9]; · iexists _, _; isplitr; swap; iexact H9; ipureintro; rfl
  iexists _, _; isplitr; swap; iexact H10; ipureintro; rfl

end Cert.StickKernelIdeal.Run
-- ==== Proof.StickLaunch.lean ====
/-
  The launch of the stick-breaking kernel: each point's staged output held to what is shown of its blocks of rows.
-/
module

public import proofs.«01_k».proof.Proof.StickBody
public import Idealize.ShloMosaic.Lib.Claim
public import Idealize.ShloMosaic.Lib.Pipeline.DatRel
public import Idealize.ShloMosaic.Lib.Pipeline.ArrRel

@[expose] public section

set_option maxRecDepth 16384

noncomputable section

namespace Cert.StickKernelIdeal.Run

open Cert.StickKernelIdeal Cert.StickKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers the launch finds. -/
abbrev V (c : Dev nD) (b : Ref sig .tc) : Buf (Elt F) ((c : Thread nD τ).loc b) := m ((c : Thread nD τ).loc b)

/-- The program is the launch alone. -/
theorem hmain : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => by rw [main_chain]; rfl

/-- The block of a window at a point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef Cert.StickKernelIdeal.spec0 w))

/-- The inputs keep their blocks; the output's are not named here. -/
def dats (_ : Fin 1) (c : Dev nD) : Dat τ (Elt F) Unit ℕ (UR sig nD τ) ℕ (cfg0 (F := F)) c where
  A w := V m c (Pipeline.arrRef Cert.StickKernelIdeal.spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0 (F := F)) 4 t
  Φ _ := Pipeline.ΦA Cert.StickKernelIdeal.spec0 c
  q _ := fullShare
  owed _ := 0

/-- The arrays are as the launch finds them. -/
theorem A_eq (c : Dev nD) (w : Fin (cfg0 (F := F)).W) : (dats m 0 c).A w = V m c (Pipeline.arrRef Cert.StickKernelIdeal.spec0 w) := by dsimp only [dats]

/-- Window 0 keeps its block, -/
theorem after0_0 (c : Dev nD) (t : Fin (cfg0 (F := F)).N) : (dats m 0 c).after 0 t = iblk m c 0 t := rfl
/-- and is found at it. -/
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Window 1 keeps its block, -/
theorem after0_1 (c : Dev nD) (t : Fin (cfg0 (F := F)).N) : (dats m 0 c).after 1 t = iblk m c 1 t := rfl
/-- and is found at it. -/
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Window 2 keeps its block, -/
theorem after0_2 (c : Dev nD) (t : Fin (cfg0 (F := F)).N) : (dats m 0 c).after 2 t = iblk m c 2 t := rfl
/-- and is found at it. -/
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Window 3 keeps its block, -/
theorem after0_3 (c : Dev nD) (t : Fin (cfg0 (F := F)).N) : (dats m 0 c).after 3 t = iblk m c 3 t := rfl
/-- and is found at it. -/
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- The staged windows of a point, and that each is whole. -/
abbrev ms0_0 (t : Fin (cfg0 (F := F)).N) : Memref sig .tc .vmem S1x8192x128 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S1x8192x128 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S1x8192x128 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S1x8192x128 .bf16 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S1x8192x128 .bf16 := win0_4.stage ((cfg0 (F := F)).slots t 4)
abbrev hs0_4 (t : Fin (cfg0 (F := F)).N) : (ms0_4 t).IsWhole := hstage0_4 (((cfg0 (F := F)).slots t 4).cast nbuf0_4)
/-- The kernel's own buffers. -/
abbrev sc7 : Memref sig .tc .vmem S256x256 .bf16 := Memref.whole cc0_scratch0
abbrev sc8 : Memref sig .tc .vmem S2x512x128 .bf16 := Memref.whole cc0_scratch1
abbrev sc9 : Memref sig .tc .vmem S2x512x128 .f32 := Memref.whole cc0_scratch2
abbrev sc10 : Memref sig .tc .vmem S2x512x128 .f32 := Memref.whole cc0_scratch3

/-- What is held between points. -/
theorem held_eq (c : Dev nD) :
    (Pipeline.ΦA Cert.StickKernelIdeal.spec0 c : sProp 𝕄)
      = iprop(iprop((∃ d, owns (c : Thread nD τ) sc7 fullShare d) ∗ (∃ d, owns (c : Thread nD τ) sc8 fullShare d)
          ∗ (∃ d, owns (c : Thread nD τ) sc9 fullShare d) ∗ (∃ d, owns (c : Thread nD τ) sc10 fullShare d)) ∗ (∃ r, prngReg c r)) := by
  unfold Pipeline.ΦA; rw [scopedRest0_eq]; simp only [sc7, sc8, sc9, sc10, owns_whole]; try rfl

/-- Only the output is held to a predicate. -/
def marked : Fin 5 → Bool := fun w => w == 4

/-- What is asked of each block of rows of the output, at a core and a point. -/
abbrev Asked (F : FTy → Type) := Dev nD → Fin 64 → Fin k0_t1_loop.trips → Fin 2 → Vec F S1x256x128 .bf16 → Prop

/-- The same of the staged output. -/
def outIs (R : Asked F) (c : Dev nD) (w : Fin (cfg0 (F := F)).W) (t : Fin (cfg0 (F := F)).N) (X : ((cfg0 (F := F)).win w).block.Idx → Elt F ((cfg0 (F := F)).win w).elt) : Prop :=
  match w, X with
  | ⟨4, _⟩, X => ∀ t' s, R c (Fin.cast N_0 t) t' s (fun y => X ((rows _ (k0_off7_inb t' s)).emb y))
  | ⟨0, _⟩, _ => True
  | ⟨1, _⟩, _ => True
  | ⟨2, _⟩, _ => True
  | ⟨3, _⟩, _ => True

/-- At every point some plan for every trip gives what is asked. -/
def Planned (R : Asked F) : Prop :=
  ∀ (c : Dev nD) (t : Fin (cfg0 (F := F)).N) (arg2 arg3 arg4 : Memref sig .tc .vmem S1x8192x128 .bf16) (arg7 : Memref sig .tc .vmem S256x256 .bf16)
    (h2 : arg2.IsWhole) (h3 : arg3.IsWhole) (h4 : arg4.IsWhole) (t' : Fin k0_t1_loop.trips) (f7 : arg7.view.ty.Contents (Elt F)), whole7 arg7 f7 = k0_pay1 →
    ∃ P : Plan t' arg2 arg3 arg4 arg7 (h2.unread (iblk m c 0 t)) (h3.unread (iblk m c 1 t)) (h4.unread (iblk m c 2 t)) f7,
      ∀ a, (P.D0 a → R c (Fin.cast N_0 t) t' 0 (outRows a (fun y => iblk m c 3 t ((rows _ (k0_off7_inb t' 0)).emb y))))
        ∧ (P.D1 a → R c (Fin.cast N_0 t) t' 1 (outRows a (fun y => iblk m c 3 t ((rows _ (k0_off7_inb t' 1)).emb y))))

/-- What the body is given at a point, -/
def bodyPre (R : Asked F) (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ Y, ⌜((dats m 0 c).toRRel marked (outIs R c)).Finds 4 t Y⌝ ∗ owns (c : Thread nD τ) (ms0_4 t) fullShare Y))

/-- and what it gives back. -/
def bodyPost (R : Asked F) (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ X, ⌜outIs R c 4 t X⌝ ∗ owns (c : Thread nD τ) (ms0_4 t) fullShare X))

/-- The body at a point. -/
theorem body_at (R : Asked F) (hP : Planned m R) (c : Dev nD) (t : Fin (cfg0 (F := F)).N) :
    bodyPre m R c t ⊢ wp frame (wpE (defs₀ (F := F)) 𝒱₀ c none) Set.univ (bodyAt0 t) (fun _ => bodyPost m R c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA Cert.StickKernelIdeal.spec0 c from rfl, held_eq]
  iintro ⟨⟨⟨HS7, HS8, HS9, HS10⟩, Hg⟩, Ho, ⟨%d0, H0⟩, ⟨%d1, H1⟩, ⟨%d2, H2⟩, ⟨%d3, H3⟩, ⟨%d4, %hd4, H4⟩⟩
  iapply (body_run c (grid0.coords t) (ms0_0 t) (hs0_0 t) (ms0_1 t) (hs0_1 t) (ms0_2 t) (hs0_2 t) (ms0_3 t) (hs0_3 t) (ms0_4 t) (hs0_4 t)
    sc7 (Memref.isWhole_whole _) sc8 (Memref.isWhole_whole _) sc9 (Memref.isWhole_whole _) sc10 (Memref.isWhole_whole _)
    (R c (Fin.cast N_0 t)) (iblk m c 0 t) (iblk m c 1 t) (iblk m c 2 t) (iblk m c 3 t)
    (fun t' f7 h7 => hP c t _ _ _ _ (hs0_0 t) (hs0_1 t) (hs0_2 t) t' f7 h7) _)
  isplitl [H0]; · iexact H0
  isplitl [H1]; · iexact H1
  isplitl [H2]; · iexact H2
  isplitl [H3]; · iexact H3
  isplitl [H4]; · iexists _; iexact H4
  isplitl [HS7]; · iexact HS7
  isplitl [HS8]; · iexact HS8
  isplitl [HS9]; · iexact HS9
  isplitl [HS10]; · iexact HS10
  iintro ⟨H0, H1, H2, H3, ⟨%X, %hX, H4⟩, HS7, HS8, HS9, HS10⟩
  isplitl [HS7 HS8 HS9 HS10 Hg]
  · isplitl [HS7 HS8 HS9 HS10]
    · isplitl [HS7]; · iexact HS7
      isplitl [HS8]; · iexact HS8
      isplitl [HS9]; · iexact HS9
      iexact HS10
    iexact Hg
  isplitl [Ho]; · iexact Ho
  isplitl [H0]; · iexact H0
  isplitl [H1]; · iexact H1
  isplitl [H2]; · iexact H2
  isplitl [H3]; · iexact H3
  iexists X; isplitr
  · ipureintro; exact hX
  iexact H4

/-- The table's row at a point. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body at every point. -/
theorem obligation (R : Asked F) (hP : Planned m R) (c : Dev nD) :
    Pipeline.BodyObligationRel (dats (F := F) m 0 c) (defs₀ (F := F)) 𝒱₀ () Set.univ marked (outIs R c) := fun t => by
  rw [bigSep_W0, bigSep_W0, defs₀_row]
  exact triple_restated (body_at m R hP c t) rfl .rfl fun _ => .rfl

-- the launch theorem's implicit arguments are found by unifying its conclusion with this one
set_option backward.isDefEq.respectTransparency.types false in
/-- The launch. -/
theorem run_main (R : Asked F) (hP : Planned m R) : θ_run defs (onTc (τ := τ) (main (F := F))) (s₀ m ρ)
    (fun r => Pipeline.RDat.FramePost (cfg0 (F := F)) (fun c => (dats m 0 c).toRRel marked (outIs R c)) (V m) r ∧ r.2.sem = fun _ => 0) :=
  Pipeline.RDat.θ_run_frame (Q' := _) cfgs (0 : Fin 1) launch0 defs₀ 𝒱₀ (fun c => (dats m 0 c).toRRel marked (outIs R c)) m ρ main
    (hbody := fun c => (obligation m R hP c).toRRel) (hshare := fun c => (dats m 0 c).share_full fun _ => rfl)
    (howed := fun _ _ => rfl) (V := V m) (hmain := hmain m) (hA := A_eq m) (hΦ := fun _ _ => rfl)

/-- The inputs end as launched. -/
theorem kept (R : Asked F) (r : PUnit × MemSt nD τ sig (Elt F))
    (h : Pipeline.RDat.FramePost (cfg0 (F := F)) (fun c => (dats m 0 c).toRRel marked (outIs R c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.arr_in c 0 rfl).trans (A_eq m c 0), (h.arr_in c 1 rfl).trans (A_eq m c 1), (h.arr_in c 2 rfl).trans (A_eq m c 2),
    (h.arr_in c 3 rfl).trans (A_eq m c 3)⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => kept m _ r h.1 c, h.2⟩)
    (run_main m ρ (fun _ _ _ _ _ => True) fun _ _ _ _ _ _ _ _ _ _ _ _ => ⟨Plan.none _ _ _ _ _ _ _ _ _, fun _ => ⟨fun _ => trivial, fun _ => trivial⟩⟩)

end Cert.StickKernelIdeal.Run
-- ==== Proof.StickEndLoop.lean ====
/-
  The two loops of the stick-breaking kernel that run while pairs of key blocks remain, over the program itself: they end,
  whatever they compute, and give back the buffers they were lent.
-/
module

public import proofs.«01_k».proof.Proof.Gen.StickKernel.Launch
public import proofs.«01_k».proof.Proof.Gen.StickKernel.Skeleton
public import proofs.«01_k».proof.Proof.Gen.StickKernel.Loops
public import proofs.«01_k».proof.Proof.Gen.StickKernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.StickKernel.Run

open Cert.StickKernel Cert.StickKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open sWPT (consume produce arbitrary)

variable {F : FTy → Type} [BitOps F]

local notation "𝕄" => MT nD τ sig Unit (Elt F) ℕ (UR sig nD τ) ℕ

/-- The loops are counted down by the naturals. -/
abbrev 𝒱₀ : Variants := Variants.nat

/-- The whole of a memref held at contents `f`. -/
def pt {s : Shape} {e : EltTy} (c : Dev nD) (a : Memref sig .tc .vmem s e) (f : Buf (Elt F) (a.view.loc (c : Thread nD τ))) : sProp 𝕄 :=
  iprop(a.view.loc (c : Thread nD τ) ↦[a.view.set]{fullShare} f)

/-- A conjunction of words that is one has one on the left. -/
theorem word_and_left {a b : BitVec 1} (h : Scalar.andi a b = 1#1) : a = 1#1 := by
  revert h; unfold Scalar.andi; revert a b; decide
/-- And on the right. -/
theorem word_and_right {a b : BitVec 1} (h : Scalar.andi a b = 1#1) : b = 1#1 := by
  revert h; unfold Scalar.andi; revert a b; decide
/-- Two words that are one. -/
theorem word_and {a b : BitVec 1} (h : a = 1#1) (h' : b = 1#1) : Scalar.andi a b = 1#1 := by
  subst h h'; rfl

variable (c : Dev nD) (i : grid0.Coords) (t : Fin k0_t1_loop.trips)
    (arg10 : Memref sig .tc .vmem S2x512x128 .f32) (harg10 : arg10.IsWhole)
    (arg8 : Memref sig .tc .vmem S2x512x128 .bf16) (harg8 : arg8.IsWhole)
    (arg3 : Memref sig .tc .vmem S1x8192x128 .bf16) (harg3 : arg3.IsWhole)
    (arg4 : Memref sig .tc .vmem S1x8192x128 .bf16) (harg4 : arg4.IsWhole)
    (arg7 : Memref sig .tc .vmem S256x256 .bf16) (harg7 : arg7.IsWhole)
    (arg9 : Memref sig .tc .vmem S2x512x128 .f32) (harg9 : arg9.IsWhole)
    (f8 : arg8.view.ty.Contents (Elt F)) (f3 : arg3.view.ty.Contents (Elt F)) (f4 : arg4.view.ty.Contents (Elt F))
    (f7 : arg7.view.ty.Contents (Elt F))

/-- What a loop is lent: the operands at given contents, the sums and survivals at any. -/
def lent : sProp 𝕄 :=
  iprop(∃ f9 f10, pt c arg10 f10 ∗ pt c arg8 f8 ∗ pt c arg3 f3 ∗ pt c arg4 f4 ∗ pt c arg7 f7 ∗ pt c arg9 f9)

/-- What a loop does: it gives back what it is lent, and some two values. -/
def loops : sWPT 𝕄 (BitVec 32 × F .f32) := do
  consume (lent c arg10 arg8 arg3 arg4 arg7 arg9 f8 f3 f4 f7)
  let r ← (arbitrary : sWPT 𝕄 (BitVec 32 × F .f32))
  produce (lent c arg10 arg8 arg3 arg4 arg7 arg9 f8 f3 f4 f7)
  pure r

/-- Spelled out. -/
theorem loops_apply (K : BitVec 32 × F .f32 → sProp 𝕄) :
    loops c arg10 arg8 arg3 arg4 arg7 arg9 f8 f3 f4 f7 K
      = iprop(lent c arg10 arg8 arg3 arg4 arg7 arg9 f8 f3 f4 f7
          ∗ ∀ r : BitVec 32 × F .f32, lent c arg10 arg8 arg3 arg4 arg7 arg9 f8 f3 f4 f7 -∗ K r) := rfl

/-! ## Slot 0 -/

set_option maxHeartbeats 1000000 in
/-- One entry of the loop of slot 0, given that the next one does as said. -/
theorem step0_le (E : Set ℕ) (n p : ℕ) (hp : p < 17)
    (ih : p < t.val - 1 → ∃ m, m < n ∧ ∀ low K, loops c arg10 arg8 arg3 arg4 arg7 arg9 f8 f3 f4 f7 K
      ⊢ wp frame (wpE (defs₀ (F := F)) 𝒱₀ (c : Thread nD τ) (some m)) E
          (defs₀ (F := F) .tc 1 ⟨i, t, arg10, harg10, arg8, harg8, arg3, harg3, arg4, harg4, arg7, harg7, arg9, harg9, BitVec.ofNat 32 (p + 1), low⟩) K)
    (low : F .f32) (K : BitVec 32 × F .f32 → sProp 𝕄) :
      loops c arg10 arg8 arg3 arg4 arg7 arg9 f8 f3 f4 f7 K
      ⊢ wp frame (wpE (defs₀ (F := F)) 𝒱₀ (c : Thread nD τ) (some n)) E
          (defs₀ (F := F) .tc 1 ⟨i, t, arg10, harg10, arg8, harg8, arg3, harg3, arg4, harg4, arg7, harg7, arg9, harg9, BitVec.ofNat 32 p, low⟩) K := by
  show _ ⊢ wp frame (wpE (defs₀ (F := F)) 𝒱₀ (c : Thread nD τ) (some n)) E
    (cc0_while1 i t arg10 harg10 arg8 harg8 arg3 harg3 arg4 harg4 arg7 harg7 arg9 harg9 (BitVec.ofNat 32 p) low) K
  simp only [cc0_while1_eq_skeleton]; unfold cc0_while1_skel
  rw [loops_apply]; unfold lent pt
  iintro ⟨⟨%f9, %f10, H10, H8, H3, H4, H7, H9⟩, Hk⟩
  sl_exec
  by_cases hc : step0_le.sl.v474 t p low = 1#1
  · have hlt : p < t.val - 1 ∧ k0_chk1 t (BitVec.ofNat 32 p) := by
      have h : ∀ t : Fin k0_t1_loop.trips, ∀ n : Fin 17, step0_le.sl.v472 t n.val = 1#1 → n.val < t.val - 1 ∧ k0_chk1 t (BitVec.ofNat 32 n.val) := by
        decide +kernel
      exact h t ⟨p, hp⟩ (word_and_left hc)
    obtain ⟨hl, hk⟩ := hlt
    obtain ⟨m, hm, hih⟩ := ih hl
    sl_exec
    have e96 : step0_le.sl.v596 p = BitVec.ofNat 32 (p + 1) := (BitVec.ofNat_add p 1).symm
    rw [e96]
    iapply (wp_call_spec 𝒱₀ (c : Thread nD τ) (some n) E (loops c arg10 arg8 arg3 arg4 arg7 arg9 f8 f3 f4 f7) m
      (fun u hu => by cases hu; exact hm) (hih _))
    rw [loops_apply]; unfold lent pt
    isplitr [Hk]
    · iexists _, _
      isplitl [H10]; · iexact H10
      isplitl [H8]; · iexact H8
      isplitl [H3]; · iexact H3
      isplitl [H4]; · iexact H4
      isplitl [H7]; · iexact H7
      iexact H9
    · iintro %r
      iintro Hr
      rw [wp_ret]; imodintro
      ispecialize Hk $$ %r
      iapply Hk
      iexact Hr
  · sl_exec
    rw [wp_ret]; imodintro
    ispecialize Hk $$ %((BitVec.ofNat 32 p, low) : BitVec 32 × F .f32)
    iapply Hk
    iexists f9, f10
    isplitl [H10]; · iexact H10
    isplitl [H8]; · iexact H8
    isplitl [H3]; · iexact H3
    isplitl [H4]; · iexact H4
    isplitl [H7]; · iexact H7
    iexact H9

/-- The loop of slot 0 does what it is said to. -/
theorem loops0_le (E : Set ℕ) : ∀ n p, p + n = 16 → ∀ low K,
      loops c arg10 arg8 arg3 arg4 arg7 arg9 f8 f3 f4 f7 K
      ⊢ wp frame (wpE (defs₀ (F := F)) 𝒱₀ (c : Thread nD τ) (some n)) E
          (defs₀ (F := F) .tc 1 ⟨i, t, arg10, harg10, arg8, harg8, arg3, harg3, arg4, harg4, arg7, harg7, arg9, harg9, BitVec.ofNat 32 p, low⟩) K := by
  have ht : t.val < 16 := t.isLt
  intro n
  induction n with
  | zero =>
    intro p hp low K
    obtain rfl : p = 16 := hp
    exact step0_le c i t arg10 harg10 arg8 harg8 arg3 harg3 arg4 harg4 arg7 harg7 arg9 harg9 f8 f3 f4 f7 E 0 16 (by omega)
      (fun h => by omega) low K
  | succ n ih =>
    intro p hp low K
    exact step0_le c i t arg10 harg10 arg8 harg8 arg3 harg3 arg4 harg4 arg7 harg7 arg9 harg9 f8 f3 f4 f7 E (n + 1) p (by omega)
      (fun h => ⟨n, Nat.lt_succ_self n, fun low K => ih (p + 1) (by omega) low K⟩) low K

/-! ## Slot 1 -/

set_option maxHeartbeats 1000000 in
/-- One entry of the loop of slot 1, given that the next one does as said. -/
theorem step1_le (E : Set ℕ) (v356 : BitVec 1) (n p : ℕ) (hp : p < 17)
    (ih : p < t.val → ∃ m, m < n ∧ ∀ low K, loops c arg10 arg8 arg3 arg4 arg7 arg9 f8 f3 f4 f7 K
      ⊢ wp frame (wpE (defs₀ (F := F)) 𝒱₀ (c : Thread nD τ) (some m)) E
          (defs₀ (F := F) .tc 2 ⟨i, t, v356, arg10, harg10, arg8, harg8, arg3, harg3, arg4, harg4, arg7, harg7, arg9, harg9, BitVec.ofNat 32 (p + 1), low⟩) K)
    (low : F .f32) (K : BitVec 32 × F .f32 → sProp 𝕄) :
      loops c arg10 arg8 arg3 arg4 arg7 arg9 f8 f3 f4 f7 K
      ⊢ wp frame (wpE (defs₀ (F := F)) 𝒱₀ (c : Thread nD τ) (some n)) E
          (defs₀ (F := F) .tc 2 ⟨i, t, v356, arg10, harg10, arg8, harg8, arg3, harg3, arg4, harg4, arg7, harg7, arg9, harg9, BitVec.ofNat 32 p, low⟩) K := by
  show _ ⊢ wp frame (wpE (defs₀ (F := F)) 𝒱₀ (c : Thread nD τ) (some n)) E
    (cc0_while2 i t v356 arg10 harg10 arg8 harg8 arg3 harg3 arg4 harg4 arg7 harg7 arg9 harg9 (BitVec.ofNat 32 p) low) K
  simp only [cc0_while2_eq_skeleton]; unfold cc0_while2_skel
  rw [loops_apply]; unfold lent pt
  iintro ⟨⟨%f9, %f10, H10, H8, H3, H4, H7, H9⟩, Hk⟩
  sl_exec
  by_cases hc : step1_le.sl.v474 t p low = 1#1
  · have hlt : p < t.val ∧ k0_chk2 t (BitVec.ofNat 32 p) := by
      have h : ∀ t : Fin k0_t1_loop.trips, ∀ n : Fin 17, step1_le.sl.v472 t n.val = 1#1 → n.val < t.val ∧ k0_chk2 t (BitVec.ofNat 32 n.val) := by
        decide +kernel
      exact h t ⟨p, hp⟩ (word_and_left hc)
    obtain ⟨hl, hk⟩ := hlt
    obtain ⟨m, hm, hih⟩ := ih hl
    sl_exec
    have e96 : step1_le.sl.v596 p = BitVec.ofNat 32 (p + 1) := (BitVec.ofNat_add p 1).symm
    rw [e96]
    iapply (wp_call_spec 𝒱₀ (c : Thread nD τ) (some n) E (loops c arg10 arg8 arg3 arg4 arg7 arg9 f8 f3 f4 f7) m
      (fun u hu => by cases hu; exact hm) (hih _))
    rw [loops_apply]; unfold lent pt
    isplitr [Hk]
    · iexists _, _
      isplitl [H10]; · iexact H10
      isplitl [H8]; · iexact H8
      isplitl [H3]; · iexact H3
      isplitl [H4]; · iexact H4
      isplitl [H7]; · iexact H7
      iexact H9
    · iintro %r
      iintro Hr
      rw [wp_ret]; imodintro
      ispecialize Hk $$ %r
      iapply Hk
      iexact Hr
  · sl_exec
    rw [wp_ret]; imodintro
    ispecialize Hk $$ %((BitVec.ofNat 32 p, low) : BitVec 32 × F .f32)
    iapply Hk
    iexists f9, f10
    isplitl [H10]; · iexact H10
    isplitl [H8]; · iexact H8
    isplitl [H3]; · iexact H3
    isplitl [H4]; · iexact H4
    isplitl [H7]; · iexact H7
    iexact H9

/-- The loop of slot 1 does what it is said to. -/
theorem loops1_le (E : Set ℕ) (v356 : BitVec 1) : ∀ n p, p + n = 16 → ∀ low K,
      loops c arg10 arg8 arg3 arg4 arg7 arg9 f8 f3 f4 f7 K
      ⊢ wp frame (wpE (defs₀ (F := F)) 𝒱₀ (c : Thread nD τ) (some n)) E
          (defs₀ (F := F) .tc 2 ⟨i, t, v356, arg10, harg10, arg8, harg8, arg3, harg3, arg4, harg4, arg7, harg7, arg9, harg9, BitVec.ofNat 32 p, low⟩) K := by
  have ht : t.val < 16 := t.isLt
  intro n
  induction n with
  | zero =>
    intro p hp low K
    obtain rfl : p = 16 := hp
    exact step1_le c i t arg10 harg10 arg8 harg8 arg3 harg3 arg4 harg4 arg7 harg7 arg9 harg9 f8 f3 f4 f7 E v356 0 16 (by omega)
      (fun h => by omega) low K
  | succ n ih =>
    intro p hp low K
    exact step1_le c i t arg10 harg10 arg8 harg8 arg3 harg3 arg4 harg4 arg7 harg7 arg9 harg9 f8 f3 f4 f7 E v356 (n + 1) p (by omega)
      (fun h => ⟨n, Nat.lt_succ_self n, fun low K => ih (p + 1) (by omega) low K⟩) low K

end Cert.StickKernel.Run
-- ==== Proof.StickEndBody.lean ====
/-
  The body of the stick-breaking kernel, over the program itself: sixteen trips, each ending with the inputs as they were.
-/
module

public import proofs.«01_k».proof.Proof.StickEndLoop
public import Idealize.ShloMosaic.Lib.WritesUnit

@[expose] public section

set_option maxRecDepth 16384

noncomputable section

namespace Cert.StickKernel.Run

open Cert.StickKernel Cert.StickKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (c : Dev nD) (i : grid0.Coords) (t : Fin k0_t1_loop.trips)
    (arg2 : Memref sig .tc .vmem S1x8192x128 .bf16) (harg2 : arg2.IsWhole)
    (arg3 : Memref sig .tc .vmem S1x8192x128 .bf16) (harg3 : arg3.IsWhole)
    (arg4 : Memref sig .tc .vmem S1x8192x128 .bf16) (harg4 : arg4.IsWhole)
    (arg5 : Memref sig .tc .vmem S1x8192x128 .bf16) (harg5 : arg5.IsWhole)
    (arg6 : Memref sig .tc .vmem S1x8192x128 .bf16) (harg6 : arg6.IsWhole)
    (arg7 : Memref sig .tc .vmem S256x256 .bf16) (harg7 : arg7.IsWhole)
    (arg8 : Memref sig .tc .vmem S2x512x128 .bf16) (harg8 : arg8.IsWhole)
    (arg9 : Memref sig .tc .vmem S2x512x128 .f32) (harg9 : arg9.IsWhole)
    (arg10 : Memref sig .tc .vmem S2x512x128 .f32) (harg10 : arg10.IsWhole)

/-- What is held between trips: the inputs at given contents, the rest at any. -/
def between (f2 : arg2.view.ty.Contents (Elt F)) (f3 : arg3.view.ty.Contents (Elt F)) (f4 : arg4.view.ty.Contents (Elt F)) (f5 : arg5.view.ty.Contents (Elt F)) : sProp 𝕄 :=
  iprop(∃ f6 f7 f8 f9 f10, pt c arg2 f2 ∗ pt c arg3 f3 ∗ pt c arg4 f4 ∗ pt c arg5 f5 ∗ pt c arg6 f6 ∗ pt c arg7 f7 ∗ pt c arg8 f8 ∗ pt c arg9 f9 ∗ pt c arg10 f10)

set_option maxHeartbeats 2000000 in
/-- A trip. -/
theorem trip (f2 : arg2.view.ty.Contents (Elt F)) (f3 : arg3.view.ty.Contents (Elt F)) (f4 : arg4.view.ty.Contents (Elt F)) (f5 : arg5.view.ty.Contents (Elt F)) (acc : Unit) :
    (between c arg2 arg3 arg4 arg5 arg6 arg7 arg8 arg9 arg10 f2 f3 f4 f5 : sProp 𝕄)
      ⊢ wp frame (wpE (defs₀ (F := F)) 𝒱₀ (c : Thread nD τ) none) Set.univ
          (k0_t1_body (F := F) i arg2 harg2 arg3 harg3 arg4 harg4 arg5 harg5 arg6 harg6 arg7 harg7 arg8 harg8 arg9 harg9 arg10 harg10 t acc)
          (fun _ => between c arg2 arg3 arg4 arg5 arg6 arg7 arg8 arg9 arg10 f2 f3 f4 f5) := by
  unfold k0_t1_body between pt
  iintro ⟨%f6, %f7, %f8, %f9, %f10, H2, H3, H4, H5, H6, H7, H8, H9, H10⟩
  sl_exec
  iapply (wp_call_spec 𝒱₀ (c : Thread nD τ) none Set.univ
    (loops c arg10 arg8 arg3 arg4 arg7 arg9 _ f3 f4 f7) 16
    (fun u hu => nomatch hu)
    (loops0_le c i t arg10 harg10 arg8 harg8 arg3 harg3 arg4 harg4 arg7 harg7 arg9 harg9 _ f3 f4 f7 Set.univ 16 0 rfl _))
  rw [loops_apply]; unfold lent pt
  isplitl [H10 H8 H3 H4 H7 H9]
  · iexists _, _
    isplitl [H10]; · iexact H10
    isplitl [H8]; · iexact H8
    isplitl [H3]; · iexact H3
    isplitl [H4]; · iexact H4
    isplitl [H7]; · iexact H7
    iexact H9
  iintro %r
  iintro ⟨%f9', %f10', H10, H8, H3, H4, H7, H9⟩
  sl_exec
  iapply (wp_call_spec 𝒱₀ (c : Thread nD τ) none Set.univ
    (loops c arg10 arg8 arg3 arg4 arg7 arg9 _ f3 f4 f7) 16
    (fun u hu => nomatch hu)
    (loops1_le c i t arg10 harg10 arg8 harg8 arg3 harg3 arg4 harg4 arg7 harg7 arg9 harg9 _ f3 f4 f7 Set.univ _ 16 0 rfl _))
  rw [loops_apply]; unfold lent pt
  isplitl [H10 H8 H3 H4 H7 H9]
  · iexists _, _
    isplitl [H10]; · iexact H10
    isplitl [H8]; · iexact H8
    isplitl [H3]; · iexact H3
    isplitl [H4]; · iexact H4
    isplitl [H7]; · iexact H7
    iexact H9
  iintro %r'
  iintro ⟨%f9'', %f10'', H10, H8, H3, H4, H7, H9⟩
  sl_exec
  rw [wp_ret]
  imodintro
  iexists _, _, _, _, _
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 1000000 in
/-- The body, from its staged inputs, which it leaves. -/
theorem body_run (x0 x1 x2 x3 : Vec F S1x8192x128 .bf16) (K : PUnit → sProp 𝕄) :
    (iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d) ∗ (∃ d, owns (c : Thread nD τ) arg10 fullShare d)) -∗ K ⟨⟩)) : sProp 𝕄)
      ⊢ wp frame (wpE (defs₀ (F := F)) 𝒱₀ (c : Thread nD τ) none) Set.univ
          (cc0_stick_breaking_attention (F := F) i arg2 harg2 arg3 harg3 arg4 harg4 arg5 harg5 arg6 harg6 arg7 harg7 arg8 harg8 arg9 harg9 arg10 harg10) K := by
  simp only [cc0_stick_breaking_attention_eq_skeleton]; unfold cc0_stick_breaking_attention_skel
  unfold owns
  iintro ⟨⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%d10, %f10, -, H10⟩, HK⟩
  obtain rfl := harg2.eq_unread h2
  obtain rfl := harg3.eq_unread h3
  obtain rfl := harg4.eq_unread h4
  obtain rfl := harg5.eq_unread h5
  sl_exec
  ihave HI := (show (iprop(pt c arg2 (harg2.unread x0) ∗ pt c arg3 (harg3.unread x1) ∗ pt c arg4 (harg4.unread x2) ∗ pt c arg5 (harg5.unread x3) ∗ pt c arg6 f6
      ∗ pt c arg7 (arg7.view.writes (Elt F) arg7.view.junk body_run.sl.H7_1) ∗ pt c arg8 f8 ∗ pt c arg9 f9 ∗ pt c arg10 f10) : sProp 𝕄)
      ⊢ between c arg2 arg3 arg4 arg5 arg6 arg7 arg8 arg9 arg10 (harg2.unread x0) (harg3.unread x1) (harg4.unread x2) (harg5.unread x3) from by
    unfold between
    iintro H
    iexists f6, _, f8, f9, f10
    iexact H) $$ [H2 H3 H4 H5 H6 H7 H8 H9 H10]
  · unfold pt
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iapply (Scf.wp_for_bind frame (wpE (defs₀ (F := F)) 𝒱₀ (c : Thread nD τ) none) Set.univ k0_t1_loop.lb k0_t1_loop.ub k0_t1_loop.st k0_t1_ok _ _
    (fun k _ => between c arg2 arg3 arg4 arg5 arg6 arg7 arg8 arg9 arg10 (harg2.unread x0) (harg3.unread x1) (harg4.unread x2) (harg5.unread x3))
    (fun t acc => trip c i t arg2 harg2 arg3 harg3 arg4 harg4 arg5 harg5 arg6 harg6 arg7 harg7 arg8 harg8 arg9 harg9 arg10 harg10 _ _ _ _ acc)) $$ HI
  iintro %acc HI
  unfold between
  icases HI with ⟨%g6, %g7, %g8, %g9, %g10, H2, H3, H4, H5, H6, H7, H8, H9, H10⟩
  unfold pt
  rw [show (Pure.pure PUnit.unit : Prog (TpuEff nD τ sig (Elt F) (Λ₀ F) .tc) PUnit) = Prog.ret PUnit.unit from rfl, wp_ret]; imodintro
  iapply HK
  isplitl [H2]; · iexists _; isplitr; swap; iexact H2; ipureintro; exact h2
  isplitl [H3]; · iexists _; isplitr; swap; iexact H3; ipureintro; exact h3
  isplitl [H4]; · iexists _; isplitr; swap; iexact H4; ipureintro; exact h4
  isplitl [H5]; · iexists _; isplitr; swap; iexact H5; ipureintro; exact h5
  isplitl [H6]; · iexists _, _; isplitr; swap; iexact H6; ipureintro; rfl
  isplitl [H7]; · iexists _, _; isplitr; swap; iexact H7; ipureintro; rfl
  isplitl [H8]; · iexists _, _; isplitr; swap; iexact H8; ipureintro; rfl
  isplitl [H9]; · iexists _, _; isplitr; swap; iexact H9; ipureintro; rfl
  iexists _, _; isplitr; swap; iexact H10; ipureintro; rfl

end Cert.StickKernel.Run
-- ==== Proof.StickEndLaunch.lean ====
/-
  The launch of the stick-breaking kernel, over the program itself: it ends, with its inputs as they were.
-/
module

public import proofs.«01_k».proof.Proof.StickEndBody
public import Idealize.ShloMosaic.Lib.Claim
public import Idealize.ShloMosaic.Lib.Pipeline.DatRel
public import Idealize.ShloMosaic.Lib.Pipeline.ArrRel

@[expose] public section

set_option maxRecDepth 16384

noncomputable section

namespace Cert.StickKernel.Run

open Cert.StickKernel Cert.StickKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The buffers the launch finds. -/
abbrev V (c : Dev nD) (b : Ref sig .tc) : Buf (Elt F) ((c : Thread nD τ).loc b) := m ((c : Thread nD τ).loc b)

/-- The program is the launch alone. -/
theorem hmain : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => by rw [main_chain]; rfl

/-- The block of a window at a point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef Cert.StickKernel.spec0 w))

/-- The inputs keep their blocks; the output's are not named here. -/
def dats (_ : Fin 1) (c : Dev nD) : Dat τ (Elt F) Unit ℕ (UR sig nD τ) ℕ (cfg0 (F := F)) c where
  A w := V m c (Pipeline.arrRef Cert.StickKernel.spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := (cfg0 (F := F))) 4 t
  Φ _ := Pipeline.ΦA Cert.StickKernel.spec0 c
  q _ := fullShare
  owed _ := 0

/-- The arrays are as the launch finds them. -/
theorem A_eq (c : Dev nD) (w : Fin (cfg0 (F := F)).W) : (dats m 0 c).A w = V m c (Pipeline.arrRef Cert.StickKernel.spec0 w) := by dsimp only [dats]

/-- Window 0 keeps its block, -/
theorem after0_0 (c : Dev nD) (t : Fin (cfg0 (F := F)).N) : (dats m 0 c).after 0 t = iblk m c 0 t := rfl
/-- and is found at it. -/
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Window 1 keeps its block, -/
theorem after0_1 (c : Dev nD) (t : Fin (cfg0 (F := F)).N) : (dats m 0 c).after 1 t = iblk m c 1 t := rfl
/-- and is found at it. -/
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Window 2 keeps its block, -/
theorem after0_2 (c : Dev nD) (t : Fin (cfg0 (F := F)).N) : (dats m 0 c).after 2 t = iblk m c 2 t := rfl
/-- and is found at it. -/
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Window 3 keeps its block, -/
theorem after0_3 (c : Dev nD) (t : Fin (cfg0 (F := F)).N) : (dats m 0 c).after 3 t = iblk m c 3 t := rfl
/-- and is found at it. -/
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- The staged windows of a point, and that each is whole. -/
abbrev ms0_0 (t : Fin (cfg0 (F := F)).N) : Memref sig .tc .vmem S1x8192x128 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S1x8192x128 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S1x8192x128 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S1x8192x128 .bf16 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S1x8192x128 .bf16 := win0_4.stage ((cfg0 (F := F)).slots t 4)
abbrev hs0_4 (t : Fin (cfg0 (F := F)).N) : (ms0_4 t).IsWhole := hstage0_4 (((cfg0 (F := F)).slots t 4).cast nbuf0_4)
/-- The kernel's own buffers. -/
abbrev sc7 : Memref sig .tc .vmem S256x256 .bf16 := Memref.whole cc0_scratch0
abbrev sc8 : Memref sig .tc .vmem S2x512x128 .bf16 := Memref.whole cc0_scratch1
abbrev sc9 : Memref sig .tc .vmem S2x512x128 .f32 := Memref.whole cc0_scratch2
abbrev sc10 : Memref sig .tc .vmem S2x512x128 .f32 := Memref.whole cc0_scratch3

/-- What is held between points. -/
theorem held_eq (c : Dev nD) :
    (Pipeline.ΦA Cert.StickKernel.spec0 c : sProp 𝕄)
      = iprop(iprop((∃ d, owns (c : Thread nD τ) sc7 fullShare d) ∗ (∃ d, owns (c : Thread nD τ) sc8 fullShare d)
          ∗ (∃ d, owns (c : Thread nD τ) sc9 fullShare d) ∗ (∃ d, owns (c : Thread nD τ) sc10 fullShare d)) ∗ (∃ r, prngReg c r)) := by
  unfold Pipeline.ΦA; rw [scopedRest0_eq]; simp only [sc7, sc8, sc9, sc10, owns_whole]; try rfl

/-- Only the output is held to a predicate. -/
def marked : Fin 5 → Bool := fun w => w == 4

/-- Any contents will do. -/
def outIs (c : Dev nD) (w : Fin (cfg0 (F := F)).W) (t : Fin (cfg0 (F := F)).N) (X : ((cfg0 (F := F)).win w).block.Idx → Elt F ((cfg0 (F := F)).win w).elt) : Prop := True

/-- What the body is given at a point, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ Y, ⌜((dats m 0 c).toRRel marked (outIs (F := F) c)).Finds 4 t Y⌝ ∗ owns (c : Thread nD τ) (ms0_4 t) fullShare Y))

/-- and what it gives back. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ X, ⌜outIs (F := F) c 4 t X⌝ ∗ owns (c : Thread nD τ) (ms0_4 t) fullShare X))

/-- The body at a point. -/
theorem body_at (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA Cert.StickKernel.spec0 c from rfl, held_eq]
  iintro ⟨⟨⟨HS7, HS8, HS9, HS10⟩, Hg⟩, Ho, ⟨%d0, H0⟩, ⟨%d1, H1⟩, ⟨%d2, H2⟩, ⟨%d3, H3⟩, ⟨%d4, %hd4, H4⟩⟩
  iapply (body_run c (grid0.coords t) (ms0_0 t) (hs0_0 t) (ms0_1 t) (hs0_1 t) (ms0_2 t) (hs0_2 t) (ms0_3 t) (hs0_3 t) (ms0_4 t) (hs0_4 t)
    sc7 (Memref.isWhole_whole _) sc8 (Memref.isWhole_whole _) sc9 (Memref.isWhole_whole _) sc10 (Memref.isWhole_whole _)
    (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [HS7]; · iexact HS7
  isplitl [HS8]; · iexact HS8
  isplitl [HS9]; · iexact HS9
  isplitl [HS10]; · iexact HS10
  iintro ⟨H0, H1, H2, H3, ⟨%X, H4⟩, HS7, HS8, HS9, HS10⟩
  isplitl [HS7 HS8 HS9 HS10 Hg]
  · isplitl [HS7 HS8 HS9 HS10]
    · isplitl [HS7]; · iexact HS7
      isplitl [HS8]; · iexact HS8
      isplitl [HS9]; · iexact HS9
      iexact HS10
    iexact Hg
  isplitl [Ho]; · iexact Ho
  isplitl [H0]; · iexact H0
  isplitl [H1]; · iexact H1
  isplitl [H2]; · iexact H2
  isplitl [H3]; · iexact H3
  iexists X; isplitr
  · ipureintro; exact trivial
  iexact H4

/-- The table's row at a point. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body at every point. -/
theorem obligation (c : Dev nD) :
    Pipeline.BodyObligationRel (dats (F := F) m 0 c) (defs₀ (F := F)) 𝒱₀ () Set.univ marked (outIs (F := F) c) := fun t => by
  rw [bigSep_W0, bigSep_W0, defs₀_row]
  exact triple_restated (body_at m c t) rfl .rfl fun _ => .rfl

-- the launch theorem's implicit arguments are found by unifying its conclusion with this one
set_option backward.isDefEq.respectTransparency.types false in
/-- The launch. -/
theorem run_main : θ_run defs (onTc (τ := τ) (main (F := F))) (s₀ m ρ)
    (fun r => Pipeline.RDat.FramePost (cfg0 (F := F)) (fun c => (dats m 0 c).toRRel marked (outIs (F := F) c)) (V m) r ∧ r.2.sem = fun _ => 0) :=
  Pipeline.RDat.θ_run_frame (Q' := _) cfgs (0 : Fin 1) launch0 defs₀ 𝒱₀ (fun c => (dats m 0 c).toRRel marked (outIs (F := F) c)) m ρ main
    (hbody := fun c => (obligation m c).toRRel) (hshare := fun c => (dats m 0 c).share_full fun _ => rfl)
    (howed := fun _ _ => rfl) (V := V m) (hmain := hmain m) (hA := A_eq m) (hΦ := fun _ _ => rfl)

/-- The inputs end as launched. -/
theorem kept (r : PUnit × MemSt nD τ sig (Elt F))
    (h : Pipeline.RDat.FramePost (cfg0 (F := F)) (fun c => (dats m 0 c).toRRel marked (outIs (F := F) c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.arr_in c 0 rfl).trans (A_eq m c 0), (h.arr_in c 1 rfl).trans (A_eq m c 1), (h.arr_in c 2 rfl).trans (A_eq m c 2),
    (h.arr_in c 3 rfl).trans (A_eq m c 3)⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => kept m r h.1 c, h.2⟩)
    (run_main m ρ)

end Cert.StickKernel.Run
-- ==== Proof.StickMath.lean ====
/-
  The mathematics of the stick-breaking attention, apart from any program: one row's weighted sum over the keys before it,
  each key's weight a power of two of its score less what the keys from it on have taken, and the same sum block by block
  of 256 keys, from the row backward.
-/
module

public import proofs.«01_k».proof.Proof.Softmax

@[expose] public section

noncomputable section

open Idealize.ShloMosaic

namespace Cert.Stick

open Cert.Band (coe_sum)

/-- The binary logarithm of `1 + 2 ^ x`, in the form that does not overflow. -/
def taken (x : ℝ) : ℝ := max x 0 + Real.log (1 + (2 : ℝ) ^ (-|x|)) * (Real.log 2)⁻¹

/-- What the keys `lo, …, r - 1` take of the stick. -/
def takenFrom (f : ℕ → ℝ) (r lo : ℕ) : ℝ := ∑ c ∈ Finset.Ico lo r, taken (f c)

/-- The weight of a key. -/
def weight (f : ℕ → ℝ) (r c : ℕ) : ℝ := Real.rpow 2 (f c - takenFrom f r c)

/-- The weighted sum over the keys `lo, …, r - 1`. -/
def total (f : ℕ → ℝ) (w : ℕ → EReal) (r lo : ℕ) : EReal := ∑ c ∈ Finset.Ico lo r, (weight f r c : EReal) * w c

/-- A masked sum over a window of places is the sum over what the mask keeps. -/
theorem sum_window {M : Type} [AddCommMonoid M] (N k0 lo hi : ℕ) (h0 : k0 ≤ lo) (h1 : hi ≤ k0 + N) (g : ℕ → M) :
    (∑ w : Fin N, if lo ≤ k0 + w.val ∧ k0 + w.val < hi then g (k0 + w.val) else 0) = ∑ m ∈ Finset.Ico lo hi, g m := by
  rw [Fin.sum_univ_eq_sum_range (fun w => if lo ≤ k0 + w ∧ k0 + w < hi then g (k0 + w) else 0), ← Finset.sum_filter]
  refine Finset.sum_bij (fun w _ => k0 + w) ?_ ?_ ?_ ?_
  · intro w hw; simp only [Finset.mem_filter, Finset.mem_range, Finset.mem_Ico] at *; omega
  · intro a _ b _ h; omega
  · intro m hm; simp only [Finset.mem_Ico] at hm
    exact ⟨m - k0, by simp only [Finset.mem_filter, Finset.mem_range]; omega, by omega⟩
  · intros; rfl

/-- Sums over a block of places and over the places after it are the sum over all. -/
theorem takenFrom_split (f : ℕ → ℝ) (r lo mid : ℕ) (h : lo ≤ mid) (h' : mid ≤ r) :
    takenFrom f r lo = (∑ c ∈ Finset.Ico lo mid, taken (f c)) + takenFrom f r mid :=
  (Finset.sum_Ico_consecutive _ h h').symm

theorem total_split (f : ℕ → ℝ) (w : ℕ → EReal) (r lo mid : ℕ) (h : lo ≤ mid) (h' : mid ≤ r) :
    total f w r lo = total f w r mid + ∑ c ∈ Finset.Ico lo mid, (weight f r c : EReal) * w c := by
  rw [add_comm]; exact (Finset.sum_Ico_consecutive _ h h').symm

section Block

variable (L : Fin 256 → Fin 256 → EReal) (hL : ∀ j' j, L j' j = if j ≤ j' then 1 else 0)

include hL in
/-- A product with the ones on and below the diagonal, in two parts that add up to it. -/
theorem later (y : Fin 256 → ℝ) (j : Fin 256) :
    (∑ j', (y j' : EReal) * L j' j) + (∑ j', ((y j' : EReal) - (y j' : EReal)) * L j' j) =
      ((∑ j', if j ≤ j' then y j' else 0 : ℝ) : EReal) := by
  have e : ∀ j', ((y j' : EReal) - (y j' : EReal)) * L j' j = 0 := fun j' => by
    rw [← EReal.coe_sub, sub_self, EReal.coe_zero, zero_mul]
  rw [Finset.sum_congr rfl (fun j' _ => e j'), Finset.sum_const_zero, add_zero, coe_sum]
  refine Finset.sum_congr rfl fun j' _ => ?_
  rw [hL]
  split
  · rw [mul_one]
  · rw [mul_zero, EReal.coe_zero]

/-- What is taken from a place of a block on, by the block and by what comes after it. -/
theorem taken_block (f : ℕ → ℝ) (r lo : ℕ) (h : lo + 256 ≤ r) (j : Fin 256) :
    (∑ j' : Fin 256, if j ≤ j' then (if j'.val = 255 then taken (f (lo + j'.val)) + takenFrom f r (lo + 256) else taken (f (lo + j'.val))) else 0)
      = takenFrom f r (lo + j.val) := by
  have hj := j.isLt
  rw [takenFrom_split f r (lo + j.val) (lo + 256) (by omega) h, ← sum_window 256 lo (lo + j.val) (lo + 256) (by omega) (by omega) fun c => taken (f c)]
  have e : ∀ j' : Fin 256, (if j ≤ j' then (if j'.val = 255 then taken (f (lo + j'.val)) + takenFrom f r (lo + 256) else taken (f (lo + j'.val))) else 0)
      = (if lo + j.val ≤ lo + j'.val ∧ lo + j'.val < lo + 256 then taken (f (lo + j'.val)) else 0) + (if j' = 255 then takenFrom f r (lo + 256) else 0) := fun j' => by
    have hj' := j'.isLt
    by_cases h1 : j ≤ j'
    · have h1' : j.val ≤ j'.val := h1
      rw [if_pos h1, if_pos (show lo + j.val ≤ lo + j'.val ∧ lo + j'.val < lo + 256 by omega)]
      by_cases h2 : j' = 255
      · subst h2; rw [if_pos (show ((255 : Fin 256).val = 255) from rfl), if_pos rfl]
      · have h3 : j'.val ≠ 255 := fun h => h2 (Fin.ext h)
        rw [if_neg h3, if_neg h2, add_zero]
    · have h1' : ¬ j.val ≤ j'.val := h1
      have h2 : j' ≠ 255 := fun h => by subst h; exact h1' (by show j.val ≤ 255; omega)
      rw [if_neg h1, if_neg (show ¬ (lo + j.val ≤ lo + j'.val ∧ lo + j'.val < lo + 256) by omega), if_neg h2, add_zero]
  rw [Finset.sum_congr rfl fun j' _ => e j', Finset.sum_add_distrib, Finset.sum_ite_eq' Finset.univ (255 : Fin 256), if_pos (Finset.mem_univ _)]

/-- What is taken from a place of the block on the diagonal on. -/
theorem taken_diag (f : ℕ → ℝ) (lo ρ : ℕ) (h : ρ ≤ 256) (j : Fin 256) (hj : j.val ≤ ρ) :
    (∑ j' : Fin 256, if j ≤ j' then (if j'.val < ρ then taken (f (lo + j'.val)) else 0) else 0) = takenFrom f (lo + ρ) (lo + j.val) := by
  unfold takenFrom
  rw [← sum_window 256 lo (lo + j.val) (lo + ρ) (by omega) (by omega) fun c => taken (f c)]
  refine Finset.sum_congr rfl fun j' _ => ?_
  by_cases h1 : j ≤ j'
  · have h1' : j.val ≤ j'.val := h1
    rw [if_pos h1]
    by_cases h2 : j'.val < ρ
    · rw [if_pos h2, if_pos (by omega)]
    · rw [if_neg h2, if_neg (by omega)]
  · have h1' : ¬ j.val ≤ j'.val := h1
    rw [if_neg h1, if_neg (by omega)]

variable (f : ℕ → ℝ) (w : ℕ → EReal)

include hL in
/-- A block's share of the sum. -/
theorem block_sum (r lo : ℕ) (h : lo + 256 ≤ r) (z x v : Fin 256 → EReal) (hz : ∀ j, z j = (f (lo + j.val) : EReal))
    (hx : ∀ j, x j = ((if j.val = 255 then taken (f (lo + j.val)) + takenFrom f r (lo + 256) else taken (f (lo + j.val)) : ℝ) : EReal))
    (hv : ∀ j, v j = w (lo + j.val)) :
    (∑ j, Ideal.exp2 (z j - ((∑ j', x j' * L j' j) + (∑ j', (x j' - x j') * L j' j))) * v j)
      = ∑ c ∈ Finset.Ico lo (lo + 256), (weight f r c : EReal) * w c := by
  rw [← sum_window 256 lo lo (lo + 256) le_rfl le_rfl fun c => (weight f r c : EReal) * w c]
  refine Finset.sum_congr rfl fun j _ => ?_
  have hj := j.isLt
  simp only [hx]
  rw [later L hL, taken_block f r lo h j, hz, hv, ← EReal.coe_sub, Ideal.exp2_coe, if_pos (by omega)]
  rfl

include hL in
/-- The share of the block on the diagonal. -/
theorem diag_sum (lo ρ : ℕ) (h : ρ ≤ 256) (z x v : Fin 256 → EReal) (hz : ∀ j, z j = (f (lo + j.val) : EReal))
    (hx : ∀ j, x j = ((if j.val < ρ then taken (f (lo + j.val)) else 0 : ℝ) : EReal))
    (hv : ∀ j, v j = w (lo + j.val)) :
    (∑ j, (if j.val < ρ then Ideal.exp2 (z j - ((∑ j', x j' * L j' j) + (∑ j', (x j' - x j') * L j' j))) else 0) * v j)
      = total f w (lo + ρ) lo := by
  unfold total
  rw [← sum_window 256 lo lo (lo + ρ) le_rfl (by omega) fun c => (weight f (lo + ρ) c : EReal) * w c]
  refine Finset.sum_congr rfl fun j _ => ?_
  have hj := j.isLt
  by_cases h2 : j.val < ρ
  · simp only [hx]
    rw [if_pos h2, later L hL, taken_diag f lo ρ h j h2.le, hz, hv, ← EReal.coe_sub, Ideal.exp2_coe, if_pos (by omega)]
    rfl
  · rw [if_neg h2, if_neg (by omega), zero_mul]

end Block

/-- What a block takes. -/
theorem taken_sum (f : ℕ → ℝ) (lo : ℕ) (x : Fin 256 → EReal) (hx : ∀ j, x j = (taken (f (lo + j.val)) : EReal)) :
    (∑ j, x j) = ((∑ c ∈ Finset.Ico lo (lo + 256), taken (f c) : ℝ) : EReal) := by
  rw [Cert.Band.sum_of_coe _ _ _ hx, ← sum_window 256 lo lo (lo + 256) le_rfl le_rfl fun c => taken (f c)]
  congr 1
  refine Finset.sum_congr rfl fun j _ => ?_
  rw [if_pos (by omega)]

/-- What the block on the diagonal takes. -/
theorem taken_sum_diag (f : ℕ → ℝ) (lo ρ : ℕ) (h : ρ ≤ 256) (x : Fin 256 → EReal)
    (hx : ∀ j, x j = ((if j.val < ρ then taken (f (lo + j.val)) else 0 : ℝ) : EReal)) :
    (∑ j, x j) = (takenFrom f (lo + ρ) lo : EReal) := by
  unfold takenFrom
  rw [Cert.Band.sum_of_coe _ _ _ hx, ← sum_window 256 lo lo (lo + ρ) le_rfl (by omega) fun c => taken (f c)]
  congr 1
  refine Finset.sum_congr rfl fun j _ => ?_
  by_cases h2 : j.val < ρ
  · rw [if_pos h2, if_pos (by omega)]
  · rw [if_neg h2, if_neg (by omega)]

/-- The kernel's form of what a key takes. -/
theorem taken_eq (x : ℝ) : (max (x : EReal) 0 + Ideal.log (1 + Ideal.exp2 (0 - max (x : EReal) (-(x : EReal)))) * (((Real.log 2)⁻¹ : ℝ) : EReal))
    = (taken x : EReal) := by
  have h1 : max (x : EReal) (-(x : EReal)) = ((|x| : ℝ) : EReal) := by
    rw [← EReal.coe_neg, ← EReal.coe_strictMono.monotone.map_max]; rfl
  have h2 : max (x : EReal) 0 = ((max x 0 : ℝ) : EReal) := by
    rw [← EReal.coe_zero, ← EReal.coe_strictMono.monotone.map_max]
  have hp : 0 < 1 + (2 : ℝ) ^ (-|x|) := by have := Real.rpow_pos_of_pos (two_pos : (0 : ℝ) < 2) (-|x|); linarith
  rw [h1, h2, zero_sub, ← EReal.coe_neg, Ideal.exp2_coe, show (1 : EReal) = ((1 : ℝ) : EReal) from rfl, ← EReal.coe_add, Ideal.log_coe]
  rw [if_neg (by show ¬ (1 + (2 : ℝ) ^ (-|x|) ≤ 0); linarith), ← EReal.coe_mul, ← EReal.coe_add]
  rfl

end Cert.Stick

end
-- ==== Proof.StickTile.lean ====
/-
  What the stick-breaking kernel computes of one block of keys, read at an index.
-/
module

public import proofs.«01_k».proof.Proof.StickMath
public import proofs.«01_k».proof.Proof.StickSteps
public import Idealize.ShloMosaic.Lib.Pipeline.ValueKit
public import Idealize.ShloMosaic.Lib.WordCmp

@[expose] public section

set_option maxRecDepth 16384

noncomputable section

open Idealize.ShloMosaic

namespace Cert.Stick

open Cert.StickKernelIdeal Cert.StickKernelIdeal.Gen Cert.StickKernelIdeal.Run Idealize.ShloMosaic.TcCoe Idealize.SL.Sem

/-- What each key of a block takes, from the scores. -/
def takes (z : FVec Ideal S512x256 .f32) : FVec Ideal S512x256 .f32 :=
  addf (maximumf z (broadcast S512x256 (Scalar.ofBits (F := Ideal) .f32 0x00000000#32)))
    (mulf (log (addf (broadcast S512x256 (Scalar.ofBits (F := Ideal) .f32 0x3F800000#32))
      (exp2 (subf (broadcast S512x256 (Scalar.ofBits (F := Ideal) .f32 0x00000000#32)) (absf z)))))
      (broadcast S512x256 (Named.named (F := Ideal) κ "log2e" 0x3FB8AA3B#32)))

/-- The same with what later blocks took added at the last key. -/
def carried (car : FVec Ideal S512x128 .f32) (x : FVec Ideal S512x256 .f32) : FVec Ideal S512x256 .f32 :=
  concatenate S512x256 1 [⟨S512x128, extractStridedSlice S512x128 ![0, 0] x slices_S512x256_o0_0_S512x128⟩,
    ⟨S512x128, addf (extractStridedSlice S512x128 ![0, 128] x slices_S512x256_o0_128_S512x128)
      (select k0_pay35 car (k0_pay36 (F := Ideal)))⟩] concatenates_S512x128_S512x128_S512x256_d1

/-- The exponents of the weights. -/
def exponents (z x : FVec Ideal S512x256 .f32) (L : FVec Ideal S256x256 .bf16) : FVec Ideal S512x256 .f32 :=
  subf z (addf
    (matmul dot_S512x256_S256x256_S512x256_1_0_0_1_n_n none (truncf .bf16 (extf .f32 (truncf .bf16 x bitsLt_bf16_f32) bitsLt_bf16_f32) bitsLt_bf16_f32) L (constant (F := Ideal) S512x256 .f32 0x00000000#32))
    (matmul dot_S512x256_S256x256_S512x256_1_0_0_1_n_n none (truncf .bf16 (subf x (extf .f32 (truncf .bf16 x bitsLt_bf16_f32) bitsLt_bf16_f32)) bitsLt_bf16_f32) L (constant (F := Ideal) S512x256 .f32 0x00000000#32)))

/-- The weighted sum of a block's values. -/
def weighted (a : FVec Ideal S512x256 .f32) (v : FVec Ideal S1x256x128 .bf16) : FVec Ideal S512x128 .f32 :=
  matmul dot_S512x256_S256x128_S512x128_1_0_0_1_n_n none (truncf .bf16 a bitsLt_bf16_f32) (k0_pay7 v) (constant (F := Ideal) S512x128 .f32 0x00000000#32)

/-- What a block takes in all, on every lane. -/
def takesAll (x : FVec Ideal S512x256 .f32) : FVec Ideal S512x128 .f32 :=
  k0_pay30 (shapeCast S512x1 (multiReduction .add [1] S512 x 0x00000000#32 reduces_S512x256_S512 (.inl rfl) rfl) shapeCasts_S512_S512x1)

/-- A masked block. -/
def onDiag (x : FVec Ideal S512x256 .f32) : FVec Ideal S512x256 .f32 :=
  select k0_pay23 x (broadcast S512x256 (Scalar.ofBits (F := Ideal) .f32 0x00000000#32))

/-- The sums and what was taken, as slabs and without the leading unit. -/
def slabOf (x : FVec Ideal S512x128 .f32) : FVec Ideal S1x512x128 .f32 := k0_pay3 x
def flat (x : FVec Ideal S1x512x128 .f32) : FVec Ideal S512x128 .f32 := k0_pay59 x

theorem named_log2e : (Named.named (F := Ideal) (φ := .f32) κ "log2e" 0x3FB8AA3B#32 : EReal) = (((Real.log 2)⁻¹ : ℝ) : EReal) := rfl

section Steps

variable (acc car : FVec Ideal S1x512x128 .f32) (qq : FVec Ideal S1x512x128 .bf16) (kd vd kp vp : FVec Ideal S1x256x128 .bf16) (L : FVec Ideal S256x256 .bf16) (w : BitVec 32)

theorem pairCar_eq : pairCar (F := Ideal) car qq kd kp = slabOf (addf (addf (flat car) (takesAll (takes (k0_pay8 qq kd)))) (takesAll (takes (k0_pay8 qq kp)))) := rfl

theorem pairAcc_eq : pairAcc (F := Ideal) acc car qq kd vd kp vp L = slabOf (addf (flat acc) (addf
    (weighted (exp2 (exponents (k0_pay8 qq kd) (carried (flat car) (takes (k0_pay8 qq kd))) L)) vd)
    (weighted (exp2 (exponents (k0_pay8 qq kp) (carried (addf (flat car) (takesAll (takes (k0_pay8 qq kd)))) (takes (k0_pay8 qq kp))) L)) vp))) := rfl

theorem lastAcc_eq : lastAcc (F := Ideal) acc car qq kd vd L = slabOf (addf (flat acc)
    (weighted (exp2 (exponents (k0_pay8 qq kd) (carried (flat car) (takes (k0_pay8 qq kd))) L)) vd)) := rfl

theorem startCar0_eq : startCar0 (F := Ideal) qq kd kp = slabOf (addf (takesAll (onDiag (takes (k0_pay8 qq kd)))) (takesAll (takes (k0_pay8 qq kp)))) := rfl
theorem startCar1_eq : startCar1 (F := Ideal) qq kd kp = slabOf (addf (takesAll (onDiag (takes (k0_pay8 qq kd)))) (takesAll (takes (k0_pay8 qq kp)))) := rfl

theorem startAcc0_eq : startAcc0 (F := Ideal) w qq kd vd kp vp L = slabOf (addf
    (weighted (onDiag (exp2 (exponents (k0_pay8 qq kd) (onDiag (takes (k0_pay8 qq kd))) L))) vd)
    (Scalar.select (Scalar.cmpi .sgt w 0#32)
      (weighted (exp2 (exponents (k0_pay8 qq kp) (carried (takesAll (onDiag (takes (k0_pay8 qq kd)))) (takes (k0_pay8 qq kp))) L)) vp)
      (broadcast S512x128 (Scalar.ofBits (F := Ideal) .f32 0x00000000#32)))) := rfl

theorem startAcc1_eq : startAcc1 (F := Ideal) qq kd vd kp vp L = slabOf (addf
    (weighted (onDiag (exp2 (exponents (k0_pay8 qq kd) (onDiag (takes (k0_pay8 qq kd))) L))) vd)
    (weighted (exp2 (exponents (k0_pay8 qq kp) (carried (takesAll (onDiag (takes (k0_pay8 qq kd)))) (takes (k0_pay8 qq kp))) L)) vp)) := rfl

end Steps

section At

variable (R : Fin 512) (j : Fin 256) (l : Fin 128)

theorem slab_at (x : FVec Ideal S512x128 .f32) : slabOf x (ix3 (0 : Fin 1) R l) = x (ix2 R l) := by
  pointwise [slabOf, k0_pay3]

theorem flat_at (x : FVec Ideal S1x512x128 .f32) : flat x (ix2 R l) = x (ix3 (0 : Fin 1) R l) := by
  pointwise [flat, k0_pay59]

theorem scores_at (qq : FVec Ideal S1x512x128 .bf16) (k : FVec Ideal S1x256x128 .bf16) :
    (k0_pay8 qq k : FVec Ideal S512x256 .f32) (ix2 R j) = ∑ d : Fin 128, qq (ix3 (0 : Fin 1) R d) * k (ix3 (0 : Fin 1) j d) := by
  pointwise [k0_pay8]

theorem takes_at (z : FVec Ideal S512x256 .f32) (x : ℝ) (h : z (ix2 R j) = (x : EReal)) : takes z (ix2 R j) = (taken x : EReal) := by
  refine Eq.trans ?_ (taken_eq x)
  rw [← h]
  pointwise [takes, named_log2e]
  rfl

theorem mask_at : (k0_pay23 : IVec S512x256 1) (ix2 R j) = BitVec.ofBool (decide (j.val < R.val % 256)) := by
  pointwise [k0_pay23]
  have hR := R.isLt
  have hj := j.isLt
  have e : IntOp.andi (BitVec.ofNat 32 R.val) 255#32 = BitVec.ofNat 32 (R.val % 256) := by
    apply BitVec.eq_of_toNat_eq
    show (BitVec.ofNat 32 R.val &&& 255#32).toNat = _
    rw [BitVec.toNat_and, BitVec.toNat_ofNat, BitVec.toNat_ofNat, BitVec.toNat_ofNat, Nat.mod_eq_of_lt (show R.val < 2 ^ 32 by omega),
      Nat.mod_eq_of_lt (show R.val % 256 < 2 ^ 32 by omega)]
    exact Nat.and_two_pow_sub_one_eq_mod R.val 8
  rw [e, WordCmp.cmpi_slt_ofNat (by omega) (by omega)]

theorem exponents_at (z x : FVec Ideal S512x256 .f32) (L : FVec Ideal S256x256 .bf16) : exponents z x L (ix2 R j) =
    z (ix2 R j) - ((∑ j' : Fin 256, x (ix2 R j') * L (ix2 j' j)) + (∑ j' : Fin 256, (x (ix2 R j') - x (ix2 R j')) * L (ix2 j' j))) := by
  pointwise [exponents]

theorem weighted_at (a : FVec Ideal S512x256 .f32) (v : FVec Ideal S1x256x128 .bf16) :
    weighted a v (ix2 R l) = ∑ j : Fin 256, a (ix2 R j) * v (ix3 (0 : Fin 1) j l) := by
  pointwise [weighted, k0_pay7]

theorem takesAll_at (x : FVec Ideal S512x256 .f32) : takesAll x (ix2 R l) = ∑ j : Fin 256, x (ix2 R j) := by
  pointwise [takesAll, k0_pay30]

theorem carried_at (car : FVec Ideal S512x128 .f32) (x : FVec Ideal S512x256 .f32) :
    carried car x (ix2 R j) = if j.val = 255 then x (ix2 R j) + car (ix2 R (127 : Fin 128)) else x (ix2 R j) := by
  pointwise [carried, k0_pay35, k0_pay36]
  have hj := j.isLt
  by_cases h1 : j.val < 128
  · rw [dif_pos h1, if_neg (by omega)]
  · have e1 : (⟨128 + (j.val - 128), by omega⟩ : Fin 256) = j := Fin.ext (by show 128 + (j.val - 128) = j.val; omega)
    rw [dif_neg h1, e1, WordCmp.cmpi_eq_ofNat (by omega) (by decide)]
    by_cases h2 : j.val = 255
    · have e2 : (⟨j.val - 128, by omega⟩ : Fin 128) = 127 := Fin.ext (by show j.val - 128 = 127; omega)
      rw [if_pos h2, e2, decide_eq_true (by omega)]
      rfl
    · rw [if_neg h2, decide_eq_false (by omega)]
      exact add_zero _

theorem ones_at (j' : Fin 256) : (k0_pay1 : FVec Ideal S256x256 .bf16) (ix2 j' j) = if j ≤ j' then 1 else 0 := by
  pointwise [k0_pay1]
  have hj := j.isLt
  have hj' := j'.isLt
  rw [WordCmp.cmpi_sge_ofNat (by omega) (by omega)]
  by_cases h : j ≤ j'
  · have h' : j.val ≤ j'.val := h
    rw [if_pos h, decide_eq_true h']
    show (((BitVec.setWidth 32 (BitVec.ofBool true)).toInt : ℝ) : EReal) = 1
    rw [show (BitVec.setWidth 32 (BitVec.ofBool true)).toInt = 1 from by decide]; norm_num
  · have h' : ¬ j.val ≤ j'.val := h
    rw [if_neg h, decide_eq_false h']
    show (((BitVec.setWidth 32 (BitVec.ofBool false)).toInt : ℝ) : EReal) = 0
    rw [show (BitVec.setWidth 32 (BitVec.ofBool false)).toInt = 0 from by decide]; norm_num

end At

end Cert.Stick

end
-- ==== Proof.StickRows.lean ====
/-
  The steps of the stick-breaking kernel on one block of 256 rows of two heads: after each, the sums and what was taken are
  those over the keys done so far, from the row backward.
-/
module

public import proofs.«01_k».proof.Proof.StickTile

@[expose] public section

set_option maxRecDepth 16384

noncomputable section

open Idealize.ShloMosaic

namespace Cert.Stick

open Cert.StickKernelIdeal Cert.StickKernelIdeal.Gen Cert.StickKernelIdeal.Run Idealize.ShloMosaic.TcCoe Idealize.SL.Sem

variable (f : Fin 512 → ℕ → ℝ) (w : Fin 128 → ℕ → EReal) (r : Fin 512 → ℕ)

/-- The sums over the keys from `lo` on. -/
def Sums (lo : ℕ) (x : FVec Ideal S512x128 .f32) : Prop := ∀ R l, x (ix2 R l) = total (f R) (w l) (r R) lo
/-- What the keys from `lo` on took. -/
def Took (lo : ℕ) (x : FVec Ideal S512x128 .f32) : Prop := ∀ R l, x (ix2 R l) = (takenFrom (f R) (r R) lo : EReal)
/-- The scores of the block of keys from `lo`, -/
def Scores (lo : ℕ) (qq : FVec Ideal S1x512x128 .bf16) (k : FVec Ideal S1x256x128 .bf16) : Prop :=
  ∀ R j, (k0_pay8 qq k : FVec Ideal S512x256 .f32) (ix2 R j) = (f R (lo + j.val) : EReal)
/-- and its values. -/
def Values (lo : ℕ) (v : FVec Ideal S1x256x128 .bf16) : Prop := ∀ (j : Fin 256) (l : Fin 128), v (ix3 (0 : Fin 1) j l) = w l (lo + j.val)

variable {f w r} {qq : FVec Ideal S1x512x128 .bf16} {k v k' v' : FVec Ideal S1x256x128 .bf16} {lo : ℕ} {car acc : FVec Ideal S512x128 .f32}

theorem took_block (hr : ∀ R, lo + 256 ≤ r R) (hk : Scores f lo qq k) (hc : Took f r (lo + 256) car) :
    Took f r lo (addf car (takesAll (takes (k0_pay8 qq k)))) := fun R l => by
  show car (ix2 R l) + takesAll (takes (k0_pay8 qq k)) (ix2 R l) = _
  rw [hc R l, takesAll_at, taken_sum (f R) lo _ (fun j => takes_at R j _ _ (hk R j)), ← EReal.coe_add,
    takenFrom_split (f R) (r R) lo (lo + 256) (by omega) (hr R), add_comm]

theorem sum_block (hr : ∀ R, lo + 256 ≤ r R) (hk : Scores f lo qq k) (hv : Values w lo v) (hc : Took f r (lo + 256) car) (R : Fin 512) (l : Fin 128) :
    weighted (exp2 (exponents (k0_pay8 qq k) (carried car (takes (k0_pay8 qq k))) k0_pay1)) v (ix2 R l)
      = ∑ c ∈ Finset.Ico lo (lo + 256), (weight (f R) (r R) c : EReal) * w l c := by
  rw [weighted_at]
  refine Eq.trans ?_ (block_sum (fun j' j => (k0_pay1 : FVec Ideal S256x256 .bf16) (ix2 j' j)) (fun j' j => ones_at j j') (f R) (w l) (r R) lo (hr R)
    (fun j => (k0_pay8 qq k : FVec Ideal S512x256 .f32) (ix2 R j)) (fun j => carried car (takes (k0_pay8 qq k)) (ix2 R j))
    (fun j => v (ix3 (0 : Fin 1) j l)) (hk R) (fun j => ?_) fun j => hv j l)
  · refine Finset.sum_congr rfl fun j _ => congrArg (· * _) ?_
    show Ideal.exp2 (exponents _ _ _ (ix2 R j)) = _
    rw [exponents_at]
  · rw [carried_at, takes_at R j _ _ (hk R j), hc R 127]
    split
    · rw [EReal.coe_add]
    · rfl

theorem sums_block (hr : ∀ R, lo + 256 ≤ r R) (hk : Scores f lo qq k) (hv : Values w lo v) (hc : Took f r (lo + 256) car)
    (ha : Sums f w r (lo + 256) acc) :
    Sums f w r lo (addf acc (weighted (exp2 (exponents (k0_pay8 qq k) (carried car (takes (k0_pay8 qq k))) k0_pay1)) v)) := fun R l => by
  show acc (ix2 R l) + weighted _ v (ix2 R l) = _
  rw [ha R l, sum_block hr hk hv hc, ← total_split (f R) (w l) (r R) lo (lo + 256) (by omega) (hr R)]

/-- The masked block on the diagonal. -/
theorem onDiag_at (x : FVec Ideal S512x256 .f32) (R : Fin 512) (j : Fin 256) :
    onDiag x (ix2 R j) = if j.val < R.val % 256 then x (ix2 R j) else 0 := by
  show (if (k0_pay23 : IVec S512x256 1) (ix2 R j) = 1#1 then x (ix2 R j) else Ideal.ofBits .f32 0x00000000#32) = _
  rw [mask_at]
  by_cases h : j.val < R.val % 256
  · rw [if_pos h, decide_eq_true h]; rfl
  · rw [if_neg h, decide_eq_false h]
    refine (if_neg (by decide)).trans ?_
    simp [Ideal.ofBits, Ideal.ieee]

theorem diag_takes (hk : Scores f lo qq k) (R : Fin 512) (j : Fin 256) :
    onDiag (takes (k0_pay8 qq k)) (ix2 R j) = ((if j.val < R.val % 256 then taken (f R (lo + j.val)) else 0 : ℝ) : EReal) := by
  rw [onDiag_at, takes_at R j _ _ (hk R j)]
  split
  · rfl
  · rfl

theorem took_diag (hr : ∀ R, r R = lo + R.val % 256) (hk : Scores f lo qq k) : Took f r lo (takesAll (onDiag (takes (k0_pay8 qq k)))) := fun R l => by
  rw [takesAll_at, taken_sum_diag (f R) lo (R.val % 256) (by omega) _ (diag_takes hk R), hr]

theorem sums_diag (hr : ∀ R, r R = lo + R.val % 256) (hk : Scores f lo qq k) (hv : Values w lo v) :
    Sums f w r lo (weighted (onDiag (exp2 (exponents (k0_pay8 qq k) (onDiag (takes (k0_pay8 qq k))) k0_pay1))) v) := fun R l => by
  rw [weighted_at, hr]
  refine Eq.trans ?_ (diag_sum (fun j' j => (k0_pay1 : FVec Ideal S256x256 .bf16) (ix2 j' j)) (fun j' j => ones_at j j') (f R) (w l) lo (R.val % 256) (by omega)
    (fun j => (k0_pay8 qq k : FVec Ideal S512x256 .f32) (ix2 R j)) (fun j => onDiag (takes (k0_pay8 qq k)) (ix2 R j))
    (fun j => v (ix3 (0 : Fin 1) j l)) (hk R) (diag_takes hk R) fun j => hv j l)
  refine Finset.sum_congr rfl fun j _ => congrArg (· * _) ?_
  rw [onDiag_at]
  refine if_congr Iff.rfl ?_ rfl
  show Ideal.exp2 (exponents _ _ _ (ix2 R j)) = _
  rw [exponents_at]

theorem named_skip : (Named.named (F := Ideal) (φ := .f32) κ "skip" 0x43180000#32 : EReal) = ⊤ := rfl

theorem below_top (low : EReal) (h : low < ⊤) : Scalar.cmpf (F := Ideal) (φ := .f32) .olt low kSkip = 1#1 := by
  rw [show (kSkip : Ideal .f32) = (⊤ : EReal) from named_skip]
  show BitVec.ofBool (decide (low < ⊤)) = 1#1
  rw [decide_eq_true h]; rfl

/-- The least of what was taken is below the limit, which is infinite. -/
theorem goes_on (x : ℝ) (hc : car (ix2 (0 : Fin 512) (0 : Fin 128)) = (x : EReal)) : Scalar.cmpf (F := Ideal) .olt (k0_pay53 (slabOf car)) kSkip = 1#1 := by
  have h : (k0_pay53 (F := Ideal) (slabOf car) : EReal) < (⊤ : EReal) := by
    have hp : (k0_pay53 (F := Ideal) (slabOf car) : EReal) ≤ car (ix2 (0 : Fin 512) (0 : Fin 128)) := by
      pointwise [k0_pay53]
      refine Finset.fold_min_le _ |>.mpr (Or.inr ⟨(0 : Fin 128), Finset.mem_univ _, Finset.fold_min_le _ |>.mpr (Or.inr ⟨(0 : Fin 512), Finset.mem_univ _, ?_⟩)⟩)
      exact (slab_at 0 0 car).le
    rw [hc] at hp
    exact lt_of_le_of_lt hp (EReal.coe_lt_top _)
  generalize (k0_pay53 (F := Ideal) (slabOf car) : EReal) = low at h ⊢
  exact below_top low h

end Cert.Stick

end
-- ==== Proof.StickWindow.lean ====
/-
  A block of the stick-breaking kernel's operands: 8192 rows of two heads. Its rows of 256 give scores and values, and every
  trip of the loop leaves the whole weighted sums of its rows.
-/
module

public import proofs.«01_k».proof.Proof.StickRows
public import proofs.«01_k».proof.Proof.StickBody
public import proofs.«01_k».proof.Proof.TileValue

@[expose] public section

set_option maxRecDepth 16384

noncomputable section

open Idealize.ShloMosaic

namespace Cert.Stick

open Cert.StickKernelIdeal Cert.StickKernelIdeal.Gen Cert.StickKernelIdeal.Run Idealize.ShloMosaic.TcCoe Idealize.SL.Sem

/-! ## Where the blocks of rows begin -/

theorem off1_eq : ∀ (t : Fin k0_t1_loop.trips) (s : Fin 2), k0_off1 t (BitVec.ofNat 32 s.val) = ![0, 256 * (2 * t.val + s.val), 0] := by
  decide +kernel
theorem off2_eq : ∀ (t : Fin k0_t1_loop.trips) (s : Fin 2), k0_off2 t (BitVec.ofNat 32 s.val) = ![0, 256 * (2 * t.val + s.val - 1), 0] := by
  decide +kernel
theorem off3_eq : ∀ (t : Fin k0_t1_loop.trips) (p : Fin 16), p.val < t.val - 1 → k0_off3 t (BitVec.ofNat 32 p.val) = ![0, 256 * (2 * t.val - 2 - 2 * p.val), 0] := by
  decide +kernel
theorem off4_eq : ∀ (t : Fin k0_t1_loop.trips) (p : Fin 16), p.val < t.val - 1 → k0_off4 t (BitVec.ofNat 32 p.val) = ![0, 256 * (2 * t.val - 3 - 2 * p.val), 0] := by
  decide +kernel
theorem off5_eq : ∀ (t : Fin k0_t1_loop.trips) (p : Fin 16), p.val < t.val → k0_off5 t (BitVec.ofNat 32 p.val) = ![0, 256 * (2 * t.val - 1 - 2 * p.val), 0] := by
  decide +kernel
theorem off6_eq : ∀ (t : Fin k0_t1_loop.trips) (p : Fin 16), p.val < t.val → k0_off6 t (BitVec.ofNat 32 p.val) = ![0, 256 * (2 * t.val - 2 - 2 * p.val), 0] := by
  decide +kernel
theorem trips_eq : k0_t1_loop.trips = 16 := by decide +kernel
/-- The kernel asks whether the row block in slot 0 is not the first. -/
theorem asks (t : Fin k0_t1_loop.trips) : Scalar.cmpi .sgt (word0 t) 0#32 = BitVec.ofBool (decide (1 ≤ t.val)) := by
  have h : ∀ t : Fin k0_t1_loop.trips, Scalar.cmpi .sgt (word0 t) 0#32 = BitVec.ofBool (decide (1 ≤ t.val)) := by decide +kernel
  exact h t

/-- 256 rows of a block. -/
def rowsAt (X : FVec Ideal S1x8192x128 .bf16) (n : ℕ) : FVec Ideal S1x256x128 .bf16 := fun y =>
  X (ix3 (0 : Fin 1) (⟨(n + (y 1).val) % 8192, Nat.mod_lt _ (by decide)⟩ : Fin 8192) (y 2 : Fin 128))

theorem emb_rows (X : FVec Ideal S1x8192x128 .bf16) (n : ℕ) (o : Fin 3 → ℕ) (h : ∀ x, o x + S1x256x128.size x ≤ S1x8192x128.size x)
    (ho : o = ![0, n, 0]) : (fun y => X ((rows o h).emb y)) = rowsAt X n := by
  subst ho
  have h1 : n + 256 ≤ 8192 := h 1
  funext y
  have hy0 : (y 0).val < 1 := (y 0).isLt
  have hy : (y 1).val < 256 := (y 1).isLt
  refine congrArg X (funext fun a => Fin.ext ?_)
  match a with
  | ⟨0, _⟩ => show 0 + 1 * (y 0).val = 0; omega
  | ⟨1, _⟩ => show n + 1 * (y 1).val = (n + (y 1).val) % 8192; omega
  | ⟨2, _⟩ => show 0 + 1 * (y 2).val = (y 2).val; omega

theorem rowsOf_at (a : Memref sig .tc .vmem S1x8192x128 .bf16) (ha : a.IsWhole) (X : FVec Ideal S1x8192x128 .bf16) (n : ℕ) (o : Fin 3 → ℕ)
    (h : ∀ x, o x + S1x256x128.size x ≤ S1x8192x128.size x) (ho : o = ![0, n, 0]) : rowsOf (F := Ideal) a o h (ha.unread X) = rowsAt X n := by
  rw [rowsOf_unread (F := Ideal) a ha o h X]
  exact emb_rows X n o h ho

/-! ## Scores and values of the rows -/

theorem q_low (q : FVec Ideal S1x256x128 .bf16) (j : Fin 256) (d : Fin 128) :
    (k0_pay18 q : FVec Ideal S1x256x128 .bf16) (ix3 (0 : Fin 1) j d) = if d.val < 64 then q (ix3 (0 : Fin 1) j d) else 0 := by
  pointwise [k0_pay18, k0_pay17]
  have hd := d.isLt
  rw [WordCmp.cmpi_sge_ofNat (by omega) (by decide), WordCmp.cmpi_slt_ofNat (by omega) (by decide)]
  by_cases h : d.val < 64
  · rw [if_pos h, decide_eq_true h, decide_eq_true (Nat.zero_le _)]; rfl
  · rw [if_neg h, decide_eq_false h, decide_eq_true (Nat.zero_le _)]
    refine (if_neg (by decide)).trans ?_
    simp [Ideal.ofBits, Ideal.ieee]

theorem q_high (q : FVec Ideal S1x256x128 .bf16) (j : Fin 256) (d : Fin 128) :
    (k0_pay19 q : FVec Ideal S1x256x128 .bf16) (ix3 (0 : Fin 1) j d) = if 64 ≤ d.val then q (ix3 (0 : Fin 1) j d) else 0 := by
  pointwise [k0_pay19, k0_pay17]
  have hd := d.isLt
  rw [WordCmp.cmpi_sge_ofNat (by omega) (by decide), WordCmp.cmpi_slt_ofNat (by omega) (by decide)]
  by_cases h : 64 ≤ d.val
  · rw [if_pos h, decide_eq_true h, decide_eq_true (show d.val < 128 from hd)]; rfl
  · rw [if_neg h, decide_eq_false h, decide_eq_true (show d.val < 128 from hd)]
    refine (if_neg (by decide)).trans ?_
    simp [Ideal.ofBits, Ideal.ieee]

section Window

variable (X Y V G : FVec Ideal S1x8192x128 .bf16) (Q K : ℕ → ℕ → ℝ)

/-- The scores of row block `i`: row `R` is row `R % 256` of head `R / 256`. -/
def scoresOf (i : ℕ) (R : Fin 512) (c : ℕ) : ℝ :=
  ∑ d : Fin 64, Q (256 * i + R.val % 256) (64 * (R.val / 256) + d.val) * K c (64 * (R.val / 256) + d.val)
/-- Its rows. -/
def rowOf (i : ℕ) (R : Fin 512) : ℕ := 256 * i + R.val % 256
/-- The values. -/
def valuesOf (l : Fin 128) (c : ℕ) : EReal := V (ix3 (0 : Fin 1) (⟨c % 8192, Nat.mod_lt _ (by decide)⟩ : Fin 8192) l)

theorem values_rows (n : ℕ) : Values (valuesOf V) n (rowsAt V n) := fun _ _ => rfl

variable (hX : ∀ (n : Fin 8192) (l : Fin 128), X (ix3 (0 : Fin 1) n l) = (Q n.val l.val : EReal))
  (hY : ∀ (n : Fin 8192) (l : Fin 128), Y (ix3 (0 : Fin 1) n l) = (K n.val l.val : EReal))

include hX hY

theorem scores_rows (i n : ℕ) (hi : i < 32) (hn : n + 256 ≤ 8192) :
    Scores (scoresOf Q K i) n (qqOf (F := Ideal) (rowsAt X (256 * i))) (rowsAt Y n) := fun R j => by
  have hR := R.isLt
  have hj := j.isLt
  have ek : ∀ d : Fin 128, rowsAt Y n (ix3 (0 : Fin 1) j d) = (K (n + j.val) d.val : EReal) := fun d => by
    refine (hY _ d).trans ?_
    show (K ((n + j.val) % 8192) d.val : EReal) = _
    rw [Nat.mod_eq_of_lt (by omega)]
  rw [scores_at]
  by_cases h : R.val < 256
  · have eq : ∀ d : Fin 128, qqOf (F := Ideal) (rowsAt X (256 * i)) (ix3 (0 : Fin 1) R d)
        = ((if d.val < 64 then Q (256 * i + R.val) d.val else 0 : ℝ) : EReal) := fun d => by
      by_cases hd : d.val < 64
      · refine (dif_pos h).trans ((q_low _ _ _).trans ((if_pos hd).trans ((hX _ d).trans ?_)))
        show (Q ((256 * i + R.val) % 8192) d.val : EReal) = _
        rw [Nat.mod_eq_of_lt (by omega), if_pos hd]
      · refine (dif_pos h).trans ((q_low _ _ _).trans ((if_neg hd).trans ?_))
        rw [if_neg hd]; rfl
    rw [Cert.Band.sum_of_coe _ _ _ fun d => by rw [eq d, ek d, ← EReal.coe_mul], Cert.Band.sum_low]
    have e1 : R.val % 256 = R.val := by omega
    have e2 : R.val / 256 = 0 := by omega
    unfold scoresOf
    rw [e1, e2]
  · have eq : ∀ d : Fin 128, qqOf (F := Ideal) (rowsAt X (256 * i)) (ix3 (0 : Fin 1) R d)
        = ((if 64 ≤ d.val then Q (256 * i + (R.val - 256)) d.val else 0 : ℝ) : EReal) := fun d => by
      by_cases hd : 64 ≤ d.val
      · refine (dif_neg h).trans ((q_high _ _ _).trans ((if_pos hd).trans ((hX _ d).trans ?_)))
        show (Q ((256 * i + (R.val - 256)) % 8192) d.val : EReal) = _
        rw [Nat.mod_eq_of_lt (by omega), if_pos hd]
      · refine (dif_neg h).trans ((q_high _ _ _).trans ((if_neg hd).trans ?_))
        rw [if_neg hd]; rfl
    rw [Cert.Band.sum_of_coe _ _ _ fun d => by rw [eq d, ek d, ← EReal.coe_mul], Cert.Band.sum_high]
    have e1 : R.val % 256 = R.val - 256 := by omega
    have e2 : R.val / 256 = 1 := by omega
    unfold scoresOf
    rw [e1, e2]

end Window

/-- The rows given out, at an index. -/
theorem out_at (a : FVec Ideal S1x512x128 .f32) (g : FVec Ideal S1x256x128 .bf16) (j : Fin 256) (l : Fin 128) :
    outRows (F := Ideal) a g (ix3 (0 : Fin 1) j l)
      = flat a (ix2 (⟨256 * (l.val / 64) + j.val, by omega⟩ : Fin 512) l) * Cert.Band.gate (g (ix3 (0 : Fin 1) j l)) := by
  rw [flat_at]
  unfold outRows
  pointwise [k0_pay57]
  have hl := l.isLt
  rw [WordCmp.cmpi_sge_ofNat (by omega) (by decide), WordCmp.cmpi_slt_ofNat (by omega) (by decide)]
  by_cases h : l.val < 64
  · rw [decide_eq_true h, decide_eq_true (Nat.zero_le _)]
    refine congrArg (· * _) (congrArg a ?_)
    funext x; apply Fin.ext
    match x with
    | ⟨0, _⟩ => rfl
    | ⟨1, _⟩ => show j.val = 256 * (l.val / 64) + j.val; omega
    | ⟨2, _⟩ => rfl
  · rw [decide_eq_false h, decide_eq_true (Nat.zero_le _)]
    refine congrArg (· * _) (congrArg a ?_)
    funext x; apply Fin.ext
    match x with
    | ⟨0, _⟩ => rfl
    | ⟨1, _⟩ => show j.val + 256 = 256 * (l.val / 64) + j.val; omega
    | ⟨2, _⟩ => rfl

end Cert.Stick

end
-- ==== Proof.StickPlan.lean ====
/-
  The plan of every trip of the stick-breaking kernel's loop: each slot holds the weighted sums over the keys from the row
  backward as far as the trip has come, and what these keys took; at the end, the sums over all earlier keys.
-/
module

public import proofs.«01_k».proof.Proof.StickWindow

@[expose] public section

set_option maxRecDepth 16384

noncomputable section

open Idealize.ShloMosaic

namespace Cert.Stick

open Cert.StickKernelIdeal Cert.StickKernelIdeal.Gen Cert.StickKernelIdeal.Run Idealize.ShloMosaic.TcCoe Idealize.SL.Sem

theorem flat_slab (x : FVec Ideal S512x128 .f32) : flat (slabOf x) = x := by
  funext y
  obtain ⟨R, l, rfl⟩ : ∃ (R : Fin 512) (l : Fin 128), y = ix2 R l := ⟨y 0, y 1, eq_ix2 y⟩
  rw [flat_at, slab_at]

section Steps

variable {f : Fin 512 → ℕ → ℝ} {w : Fin 128 → ℕ → EReal} {r : Fin 512 → ℕ} {qq : FVec Ideal S1x512x128 .bf16}
  {k v k' v' : FVec Ideal S1x256x128 .bf16} {lo : ℕ} {acc car : FVec Ideal S1x512x128 .f32}

/-- The sums and what was taken, over the keys from `lo` on. -/
def Held (f : Fin 512 → ℕ → ℝ) (w : Fin 128 → ℕ → EReal) (r : Fin 512 → ℕ) (lo : ℕ) (acc car : FVec Ideal S1x512x128 .f32) : Prop :=
  Sums f w r lo (flat acc) ∧ Took f r lo (flat car)

/-- The first two blocks. -/
theorem held_start (hr : ∀ R, r R = lo + 256 + R.val % 256) (hk : Scores f (lo + 256) qq k) (hv : Values w (lo + 256) v) (hk' : Scores f lo qq k')
    (hv' : Values w lo v') : Held f w r lo (startAcc1 (F := Ideal) qq k v k' v' (k0_pay1 (F := Ideal))) (startCar1 (F := Ideal) qq k k') := by
  have hr' : ∀ R, lo + 256 ≤ r R := fun R => by rw [hr R]; omega
  refine ⟨?_, ?_⟩
  · rw [startAcc1_eq, flat_slab]
    exact sums_block hr' hk' hv' (took_diag hr hk) (sums_diag hr hk hv)
  · rw [startCar1_eq, flat_slab]
    exact took_block hr' hk' (took_diag hr hk)

/-- What they took is real, even where the second is not an earlier one. -/
theorem start_goes_on (n : ℕ) (hr : ∀ R, r R = n + R.val % 256) (hk : Scores f n qq k) (hk' : Scores f lo qq k') :
    Scalar.cmpf (F := Ideal) .olt (k0_pay53 (startCar1 (F := Ideal) qq k k')) kSkip = 1#1 := by
  rw [startCar1_eq]
  refine goes_on (takenFrom (f 0) (r 0) n + ∑ c ∈ Finset.Ico lo (lo + 256), taken (f 0 c)) ?_
  show takesAll (onDiag (takes (k0_pay8 qq k))) (ix2 (0 : Fin 512) (0 : Fin 128)) + takesAll (takes (k0_pay8 qq k')) (ix2 (0 : Fin 512) (0 : Fin 128)) = _
  rw [took_diag hr hk 0 0, takesAll_at, taken_sum (f 0) lo _ (fun j => takes_at 0 j _ _ (hk' 0 j)), ← EReal.coe_add]

/-- A pair of blocks. -/
theorem held_pair (hr : ∀ R, lo + 512 ≤ r R) (hk : Scores f (lo + 256) qq k) (hv : Values w (lo + 256) v) (hk' : Scores f lo qq k') (hv' : Values w lo v')
    (h : Held f w r (lo + 512) acc car) :
    Held f w r lo (pairAcc (F := Ideal) acc car qq k v k' v' (k0_pay1 (F := Ideal))) (pairCar (F := Ideal) car qq k k') := by
  have hr' : ∀ R, lo + 256 + 256 ≤ r R := hr
  have hr'' : ∀ R, lo + 256 ≤ r R := fun R => (by omega : lo + 256 ≤ lo + 512).trans (hr R)
  have h1 := took_block hr' hk (car := flat car) h.2
  refine ⟨?_, ?_⟩
  · rw [pairAcc_eq, flat_slab]
    have h2 := sums_block hr'' hk' hv' h1 (sums_block hr' hk hv (car := flat car) h.2 h.1)
    exact fun R l => (add_assoc _ _ _).symm.trans (h2 R l)
  · rw [pairCar_eq, flat_slab]
    exact took_block hr'' hk' h1

theorem pair_goes_on (h : Held f w r lo acc (pairCar (F := Ideal) car qq k k')) :
    Scalar.cmpf (F := Ideal) .olt (k0_pay4 (pairCar (F := Ideal) car qq k k')) kSkip = 1#1 := by
  have h2 := h.2
  rw [pairCar_eq, flat_slab] at h2
  rw [pairCar_eq]
  exact goes_on _ (h2 0 0)

/-- The first key block by itself. -/
theorem sums_last (hr : ∀ R, 256 ≤ r R) (hk : Scores f 0 qq k) (hv : Values w 0 v) (h : Held f w r 256 acc car) :
    Sums f w r 0 (flat (lastAcc (F := Ideal) acc car qq k v (k0_pay1 (F := Ideal)))) := by
  rw [lastAcc_eq, flat_slab]
  exact sums_block (lo := 0) (fun R => by rw [Nat.zero_add]; exact hr R) hk hv (car := flat car) h.2 h.1

/-- Slot 0 starts as slot 1 does, where its row block is not the first; -/
theorem start0_later (t : Fin k0_t1_loop.trips) (ht : 1 ≤ t.val) (L : FVec Ideal S256x256 .bf16) :
    startAcc0 (F := Ideal) (word0 t) qq k v k' v' L = startAcc1 (F := Ideal) qq k v k' v' L := by
  rw [startAcc0_eq, startAcc1_eq, asks, decide_eq_true ht]
  rfl

/-- the first has the block on the diagonal only. -/
theorem start0_first (t : Fin k0_t1_loop.trips) (ht : t.val = 0) (hr : ∀ R, r R = 0 + R.val % 256) (hk : Scores f 0 qq k) (hv : Values w 0 v) :
    Sums f w r 0 (flat (startAcc0 (F := Ideal) (word0 t) qq k v k' v' (k0_pay1 (F := Ideal)))) := by
  rw [startAcc0_eq, asks, decide_eq_false (by omega), flat_slab]
  refine fun R l => Eq.trans ?_ (sums_diag hr hk hv R l)
  show _ + Ideal.ofBits .f32 0x00000000#32 = _
  rw [show Ideal.ofBits .f32 0x00000000#32 = 0 by simp [Ideal.ofBits, Ideal.ieee], add_zero]

end Steps

section Plan

variable (X Y V : FVec Ideal S1x8192x128 .bf16) (Q K : ℕ → ℕ → ℝ)
  (hX : ∀ (n : Fin 8192) (l : Fin 128), X (ix3 (0 : Fin 1) n l) = (Q n.val l.val : EReal))
  (hY : ∀ (n : Fin 8192) (l : Fin 128), Y (ix3 (0 : Fin 1) n l) = (K n.val l.val : EReal))
  (arg2 arg3 arg4 : Memref sig .tc .vmem S1x8192x128 .bf16) (arg7 : Memref sig .tc .vmem S256x256 .bf16)
  (h2 : arg2.IsWhole) (h3 : arg3.IsWhole) (h4 : arg4.IsWhole) (f7 : arg7.view.ty.Contents (Elt Ideal)) (h7 : whole7 arg7 f7 = (k0_pay1 (F := Ideal)))

include hX hY h7

/-- The plan. -/
theorem plan (t : Fin k0_t1_loop.trips) : ∃ P : Plan (F := Ideal) t arg2 arg3 arg4 arg7 (h2.unread X) (h3.unread Y) (h4.unread V) f7,
    P.D0 = (fun a => Sums (scoresOf Q K (2 * t.val)) (valuesOf V) (rowOf (2 * t.val)) 0 (flat a))
      ∧ P.D1 = (fun a => Sums (scoresOf Q K (2 * t.val + 1)) (valuesOf V) (rowOf (2 * t.val + 1)) 0 (flat a)) := by
  have ht : t.val < 16 := lt_of_lt_of_eq t.isLt trips_eq
  have S : ∀ i n, i < 32 → n + 256 ≤ 8192 → Scores (scoresOf Q K i) n (qqOf (F := Ideal) (rowsAt X (256 * i))) (rowsAt Y n) := scores_rows X Y Q K hX hY
  have W : ∀ n, Values (valuesOf V) n (rowsAt V n) := values_rows V
  have eq0 : rowsOf (F := Ideal) arg2 _ (k0_off1_inb t 0) (h2.unread X) = rowsAt X (256 * (2 * t.val)) := rowsOf_at _ _ _ _ _ _ (off1_eq t 0)
  have eq1 : rowsOf (F := Ideal) arg2 _ (k0_off1_inb t 1) (h2.unread X) = rowsAt X (256 * (2 * t.val + 1)) := rowsOf_at _ _ _ _ _ _ (off1_eq t 1)
  have ed0 : ∀ (a : Memref sig .tc .vmem S1x8192x128 .bf16) (ha : a.IsWhole) (Z : FVec Ideal S1x8192x128 .bf16),
      rowsOf (F := Ideal) a _ (k0_off1_inb t 0) (ha.unread Z) = rowsAt Z (256 * (2 * t.val)) := fun _ _ _ => rowsOf_at _ _ _ _ _ _ (off1_eq t 0)
  have ed1 : ∀ (a : Memref sig .tc .vmem S1x8192x128 .bf16) (ha : a.IsWhole) (Z : FVec Ideal S1x8192x128 .bf16),
      rowsOf (F := Ideal) a _ (k0_off1_inb t 1) (ha.unread Z) = rowsAt Z (256 * (2 * t.val + 1)) := fun _ _ _ => rowsOf_at _ _ _ _ _ _ (off1_eq t 1)
  have ep0 : ∀ (a : Memref sig .tc .vmem S1x8192x128 .bf16) (ha : a.IsWhole) (Z : FVec Ideal S1x8192x128 .bf16),
      rowsOf (F := Ideal) a _ (k0_off2_inb t 0) (ha.unread Z) = rowsAt Z (256 * (2 * t.val - 1)) := fun _ _ _ => rowsOf_at _ _ _ _ _ _ (off2_eq t 0)
  have ep1 : ∀ (a : Memref sig .tc .vmem S1x8192x128 .bf16) (ha : a.IsWhole) (Z : FVec Ideal S1x8192x128 .bf16),
      rowsOf (F := Ideal) a _ (k0_off2_inb t 1) (ha.unread Z) = rowsAt Z (256 * (2 * t.val)) := fun _ _ _ => rowsOf_at _ _ _ _ _ _ (off2_eq t 1)
  have r0 : ∀ R, rowOf (2 * t.val) R = 256 * (2 * t.val) + R.val % 256 := fun _ => rfl
  have r1 : ∀ R, rowOf (2 * t.val + 1) R = 256 * (2 * t.val + 1) + R.val % 256 := fun _ => rfl
  refine ⟨{
    Q0 := fun p acc car low => Scalar.cmpf (F := Ideal) .olt low kSkip = 1#1
      ∧ (t.val = 0 → Sums (scoresOf Q K (2 * t.val)) (valuesOf V) (rowOf (2 * t.val)) 0 (flat acc))
      ∧ (1 ≤ t.val → p ≤ t.val - 1 ∧ Held (scoresOf Q K (2 * t.val)) (valuesOf V) (rowOf (2 * t.val)) (256 * (2 * t.val - 1 - 2 * p)) acc car)
    Q1 := fun p acc car low => Scalar.cmpf (F := Ideal) .olt low kSkip = 1#1
      ∧ p ≤ t.val ∧ Held (scoresOf Q K (2 * t.val + 1)) (valuesOf V) (rowOf (2 * t.val + 1)) (256 * (2 * t.val - 2 * p)) acc car
    D0 := fun a => Sums (scoresOf Q K (2 * t.val)) (valuesOf V) (rowOf (2 * t.val)) 0 (flat a)
    D1 := fun a => Sums (scoresOf Q K (2 * t.val + 1)) (valuesOf V) (rowOf (2 * t.val + 1)) 0 (flat a)
    start0 := ?_, pair0 := ?_, last0 := ?_, done0 := ?_, start1 := ?_, pair1 := ?_, done1 := ?_ }, rfl, rfl⟩
  · rw [h7, ed0, ed0, ed0, ep0, ep0]
    refine ⟨start_goes_on (256 * (2 * t.val)) r0 (S _ _ (by omega) (by omega)) (S _ _ (by omega) (by omega)), fun h0 => ?_, fun h1 => ⟨Nat.zero_le _, ?_⟩⟩
    · have e : 256 * (2 * t.val) = 0 := by omega
      exact start0_first t h0 (fun R => by rw [r0 R, e]) (by have := S (2 * t.val) (256 * (2 * t.val)) (by omega) (by omega); rw [e] at this ⊢; exact this)
        (by rw [e]; exact W 0)
    · rw [start0_later t h1]
      have e : 256 * (2 * t.val) = 256 * (2 * t.val - 1) + 256 := by omega
      have e' : 256 * (2 * t.val - 1 - 2 * 0) = 256 * (2 * t.val - 1) := by omega
      rw [e']
      exact held_start (fun R => by rw [r0 R, e]) (by have := S (2 * t.val) (256 * (2 * t.val)) (by omega) (by omega); rw [← e]; exact this) (by rw [← e]; exact W _)
        (S _ _ (by omega) (by omega)) (W _)
  · intro p acc car low hp hk hQ
    have h1 : 1 ≤ t.val := by omega
    obtain ⟨hp', hH⟩ := hQ.2.2 h1
    have e3 : ∀ (a : Memref sig .tc .vmem S1x8192x128 .bf16) (ha : a.IsWhole) (Z : FVec Ideal S1x8192x128 .bf16),
        rowsOf (F := Ideal) a _ (k0_off3_inb t _ hk) (ha.unread Z) = rowsAt Z (256 * (2 * t.val - 1 - 2 * (p + 1)) + 256) := fun _ _ _ =>
      rowsOf_at _ _ _ _ _ _ ((off3_eq t ⟨p, by omega⟩ hp).trans (by rw [show 256 * (2 * t.val - 1 - 2 * (p + 1)) + 256 = 256 * (2 * t.val - 2 - 2 * p) by omega]))
    have e4 : ∀ (a : Memref sig .tc .vmem S1x8192x128 .bf16) (ha : a.IsWhole) (Z : FVec Ideal S1x8192x128 .bf16),
        rowsOf (F := Ideal) a _ (k0_off4_inb t _ hk) (ha.unread Z) = rowsAt Z (256 * (2 * t.val - 1 - 2 * (p + 1))) := fun _ _ _ =>
      rowsOf_at _ _ _ _ _ _ ((off4_eq t ⟨p, by omega⟩ hp).trans (by rw [show 256 * (2 * t.val - 1 - 2 * (p + 1)) = 256 * (2 * t.val - 3 - 2 * p) by omega]))
    rw [h7, ed0, e3, e3, e4, e4]
    rw [show 256 * (2 * t.val - 1 - 2 * p) = 256 * (2 * t.val - 1 - 2 * (p + 1)) + 512 by omega] at hH
    have hN := held_pair (fun R => by rw [r0 R]; omega) (S (2 * t.val) _ (by omega) (by omega)) (W _) (S (2 * t.val) _ (by omega) (by omega)) (W _) hH
    exact ⟨pair_goes_on hN, fun h0 => absurd h1 (by omega), fun _ => ⟨by omega, hN⟩⟩
  · intro p acc car low hQ hstop h1 hlt
    obtain ⟨hp', hH⟩ := hQ.2.2 h1
    have hp : p = t.val - 1 := by
      by_contra hne
      exact hstop (by omega) hQ.1
    rw [show 256 * (2 * t.val - 1 - 2 * p) = 256 by omega] at hH
    rw [h7, ed0, rowsOf_at arg3 h3 Y 0 _ _ rfl, rowsOf_at arg4 h4 V 0 _ _ rfl]
    exact sums_last (fun R => by rw [r0 R]; omega) (S _ _ (by omega) (by omega)) (W _) hH
  · intro p acc car low hQ hstop hn
    have h0 : t.val = 0 := by
      by_contra hne
      exact hn ⟨by omega, hQ.1⟩
    exact hQ.2.1 h0
  · rw [h7, ed1, ed1, ed1, ep1, ep1]
    have e : 256 * (2 * t.val + 1) = 256 * (2 * t.val) + 256 := by omega
    have e' : 256 * (2 * t.val - 2 * 0) = 256 * (2 * t.val) := by omega
    refine ⟨start_goes_on (256 * (2 * t.val + 1)) r1 (S _ _ (by omega) (by omega)) (S _ _ (by omega) (by omega)), Nat.zero_le _, ?_⟩
    rw [e']
    exact held_start (fun R => by rw [r1 R, e]) (by have := S (2 * t.val + 1) (256 * (2 * t.val + 1)) (by omega) (by omega); rw [← e]; exact this) (by rw [← e]; exact W _)
      (S _ _ (by omega) (by omega)) (W _)
  · intro p acc car low hp hk hQ
    obtain ⟨hp', hH⟩ := hQ.2
    have e5 : ∀ (a : Memref sig .tc .vmem S1x8192x128 .bf16) (ha : a.IsWhole) (Z : FVec Ideal S1x8192x128 .bf16),
        rowsOf (F := Ideal) a _ (k0_off5_inb t _ hk) (ha.unread Z) = rowsAt Z (256 * (2 * t.val - 2 * (p + 1)) + 256) := fun _ _ _ =>
      rowsOf_at _ _ _ _ _ _ ((off5_eq t ⟨p, by omega⟩ hp).trans (by rw [show 256 * (2 * t.val - 2 * (p + 1)) + 256 = 256 * (2 * t.val - 1 - 2 * p) by omega]))
    have e6 : ∀ (a : Memref sig .tc .vmem S1x8192x128 .bf16) (ha : a.IsWhole) (Z : FVec Ideal S1x8192x128 .bf16),
        rowsOf (F := Ideal) a _ (k0_off6_inb t _ hk) (ha.unread Z) = rowsAt Z (256 * (2 * t.val - 2 * (p + 1))) := fun _ _ _ =>
      rowsOf_at _ _ _ _ _ _ ((off6_eq t ⟨p, by omega⟩ hp).trans (by rw [show 256 * (2 * t.val - 2 * (p + 1)) = 256 * (2 * t.val - 2 - 2 * p) by omega]))
    rw [h7, ed1, e5, e5, e6, e6]
    rw [show 256 * (2 * t.val - 2 * p) = 256 * (2 * t.val - 2 * (p + 1)) + 512 by omega] at hH
    have hN := held_pair (fun R => by rw [r1 R]; omega) (S (2 * t.val + 1) _ (by omega) (by omega)) (W _) (S (2 * t.val + 1) _ (by omega) (by omega)) (W _) hH
    exact ⟨pair_goes_on hN, by omega, hN⟩
  · intro p acc car low hQ hstop
    obtain ⟨hp', hH⟩ := hQ.2
    have hp : p = t.val := by
      by_contra hne
      exact hstop (by omega) hQ.1
    rw [show 256 * (2 * t.val - 2 * p) = 0 by omega] at hH
    exact hH.1

end Plan

end Cert.Stick

end
-- ==== Proof.StickSpec.lean ====
/-
  Gated stick-breaking attention of whole arrays, as a function of the real entries of queries and keys, of the values and of
  the gate: what kernel and reference both compute. The scores are in units of `log 2`.
-/
module

public import proofs.«01_k».proof.Proof.Spec
public import proofs.«01_k».proof.Proof.StickMath

@[expose] public section

set_option maxRecDepth 16384

noncomputable section

open Idealize.ShloMosaic

namespace Cert.Stick

open Cert.KernelIdeal (S8x8192x1024)
open Cert.Band (entry gate)

/-- The score of row `n` and key `c`. -/
def score (xq xk : S8x8192x1024.Idx → EReal) (b h n c : ℕ) : ℝ := ∑ d : Fin 64, entry xq b n (64 * h + d.val) * entry xk b c (64 * h + d.val)

/-- A column of the values. -/
def column (xv : S8x8192x1024.Idx → EReal) (b : Fin 8) (l : Fin 1024) (c : ℕ) : EReal :=
  xv (ix3 b (⟨c % 8192, Nat.mod_lt _ (by decide)⟩ : Fin 8192) l)

/-- The weighted sum over the earlier keys, gated. -/
def stick (xq xk xv xg : S8x8192x1024.Idx → EReal) : S8x8192x1024.Idx → EReal := fun y =>
  total (score xq xk (y 0).val ((y 2).val / 64) (y 1).val) (column xv (y 0) (y 2)) (y 1).val 0 * gate (xg y)

end Cert.Stick

end
-- ==== Proof.StickArray.lean ====
/-
  The stick-breaking kernel's result as a whole array: each grid point is a batch and a block of 128 lanes, each trip of its
  loop gives two blocks of 256 rows, and these cover the array.
-/
module

public import proofs.«01_k».proof.Proof.StickPlan
public import proofs.«01_k».proof.Proof.StickLaunch
public import proofs.«01_k».proof.Proof.StickSpec

@[expose] public section

set_option maxRecDepth 16384

noncomputable section

open Idealize.ShloMosaic

namespace Cert.Stick

open Cert.StickKernelIdeal Cert.StickKernelIdeal.Gen Cert.StickKernelIdeal.Run Idealize.ShloMosaic.TcCoe Idealize.SL.Sem
open Cert.Band (entry entry_coe gate Real')
open Idealize.ShloMosaic.Pipeline (Dat RDat)

/-- The grid's points. -/
abbrev Point := Fin (cfg0 (F := Ideal)).N

/-- The batch of a point, -/
def bat (t : Fin 64) : Fin 8 := ⟨t.val / 8 % 8, Nat.mod_lt _ (by decide)⟩
/-- its block of lanes, -/
def blockOf (t : Fin 64) : Fin 8 := ⟨t.val % 8, Nat.mod_lt _ (by decide)⟩
/-- and the lane of the array that lane `l` of the block is. -/
def wide (t : Fin 64) (l : Fin 128) : Fin 1024 := ⟨128 * (blockOf t).val + l.val, by have := (blockOf t).isLt; omega⟩

/-- All windows are that batch's rows of those lanes. -/
theorem place : ∀ t : Point,
    (win0_0.index t (0 : Fin 3) = (bat (Fin.cast N_0 t)).val ∧ win0_0.index t (1 : Fin 3) = 0 ∧ win0_0.index t (2 : Fin 3) = (blockOf (Fin.cast N_0 t)).val)
    ∧ win0_1.index t = win0_0.index t ∧ win0_2.index t = win0_0.index t ∧ win0_3.index t = win0_0.index t ∧ win0_4.index t = win0_0.index t :=
  (by decide +kernel : ∀ t : Fin grid0.N, _)

theorem at_place (o : Fin 3 → ℕ) (t : Fin 64) (h0 : o 0 = (bat t).val) (h1 : o 1 = 0) (h2 : o 2 = (blockOf t).val) (n : Fin 8192) (l : Fin 128)
    (y : S8x8192x1024.Idx) (hy0 : (y 0).val = o 0 * 1 + 1 * 0) (hy1 : (y 1).val = o 1 * 8192 + 1 * n.val) (hy2 : (y 2).val = o 2 * 128 + 1 * l.val) :
    y = ix3 (bat t) n (wide t l) := by
  funext a; apply Fin.ext
  match a with
  | ⟨0, _⟩ => show (y 0).val = (bat t).val; omega
  | ⟨1, _⟩ => show (y 1).val = n.val; omega
  | ⟨2, _⟩ => show (y 2).val = 128 * (blockOf t).val + l.val; omega

theorem emb_out (t : Point) (n : Fin 8192) (l : Fin 128) :
    (((cfg0 (F := Ideal)).win 4).blk t).view.emb (ix3 (0 : Fin 1) n l) = ix3 (bat (Fin.cast N_0 t)) n (wide (Fin.cast N_0 t) l) := by
  obtain ⟨⟨h0, h1, h2⟩, -, -, -, e⟩ := place t
  exact at_place (win0_4.index t) _ (by rw [e]; exact h0) (by rw [e]; exact h1) (by rw [e]; exact h2) n l _ rfl rfl rfl

/-- Every element of the result is in some point's block. -/
theorem covered (i : S8x8192x1024.Idx) : ∃ t : Point, ((cfg0 (F := Ideal)).win 4).flush t = true ∧ i ∈ (((cfg0 (F := Ideal)).win 4).blk t).view.set := by
  have h0 : (i 0).val < 8 := (i 0).isLt
  have h2 : (i 2).val < 1024 := (i 2).isLt
  let t : Point := Fin.cast N_0.symm (⟨8 * (i 0).val + (i 2).val / 128, by omega⟩ : Fin 64)
  refine ⟨t, flush0_4 _, ?_⟩
  have h := (((cfg0 (F := Ideal)).win 4).blk t).view.emb_mem_set (ix3 (0 : Fin 1) (i 1 : Fin 8192) (⟨(i 2).val % 128, Nat.mod_lt _ (by decide)⟩ : Fin 128))
  refine cast (congrArg (· ∈ _) ((emb_out t (i 1) _).trans ?_)) h
  funext a; apply Fin.ext
  match a with
  | ⟨0, _⟩ => show (8 * (i 0).val + (i 2).val / 128) / 8 % 8 = (i 0).val; omega
  | ⟨1, _⟩ => rfl
  | ⟨2, _⟩ => show 128 * ((8 * (i 0).val + (i 2).val / 128) % 8) + (i 2).val % 128 = (i 2).val; omega

variable (m : (ℓ : Loc nD τ sig) → Buf (Elt Ideal) ℓ) (c : Dev nD)

/-- The arrays at launch. -/
abbrev qs : S8x8192x1024.Idx → EReal := m ((c : Thread nD τ).loc main_arg0)
abbrev ks : S8x8192x1024.Idx → EReal := m ((c : Thread nD τ).loc main_arg1)
abbrev vs : S8x8192x1024.Idx → EReal := m ((c : Thread nD τ).loc main_arg2)
abbrev gs : S8x8192x1024.Idx → EReal := m ((c : Thread nD τ).loc main_arg3)

section Blocks

variable (t : Point) (n : Fin 8192) (l : Fin 128)

theorem block_q : (iblk m c 0 t : FVec Ideal S1x8192x128 .bf16) (ix3 (0 : Fin 1) n l) = qs m c (ix3 (bat (Fin.cast N_0 t)) n (wide (Fin.cast N_0 t) l)) := by
  obtain ⟨⟨h0, h1, h2⟩, -, -, -, -⟩ := place t
  exact congrArg (qs m c) (at_place (win0_0.index t) _ h0 h1 h2 n l _ rfl rfl rfl)
theorem block_k : (iblk m c 1 t : FVec Ideal S1x8192x128 .bf16) (ix3 (0 : Fin 1) n l) = ks m c (ix3 (bat (Fin.cast N_0 t)) n (wide (Fin.cast N_0 t) l)) := by
  obtain ⟨⟨h0, h1, h2⟩, e, -, -, -⟩ := place t
  exact congrArg (ks m c) (at_place (win0_1.index t) _ (by rw [e]; exact h0) (by rw [e]; exact h1) (by rw [e]; exact h2) n l _ rfl rfl rfl)
theorem block_v : (iblk m c 2 t : FVec Ideal S1x8192x128 .bf16) (ix3 (0 : Fin 1) n l) = vs m c (ix3 (bat (Fin.cast N_0 t)) n (wide (Fin.cast N_0 t) l)) := by
  obtain ⟨⟨h0, h1, h2⟩, -, e, -, -⟩ := place t
  exact congrArg (vs m c) (at_place (win0_2.index t) _ (by rw [e]; exact h0) (by rw [e]; exact h1) (by rw [e]; exact h2) n l _ rfl rfl rfl)
theorem block_g : (iblk m c 3 t : FVec Ideal S1x8192x128 .bf16) (ix3 (0 : Fin 1) n l) = gs m c (ix3 (bat (Fin.cast N_0 t)) n (wide (Fin.cast N_0 t) l)) := by
  obtain ⟨⟨h0, h1, h2⟩, -, -, e, -⟩ := place t
  exact congrArg (gs m c) (at_place (win0_3.index t) _ (by rw [e]; exact h0) (by rw [e]; exact h1) (by rw [e]; exact h2) n l _ rfl rfl rfl)

end Blocks

/-- What kernel and reference compute, of the buffers at launch. -/
abbrev result : S8x8192x1024.Idx → EReal := stick (qs m c) (ks m c) (vs m c) (gs m c)

/-- What is asked of each block of rows. -/
def asked : Asked Ideal := fun c t t' s Z => ∀ (j : Fin 256) (l : Fin 128), (Z : FVec Ideal S1x256x128 .bf16) (ix3 (0 : Fin 1) j l)
  = result m c (ix3 (bat t) (⟨(256 * (2 * t'.val + s.val) + j.val) % 8192, Nat.mod_lt _ (by decide)⟩ : Fin 8192) (wide t l))

/-- Whole sums of a row block, gated, are its rows of the result. -/
theorem rows_result (t : Fin 64) (t' : Fin k0_t1_loop.trips) (s : Fin 2) (V G : FVec Ideal S1x8192x128 .bf16) (a : FVec Ideal S1x512x128 .f32)
    (hV : ∀ n l, V (ix3 (0 : Fin 1) n l) = vs m c (ix3 (bat t) n (wide t l))) (hG : ∀ n l, G (ix3 (0 : Fin 1) n l) = gs m c (ix3 (bat t) n (wide t l)))
    (h : Sums (scoresOf (fun n l => entry (qs m c) (bat t) n (128 * (blockOf t).val + l)) (fun n l => entry (ks m c) (bat t) n (128 * (blockOf t).val + l))
      (2 * t'.val + s.val)) (valuesOf V) (rowOf (2 * t'.val + s.val)) 0 (flat a)) :
    asked m c t t' s (outRows (F := Ideal) a (fun y => G ((rows _ (k0_off7_inb t' s)).emb y))) := by
  refine Eq.mp (congrArg (fun g => asked m c t t' s (outRows (F := Ideal) a g)) (emb_rows G (512 * t'.val + 256 * s.val) _ (k0_off7_inb t' s) (off7_eq t' s)).symm) ?_
  intro j l
  have ht : t'.val < 16 := lt_of_lt_of_eq t'.isLt trips_eq
  have hs := s.isLt
  have hj := j.isLt
  have hl := l.isLt
  have hb := (blockOf t).isLt
  rw [out_at, h]
  have en : (256 * (2 * t'.val + s.val) + j.val) % 8192 = 256 * (2 * t'.val + s.val) + j.val := Nat.mod_eq_of_lt (by omega)
  have er : rowOf (2 * t'.val + s.val) (⟨256 * (l.val / 64) + j.val, by omega⟩ : Fin 512) = 256 * (2 * t'.val + s.val) + j.val := by
    unfold rowOf; show 256 * (2 * t'.val + s.val) + (256 * (l.val / 64) + j.val) % 256 = _; omega
  have es : scoresOf (fun n l => entry (qs m c) (bat t) n (128 * (blockOf t).val + l)) (fun n l => entry (ks m c) (bat t) n (128 * (blockOf t).val + l))
      (2 * t'.val + s.val) (⟨256 * (l.val / 64) + j.val, by omega⟩ : Fin 512)
      = score (qs m c) (ks m c) (bat t).val ((wide t l).val / 64) (256 * (2 * t'.val + s.val) + j.val) := by
    funext k
    unfold scoresOf score wide
    have e1 : (256 * (l.val / 64) + j.val) % 256 = j.val := by omega
    have e2 : (256 * (l.val / 64) + j.val) / 256 = l.val / 64 := by omega
    have e3 : ∀ d : ℕ, 64 * ((128 * (blockOf t).val + l.val) / 64) + d = 128 * (blockOf t).val + (64 * (l.val / 64) + d) := fun d => by omega
    simp only [e1, e2, e3]
  have ev : valuesOf V l = column (vs m c) (bat t) (wide t l) := funext fun k => hV _ _
  have eg : rowsAt G (512 * t'.val + 256 * s.val) (ix3 (0 : Fin 1) j l)
      = gs m c (ix3 (bat t) (⟨(256 * (2 * t'.val + s.val) + j.val) % 8192, Nat.mod_lt _ (by decide)⟩ : Fin 8192) (wide t l)) := by
    refine (hG _ l).trans (congrArg (fun n : Fin 8192 => gs m c (ix3 (bat t) n (wide t l))) (Fin.ext ?_))
    show (512 * t'.val + 256 * s.val + j.val) % 8192 = _
    rw [show 512 * t'.val + 256 * s.val + j.val = 256 * (2 * t'.val + s.val) + j.val by omega]
  rw [er, es, ev, eg]
  exact congrArg (fun n : ℕ => total (score (qs m c) (ks m c) (bat t).val ((wide t l).val / 64) n) (column (vs m c) (bat t) (wide t l)) n 0
    * gate (gs m c (ix3 (bat t) (⟨(256 * (2 * t'.val + s.val) + j.val) % 8192, Nat.mod_lt _ (by decide)⟩ : Fin 8192) (wide t l)))) en.symm

section Real

variable (hq : ∀ c, Real' (qs m c)) (hk : ∀ c, Real' (ks m c))

include hq hk

/-- Every trip has a plan that gives what is asked. -/
theorem planned : Planned m (asked m) := fun c t arg2 arg3 arg4 arg7 h2 h3 h4 t' f7 h7 => by
  obtain ⟨P, e0, e1⟩ := plan (iblk m c 0 t) (iblk m c 1 t) (iblk m c 2 t) (fun n l => entry (qs m c) (bat (Fin.cast N_0 t)) n (128 * (blockOf (Fin.cast N_0 t)).val + l))
    (fun n l => entry (ks m c) (bat (Fin.cast N_0 t)) n (128 * (blockOf (Fin.cast N_0 t)).val + l))
    (fun n l => (block_q m c t n l).trans (entry_coe (hq c) _ _ _)) (fun n l => (block_k m c t n l).trans (entry_coe (hk c) _ _ _))
    arg2 arg3 arg4 arg7 h2 h3 h4 f7 h7 t'
  refine ⟨P, fun a => ⟨fun h => ?_, fun h => ?_⟩⟩
  · rw [e0] at h
    exact rows_result m c (Fin.cast N_0 t) t' 0 (iblk m c 2 t) (iblk m c 3 t) a (block_v m c t) (block_g m c t) h
  · rw [e1] at h
    exact rows_result m c (Fin.cast N_0 t) t' 1 (iblk m c 2 t) (iblk m c 3 t) a (block_v m c t) (block_g m c t) h

omit hq hk in
/-- A staged output that is as asked is its block of the result. -/
theorem out_block (t : Point) (X : FVec Ideal S1x8192x128 .bf16) (h : outIs (F := Ideal) (asked m) c 4 t X) :
    X = (((cfg0 (F := Ideal)).win 4).blk t).view.read (Elt Ideal) (result m c) := by
  funext y
  obtain ⟨n, l, rfl⟩ : ∃ (n : Fin 8192) (l : Fin 128), y = ix3 (0 : Fin 1) n l := ⟨y 1, y 2, by
    funext a
    match a with
    | ⟨0, _⟩ => exact Subsingleton.elim (α := Fin 1) _ _
    | ⟨1, _⟩ => rfl
    | ⟨2, _⟩ => rfl⟩
  have hn := n.isLt
  show X (ix3 (0 : Fin 1) n l) = result m c ((((cfg0 (F := Ideal)).win 4).blk t).view.emb (ix3 (0 : Fin 1) n l))
  rw [emb_out]
  let t' : Fin k0_t1_loop.trips := ⟨n.val / 512, by rw [trips_eq]; omega⟩
  let s : Fin 2 := ⟨n.val / 256 % 2, Nat.mod_lt _ (by decide)⟩
  have e := h t' s (⟨n.val % 256, Nat.mod_lt _ (by decide)⟩ : Fin 256) l
  have ex := congrFun (emb_rows X (512 * t'.val + 256 * s.val) _ (k0_off7_inb t' s) (off7_eq t' s)) (ix3 (0 : Fin 1) (⟨n.val % 256, Nat.mod_lt _ (by decide)⟩ : Fin 256) l)
  have en : (⟨(512 * t'.val + 256 * s.val + n.val % 256) % 8192, Nat.mod_lt _ (by decide)⟩ : Fin 8192) = n := Fin.ext (by
    show (512 * (n.val / 512) + 256 * (n.val / 256 % 2) + n.val % 256) % 8192 = n.val; omega)
  have en' : (⟨(256 * (2 * t'.val + s.val) + n.val % 256) % 8192, Nat.mod_lt _ (by decide)⟩ : Fin 8192) = n := Fin.ext (by
    show (256 * (2 * (n.val / 512) + n.val / 256 % 2) + n.val % 256) % 8192 = n.val; omega)
  have ex' : rowsAt X (512 * t'.val + 256 * s.val) (ix3 (0 : Fin 1) (⟨n.val % 256, Nat.mod_lt _ (by decide)⟩ : Fin 256) l) = X (ix3 (0 : Fin 1) n l) :=
    congrArg (fun k : Fin 8192 => X (ix3 (0 : Fin 1) k l)) en
  refine ex'.symm.trans (ex.symm.trans (e.trans ?_))
  exact congrArg (fun k : Fin 8192 => result m c (ix3 (bat (Fin.cast N_0 t)) k (wide (Fin.cast N_0 t) l))) en'

omit hq hk in
/-- The result array after the run. -/
theorem final (r : PUnit × MemSt nD τ sig (Elt Ideal))
    (h : RDat.FramePost (cfg0 (F := Ideal)) (fun c => (dats m 0 c).toRRel marked (outIs (asked m) c)) (V m) r) (c : Dev nD) :
    r.2.mem ((c : Thread nD τ).loc main_v0) = result m c := by
  obtain ⟨after, hL, hA⟩ := RDat.FramePost.exists_exact h c
  refine (hA 4).trans (Dat.arrAt_eq_of_cover (((dats m 0 c).toRRel marked (outIs (asked m) c)).withAfter after) 4 (result m c) (fun t hf => ?_) covered)
  obtain ⟨Y, -, hX⟩ := hL 4 t hf
  exact out_block m c t _ hX

end Real

end Cert.Stick

end
-- ==== Proof.StickRefScan.lean ====
/-
  The reference's running sum along the keys, from the far end: at key `c` it is the sum over the keys `c, c + 1, …`.
-/
module

public import proofs.«01_k».proof.Proof.Gen.StickReferenceIdeal.Read
public import proofs.«01_k».proof.Proof.StickMath

@[expose] public section

set_option maxRecDepth 16384

noncomputable section

open Idealize.ShloMosaic

namespace Cert.StickReference

open Cert.StickReferenceIdeal Cert.StickReferenceIdeal.Gen

/-- Adding up a list from the left is adding its sum. -/
theorem fold_sum {ι : Type} (f : ι → EReal) (l : List ι) (a : EReal) : l.foldl (fun r i => r + f i) a = a + (l.map f).sum := by
  induction l generalizing a with
  | nil => simp
  | cons i l ih => rw [List.foldl_cons, ih, List.map_cons, List.sum_cons, add_assoc]

/-- The window of a running sum. -/
abbrev Keys : Shape := ⟨4, ![1, 1, 1, 8192]⟩

/-- A place of the window is its last coordinate. -/
def keyOf : Fin 8192 ≃ Keys.Idx where
  toFun k := ix4 (0 : Fin 1) (0 : Fin 1) (0 : Fin 1) k
  invFun w := w 3
  left_inv _ := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- A window sum is the initial value and the sum, over the window's places, of what lies there. -/
theorem window_sum {s t : Shape} (window strides lo hi : Fin s.rank → ℕ) (h : s.ReduceWindows window strides lo hi t) (x : s.Idx → EReal) (v : EReal)
    (j : t.Idx) (F : (⟨s.rank, window⟩ : Shape).Idx → EReal)
    (hF : ∀ w : (⟨s.rank, window⟩ : Shape).Idx, (if hin : ∀ a, lo a ≤ (j (a.cast h.1.symm)).val * strides a + (w a).val
        ∧ (j (a.cast h.1.symm)).val * strides a + (w a).val - lo a < s.size a
      then x (fun a => ⟨(j (a.cast h.1.symm)).val * strides a + (w a).val - lo a, (hin a).2⟩) else v) = F w) :
    Ideal.hostReduceWindowAdd window strides lo hi h x v j = v + ∑ w, F w := by
  rw [← Equiv.sum_comp (Shape.rowMajor ⟨s.rank, window⟩).symm F, Fin.sum_univ_def, ← fold_sum, ← funext hF]
  unfold Ideal.hostReduceWindowAdd Host.reduceWindow
  dsimp only
  congr! 4
  split <;> rfl

/-- The running sum at a key. -/
theorem scan_at (x : FVec Ideal S8x16x8192x8192 .f32) (z : FVec Ideal S_ .f32) (hz : z (Shape.Idx.first h_S_) = 0) (b : Fin 8) (h : Fin 16)
    (r c : Fin 8192) (g : ℕ → EReal) (hx : ∀ k : Fin 8192, x (ix4 b h r k) = g k.val) :
    Host.reduceWindowAdd (F := Ideal) ![1, 1, 1, 8192] ![1, 1, 1, 1] ![0, 0, 0, 0] ![0, 0, 0, 8191] x z
      reduceWindows_S8x16x8192x8192_S8x16x8192x8192_w1s1p0_0_w1s1p0_0_w1s1p0_0_w8192s1p0_8191 h_S_ (ix4 b h r c) = ∑ k ∈ Finset.Ico c.val 8192, g k := by
  have hc := c.isLt
  let p : Keys.Idx → Fin 4 → ℕ := fun w a => (ix4 b h r c a).val * (![1, 1, 1, 1] : Fin 4 → ℕ) a + (w a).val
  let F : Keys.Idx → EReal := fun w => if hin : ∀ a : Fin 4, (![0, 0, 0, 0] : Fin 4 → ℕ) a ≤ p w a ∧ p w a - (![0, 0, 0, 0] : Fin 4 → ℕ) a < S8x16x8192x8192.size a
    then x (fun a => ⟨p w a - (![0, 0, 0, 0] : Fin 4 → ℕ) a, (hin a).2⟩) else z (Shape.Idx.first h_S_)
  unfold Host.reduceWindowAdd
  rw [Ideal.hostReduceWindowAdd_def]
  refine (window_sum _ _ _ _ _ x _ _ F fun _ => rfl).trans ?_
  rw [hz, zero_add, ← Equiv.sum_comp keyOf F, ← Cert.Stick.sum_window 8192 c.val c.val 8192 le_rfl (by omega) g]
  refine Finset.sum_congr rfl fun k _ => ?_
  have hk := k.isLt
  have hb := b.isLt
  have hh := h.isLt
  have hr := r.isLt
  by_cases hck : c.val + k.val < 8192
  · rw [if_pos ⟨Nat.le_add_right _ _, hck⟩]
    have hin : ∀ a : Fin 4, (![0, 0, 0, 0] : Fin 4 → ℕ) a ≤ p (keyOf k) a ∧ p (keyOf k) a - (![0, 0, 0, 0] : Fin 4 → ℕ) a < S8x16x8192x8192.size a := fun a => by
      match a with
      | ⟨0, _⟩ => exact ⟨Nat.zero_le _, by show b.val * 1 + 0 - 0 < 8; omega⟩
      | ⟨1, _⟩ => exact ⟨Nat.zero_le _, by show h.val * 1 + 0 - 0 < 16; omega⟩
      | ⟨2, _⟩ => exact ⟨Nat.zero_le _, by show r.val * 1 + 0 - 0 < 8192; omega⟩
      | ⟨3, _⟩ => exact ⟨Nat.zero_le _, by show c.val * 1 + k.val - 0 < 8192; omega⟩
    refine (dif_pos hin).trans (Eq.trans (congrArg x ?_) (hx ⟨c.val + k.val, hck⟩))
    funext a; apply Fin.ext
    match a with
    | ⟨0, _⟩ => show b.val * 1 + 0 - 0 = b.val; omega
    | ⟨1, _⟩ => show h.val * 1 + 0 - 0 = h.val; omega
    | ⟨2, _⟩ => show r.val * 1 + 0 - 0 = r.val; omega
    | ⟨3, _⟩ => show c.val * 1 + k.val - 0 = c.val + k.val; omega
  · rw [if_neg fun e => hck e.2]
    refine (dif_neg fun hin => hck ?_).trans hz
    have e : c.val * 1 + k.val - 0 < 8192 := (hin 3).2
    omega

end Cert.StickReference

end
-- ==== Proof.StickRefScore.lean ====
/-
  The reference's scores, what each key leaves of the stick, and the weights, as real numbers.
-/
module

public import proofs.«01_k».proof.Proof.StickRefScan
public import proofs.«01_k».proof.Proof.StickSpec
public import proofs.«01_k».proof.Proof.RefValue
public import Idealize.ShloMosaic.Lib.WordCmp

@[expose] public section

set_option maxRecDepth 16384

noncomputable section

open Idealize.ShloMosaic

namespace Cert.StickReference

open Cert.StickReferenceIdeal Cert.StickReferenceIdeal.Gen Cert.StickReferenceIdeal.Read
open Cert.Band (entry entry_coe Real' sum_of_coe coe_sum)
open Cert.BandReference (two_lit eighth_lit)
open Cert.Stick (score taken takenFrom weight)

/-! ## One entry -/

/-- What a score of `f`, in units of `log 2`, leaves of the stick, plus the score: the logarithm of the logistic function. -/
theorem log_sigmoid (f : ℝ) : -(max (-(Real.log 2 * f)) 0 + Real.log (1 + Real.exp (-|(-(Real.log 2 * f))|))) = Real.log 2 * (f - taken f) := by
  have hl : 0 < Real.log 2 := Real.log_pos one_lt_two
  have e1 : Real.exp (-|(-(Real.log 2 * f))|) = (2 : ℝ) ^ (-|f|) := by
    rw [Real.rpow_def_of_pos two_pos, abs_neg, abs_mul, abs_of_pos hl, mul_neg]
  have e2 : max (-(Real.log 2 * f)) 0 = Real.log 2 * (max f 0 - f) := by
    rcases le_total f 0 with h | h
    · rw [max_eq_left (by nlinarith), max_eq_right h]; ring
    · rw [max_eq_right (by nlinarith), max_eq_left h]; ring
  unfold taken
  rw [e1, e2]
  field_simp
  ring

theorem weight_exp (f : ℕ → ℝ) (r c : ℕ) : Real.exp (Real.log 2 * (f c - takenFrom f r c)) = weight f r c := by
  unfold weight
  exact (Real.rpow_def_of_pos two_pos _).symm

/-! ## Where the operations read -/

theorem query_split (b : Fin 8) (n : Fin 8192) (h : Fin 16) (d : Fin 64) :
    idx_main_v8 (ix4 b n h d) = ix3 b n (⟨64 * h.val + d.val, by omega⟩ : Fin 1024) := by
  have hb := b.isLt; have hn := n.isLt; have hh := h.isLt; have hd := d.isLt
  funext a; apply Fin.ext
  match a with
  | ⟨0, _⟩ => show (((b.val * 8192 + n.val) * 16 + h.val) * 64 + d.val) / 8388608 = b.val; omega
  | ⟨1, _⟩ => show (((b.val * 8192 + n.val) * 16 + h.val) * 64 + d.val) / 1024 % 8192 = n.val; omega
  | ⟨2, _⟩ => show (((b.val * 8192 + n.val) * 16 + h.val) * 64 + d.val) % 1024 = 64 * h.val + d.val; omega

theorem left_index (b : Fin 8) (h : Fin 16) (r c : Fin 8192) (d : Fin 64) : lidx_main_v11 (ix4 b h r c) d = ix4 b r h d :=
  funext fun a => Fin.ext (by match a with | ⟨0, _⟩ => rfl | ⟨1, _⟩ => rfl | ⟨2, _⟩ => rfl | ⟨3, _⟩ => rfl)

theorem right_index (b : Fin 8) (h : Fin 16) (r c : Fin 8192) (d : Fin 64) : ridx_main_v11 (ix4 b h r c) d = ix4 b c h d :=
  funext fun a => Fin.ext (by match a with | ⟨0, _⟩ => rfl | ⟨1, _⟩ => rfl | ⟨2, _⟩ => rfl | ⟨3, _⟩ => rfl)

/-- The mask keeps the keys before the row. -/
theorem mask_at (r c : Fin 8192) : val_main_v20 (F := Ideal) (ix2 r c) = BitVec.ofBool (decide (c.val < r.val)) := by
  rw [val_main_v20_apply, val_main_v18_apply, val_main_v15_apply, val_main_v19_apply, val_main_v17_apply]
  show IntOp.cmpi .slt (BitVec.ofNat 32 c.val) (BitVec.ofNat 32 r.val) = _
  have hr := r.isLt
  have hc := c.isLt
  exact WordCmp.cmpi_slt_ofNat (by omega) (by omega)

/-- What the queries are multiplied with. -/
theorem factor_at (i : S_.Idx) : val_main_v5 (F := Ideal) i = ((Real.log 2 * 8 : ℝ) : EReal) := by
  show Ideal.div (Ideal.log (Ideal.ofBits .f32 0x40000000#32)) (Ideal.ofBits .f32 0x3E000000#32) = _
  rw [two_lit, eighth_lit, Ideal.log_coe, if_neg (by norm_num), Ideal.div_coe (by norm_num), ← EReal.coe_mul]
  norm_num

section Value

variable (xq xk : FVec Ideal S8x8192x1024 .bf16) (hq : Real' xq) (hk : Real' xk)

include hq hk

/-- A score. -/
theorem score_at (b : Fin 8) (h : Fin 16) (r c : Fin 8192) :
    val_main_v13 (F := Ideal) xq xk (ix4 b h r c) = ((Real.log 2 * score xq xk b.val h.val r.val c.val : ℝ) : EReal) := by
  have es : val_main_v11 (F := Ideal) xq xk (ix4 b h r c)
      = ((∑ d : Fin 64, entry xq b r (64 * h.val + d) * (Real.log 2 * 8) * entry xk b c (64 * h.val + d) : ℝ) : EReal) := by
    rw [val_main_v11_apply]
    refine sum_of_coe _ _ _ fun d => ?_
    rw [left_index, right_index, val_main_v8_apply, val_main_v9_apply, query_split, val_main_v7_apply, val_main_v6_apply, factor_at]
    show xq _ * _ * val_main_v1 (F := Ideal) xk (idx_main_v8 (ix4 b c h d)) = _
    rw [query_split]
    show xq _ * _ * xk _ = _
    rw [entry_coe hq, entry_coe hk, ← EReal.coe_mul, ← EReal.coe_mul]
  rw [val_main_v13_apply, es, val_main_v12_apply, val_main_cst_1_apply]
  show ((_ : ℝ) : EReal) * Ideal.ofBits .f32 0x3E000000#32 = _
  rw [eighth_lit, ← EReal.coe_mul]
  congr 1
  unfold score
  rw [Finset.sum_mul, Finset.mul_sum]
  exact Finset.sum_congr rfl fun d _ => by ring

/-- The logarithm of the logistic function of a score. -/
theorem logistic_at (b : Fin 8) (h : Fin 16) (r c : Fin 8192) : val_main_v21 (F := Ideal) xq xk (ix4 b h r c)
    = ((Real.log 2 * (score xq xk b.val h.val r.val c.val - taken (score xq xk b.val h.val r.val c.val)) : ℝ) : EReal) := by
  rw [val_main_v21_apply, val_main_call0_v1_apply, val_main_call0_call0_v4_apply, val_main_call0_call0_v11_apply, val_main_call0_call0_v1_apply,
    val_main_call0_call0_v10_apply, val_main_call0_call0_v9_apply, val_main_call0_call0_v8_apply, val_main_call0_call0_v7_apply,
    val_main_call0_call0_v3_apply, val_main_call0_v0_apply, val_main_call0_call0_v0_apply, val_main_call0_call0_v2_apply,
    val_main_call0_call0_cst_apply, score_at xq xk hq hk, ← log_sigmoid]
  generalize Real.log 2 * score xq xk b.val h.val r.val c.val = z
  have e0 : Ideal.ofBits .f32 0x00000000#32 = 0 := Ideal.ofBits_zero_f32
  have ec : Ideal.cmp .une (-(z : EReal) - 0) (-(z : EReal) - 0) = 0#1 := by simp [Ideal.cmp]
  have ea : max (-(z : EReal)) (-(-(z : EReal))) = ((|(-z)| : ℝ) : EReal) := by
    rw [← EReal.coe_neg, ← EReal.coe_neg]; exact (EReal.coe_strictMono.monotone.map_max (a := -z) (b := - -z)).symm
  have em : max (-(z : EReal)) 0 = ((max (-z) 0 : ℝ) : EReal) := by
    rw [← EReal.coe_neg, ← EReal.coe_zero]; exact (EReal.coe_strictMono.monotone.map_max (a := -z) (b := 0)).symm
  show -(if Ideal.cmp .une (-(z : EReal) - Ideal.ofBits .f32 0x00000000#32) (-(z : EReal) - Ideal.ofBits .f32 0x00000000#32) = 1#1 then _
    else max (-(z : EReal)) (Ideal.ofBits .f32 0x00000000#32) + Ideal.log (1 + Ideal.exp (-(max (-(z : EReal) - Ideal.ofBits .f32 0x00000000#32) (-(-(z : EReal) - Ideal.ofBits .f32 0x00000000#32)))))) = _
  rw [e0, ec, if_neg (by decide), sub_zero, ea, em, ← EReal.coe_neg, Ideal.exp_coe, ← EReal.coe_one, ← EReal.coe_add, Ideal.log_coe,
    if_neg (not_le.2 (by positivity)), ← EReal.coe_add, ← EReal.coe_neg]

/-- What a key leaves, where the mask keeps it. -/
theorem left_at (b : Fin 8) (h : Fin 16) (r c : Fin 8192) : val_main_v23 (F := Ideal) xq xk (ix4 b h r c)
    = ((if c.val < r.val then -(Real.log 2 * taken (score xq xk b.val h.val r.val c.val)) else 0 : ℝ) : EReal) := by
  have e1 : val_main_call1_v1 (F := Ideal) (ix4 b h r c) = BitVec.ofBool (decide (c.val < r.val)) := by
    rw [val_main_call1_v1_apply, ← mask_at]
    exact congrArg _ (funext fun a => Fin.ext (by match a with | ⟨0, _⟩ => rfl | ⟨1, _⟩ => rfl))
  have e2 : val_main_call1_v2 (F := Ideal) (ix4 b h r c) = 0 := by
    rw [val_main_call1_v2_apply]; exact Ideal.ofBits_zero_f32
  rw [val_main_v23_apply, e1, e2, val_main_v22_apply, logistic_at xq xk hq hk, score_at xq xk hq hk]
  by_cases hc : c.val < r.val
  · rw [decide_eq_true hc, if_pos hc]
    show ((_ : ℝ) : EReal) - ((_ : ℝ) : EReal) = _
    rw [← EReal.coe_sub]
    congr 1
    ring
  · rw [decide_eq_false hc, if_neg hc]
    rfl

/-- What the keys from one on leave. -/
theorem scanned_at (b : Fin 8) (h : Fin 16) (r c : Fin 8192) (hc : c.val < r.val) : val_main_v24 (F := Ideal) xq xk (ix4 b h r c)
    = ((-(Real.log 2 * takenFrom (score xq xk b.val h.val r.val) r.val c.val) : ℝ) : EReal) := by
  have hr := r.isLt
  unfold val_main_v24
  rw [scan_at _ _ (by rw [val_main_call2_v0_apply]; exact Ideal.ofBits_zero_f32) b h r c
    (fun k => ((if k < r.val then -(Real.log 2 * taken (score xq xk b.val h.val r.val k)) else 0 : ℝ) : EReal)) (fun k => left_at xq xk hq hk b h r k),
    ← coe_sum]
  congr 1
  rw [← Finset.sum_filter, takenFrom, Finset.mul_sum, ← Finset.sum_neg_distrib]
  refine Finset.sum_congr ?_ fun _ _ => rfl
  ext k
  simp only [Finset.mem_filter, Finset.mem_Ico]
  omega

/-- The weight of a key. -/
theorem weight_at (b : Fin 8) (h : Fin 16) (r c : Fin 8192) : val_main_v28 (F := Ideal) xq xk (ix4 b h r c)
    = if c.val < r.val then (weight (score xq xk b.val h.val r.val) r.val c.val : EReal) else 0 := by
  have e1 : val_main_call3_v1 (F := Ideal) (ix4 b h r c) = BitVec.ofBool (decide (c.val < r.val)) := by
    rw [val_main_call3_v1_apply, ← mask_at]
    exact congrArg _ (funext fun a => Fin.ext (by match a with | ⟨0, _⟩ => rfl | ⟨1, _⟩ => rfl))
  have e2 : val_main_call3_v2 (F := Ideal) (ix4 b h r c) = 0 := by
    rw [val_main_call3_v2_apply]; exact Ideal.ofBits_zero_f32
  rw [val_main_v28_apply, e1, e2]
  by_cases hc : c.val < r.val
  · rw [decide_eq_true hc, if_pos hc]
    show val_main_v27 (F := Ideal) xq xk (ix4 b h r c) = _
    rw [val_main_v27_apply, val_main_v26_apply, val_main_v25_apply, logistic_at xq xk hq hk, scanned_at xq xk hq hk b h r c hc, left_at xq xk hq hk,
      if_pos hc]
    show Ideal.exp (((_ : ℝ) : EReal) + (((_ : ℝ) : EReal) - ((_ : ℝ) : EReal))) = _
    rw [← EReal.coe_sub, ← EReal.coe_add, Ideal.exp_coe, ← weight_exp]
    congr 2
    ring
  · rw [decide_eq_false hc, if_neg hc]
    rfl

end Value

end Cert.StickReference

end
-- ==== Proof.StickRefValue.lean ====
/-
  The reference's result when queries and keys are real: the gated stick-breaking attention.
-/
module

public import proofs.«01_k».proof.Proof.StickRefScore

@[expose] public section

set_option maxRecDepth 16384

noncomputable section

open Idealize.ShloMosaic

namespace Cert.StickReference

open Cert.StickReferenceIdeal Cert.StickReferenceIdeal.Gen Cert.StickReferenceIdeal.Read
open Cert.Band (Real' gate)
open Cert.Stick (score weight total column stick)

/-- One plus an exponential is not zero. -/
theorem one_add_exp (x : EReal) : (1 : EReal) + Ideal.exp x ≠ 0 := by
  have h : 0 ≤ Ideal.exp x := by
    induction x with
    | bot => exact le_rfl
    | top => exact le_top
    | coe r => rw [Ideal.exp_coe]; exact EReal.coe_nonneg.2 (Real.exp_pos r).le
  exact (lt_of_lt_of_le zero_lt_one (le_add_of_nonneg_right h)).ne'

/-- The reference's gate. -/
theorem gate_at (xg : FVec Ideal S8x8192x1024 .bf16) (y : S8x8192x1024.Idx) : val_main_v32 (F := Ideal) xg y = gate (xg y) := by
  show xg y * Ideal.div (Ideal.ofBits .f32 0x3F800000#32) (Ideal.ofBits .f32 0x3F800000#32 + Ideal.exp (-(xg y))) = _
  unfold gate
  rw [Ideal.ofBits_one_f32, zero_sub, Ideal.mul_one_div (one_add_exp _)]

/-- A lane of a head among the values. -/
theorem value_split (b : Fin 8) (n : Fin 8192) (h : Fin 16) (d : Fin 64) :
    idx_main_v10 (ix4 b n h d) = ix3 b n (⟨64 * h.val + d.val, by omega⟩ : Fin 1024) := query_split b n h d

section Value

variable (xq xk xv xg : FVec Ideal S8x8192x1024 .bf16) (hq : Real' xq) (hk : Real' xk)

include hq hk

/-- The weighted sum of a row. -/
theorem total_at (b : Fin 8) (h : Fin 16) (d : Fin 64) (r : Fin 8192) (l : Fin 1024) (hl : l.val = 64 * h.val + d.val) :
    val_main_v29 (F := Ideal) xq xk xv (ix4 b h d r) = total (score xq xk b.val h.val r.val) (column xv b l) r.val 0 := by
  have hr := r.isLt
  have ed : (⟨64 * h.val + d.val, by omega⟩ : Fin 1024) = l := Fin.ext hl.symm
  unfold total
  rw [val_main_v29_apply, ← Cert.Stick.sum_window 8192 0 0 r.val le_rfl (by omega)]
  refine Finset.sum_congr rfl fun k _ => ?_
  have el : lidx_main_v29 (ix4 b h d r) k = ix4 b k h d :=
    funext fun a => Fin.ext (by match a with | ⟨0, _⟩ => rfl | ⟨1, _⟩ => rfl | ⟨2, _⟩ => rfl | ⟨3, _⟩ => rfl)
  have er : ridx_main_v29 (ix4 b h d r) k = ix4 b h r k :=
    funext fun a => Fin.ext (by match a with | ⟨0, _⟩ => rfl | ⟨1, _⟩ => rfl | ⟨2, _⟩ => rfl | ⟨3, _⟩ => rfl)
  have ek : (⟨k.val % 8192, Nat.mod_lt _ (by decide)⟩ : Fin 8192) = k := Fin.ext (Nat.mod_eq_of_lt k.isLt)
  rw [el, er, weight_at xq xk hq hk, val_main_v10_apply, value_split, ed]
  show xv _ * _ = _
  rw [zero_add]
  by_cases hc : k.val < r.val
  · rw [if_pos hc, if_pos ⟨Nat.zero_le _, hc⟩, mul_comm]
    unfold column
    rw [ek]
  · rw [if_neg hc, if_neg fun e => hc e.2, mul_zero]

/-- The reference computes the gated stick-breaking attention. -/
theorem reference_value : val_main_v34 (F := Ideal) xq xk xv xg = stick xq xk xv xg := by
  funext y
  have h0 : (y 0).val < 8 := (y 0).isLt
  have h1 : (y 1).val < 8192 := (y 1).isLt
  have h2 : (y 2).val < 1024 := (y 2).isLt
  have e : idx_main_v30 (idx_main_v31 y) = ix4 (⟨(y 0).val, h0⟩ : Fin 8) (⟨(y 2).val / 64, by omega⟩ : Fin 16)
      (⟨(y 2).val % 64, Nat.mod_lt _ (by decide)⟩ : Fin 64) (⟨(y 1).val, h1⟩ : Fin 8192) := by
    funext a; apply Fin.ext
    match a with
    | ⟨0, _⟩ => show (((y 0).val * 8192 + (y 1).val) * 1024 + (y 2).val) / 8388608 = (y 0).val; omega
    | ⟨1, _⟩ => show (((y 0).val * 8192 + (y 1).val) * 1024 + (y 2).val) / 64 % 16 = (y 2).val / 64; omega
    | ⟨2, _⟩ => show (((y 0).val * 8192 + (y 1).val) * 1024 + (y 2).val) % 64 = (y 2).val % 64; omega
    | ⟨3, _⟩ => show (((y 0).val * 8192 + (y 1).val) * 1024 + (y 2).val) / 1024 % 8192 = (y 1).val; omega
  rw [val_main_v34_apply, val_main_v33_apply, val_main_v31_apply, val_main_v30_apply, e,
    total_at xq xk xv hq hk _ _ _ _ (⟨(y 2).val, h2⟩ : Fin 1024) (by show (y 2).val = 64 * ((y 2).val / 64) + (y 2).val % 64; omega), gate_at]
  rfl

end Value

end Cert.StickReference

end
-- ==== Proof.StickFinite.lean ====
/-
  The precondition of the stick-breaking attention: every query and key is smaller than `+∞` in absolute value, so a real number.
-/
module

public import proofs.«01_k».proof.Defs
public import proofs.«01_k».proof.Proof.Finite

@[expose] public section

noncomputable section

open Idealize.ShloMosaic

namespace Cert.Stick

open Cert.Band (Real' real_of_lt)

theorem scores_facts : Cert.Pre_finite_scores.Facts := ⟨by decide, by decide⟩

/-- Under the precondition queries and keys are real. -/
theorem real_of_scores (xq xk xv xg : FVec Ideal Cert.Pre_finite_scores.S8x8192x1024 .bf16)
    (h : letI := scores_facts
      (Cert.Pre_finite_scores.fn xq xk xv xg).1 = (fun _ => 1#1) ∧ (Cert.Pre_finite_scores.fn xq xk xv xg).2 = (fun _ => 1#1)) :
    Real' xq ∧ Real' xk :=
  ⟨fun y => real_of_lt _ (congrFun h.1 y), fun y => real_of_lt _ (congrFun h.2 y)⟩

end Cert.Stick

end
-- ==== Proof.LayerSpec.lean ====
/-
  One layer with the band attention, as the three functions of the single calls one after the other, and that the parts
  of its input projection are real when its inputs are.
-/
module

public import proofs.«01_k».proof.Proof.Spec
public import proofs.«01_k».proof.Proof.Norm

@[expose] public section

set_option maxRecDepth 16384

noncomputable section

open Idealize.ShloMosaic

namespace Cert.Layer

open Cert.Projection Cert.Band

/-- Activations by batch and row, and by row of all batches. -/
abbrev Deep : Shape := ⟨3, ![8, 8192, 1024]⟩
abbrev Flat : Shape := ⟨2, ![65536, 1024]⟩

theorem deep_flat : Deep.ShapeCasts Flat := by decide
theorem flat_deep : Flat.ShapeCasts Deep := by decide

/-- The rows of all batches in one list. -/
def flat (X : Deep.Idx → EReal) : Flat.Idx → EReal := shapeCast (α := EReal) Flat X deep_flat

/-- The rows by batch again. -/
def deep (X : Flat.Idx → EReal) : Deep.Idx → EReal := shapeCast (α := EReal) Deep X flat_deep

/-- The layer: input projection, gated band attention, output projection and residual. -/
def layer (x : Deep.Idx → EReal) (g : (⟨1, ![1024]⟩ : Shape).Idx → EReal) (w : (⟨2, ![1024, 4096]⟩ : Shape).Idx → EReal)
    (T : (⟨2, ![16, 257]⟩ : Shape).Idx → EReal) (w' : (⟨2, ![1024, 1024]⟩ : Shape).Idx → EReal)
    (g' : (⟨1, ![1024]⟩ : Shape).Idx → EReal) : Flat.Idx → EReal :=
  residual (flat (band (deep (query (flat x) g w)) (deep (part 1 (flat x) g w)) (deep (part 2 (flat x) g w))
    (deep (part 3 (flat x) g w)) T)) w' (flat x) g'

theorem real_deep {X : Flat.Idx → EReal} (hX : Real' X) : Real' (deep X) := fun _ => hX _

theorem real_sum {ι : Type} (s : Finset ι) (f : ι → EReal) (h : ∀ i, ∃ r : ℝ, f i = (r : EReal)) : ∃ r : ℝ, ∑ i ∈ s, f i = (r : EReal) := by
  choose a ha using h
  exact ⟨∑ i ∈ s, a i, sum_of_coe s f a ha⟩

theorem real_mul {a b : EReal} (ha : ∃ r : ℝ, a = (r : EReal)) (hb : ∃ r : ℝ, b = (r : EReal)) : ∃ r : ℝ, a * b = (r : EReal) := by
  obtain ⟨r, rfl⟩ := ha
  obtain ⟨s, rfl⟩ := hb
  exact ⟨r * s, (EReal.coe_mul r s).symm⟩

theorem many_lit : Ideal.ofBits .f32 0x44800000#32 = ((1024 : ℝ) : EReal) := by
  simp [Ideal.ofBits, Ideal.ieee, -EReal.coe_mul]; norm_num

theorem small_lit : ∃ e : ℝ, 0 < e ∧ Ideal.ofBits .f32 0x358637BD#32 = (e : EReal) := by
  refine ⟨_, ?_, by simp [Ideal.ofBits, Ideal.ieee, -EReal.coe_mul]; rfl⟩
  norm_num

/-- The reciprocal root is real: the mean of squares is not negative and the constant is positive. -/
theorem real_root (x : Fin 1024 → EReal) (hx : ∀ d, ∃ r : ℝ, x d = (r : EReal)) : ∃ r : ℝ, root (∑ d, x d * x d) = (r : EReal) := by
  choose a ha using hx
  obtain ⟨e, he, hs⟩ := small_lit
  have hsum : ∑ d, x d * x d = ((∑ d, a d * a d : ℝ) : EReal) :=
    sum_of_coe _ _ _ fun d => by rw [ha, EReal.coe_mul]
  have hpos : 0 < (∑ d, a d * a d) / 1024 + e := by
    have : 0 ≤ ∑ d, a d * a d := Finset.sum_nonneg fun d _ => mul_self_nonneg _
    positivity
  unfold root
  rw [hsum, many_lit, hs, Ideal.div_coe (by norm_num), ← EReal.coe_mul, ← EReal.coe_add, mul_one_div, Ideal.rsqrt_coe]
  exact ⟨_, (if_neg hpos.not_gt).trans (if_neg hpos.ne')⟩

theorem real_flat {X : Deep.Idx → EReal} (hX : Real' X) : Real' (flat X) := fun _ => hX _

section Parts

variable {x : Deep.Idx → EReal} {g : (⟨1, ![1024]⟩ : Shape).Idx → EReal} {w : (⟨2, ![1024, 4096]⟩ : Shape).Idx → EReal}
  (hx : Real' x) (hg : Real' g) (hw : Real' w)

include hx hg hw

theorem real_part (p : Fin 4) : Real' (part p (flat x) g w) := fun y => by
  unfold part project normed
  exact real_sum _ _ fun k => real_mul (real_mul (real_mul (real_flat hx _) (real_root _ fun d => real_flat hx _)) (hg _)) (hw _)

theorem real_query : Real' (query (flat x) g w) := fun y => real_mul (real_part hx hg hw 0 y) ⟨_, rfl⟩

end Parts

end Cert.Layer

end
-- ==== Proof.LayerReference.lean ====
/-
  The reference of the joined layer, written over whole arrays: its result is made of the same three functions as the
  single calls, because its lines are those of their references, without the casts in between.
-/
module

public import proofs.«01_k».proof.Proof.RefValue
public import proofs.«01_k».proof.Proof.InReference
public import proofs.«01_k».proof.Proof.OutReference
public import proofs.«01_k».proof.Proof.LayerSpec
public import proofs.«01_k».proof.Proof.Gen.LayerReferenceIdeal.Read

@[expose] public section

set_option maxRecDepth 16384

noncomputable section

open Idealize.ShloMosaic

namespace Cert.Layer.Ref

open Cert.LayerReferenceIdeal Cert.LayerReferenceIdeal.Gen Cert.LayerReferenceIdeal.Read Cert.Projection Cert.Band

variable (x : FVec Ideal S8x8192x1024 .f32) (g : FVec Ideal S1024 .f32) (w : FVec Ideal S1024x4096 .f32) (T : FVec Ideal S16x257 .f32)
  (w' : FVec Ideal S1024x1024 .f32) (g' : FVec Ideal S1024 .f32)

/-- The four parts of the input projection, before they are laid out as the attention reads them. -/
theorem parts : val_main_v15 (F := Ideal) x g w = part 0 (flat x) g w ∧ val_main_v16 (F := Ideal) x g w = part 1 (flat x) g w ∧
    val_main_v17 (F := Ideal) x g w = part 2 (flat x) g w ∧ val_main_v18 (F := Ideal) x g w = part 3 (flat x) g w := by
  have h0 : val_main_v15 (F := Ideal) x g w = Cert.InReferenceIdeal.Read.val_main_v14 (F := Ideal) (flat x) g w := rfl
  have h1 : val_main_v16 (F := Ideal) x g w = Cert.InReferenceIdeal.Read.val_main_v15 (F := Ideal) (flat x) g w := rfl
  have h2 : val_main_v17 (F := Ideal) x g w = Cert.InReferenceIdeal.Read.val_main_v16 (F := Ideal) (flat x) g w := rfl
  have h3 : val_main_v18 (F := Ideal) x g w = Cert.InReferenceIdeal.Read.val_main_v17 (F := Ideal) (flat x) g w := rfl
  rw [h0, h1, h2, h3]
  refine ⟨?_, ?_, ?_, ?_⟩ <;> funext y <;> rw [eq_ix2 y]
  · exact InRef.part0 _ _ _ _ _
  · exact InRef.part1 _ _ _ _ _
  · exact InRef.part2 _ _ _ _ _
  · exact InRef.part3 _ _ _ _ _

/-- Multiplying the scaled queries with what the attention's reference multiplies them with undoes their scaling. -/
theorem rescaled (u : EReal) : u * (((Real.log 256)⁻¹ : ℝ) : EReal) * ((Real.log 2 * 8 : ℝ) : EReal) = u := by
  have h2 : Real.log 2 ≠ 0 := (Real.log_pos one_lt_two).ne'
  have hl : Real.log 256 = Real.log 2 * 8 := by
    rw [show (256 : ℝ) = 2 ^ 8 by norm_num, Real.log_pow]; push_cast; ring
  rw [mul_assoc, ← EReal.coe_mul, hl, inv_mul_cancel₀ (by positivity), EReal.coe_one, mul_one]

/-- The queries by chunk and head. -/
theorem queries : val_main_v42 (F := Ideal) x g w = Cert.ReferenceIdeal.Read.val_main_v27 (F := Ideal) (deep (query (flat x) g w)) := by
  have e : val_main_v19 (F := Ideal) x g w = Cert.ReferenceIdeal.Read.val_main_v7 (F := Ideal) (deep (query (flat x) g w)) := by
    funext i
    unfold val_main_v19
    rw [(parts x g w).1, Cert.ReferenceIdeal.Read.val_main_v7_apply, Cert.ReferenceIdeal.Read.val_main_v6_apply, Cert.BandReference.scale_at]
    exact (rescaled _).symm
  unfold val_main_v42
  rw [e]
  rfl

/-- The keys and the values of each window. -/
theorem keys : val_main_v62 (F := Ideal) x g w = Cert.ReferenceIdeal.Read.val_main_v47 (F := Ideal) (deep (part 1 (flat x) g w)) := by
  unfold val_main_v62 val_main_v44 val_main_v43 val_main_v20
  rw [(parts x g w).2.1]
  rfl

theorem values : val_main_v69 (F := Ideal) x g w = Cert.ReferenceIdeal.Read.val_main_v54 (F := Ideal) (deep (part 2 (flat x) g w)) := by
  unfold val_main_v69 val_main_v46 val_main_v45 val_main_v21
  rw [(parts x g w).2.2.1]
  rfl

/-- The scores. -/
theorem scores : val_main_v81 (F := Ideal) x g w T =
    Cert.ReferenceIdeal.Read.val_main_v66 (F := Ideal) (deep (query (flat x) g w)) (deep (part 1 (flat x) g w)) T := by
  unfold val_main_v81 val_main_v75 val_main_v72 val_main_v70
  rw [queries, keys]
  rfl

/-- The weights. -/
theorem weights : val_main_v92 (F := Ideal) x g w T =
    Cert.ReferenceIdeal.Read.val_main_v77 (F := Ideal) (deep (query (flat x) g w)) (deep (part 1 (flat x) g w)) T := by
  have e : val_main_v88 (F := Ideal) x g w T =
      Cert.ReferenceIdeal.Read.val_main_v73 (F := Ideal) (deep (query (flat x) g w)) (deep (part 1 (flat x) g w)) T := by
    unfold val_main_v88 val_main_v87 val_main_v86 val_main_v85 val_main_v84 val_main_v82
    rw [scores]
    rfl
  unfold val_main_v92 val_main_v91 val_main_v90 val_main_v89
  rw [e]
  rfl

/-- The attention before its gate. -/
theorem means : val_main_v95 (F := Ideal) x g w T = Cert.ReferenceIdeal.Read.val_main_v80 (F := Ideal) (deep (query (flat x) g w))
    (deep (part 1 (flat x) g w)) (deep (part 2 (flat x) g w)) T := by
  unfold val_main_v95 val_main_v94 val_main_v93
  rw [weights, values]
  rfl

/-- The gates. -/
theorem gates : val_main_v96 (F := Ideal) x g w = Cert.ReferenceIdeal.Read.val_main_v81 (F := Ideal) (deep (part 3 (flat x) g w)) := by
  have e : val_main_v22 (F := Ideal) x g w = Cert.ReferenceIdeal.Read.val_main_v3 (F := Ideal) (deep (part 3 (flat x) g w)) := by
    unfold val_main_v22
    rw [(parts x g w).2.2.2]
    rfl
  unfold val_main_v96 val_main_call4_v5 val_main_call4_v3 val_main_call4_v1 val_main_call4_v0
  rw [e]
  rfl

/-- The gated attention. -/
theorem attention : val_main_v97 (F := Ideal) x g w T = Cert.ReferenceIdeal.Read.val_main_v83 (F := Ideal) (deep (query (flat x) g w))
    (deep (part 1 (flat x) g w)) (deep (part 2 (flat x) g w)) (deep (part 3 (flat x) g w)) T := by
  funext y
  rw [val_main_v97_apply, means, gates, Cert.ReferenceIdeal.Read.val_main_v83_apply, Cert.ReferenceIdeal.Read.val_main_v82_apply]
  rfl

/-- The layer's result, when its activations, its first gain, its input weights and its bias table are real. -/
theorem reference_value (hx : Real' x) (hg : Real' g) (hw : Real' w) (hT : Real' T) :
    val_main_v113 (F := Ideal) x g w T w' g' = layer x g w T w' g' := by
  have e : val_main_v113 (F := Ideal) x g w T w' g' =
      Cert.OutReferenceIdeal.Read.val_main_v15 (F := Ideal) (val_main_v98 (F := Ideal) x g w T) w' (flat x) g' := rfl
  rw [e, OutRef.reference_value]
  unfold val_main_v98
  rw [attention, Cert.BandReference.reference_value _ _ _ _ _ (real_deep (real_query hx hg hw)) (real_deep (real_part hx hg hw 1))
    (real_deep (real_part hx hg hw 2)) (real_deep (real_part hx hg hw 3)) hT]
  rfl

end Cert.Layer.Ref

end
-- ==== Proof.LayerProj.lean ====
/-
  The two projections inside the layer: the arrays that they leave, of whatever their arrays held when they began.
-/
module

public import proofs.«01_k».proof.Proof.InBlock
public import proofs.«01_k».proof.Proof.OutBlock
public import proofs.«01_k».proof.Proof.LayerSpec
public import proofs.«01_k».proof.Proof.Gen.LayerKernelIdeal.Frame

@[expose] public section

set_option maxRecDepth 16384

noncomputable section

open Idealize.ShloMosaic

namespace Cert.Layer

open Cert.LayerKernelIdeal Cert.LayerKernelIdeal.Gen Cert.Projection Idealize.ShloMosaic.TcCoe Idealize.SL.Sem

section Same

variable (x : FVec Ideal S512x1024 .f32) (g : FVec Ideal S1x1024 .f32)

/-- A block is normed here as it is in the single call: a reshape to the shape it has changes nothing. -/
theorem same_normed : k0_pay2 (F := Ideal) x g = Cert.InKernelIdeal.Gen.k0_pay2 (F := Ideal) x g := by
  refine Eq.trans ?_ (congrArg (fun X => Cert.InKernelIdeal.Gen.k0_pay2 (F := Ideal) X g) (shapeCast_id x shapeCasts_S512x1024_S512x1024))
  rfl

theorem same_scaled (w : FVec Ideal S1024x1024 .bf16) : k0_pay3 (F := Ideal) x g w = Cert.InKernelIdeal.Gen.k0_pay3 (F := Ideal) x g w := by
  unfold k0_pay3
  rw [same_normed]
  rfl

theorem same_part (w : FVec Ideal S1024x1024 .bf16) : k0_pay4 (F := Ideal) x g w = Cert.InKernelIdeal.Gen.k0_pay4 (F := Ideal) x g w := by
  unfold k0_pay4
  rw [same_normed]
  rfl

/-- So the blocks of the projections are those of the single calls. -/
theorem same_query (w : FVec Ideal S1024x4096 .bf16) : out0_3 (F := Ideal) x g w = Cert.InKernelIdeal.Gen.out0_3 (F := Ideal) x g w := by
  unfold out0_3
  rw [same_scaled]
  rfl

theorem same_key (w : FVec Ideal S1024x4096 .bf16) : out0_4 (F := Ideal) x g w = Cert.InKernelIdeal.Gen.out0_4 (F := Ideal) x g w := by
  unfold out0_4
  rw [same_part]
  rfl

theorem same_value (w : FVec Ideal S1024x4096 .bf16) : out0_5 (F := Ideal) x g w = Cert.InKernelIdeal.Gen.out0_5 (F := Ideal) x g w := by
  unfold out0_5
  rw [show k0_pay5 (F := Ideal) (View.ld x r0_0) (View.ld g r0_1) (View.ld w r0_4) = _ from same_part _ _ _]
  rfl

theorem same_gate (w : FVec Ideal S1024x4096 .bf16) : out0_6 (F := Ideal) x g w = Cert.InKernelIdeal.Gen.out0_6 (F := Ideal) x g w := by
  unfold out0_6
  rw [same_normed]
  rfl

theorem same_sum (a : FVec Ideal S512x1024 .bf16) (u : FVec Ideal S1024x1024 .bf16) :
    k2_pay1 (F := Ideal) a u x g = Cert.OutKernelIdeal.Gen.k0_pay1 (F := Ideal) a u x g := by
  refine Eq.trans ?_ (congrArg₂ (fun A X => Cert.OutKernelIdeal.Gen.k0_pay1 (F := Ideal) A u X g)
    (shapeCast_id a shapeCasts_S512x1024_S512x1024) (shapeCast_id x shapeCasts_S512x1024_S512x1024))
  rfl

theorem same_out (a : FVec Ideal S512x1024 .bf16) (u : FVec Ideal S1024x1024 .bf16) :
    out2_4 (F := Ideal) a u x g = Cert.OutKernelIdeal.Gen.out0_4 (F := Ideal) a u x g := by
  unfold out2_4
  rw [same_sum]
  rfl

end Same

variable (V : (c : Dev nD) → (b : Ref sig .tc) → Buf (Elt Ideal) ((c : Thread nD τ).loc b)) (c : Dev nD)

section In

variable {X : Flat.Idx → EReal} {G : S1024.Idx → EReal} {W : S1024x4096.Idx → EReal}
  (hX : (V c main_v0 : FVec Ideal S65536x1024 .f32) = X) (hG : ∀ d : Fin 1024, (V c main_v2 : FVec Ideal S1x1024 .f32) (ix2 0 d) = G (ix1 d))
  (hW : (V c main_v1 : FVec Ideal S1024x4096 .bf16) = W)

include hX in
theorem in0 (t : Fin cfg0.N) (r : Fin 512) (d : Fin 1024) : (iblk0 V c 0 t : FVec Ideal S512x1024 .f32) (ix2 r d) = X (ix2 (row t r) d) := by
  subst hX
  exact congrArg (V c main_v0 : FVec Ideal S65536x1024 .f32) (emb0 t r d)

include hG in
theorem in1 (t : Fin cfg0.N) (d : Fin 1024) : (iblk0 V c 1 t : FVec Ideal S1x1024 .f32) (ix2 0 d) = G (ix1 d) :=
  (congrArg (V c main_v2 : FVec Ideal S1x1024 .f32) (emb1 t d)).trans (hG d)

include hW in
theorem in2 (t : Fin cfg0.N) (k : Fin 1024) (e : Fin 4096) : (iblk0 V c 2 t : FVec Ideal S1024x4096 .bf16) (ix2 k e) = W (ix2 k e) := by
  subst hW
  exact congrArg (V c main_v1 : FVec Ideal S1024x4096 .bf16) (emb2 t k e)

include hX hG hW

theorem in_query : (dat0 V c).arrAt 3 cfg0.N = query X G W := by
  refine (dat0 V c).arrAt_eq_of_cover 3 _ (fun t _ => ?_) fun i => ?_
  · show (cfg0.win 3).cut (grid0.coords t) ((dat0 V c).after 3 t) = _
    rw [after0_3, same_query (iblk0 V c 0 t) (iblk0 V c 1 t) (iblk0 V c 2 t)]
    funext y
    obtain ⟨r, l, rfl⟩ : ∃ (r : Fin 512) (l : Fin 1024), y = ix2 r l := ⟨y 0, y 1, eq_ix2 y⟩
    exact (block_query (x := iblk0 V c 0 t) (g := iblk0 V c 1 t) (w := iblk0 V c 2 t) (in0 V c hX t r) (in1 V c hG t) (in2 V c hW t) l).trans (congrArg (query X G W) (emb3 t r l)).symm
  · obtain ⟨t, r, l, h⟩ := in_block i
    exact ⟨t, flush0_3 t, by rw [← h, ← emb3]; exact View.emb_mem_set _ _⟩

theorem in_key : (dat0 V c).arrAt 4 cfg0.N = part 1 X G W := by
  refine (dat0 V c).arrAt_eq_of_cover 4 _ (fun t _ => ?_) fun i => ?_
  · show (cfg0.win 4).cut (grid0.coords t) ((dat0 V c).after 4 t) = _
    rw [after0_4, same_key (iblk0 V c 0 t) (iblk0 V c 1 t) (iblk0 V c 2 t)]
    funext y
    obtain ⟨r, l, rfl⟩ : ∃ (r : Fin 512) (l : Fin 1024), y = ix2 r l := ⟨y 0, y 1, eq_ix2 y⟩
    exact (block_key (x := iblk0 V c 0 t) (g := iblk0 V c 1 t) (w := iblk0 V c 2 t) (in0 V c hX t r) (in1 V c hG t) (in2 V c hW t) l).trans (congrArg (part 1 X G W) (emb4 t r l)).symm
  · obtain ⟨t, r, l, h⟩ := in_block i
    exact ⟨t, flush0_4 t, by rw [← h, ← emb4]; exact View.emb_mem_set _ _⟩

theorem in_value : (dat0 V c).arrAt 5 cfg0.N = part 2 X G W := by
  refine (dat0 V c).arrAt_eq_of_cover 5 _ (fun t _ => ?_) fun i => ?_
  · show (cfg0.win 5).cut (grid0.coords t) ((dat0 V c).after 5 t) = _
    rw [after0_5, same_value (iblk0 V c 0 t) (iblk0 V c 1 t) (iblk0 V c 2 t)]
    funext y
    obtain ⟨r, l, rfl⟩ : ∃ (r : Fin 512) (l : Fin 1024), y = ix2 r l := ⟨y 0, y 1, eq_ix2 y⟩
    exact (block_value (x := iblk0 V c 0 t) (g := iblk0 V c 1 t) (w := iblk0 V c 2 t) (in0 V c hX t r) (in1 V c hG t) (in2 V c hW t) l).trans (congrArg (part 2 X G W) (emb5 t r l)).symm
  · obtain ⟨t, r, l, h⟩ := in_block i
    exact ⟨t, flush0_5 t, by rw [← h, ← emb5]; exact View.emb_mem_set _ _⟩

theorem in_gate : (dat0 V c).arrAt 6 cfg0.N = part 3 X G W := by
  refine (dat0 V c).arrAt_eq_of_cover 6 _ (fun t _ => ?_) fun i => ?_
  · show (cfg0.win 6).cut (grid0.coords t) ((dat0 V c).after 6 t) = _
    rw [after0_6, same_gate (iblk0 V c 0 t) (iblk0 V c 1 t) (iblk0 V c 2 t)]
    funext y
    obtain ⟨r, l, rfl⟩ : ∃ (r : Fin 512) (l : Fin 1024), y = ix2 r l := ⟨y 0, y 1, eq_ix2 y⟩
    exact (block_gate (x := iblk0 V c 0 t) (g := iblk0 V c 1 t) (w := iblk0 V c 2 t) (in0 V c hX t r) (in1 V c hG t) (in2 V c hW t) l).trans (congrArg (part 3 X G W) (emb6 t r l)).symm
  · obtain ⟨t, r, l, h⟩ := in_block i
    exact ⟨t, flush0_6 t, by rw [← h, ← emb6]; exact View.emb_mem_set _ _⟩

end In

section Out

variable {A X : Flat.Idx → EReal} {G : S1024.Idx → EReal} {W : S1024x1024.Idx → EReal}
  (hA : (V c main_v14 : FVec Ideal S65536x1024 .bf16) = A) (hW : (V c main_v15 : FVec Ideal S1024x1024 .bf16) = W)
  (hX : (V c main_v0 : FVec Ideal S65536x1024 .f32) = X) (hG : ∀ d : Fin 1024, (V c main_v16 : FVec Ideal S1x1024 .f32) (ix2 0 d) = G (ix1 d))

include hA in
theorem out0 (t : Fin cfg2.N) (r : Fin 512) (d : Fin 1024) : (iblk2 V c 0 t : FVec Ideal S512x1024 .bf16) (ix2 r d) = A (ix2 (Out.row t r) d) := by
  subst hA
  exact congrArg (V c main_v14 : FVec Ideal S65536x1024 .bf16) (Out.emb0 t r d)

include hW in
theorem out1 (t : Fin cfg2.N) (k d : Fin 1024) : (iblk2 V c 1 t : FVec Ideal S1024x1024 .bf16) (ix2 k d) = W (ix2 k d) := by
  subst hW
  exact congrArg (V c main_v15 : FVec Ideal S1024x1024 .bf16) (Out.emb1 t k d)

include hX in
theorem out2 (t : Fin cfg2.N) (r : Fin 512) (d : Fin 1024) : (iblk2 V c 2 t : FVec Ideal S512x1024 .f32) (ix2 r d) = X (ix2 (Out.row t r) d) := by
  subst hX
  exact congrArg (V c main_v0 : FVec Ideal S65536x1024 .f32) (Out.emb2 t r d)

include hG in
theorem out3 (t : Fin cfg2.N) (d : Fin 1024) : (iblk2 V c 3 t : FVec Ideal S1x1024 .f32) (ix2 0 d) = G (ix1 d) :=
  (congrArg (V c main_v16 : FVec Ideal S1x1024 .f32) (Out.emb3 t d)).trans (hG d)

include hA hW hX hG

/-- The result of the layer, of the attended values, the weights, the activations and the gain. -/
theorem out_result : (dat2 V c).arrAt 4 cfg2.N = residual A W X G := by
  refine (dat2 V c).arrAt_eq_of_cover 4 _ (fun t _ => ?_) fun i => ?_
  · show (cfg2.win 4).cut (grid2.coords t) ((dat2 V c).after 4 t) = _
    rw [after2_4, same_out (iblk2 V c 2 t) (iblk2 V c 3 t) (iblk2 V c 0 t) (iblk2 V c 1 t)]
    funext y
    obtain ⟨r, l, rfl⟩ : ∃ (r : Fin 512) (l : Fin 1024), y = ix2 r l := ⟨y 0, y 1, eq_ix2 y⟩
    refine (Out.block_out (a := iblk2 V c 0 t) (w := iblk2 V c 1 t) (x := iblk2 V c 2 t) (g := iblk2 V c 3 t)
      (out0 V c hA t r) (out1 V c hW t) (out2 V c hX t r) (out3 V c hG t) l).trans ?_
    exact (congrArg (residual _ _ _ G) (Out.emb4 t r l)).symm
  · obtain ⟨t, r, l, h⟩ := Out.in_block i
    exact ⟨t, flush2_4 t, by rw [← h, ← Out.emb4]; exact View.emb_mem_set _ _⟩

end Out

end Cert.Layer

end
-- ==== Proof.LayerBand.lean ====
/-
  The band attention as the second of the joined layer's three calls: its stores are the blocks that the call on its own
  stores, so a grid point leaves the same function of what it reads.
-/
module

public import proofs.«01_k».proof.Proof.Block
public import proofs.«01_k».proof.Proof.Gen.LayerKernelIdeal.Frame
import all proofs.«01_k».proof.Proof.Gen.LayerKernelIdeal.Frame
import all proofs.«01_k».proof.Proof.Gen.LayerKernelIdeal.Loops

@[expose] public section

set_option maxRecDepth 16384

noncomputable section

open Idealize.ShloMosaic

namespace Cert.Layer

open Cert.LayerKernelIdeal Cert.LayerKernelIdeal.Gen Cert.Band

section Bias

variable (c : Dev nD) (arg6 : Memref sig .tc .vmem S2x3x1024 .f32) (harg6 : arg6.IsWhole)
  (arg8 : Memref sig .tc .vmem S2x3x256x768 .f32) (x4 : FVec Ideal S2x3x1024 .f32)

/-- Every store of the scratch buffer is a block of `biasAll`. -/
theorem stores_bias : View.PiecesOf (biasAll x4) (kernelRun1_A.sl.HS0_6 (F := Ideal) c arg6 harg6 x4) := by
  unfold kernelRun1_A.sl.HS0_6
  refine ⟨piece_bias x4 1 2 _ rfl inb_S2x3x256x768_S1x1x256x768_1_2_0_0 _ ?_, piece_bias x4 1 1 _ rfl inb_S2x3x256x768_S1x1x256x768_1_1_0_0 _ ?_,
    piece_bias x4 1 0 _ rfl inb_S2x3x256x768_S1x1x256x768_1_0_0_0 _ ?_, piece_bias x4 0 2 _ rfl inb_S2x3x256x768_S1x1x256x768_0_2_0_0 _ ?_,
    piece_bias x4 0 1 _ rfl inb_S2x3x256x768_S1x1x256x768_0_1_0_0 _ ?_, piece_bias x4 0 0 _ rfl inb_S2x3x256x768_S1x1x256x768_0_0_0_0 _ ?_, trivial⟩
  · rw [← load_row arg6 harg6 x4 1 2 ![1, 2, 0] rfl inb_S2x3x1024_S1x1x1024_1_2_0]; rfl
  · rw [← load_row arg6 harg6 x4 1 1 ![1, 1, 0] rfl inb_S2x3x1024_S1x1x1024_1_1_0]; rfl
  · rw [← load_row arg6 harg6 x4 1 0 ![1, 0, 0] rfl inb_S2x3x1024_S1x1x1024_1_0_0]; rfl
  · rw [← load_row arg6 harg6 x4 0 2 ![0, 2, 0] rfl inb_S2x3x1024_S1x1x1024_0_2_0]; rfl
  · rw [← load_row arg6 harg6 x4 0 1 ![0, 1, 0] rfl inb_S2x3x1024_S1x1x1024_0_1_0]; rfl
  · rw [← load_row arg6 harg6 x4 0 0 ![0, 0, 0] rfl inb_S2x3x1024_S1x1x1024_0_0_0]; rfl

/-- Each of the six places is stored. -/
theorem stored (h : Fin 2) (v : Fin 3) : ∃ p ∈ kernelRun1_A.sl.HS0_6 (F := Ideal) c arg6 harg6 x4,
    ∃ inb, p.1.set = (Rect.unit (s := S2x3x256x768) ![h.val, v.val, 0, 0] S1x1x256x768.size inb).set := by
  unfold kernelRun1_A.sl.HS0_6
  simp only [List.mem_cons, List.not_mem_nil, or_false, exists_eq_or_imp, exists_eq_left]
  match h, v with
  | 1, 2 => exact Or.inl ⟨inb_S2x3x256x768_S1x1x256x768_1_2_0_0, rfl⟩
  | 1, 1 => exact Or.inr (Or.inl ⟨inb_S2x3x256x768_S1x1x256x768_1_1_0_0, rfl⟩)
  | 1, 0 => exact Or.inr (Or.inr (Or.inl ⟨inb_S2x3x256x768_S1x1x256x768_1_0_0_0, rfl⟩))
  | 0, 2 => exact Or.inr (Or.inr (Or.inr (Or.inl ⟨inb_S2x3x256x768_S1x1x256x768_0_2_0_0, rfl⟩)))
  | 0, 1 => exact Or.inr (Or.inr (Or.inr (Or.inr (Or.inl ⟨inb_S2x3x256x768_S1x1x256x768_0_1_0_0, rfl⟩))))
  | 0, 0 => exact Or.inr (Or.inr (Or.inr (Or.inr (Or.inr ⟨inb_S2x3x256x768_S1x1x256x768_0_0_0_0, rfl⟩))))

/-- A load of one tile from the scratch buffer after the stores. -/
theorem load_bias (h : Fin 2) (v : Fin 3) (off : Fin 4 → ℕ) (hoff : off = ![h.val, v.val, 0, 0]) (inb) :
    View.readAt (Elt Ideal) arg8.view (Rect.unit (s := S2x3x256x768) off S1x1x256x768.size inb).toLoadRect
      (arg8.view.writes (Elt Ideal) arg8.view.junk (kernelRun1_A.sl.HS0_6 (F := Ideal) c arg6 harg6 x4)) =
    biasTile (BitVec.ofNat 32 (256 * v.val)) (biasRow x4 h v) :=
  load_stored arg8 x4 _ (stores_bias c arg6 harg6 x4) (stored c arg6 harg6 x4) h v off hoff inb

end Bias

section Stores

variable (c : Dev nD) (i : grid1.Coords) (arg2 : Memref sig .tc .vmem S1x8192x128 .bf16) (harg2 : arg2.IsWhole)
  (arg3 : Memref sig .tc .vmem S1x8192x128 .bf16) (harg3 : arg3.IsWhole) (arg4 : Memref sig .tc .vmem S1x8192x128 .bf16) (harg4 : arg4.IsWhole)
  (arg5 : Memref sig .tc .vmem S1x8192x128 .bf16) (harg5 : arg5.IsWhole) (arg6 : Memref sig .tc .vmem S2x3x1024 .f32) (harg6 : arg6.IsWhole)
  (arg7 : Memref sig .tc .vmem S1x8192x128 .bf16) (harg7 : arg7.IsWhole) (arg8 : Memref sig .tc .vmem S2x3x256x768 .f32) (harg8 : arg8.IsWhole)
  (xq xk xv xg : FVec Ideal S1x8192x128 .bf16) (xb : FVec Ideal S2x3x1024 .f32) (Q K V : ℕ → ℕ → ℝ) (tab : ℕ → ℤ → ℝ)
  (hQ : ∀ (n : Fin 8192) (l : Fin 128), xq (ix3 0 n l) = (Q n l : EReal)) (hK : ∀ (n : Fin 8192) (l : Fin 128), xk (ix3 0 n l) = (K n l : EReal))
  (hV : ∀ (n : Fin 8192) (l : Fin 128), xv (ix3 0 n l) = (V n l : EReal))
  (hB : ∀ (h : Fin 2) (v : Fin 3) (p : Fin 1024), xb (ix3 h v p) = (tab h (dist v p) : EReal))

/-- The scratch buffer after the six stores. -/
abbrev scratch : arg8.view.ty.Contents (Elt Ideal) :=
  arg8.view.writes (Elt Ideal) arg8.view.junk (kernelRun1_A.sl.HS0_6 (F := Ideal) c arg6 harg6 xb)

include hQ hK hV hB

/-- The two tiles a trip of the loop stores. -/
theorem trip_stores (k : Fin k1_t1_loop.trips) :
    View.PiecesOf (blockOut xg Q K V tab) (tripL_k1_t1 (F := Ideal) Variants.none c none i arg2 harg2 arg3 harg3 arg4 harg4 arg5 harg5 arg6 harg6 arg7 harg7
      arg8 harg8 (harg2.unread xq) (harg3.unread xk) (harg4.unread xv) (harg5.unread xg) (scratch c arg6 harg6 arg8 xb) k) := by
  have hk : k.val < 15 := k.isLt
  have b0 := load_bias c arg6 harg6 arg8 xb 0 2 ![0, 2, 0, 0] rfl inb_S2x3x256x768_S1x1x256x768_0_2_0_0
  have b1 := load_bias c arg6 harg6 arg8 xb 1 2 ![1, 2, 0, 0] rfl inb_S2x3x256x768_S1x1x256x768_1_2_0_0
  have rq : View.read (Elt Ideal) arg2.view (harg2.unread xq) = xq := harg2.read_unread (Val := Elt Ideal) xq
  have rk : View.read (Elt Ideal) arg3.view (harg3.unread xk) = xk := harg3.read_unread (Val := Elt Ideal) xk
  have rv : View.read (Elt Ideal) arg4.view (harg4.unread xv) = xv := harg4.read_unread (Val := Elt Ideal) xv
  have rg : View.read (Elt Ideal) arg5.view (harg5.unread xg) = xg := harg5.read_unread (Val := Elt Ideal) xg
  unfold tripL_k1_t1 trip_k1_t1
  dsimp only
  refine ⟨fun x => ?_, fun x => ?_, trivial⟩
  · rw [← tile_block xq xk xv xg xb Q K V tab hQ hK hV hB 2 (2 * k.val + 3) (512 * k.val + 256) (by simp; omega) (Or.inl rfl) (by omega)
      (k1_off3 k) (k1_off4 k) (by rw [k1_off3_eq]; congr 2; omega) (k1_off4_eq k) (k1_off3_inb k) (k1_off4_inb k) x, ← b0, ← b1]
    conv_rhs => rw [← rq, ← rk, ← rv, ← rg]
    rfl
  · rw [← tile_block xq xk xv xg xb Q K V tab hQ hK hV hB 2 (2 * k.val + 2) (512 * k.val) (by simp; omega) (Or.inl rfl) (by omega)
      (k1_off1 k) (k1_off2 k) (by rw [k1_off1_eq]; congr 2; omega) (k1_off2_eq k) (k1_off1_inb k) (k1_off2_inb k) x, ← b0, ← b1]
    conv_rhs => rw [← rq, ← rk, ← rv, ← rg]
    rfl

/-- The tiles of any number of trips. -/
theorem loop_stores : ∀ k : ℕ,
    View.PiecesOf (blockOut xg Q K V tab) (pb_k1_t1 (F := Ideal) Variants.none c none i arg2 harg2 arg3 harg3 arg4 harg4 arg5 harg5 arg6 harg6 arg7 harg7
      arg8 harg8 (harg2.unread xq) (harg3.unread xk) (harg4.unread xv) (harg5.unread xg) (scratch c arg6 harg6 arg8 xb) k)
  | 0 => trivial
  | k + 1 => by
    rw [pb_k1_t1.eq_2]
    unfold pb_k1_t1Step
    split
    · exact piecesOf_append _ _ (loop_stores k) _
        (trip_stores c i arg2 harg2 arg3 harg3 arg4 harg4 arg5 harg5 arg6 harg6 arg7 harg7 arg8 harg8 xq xk xv xg xb Q K V tab hQ hK hV hB _)
    · exact loop_stores k

/-- Every store of the block is a block of `blockOut`. -/
theorem block_stores : View.PiecesOf (blockOut xg Q K V tab) (kernelRun1_A (F := Ideal) c i arg2 harg2 arg3 harg3 arg4 harg4 arg5 harg5 arg6 harg6 arg7 harg7
    arg8 harg8 xq xk xv xg xb).1 := by
  have b00 := load_bias c arg6 harg6 arg8 xb 0 0 ![0, 0, 0, 0] rfl inb_S2x3x256x768_S1x1x256x768_0_0_0_0
  have b10 := load_bias c arg6 harg6 arg8 xb 1 0 ![1, 0, 0, 0] rfl inb_S2x3x256x768_S1x1x256x768_1_0_0_0
  have b01 := load_bias c arg6 harg6 arg8 xb 0 1 ![0, 1, 0, 0] rfl inb_S2x3x256x768_S1x1x256x768_0_1_0_0
  have b11 := load_bias c arg6 harg6 arg8 xb 1 1 ![1, 1, 0, 0] rfl inb_S2x3x256x768_S1x1x256x768_1_1_0_0
  have rq : View.read (Elt Ideal) arg2.view (harg2.unread xq) = xq := harg2.read_unread (Val := Elt Ideal) xq
  have rk : View.read (Elt Ideal) arg3.view (harg3.unread xk) = xk := harg3.read_unread (Val := Elt Ideal) xk
  have rv : View.read (Elt Ideal) arg4.view (harg4.unread xv) = xv := harg4.read_unread (Val := Elt Ideal) xv
  have rg : View.read (Elt Ideal) arg5.view (harg5.unread xg) = xg := harg5.read_unread (Val := Elt Ideal) xg
  dsimp only [kernelRun1_A]
  refine piecesOf_append _ _ ?_ _
    (loop_stores c i arg2 harg2 arg3 harg3 arg4 harg4 arg5 harg5 arg6 harg6 arg7 harg7 arg8 harg8 xq xk xv xg xb Q K V tab hQ hK hV hB _)
  refine ⟨fun x => ?_, fun x => ?_, trivial⟩
  · rw [← tile_block xq xk xv xg xb Q K V tab hQ hK hV hB 1 1 0 rfl (Or.inr rfl) (by omega)
      ![0, 256, 0] ![0, 0, 0] rfl rfl inb_S1x8192x128_S1x256x128_0_256_0 inb_S1x8192x128_S1x768x128_0_0_0 x, ← b01, ← b11]
    conv_rhs => rw [← rq, ← rk, ← rv, ← rg]
    rfl
  · rw [← tile_block xq xk xv xg xb Q K V tab hQ hK hV hB 0 0 0 rfl (Or.inr rfl) (by omega)
      ![0, 0, 0] ![0, 0, 0] rfl rfl inb_S1x8192x128_S1x256x128_0_0_0 inb_S1x8192x128_S1x768x128_0_0_0 x, ← b00, ← b10]
    conv_rhs => rw [← rq, ← rk, ← rv, ← rg]
    rfl

/-- What the body leaves of a block. -/
theorem block_value : out1_A_5 (F := Ideal) c i arg2 harg2 arg3 harg3 arg4 harg4 arg5 harg5 arg6 harg6 arg7 harg7 arg8 harg8 xq xk xv xg xb =
    blockOut xg Q K V tab := by
  unfold out1_A_5
  rw [View.read_writes_junk_eq_canon]
  funext y
  refine View.canon_eq_of_allAt _ _ _ (cover1_A_5 (F := Ideal) c i arg2 harg2 arg3 harg3 arg4 harg4 arg5 harg5 arg6 harg6 arg7 harg7 arg8 harg8 xq xk xv xg xb y) ?_
  intro p hp x hx
  rw [(block_stores c i arg2 harg2 arg3 harg3 arg4 harg4 arg5 harg5 arg6 harg6 arg7 harg7 arg8 harg8 xq xk xv xg xb Q K V tab hQ hK hV hB).mem p hp x, hx]

end Stores

end Cert.Layer

end
-- ==== Proof.LayerArray.lean ====
/-
  The attention inside the layer: the array that it leaves, of whatever its arrays held when it began.
-/
module

public import proofs.«01_k».proof.Proof.Array
public import proofs.«01_k».proof.Proof.LayerBand

@[expose] public section

set_option maxRecDepth 16384

noncomputable section

open Idealize.ShloMosaic

namespace Cert.Layer

open Cert.LayerKernelIdeal Cert.LayerKernelIdeal.Gen Cert.Band Idealize.ShloMosaic.TcCoe Idealize.SL.Sem

variable (V : (c : Dev nD) → (b : Ref sig .tc) → Buf (Elt Ideal) ((c : Thread nD τ).loc b)) (c : Dev nD)

/-- Every element of the attention's result is in some grid point's block. -/
theorem band_covered (i : S8x8192x1024.Idx) : ∃ t : Fin cfg1.N, (cfg1.win 5).flush t = true ∧ i ∈ ((cfg1.win 5).blk t).view.set := by
  obtain ⟨t, -, h⟩ := covered i
  exact ⟨t, flush1_5 t, h⟩

/-- The gated band attention of the four arrays and the rows of the table. -/
theorem band_result {Q K U G : S8x8192x1024.Idx → EReal} {T : S16x257.Idx → EReal}
    (hQ : (V c main_v4 : FVec Ideal S8x8192x1024 .bf16) = Q) (hK : (V c main_v5 : FVec Ideal S8x8192x1024 .bf16) = K)
    (hU : (V c main_v6 : FVec Ideal S8x8192x1024 .bf16) = U) (hG : (V c main_v7 : FVec Ideal S8x8192x1024 .bf16) = G)
    (hT : ∀ (h : Fin 16) (v : Fin 3) (p : Fin 1024), (V c main_v12 : FVec Ideal S16x3x1024 .f32) (ix3 h v p) = T (ix2 h (slot (dist v p))))
    (rQ : Real' Q) (rK : Real' K) (rU : Real' U) (rT : Real' T) :
    (dat1 V c).arrAt 5 cfg1.N = band Q K U G T := by
  subst hQ hK hU hG
  refine (dat1 V c).arrAt_eq_of_cover 5 _ (fun t _ => ?_) band_covered
  show (cfg1.win 5).cut (grid1.coords t) ((dat1 V c).after 5 t) = _
  rw [after1_5]
  unfold outsAt1
  rw [block_value c (grid1.coords t) _ _ _ _ _ _ _ _ _ _ _ _ _ _ (iblk1 V c 0 t) (iblk1 V c 1 t) (iblk1 V c 2 t) (iblk1 V c 3 t) (iblk1 V c 4 t)
    (fun n l => entry (V c main_v4 : FVec Ideal S8x8192x1024 .bf16) (bat t) n (128 * (lane t).val + l))
    (fun n l => entry (V c main_v5 : FVec Ideal S8x8192x1024 .bf16) (bat t) n (128 * (lane t).val + l))
    (fun n l => entry (V c main_v6 : FVec Ideal S8x8192x1024 .bf16) (bat t) n (128 * (lane t).val + l))
    (fun h d => bias T (2 * (lane t).val + h) d)
    (fun n l => (congrArg (V c main_v4 : FVec Ideal S8x8192x1024 .bf16) (emb0 t n l)).trans (entry_coe rQ _ _ _))
    (fun n l => (congrArg (V c main_v5 : FVec Ideal S8x8192x1024 .bf16) (emb1 t n l)).trans (entry_coe rK _ _ _))
    (fun n l => (congrArg (V c main_v6 : FVec Ideal S8x8192x1024 .bf16) (emb2 t n l)).trans (entry_coe rU _ _ _))
    (fun h v p => ((congrArg (V c main_v12 : FVec Ideal S16x3x1024 .f32) (emb4 t h v p)).trans (hT _ _ _)).trans (bias_coe rT _ _))]
  funext y
  obtain ⟨n, l, rfl⟩ : ∃ (n : Fin 8192) (l : Fin 128), y = ix3 (0 : Fin 1) n l := ⟨y 1, y 2, by
    funext a
    match a with
    | ⟨0, _⟩ => exact Subsingleton.elim (α := Fin 1) _ _
    | ⟨1, _⟩ => rfl
    | ⟨2, _⟩ => rfl⟩
  have hg : (iblk1 V c 3 t : FVec Ideal S1x8192x128 .bf16) (ix3 0 n l) = (V c main_v7 : FVec Ideal S8x8192x1024 .bf16) (ix3 (bat t) n (wide t l)) :=
    congrArg (V c main_v7 : FVec Ideal S8x8192x1024 .bf16) (emb3 t n l)
  show attend _ _ _ _ n.val l.val ((iblk1 V c 3 t : FVec Ideal S1x8192x128 .bf16) (ix3 0 n l)) = _
  rw [hg]
  refine (attend_wide _ _ _ T t n l _).trans ?_
  exact (congrArg (band _ _ _ _ T) (emb5 t n l)).symm

end Cert.Layer

end
-- ==== Proof.LayerRun.lean ====
/-
  The layer's run: what lies between the three kernels, and the result of the run, of the buffers at launch.
-/
module

public import proofs.«01_k».proof.Proof.LayerProj
public import proofs.«01_k».proof.Proof.LayerArray

@[expose] public section

set_option maxRecDepth 16384

noncomputable section

open Idealize.ShloMosaic

namespace Cert.Layer

open Cert.LayerKernelIdeal Cert.LayerKernelIdeal.Gen Cert.Projection Cert.Band Idealize.ShloMosaic.TcCoe Idealize.SL.Sem

section Between

variable (A : Valuation τ sig (Elt Ideal))

/-- What the operations before the first kernel leave. -/
theorem before_x : (StableHlo.after hostOps0 A (Proc.devRef .tc main_v0) : FVec Ideal S65536x1024 .f32) = flat (A (Proc.devRef .tc main_arg0)) := by
  after_results
  rfl

theorem before_weights : (StableHlo.after hostOps0 A (Proc.devRef .tc main_v1) : FVec Ideal S1024x4096 .bf16) = (A (Proc.devRef .tc main_arg2) : S1024x4096.Idx → EReal) := by
  after_results
  rfl

theorem before_gain : (StableHlo.after hostOps0 A (Proc.devRef .tc main_v2) : FVec Ideal S1x1024 .f32) =
    shapeCast S1x1024 (A (Proc.devRef .tc main_arg1) : FVec Ideal S1024 .f32) shapeCasts_S1024_S1x1024 := by
  after_results
  rfl

theorem before_slots : (StableHlo.after hostOps0 A (Proc.devRef .tc main_c) : IVec S3x1024 32) = rowSlots := by
  after_results
  rfl

theorem before_choice : (StableHlo.after hostOps0 A (Proc.devRef .tc main_c_0) : IVec S3x1024 1) = constantI S3x1024 1 0#1 := by
  after_results

/-- What those between the first and the second leave. -/
theorem mid_query : (StableHlo.after hostOps1 A (Proc.devRef .tc main_v4) : FVec Ideal S8x8192x1024 .bf16) = deep (A (Proc.devRef .tc main_v3_0)) := by
  after_results
  rfl

theorem mid_key : (StableHlo.after hostOps1 A (Proc.devRef .tc main_v5) : FVec Ideal S8x8192x1024 .bf16) = deep (A (Proc.devRef .tc main_v3_1)) := by
  after_results
  rfl

theorem mid_value : (StableHlo.after hostOps1 A (Proc.devRef .tc main_v6) : FVec Ideal S8x8192x1024 .bf16) = deep (A (Proc.devRef .tc main_v3_2)) := by
  after_results
  rfl

theorem mid_gate : (StableHlo.after hostOps1 A (Proc.devRef .tc main_v7) : FVec Ideal S8x8192x1024 .bf16) = deep (A (Proc.devRef .tc main_v3_3)) := by
  after_results
  rfl

theorem mid_rows : (StableHlo.after hostOps1 A (Proc.devRef .tc main_v12) : FVec Ideal S16x3x1024 .f32) =
    Host.gather gather_S16x257_S3x1024x1_S16x3x1024_0_1_n_n_1_2_161 (A (Proc.devRef .tc main_arg3) : FVec Ideal S16x257 .f32)
    (broadcastInDim S3x1024x1 ![0, 1] bcast_S3x1024_S3x1024x1_0_1 (select (A (Proc.devRef .tc main_c_0) : IVec S3x1024 1)
      (addi (A (Proc.devRef .tc main_c) : IVec S3x1024 32) (broadcastInDim S3x1024 ![] bcast_S_S3x1024 (constantI S_ 32 257#32)))
      (A (Proc.devRef .tc main_c) : IVec S3x1024 32))) := by
  after_results

/-- What those before the third leave. -/
theorem last_values : (StableHlo.after hostOps2 A (Proc.devRef .tc main_v14) : FVec Ideal S65536x1024 .bf16) = flat (A (Proc.devRef .tc main_v13)) := by
  after_results
  rfl

theorem last_weights : (StableHlo.after hostOps2 A (Proc.devRef .tc main_v15) : FVec Ideal S1024x1024 .bf16) = (A (Proc.devRef .tc main_arg4) : S1024x1024.Idx → EReal) := by
  after_results
  rfl

theorem last_gain : (StableHlo.after hostOps2 A (Proc.devRef .tc main_v16) : FVec Ideal S1x1024 .f32) =
    shapeCast S1x1024 (A (Proc.devRef .tc main_arg5) : FVec Ideal S1024 .f32) shapeCasts_S1024_S1x1024 := by
  after_results
  rfl

end Between

variable (m : (ℓ : Loc nD τ sig) → Buf (Elt Ideal) ℓ) (ρ : Dev nD → PrngReg) (c : Dev nD)

/-- The arguments at launch. -/
abbrev argX : S8x8192x1024.Idx → EReal := m ((c : Thread nD τ).loc main_arg0)
abbrev argG : S1024.Idx → EReal := m ((c : Thread nD τ).loc main_arg1)
abbrev argW : S1024x4096.Idx → EReal := m ((c : Thread nD τ).loc main_arg2)
abbrev argT : S16x257.Idx → EReal := m ((c : Thread nD τ).loc main_arg3)
abbrev argU : S1024x1024.Idx → EReal := m ((c : Thread nD τ).loc main_arg4)
abbrev argH : S1024.Idx → EReal := m ((c : Thread nD τ).loc main_arg5)

theorem first_x : (V1 m ρ c main_v0 : FVec Ideal S65536x1024 .f32) = flat (argX m c) := before_x (W0 m ρ c)

theorem first_gain (d : Fin 1024) : (V1 m ρ c main_v2 : FVec Ideal S1x1024 .f32) (ix2 0 d) = argG m c (ix1 d) := by
  rw [show (V1 m ρ c main_v2 : FVec Ideal S1x1024 .f32) = _ from before_gain (W0 m ρ c)]
  pointwise []

theorem first_weights : (V1 m ρ c main_v1 : FVec Ideal S1024x4096 .bf16) = argW m c := before_weights (W0 m ρ c)

/-- The second kernel's arrays when it begins. -/
theorem second_query : (V3 m ρ c main_v4 : FVec Ideal S8x8192x1024 .bf16) = deep (query (flat (argX m c)) (argG m c) (argW m c)) :=
  (mid_query (W2 m ρ c)).trans (congrArg deep ((W2_arr m ρ c 3).trans (in_query (V1 m ρ) c (first_x m ρ c) (first_gain m ρ c) (first_weights m ρ c))))

theorem second_key : (V3 m ρ c main_v5 : FVec Ideal S8x8192x1024 .bf16) = deep (part 1 (flat (argX m c)) (argG m c) (argW m c)) :=
  (mid_key (W2 m ρ c)).trans (congrArg deep ((W2_arr m ρ c 4).trans (in_key (V1 m ρ) c (first_x m ρ c) (first_gain m ρ c) (first_weights m ρ c))))

theorem second_value : (V3 m ρ c main_v6 : FVec Ideal S8x8192x1024 .bf16) = deep (part 2 (flat (argX m c)) (argG m c) (argW m c)) :=
  (mid_value (W2 m ρ c)).trans (congrArg deep ((W2_arr m ρ c 5).trans (in_value (V1 m ρ) c (first_x m ρ c) (first_gain m ρ c) (first_weights m ρ c))))

theorem second_gate : (V3 m ρ c main_v7 : FVec Ideal S8x8192x1024 .bf16) = deep (part 3 (flat (argX m c)) (argG m c) (argW m c)) :=
  (mid_gate (W2 m ρ c)).trans (congrArg deep ((W2_arr m ρ c 6).trans (in_gate (V1 m ρ) c (first_x m ρ c) (first_gain m ρ c) (first_weights m ρ c))))

theorem kept_slots : (W2 m ρ c (Proc.devRef .tc main_c) : IVec S3x1024 32) = rowSlots :=
  (W2_of_ne m ρ c main_c (by decide)).trans (before_slots (W0 m ρ c))

theorem kept_choice : (W2 m ρ c (Proc.devRef .tc main_c_0) : IVec S3x1024 1) = constantI S3x1024 1 0#1 :=
  (W2_of_ne m ρ c main_c_0 (by decide)).trans (before_choice (W0 m ρ c))

theorem kept_table : (W2 m ρ c (Proc.devRef .tc main_arg3) : FVec Ideal S16x257 .f32) = argT m c := W2_args m ρ c main_arg3 (by decide)

theorem second_rows (h : Fin 16) (v : Fin 3) (p : Fin 1024) : (V3 m ρ c main_v12 : FVec Ideal S16x3x1024 .f32) (ix3 h v p) =
    argT m c (ix2 h (slot (dist v p))) := by
  rw [show (V3 m ρ c main_v12 : FVec Ideal S16x3x1024 .f32) = _ from mid_rows (W2 m ρ c), kept_slots, kept_choice, kept_table]
  refine gather_rows _ _ h v p _ ?_
  rw [← rowSlots_apply]
  pointwise []

section Real

variable (hx : Real' (argX m c)) (hg : Real' (argG m c)) (hw : Real' (argW m c)) (hT : Real' (argT m c))

include hx hg hw hT

theorem attended : (W4 m ρ c (Proc.devRef .tc main_v13) : FVec Ideal S8x8192x1024 .bf16) =
    band (deep (query (flat (argX m c)) (argG m c) (argW m c))) (deep (part 1 (flat (argX m c)) (argG m c) (argW m c)))
      (deep (part 2 (flat (argX m c)) (argG m c) (argW m c))) (deep (part 3 (flat (argX m c)) (argG m c) (argW m c))) (argT m c) :=
  (W4_arr m ρ c 5).trans (band_result (V3 m ρ) c (second_query m ρ c) (second_key m ρ c) (second_value m ρ c) (second_gate m ρ c) (second_rows m ρ c)
    (real_deep (real_query hx hg hw)) (real_deep (real_part hx hg hw 1)) (real_deep (real_part hx hg hw 2)) hT)

/-- The third kernel's arrays when it begins. -/
theorem third_values : (V5 m ρ c main_v14 : FVec Ideal S65536x1024 .bf16) =
    flat (band (deep (query (flat (argX m c)) (argG m c) (argW m c))) (deep (part 1 (flat (argX m c)) (argG m c) (argW m c)))
      (deep (part 2 (flat (argX m c)) (argG m c) (argW m c))) (deep (part 3 (flat (argX m c)) (argG m c) (argW m c))) (argT m c)) :=
  (last_values (W4 m ρ c)).trans (congrArg flat (attended m ρ c hx hg hw hT))

omit hx hg hw hT in
theorem third_weights : (V5 m ρ c main_v15 : FVec Ideal S1024x1024 .bf16) = argU m c :=
  (last_weights (W4 m ρ c)).trans (W4_args m ρ c main_arg4 (by decide))

omit hx hg hw hT in
theorem third_x : (V5 m ρ c main_v0 : FVec Ideal S65536x1024 .f32) = flat (argX m c) :=
  (W5_of m ρ c main_v0 (by decide)).trans ((W4_of_ne m ρ c main_v0 (by decide)).trans ((W3_of m ρ c main_v0 (by decide)).trans
    ((W2_of m ρ c main_v0 (by decide)).trans (first_x m ρ c))))

omit hx hg hw hT in
theorem third_gain (d : Fin 1024) : (V5 m ρ c main_v16 : FVec Ideal S1x1024 .f32) (ix2 0 d) = argH m c (ix1 d) := by
  rw [show (V5 m ρ c main_v16 : FVec Ideal S1x1024 .f32) = _ from last_gain (W4 m ρ c),
    show (W4 m ρ c (Proc.devRef .tc main_arg5) : FVec Ideal S1024 .f32) = argH m c from W4_args m ρ c main_arg5 (by decide)]
  pointwise []

/-- The result after the three kernels. -/
theorem layer_result : (W6 m ρ c (Proc.devRef .tc main_v17) : FVec Ideal S65536x1024 .f32) =
    layer (argX m c) (argG m c) (argW m c) (argT m c) (argU m c) (argH m c) :=
  (W6_arr m ρ c 4).trans (out_result (V5 m ρ) c (third_values m ρ c hx hg hw hT) (third_weights m ρ c) (third_x m ρ c) (third_gain m ρ c))

end Real

end Cert.Layer

end
-- ==== Proof.LayerLaunch.lean ====
/-
  The layer launched: the run ends with what the three kernels leave, its arguments as they were.
-/
module

public import proofs.«01_k».proof.Proof.LayerRun

@[expose] public section

set_option maxRecDepth 16384

noncomputable section

namespace Cert.Layer

open Cert.LayerKernelIdeal Cert.LayerKernelIdeal.Gen
open Idealize.ShloMosaic Idealize.ShloMosaic.TcCoe Idealize.ShloMosaic.Tactic Idealize.ShloMosaic.Rounds
open Idealize.SL Idealize.SL.RA Idealize.SL.BI Idealize.SL.BI.BIBase Idealize.SL.BI.Laws Idealize.SL.ProofMode Idealize.SL.Sem
open scoped Idealize.SL.BI

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- Every buffer that outlives the kernels ends as the three kernels and the operations between them leave it. -/
theorem launched : θ_run defs (onTc (τ := τ) (main (F := Ideal))) ⟨m, fun _ => 0, ρ⟩ (fun r => ∀ c : Dev nD,
    ∀ b ∈ Pipeline.ucRefs τ sig, r.2.mem ((c : Thread nD τ).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

/-- The arguments outlive the kernels. -/
theorem outlive : ∀ a ∈ argRefs, ¬ (Proc.devRef .tc a : DevRef τ sig).isScoped := by decide

/-- The result and the arguments after the run. -/
theorem run (hx : ∀ c, Band.Real' (argX m c)) (hg : ∀ c, Band.Real' (argG m c)) (hw : ∀ c, Band.Real' (argW m c)) (hT : ∀ c, Band.Real' (argT m c)) :
    θ_run defs (onTc (τ := τ) (main (F := Ideal))) ⟨m, fun _ => 0, ρ⟩ (fun r => ∀ c : Dev nD,
      r.2.mem ((c.tc : Thread nD τ).loc main_v17) = layer (argX m c) (argG m c) (argW m c) (argT m c) (argU m c) (argH m c)
      ∧ ∀ a ∈ argRefs, r.2.mem ((c.tc : Thread nD τ).loc a) = m ((c.tc : Thread nD τ).loc a)) :=
  (θ_run defs _ _).mono (fun r h c => ⟨(h c _ (mem_uc main_v17 (by decide))).trans (layer_result m ρ c (hx c) (hg c) (hw c) (hT c)),
    fun a ha => (h c _ (mem_uc a (outlive a ha))).trans (W6_args m ρ c a ha)⟩) (launched m ρ)

end Cert.Layer

end
-- ==== Proof.LayerFinite.lean ====
/-
  The layer's precondition: activations, first gain, input weights and bias table are finite, so real numbers.
-/
module

public import proofs.«01_k».proof.Defs
public import proofs.«01_k».proof.Proof.Finite

@[expose] public section

noncomputable section

open Idealize.ShloMosaic

namespace Cert.Layer

open Cert.Band (Real' real_of_lt)

theorem inputs_facts : Cert.Pre_finite_inputs.Facts := ⟨by decide, by decide, by decide, by decide⟩

/-- Under the precondition the four arguments are real. -/
theorem real_of_inputs (x : FVec Ideal Cert.Pre_finite_inputs.S8x8192x1024 .f32) (g : FVec Ideal Cert.Pre_finite_inputs.S1024 .f32)
    (w : FVec Ideal Cert.Pre_finite_inputs.S1024x4096 .f32) (T : FVec Ideal Cert.Pre_finite_inputs.S16x257 .f32)
    (u : FVec Ideal Cert.Pre_finite_inputs.S1024x1024 .f32) (h : FVec Ideal Cert.Pre_finite_inputs.S1024 .f32)
    (hf : letI := inputs_facts
      (Cert.Pre_finite_inputs.fn x g w T u h).1 = (fun _ => 1#1) ∧ (Cert.Pre_finite_inputs.fn x g w T u h).2.1 = (fun _ => 1#1)
      ∧ (Cert.Pre_finite_inputs.fn x g w T u h).2.2.1 = (fun _ => 1#1) ∧ (Cert.Pre_finite_inputs.fn x g w T u h).2.2.2 = (fun _ => 1#1)) :
    Real' x ∧ Real' g ∧ Real' w ∧ Real' T :=
  ⟨fun y => real_of_lt _ (congrFun hf.1 y), fun y => real_of_lt _ (congrFun hf.2.1 y), fun y => real_of_lt _ (congrFun hf.2.2.1 y),
    fun y => real_of_lt _ (congrFun hf.2.2.2 y)⟩

end Cert.Layer

end
-- ==== Proof.lean ====
/-
  The claims of this directory, put together: for each of the four calls and for the layer its frames, its named constants, and that
  kernel and reference end with equal results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Array
public import proofs.«01_k».proof.Proof.RefValue
public import proofs.«01_k».proof.Proof.Finite
public import proofs.«01_k».proof.Proof.InBlock
public import proofs.«01_k».proof.Proof.InReference
public import proofs.«01_k».proof.Proof.OutBlock
public import proofs.«01_k».proof.Proof.OutReference
public import proofs.«01_k».proof.Proof.StickLaunch
public import proofs.«01_k».proof.Proof.StickEndLaunch
public import proofs.«01_k».proof.Proof.StickArray
public import proofs.«01_k».proof.Proof.StickRefValue
public import proofs.«01_k».proof.Proof.StickFinite
public import proofs.«01_k».proof.Proof.LayerReference
public import proofs.«01_k».proof.Proof.LayerLaunch
public import proofs.«01_k».proof.Proof.LayerFinite
public import proofs.«01_k».proof.Proof.Gen.InReferenceIdeal.Run
public import proofs.«01_k».proof.Proof.Gen.OutReferenceIdeal.Run
public import proofs.«01_k».proof.Proof.Gen.InKernel.Frame
public import proofs.«01_k».proof.Proof.Gen.OutKernel.Frame
public import proofs.«01_k».proof.Proof.Gen.InReferenceIdeal.Read
public import proofs.«01_k».proof.Proof.Gen.OutReferenceIdeal.Read
public import proofs.«01_k».proof.Proof.Gen.StickKernel
public import proofs.«01_k».proof.Proof.Gen.StickKernel.Skeleton
public import proofs.«01_k».proof.Proof.Gen.StickKernel.Loops
public import proofs.«01_k».proof.Proof.Gen.StickKernel.Launch
public import proofs.«01_k».proof.Proof.Gen.StickKernel.Points
public import proofs.«01_k».proof.Proof.Gen.StickKernelIdeal
public import proofs.«01_k».proof.Proof.Gen.StickKernelIdeal.Skeleton
public import proofs.«01_k».proof.Proof.Gen.StickKernelIdeal.Loops
public import proofs.«01_k».proof.Proof.Gen.StickKernelIdeal.Launch
public import proofs.«01_k».proof.Proof.Gen.StickKernelIdeal.Points
public import proofs.«01_k».proof.Proof.Gen.StickReferenceIdeal
public import proofs.«01_k».proof.Proof.Gen.StickReferenceIdeal.Run
public import proofs.«01_k».proof.Proof.Gen.StickReferenceIdeal.Read
public import proofs.«01_k».proof.Proof.Gen.LayerKernel
public import proofs.«01_k».proof.Proof.Gen.LayerKernel.Frame
public import proofs.«01_k».proof.Proof.Gen.LayerKernelIdeal
public import proofs.«01_k».proof.Proof.Gen.LayerKernelIdeal.Frame
public import proofs.«01_k».proof.Proof.Gen.LayerReferenceIdeal
public import proofs.«01_k».proof.Proof.Gen.LayerReferenceIdeal.Run
public import proofs.«01_k».proof.Proof.Gen.LayerReferenceIdeal.Read
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Kernel Cert.Band

/-- The reference ends, its arguments as launched and every counter at zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each constant that is replaced by a named one is close to it, or is its word. -/
theorem preserves : Cert.preserves_Kernel_KernelIdeal :=
  ⟨IdealRules.named_const.statement _ _ _ _ _ rfl, IdealRules.named_const.statement _ _ _ _ _ rfl⟩

/-- Kernel and reference compute the gated band attention of the same arguments. -/
theorem algebraic : Cert.algebraic_KernelIdeal_ReferenceIdeal_pre_finite (hKernelIdeal := Cert.KernelIdeal.Gen.facts)
    (hReferenceIdeal := Cert.ReferenceIdeal.Gen.facts) (hPre_finite := finite_facts) := by
  intro m g m' g' hpre hargs
  refine ⟨fun c => result m c, ?_, ?_⟩
  · refine (θ_run _ _ _).mono (fun r h c => ?_) (Cert.KernelIdeal.Value.run_blocks (F := Ideal) m g)
    obtain ⟨hq, hk, hv, _, hT⟩ := real_of_finite _ _ _ _ _ (hpre c)
    exact ⟨(h c).1.trans (final m c hq hk hv hT), (h c).2⟩
  · refine (θ_run _ _ _).mono (fun r h c => ?_) (Cert.ReferenceIdeal.Value.run (F := Ideal) m' g')
    obtain ⟨hq, hk, hv, hg, hT⟩ := real_of_finite _ _ _ _ _ (hpre c)
    obtain ⟨e0, e1, e2, e3, e4⟩ := hargs c
    refine ⟨(h c).1.trans ((Cert.ReferenceIdeal.Read.val_main_v83_eq m' c).trans ?_), (h c).2⟩
    rw [e0, e1, e2, e3, e4]
    exact Cert.BandReference.reference_value _ _ _ _ _ hq hk hv hg hT

/-- The two projections' references end likewise. -/
theorem in_reference_frame : Cert.quiescent_InReferenceIdeal (hInReferenceIdeal := Cert.InReferenceIdeal.Gen.facts) := fun m ρ _ =>
  (θ_run Cert.InReferenceIdeal.defs _ _).mono (fun r h => ⟨fun c => (h c).2.2.2.2, sem_eq_zero_of_no_sems (by decide) r.2⟩)
    (Cert.InReferenceIdeal.Value.run (F := Ideal) m ρ)

theorem out_reference_frame : Cert.quiescent_OutReferenceIdeal (hOutReferenceIdeal := Cert.OutReferenceIdeal.Gen.facts) := fun m ρ _ =>
  (θ_run Cert.OutReferenceIdeal.defs _ _).mono (fun r h => ⟨fun c => (h c).2, sem_eq_zero_of_no_sems (by decide) r.2⟩)
    (Cert.OutReferenceIdeal.Value.run (F := Ideal) m ρ)

theorem in_preserves : Cert.preserves_InKernel_InKernelIdeal := IdealRules.named_const.statement _ _ _ _ _ rfl

/-- Kernel and reference compute the same four parts of the input projection. -/
theorem in_algebraic : Cert.algebraic_InKernelIdeal_InReferenceIdeal (hInKernelIdeal := Cert.InKernelIdeal.Gen.facts)
    (hInReferenceIdeal := Cert.InReferenceIdeal.Gen.facts) := by
  intro m g m' g' _ hargs
  refine ⟨fun c => Cert.Projection.query (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)),
    fun c => Cert.Projection.part 1 (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)),
    fun c => Cert.Projection.part 2 (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)),
    fun c => Cert.Projection.part 3 (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)), ?_, ?_⟩
  · refine (θ_run _ _ _).mono (fun r h c => ?_) (Cert.InKernelIdeal.Value.run_blocks (F := Ideal) m g)
    obtain ⟨h0, h1, h2, h3, h4⟩ := h c
    exact ⟨h0.trans (Cert.Projection.final_query m c), h1.trans (Cert.Projection.final_key m c),
      h2.trans (Cert.Projection.final_value m c), h3.trans (Cert.Projection.final_gate m c), h4⟩
  · refine (θ_run _ _ _).mono (fun r h c => ?_) (Cert.InReferenceIdeal.Value.run (F := Ideal) m' g')
    obtain ⟨h0, h1, h2, h3, h4⟩ := h c
    obtain ⟨e0, e1, e2⟩ := hargs c
    refine ⟨h0.trans ((Cert.InReferenceIdeal.Read.val_main_v23_eq _ _ _).trans ?_), h1.trans ((Cert.InReferenceIdeal.Read.val_main_v24_eq _ _ _).trans ?_),
      h2.trans ((Cert.InReferenceIdeal.Read.val_main_v25_eq _ _ _).trans ?_), h3.trans ((Cert.InReferenceIdeal.Read.val_main_v26_eq _ _ _).trans ?_), h4⟩
    all_goals rw [e0, e1, e2]
    · exact Cert.Projection.InRef.queries _ _ _
    · exact Cert.Projection.InRef.keys _ _ _
    · exact Cert.Projection.InRef.values _ _ _
    · exact Cert.Projection.InRef.gates _ _ _

/-- Kernel and reference compute the same output projection. -/
theorem out_algebraic : Cert.algebraic_OutKernelIdeal_OutReferenceIdeal (hOutKernelIdeal := Cert.OutKernelIdeal.Gen.facts)
    (hOutReferenceIdeal := Cert.OutReferenceIdeal.Gen.facts) := by
  intro m g m' g' _ hargs
  refine ⟨fun c => Cert.Projection.residual (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)), ?_, ?_⟩
  · refine (θ_run _ _ _).mono (fun r h c => ?_) (Cert.OutKernelIdeal.Value.run_blocks (F := Ideal) m g)
    exact ⟨(h c).1.trans (Cert.Projection.Out.final m c), (h c).2⟩
  · refine (θ_run _ _ _).mono (fun r h c => ?_) (Cert.OutReferenceIdeal.Value.run (F := Ideal) m' g')
    obtain ⟨e0, e1, e2, e3⟩ := hargs c
    refine ⟨(h c).1.trans ((Cert.OutReferenceIdeal.Read.val_main_v15_eq _ _ _ _).trans ?_), (h c).2⟩
    rw [e0, e1, e2, e3]
    exact Cert.Projection.OutRef.reference_value _ _ _ _

/-- The stick-breaking attention's reference ends likewise. -/
theorem stick_reference_frame : Cert.quiescent_StickReferenceIdeal (hStickReferenceIdeal := Cert.StickReferenceIdeal.Gen.facts) := fun m ρ _ =>
  (θ_run Cert.StickReferenceIdeal.defs _ _).mono (fun r h => ⟨fun c => (h c).2, sem_eq_zero_of_no_sems (by decide) r.2⟩)
    (Cert.StickReferenceIdeal.Value.run (F := Ideal) m ρ)

/-- The factor and the limit are close to what they are named for, and the high half of a word is what its rounding keeps. -/
theorem stick_preserves : Cert.preserves_StickKernel_StickKernelIdeal :=
  ⟨IdealRules.named_const.statement _ _ _ _ _ rfl, IdealRules.bf16_pack.statement _, IdealRules.named_const.statement _ _ _ _ _ rfl⟩

/-- Kernel and reference compute the gated stick-breaking attention of the same arguments. -/
theorem stick_algebraic : Cert.algebraic_StickKernelIdeal_StickReferenceIdeal_pre_finite_scores (hStickKernelIdeal := Cert.StickKernelIdeal.Gen.facts)
    (hStickReferenceIdeal := Cert.StickReferenceIdeal.Gen.facts) (hPre_finite_scores := Cert.Stick.scores_facts) := by
  intro m g m' g' hpre hargs
  have hq := fun c => (Cert.Stick.real_of_scores _ _ _ _ (hpre c)).1
  have hk := fun c => (Cert.Stick.real_of_scores _ _ _ _ (hpre c)).2
  refine ⟨fun c => Cert.Stick.result m c, ?_, ?_⟩
  · refine (θ_run _ _ _).mono (fun r h c => ?_) (Cert.StickKernelIdeal.Run.run_main (F := Ideal) m g (Cert.Stick.asked m) (Cert.Stick.planned m hq hk))
    exact ⟨Cert.Stick.final m r h.1 c, Cert.StickKernelIdeal.Run.kept m _ r h.1 c⟩
  · refine (θ_run _ _ _).mono (fun r h c => ?_) (Cert.StickReferenceIdeal.Value.run (F := Ideal) m' g')
    obtain ⟨e0, e1, e2, e3⟩ := hargs c
    refine ⟨(h c).1.trans ((Cert.StickReferenceIdeal.Read.val_main_v34_eq m' c).trans ?_), (h c).2⟩
    rw [e0, e1, e2, e3]
    exact Cert.StickReference.reference_value _ _ _ _ (hq c) (hk c)

/-- The layer's reference ends likewise. -/
theorem layer_reference_frame : Cert.quiescent_LayerReferenceIdeal (hLayerReferenceIdeal := Cert.LayerReferenceIdeal.Gen.facts) := fun m ρ _ =>
  (θ_run Cert.LayerReferenceIdeal.defs _ _).mono (fun r h => ⟨fun c => (h c).2, sem_eq_zero_of_no_sems (by decide) r.2⟩)
    (Cert.LayerReferenceIdeal.Value.run (F := Ideal) m ρ)

theorem layer_preserves : Cert.preserves_LayerKernel_LayerKernelIdeal :=
  ⟨IdealRules.named_const.statement _ _ _ _ _ rfl, IdealRules.named_const.statement _ _ _ _ _ rfl, IdealRules.named_const.statement _ _ _ _ _ rfl⟩

/-- Kernel and reference compute the same layer. -/
theorem layer_algebraic : Cert.algebraic_LayerKernelIdeal_LayerReferenceIdeal_pre_finite_inputs (hLayerKernelIdeal := Cert.LayerKernelIdeal.Gen.facts)
    (hLayerReferenceIdeal := Cert.LayerReferenceIdeal.Gen.facts) (hPre_finite_inputs := Cert.Layer.inputs_facts) := by
  intro m g m' g' hpre hargs
  have hr := fun c => Cert.Layer.real_of_inputs _ _ _ _ _ _ (hpre c)
  refine ⟨fun c => Cert.Layer.layer (Cert.Layer.argX m c) (Cert.Layer.argG m c) (Cert.Layer.argW m c) (Cert.Layer.argT m c) (Cert.Layer.argU m c) (Cert.Layer.argH m c), ?_, ?_⟩
  · refine (θ_run _ _ _).mono (fun r h c => ?_) (Cert.Layer.run m g (fun c => (hr c).1) (fun c => (hr c).2.1) (fun c => (hr c).2.2.1) (fun c => (hr c).2.2.2))
    obtain ⟨h0, hk⟩ := h c
    exact ⟨h0, hk _ (by decide), hk _ (by decide), hk _ (by decide), hk _ (by decide), hk _ (by decide), hk _ (by decide)⟩
  · refine (θ_run _ _ _).mono (fun r h c => ?_) (Cert.LayerReferenceIdeal.Value.run (F := Ideal) m' g')
    obtain ⟨e0, e1, e2, e3, e4, e5⟩ := hargs c
    refine ⟨(h c).1.trans ((Cert.LayerReferenceIdeal.Read.val_main_v113_eq _).trans ?_), (h c).2⟩
    show Cert.LayerReferenceIdeal.Read.val_main_v113 (F := Ideal)
      (m' ((c.tc : Thread Cert.LayerReferenceIdeal.nD Cert.LayerReferenceIdeal.τ).loc Cert.LayerReferenceIdeal.main_arg0)) (m' ((c.tc : Thread Cert.LayerReferenceIdeal.nD Cert.LayerReferenceIdeal.τ).loc Cert.LayerReferenceIdeal.main_arg1)) (m' ((c.tc : Thread Cert.LayerReferenceIdeal.nD Cert.LayerReferenceIdeal.τ).loc Cert.LayerReferenceIdeal.main_arg2))
      (m' ((c.tc : Thread Cert.LayerReferenceIdeal.nD Cert.LayerReferenceIdeal.τ).loc Cert.LayerReferenceIdeal.main_arg3)) (m' ((c.tc : Thread Cert.LayerReferenceIdeal.nD Cert.LayerReferenceIdeal.τ).loc Cert.LayerReferenceIdeal.main_arg4)) (m' ((c.tc : Thread Cert.LayerReferenceIdeal.nD Cert.LayerReferenceIdeal.τ).loc Cert.LayerReferenceIdeal.main_arg5)) = _
    rw [e0, e1, e2, e3, e4, e5]
    exact Cert.Layer.Ref.reference_value _ _ _ _ _ _ (hr c).1 (hr c).2.1 (hr c).2.2.1 (hr c).2.2.2

theorem claim : Cert.Claim := ⟨Cert.Kernel.Gen.facts, Cert.KernelIdeal.Gen.facts, Cert.ReferenceIdeal.Gen.facts,
  Cert.InKernel.Gen.facts, Cert.InKernelIdeal.Gen.facts, Cert.InReferenceIdeal.Gen.facts,
  Cert.OutKernel.Gen.facts, Cert.OutKernelIdeal.Gen.facts, Cert.OutReferenceIdeal.Gen.facts,
  Cert.StickKernel.Gen.facts, Cert.StickKernelIdeal.Gen.facts, Cert.StickReferenceIdeal.Gen.facts,
  Cert.LayerKernel.Gen.facts, Cert.LayerKernelIdeal.Gen.facts, Cert.LayerReferenceIdeal.Gen.facts,
  finite_facts, Cert.Stick.scores_facts, Cert.Layer.inputs_facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.InKernel.Gen.frame m ρ, fun m ρ _ => Cert.InKernelIdeal.Gen.frame m ρ, in_reference_frame,
  fun m ρ _ => Cert.OutKernel.Gen.frame m ρ, fun m ρ _ => Cert.OutKernelIdeal.Gen.frame m ρ, out_reference_frame,
  fun m ρ _ => Cert.StickKernel.Run.frame m ρ, fun m ρ _ => Cert.StickKernelIdeal.Run.frame m ρ, fun m ρ _ => Cert.StickKernelIdeal.Run.frame m ρ,
  stick_reference_frame, fun m ρ _ => stick_reference_frame m ρ trivial,
  fun m ρ _ => Cert.LayerKernel.Gen.frame m ρ, fun m ρ _ => Cert.LayerKernelIdeal.Gen.frame m ρ, fun m ρ _ => Cert.LayerKernelIdeal.Gen.frame m ρ,
  layer_reference_frame, fun m ρ _ => layer_reference_frame m ρ trivial,
  preserves, algebraic, in_preserves, in_algebraic, trivial, out_algebraic, stick_preserves, stick_algebraic,
  layer_preserves, layer_algebraic⟩

end Cert.Proof

end
